-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_groups [hPre_normal_groups : Cert.Pre_normal_groups.Facts] (m : (ℓ : Loc Cert.KernelIdeal.nD Cert.KernelIdeal.τ Cert.KernelIdeal.sig) → Buf (Elt Ideal) ℓ) : Prop :=
  ∀ c : Dev Cert.KernelIdeal.nD,
    (Cert.Pre_normal_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_groups [hPre_normal_groups : Cert.Pre_normal_groups.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_groups.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_normal_groups [hKernelIdeal : Cert.KernelIdeal.Facts] [hPre_normal_groups : Cert.Pre_normal_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_groups m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_normal_groups [hReferenceIdeal : Cert.ReferenceIdeal.Facts] [hPre_normal_groups : Cert.Pre_normal_groups.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_groups m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_normal_groups [hKernelIdeal : Cert.KernelIdeal.Facts] [hReferenceIdeal : Cert.ReferenceIdeal.Facts] [hPre_normal_groups : Cert.Pre_normal_groups.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_groups m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v24_0) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_normal_groups : Cert.Pre_normal_groups.Facts),
    quiescent_Kernel (hKernel := hKernel)
    ∧ quiescent_KernelIdeal (hKernelIdeal := hKernelIdeal)
    ∧ quiescent_KernelIdeal_pre_normal_groups (hKernelIdeal := hKernelIdeal) (hPre_normal_groups := hPre_normal_groups)
    ∧ quiescent_ReferenceIdeal (hReferenceIdeal := hReferenceIdeal)
    ∧ quiescent_ReferenceIdeal_pre_normal_groups (hReferenceIdeal := hReferenceIdeal) (hPre_normal_groups := hPre_normal_groups)
    ∧ preserves_Kernel_KernelIdeal
    ∧ algebraic_KernelIdeal_ReferenceIdeal_pre_normal_groups (hKernelIdeal := hKernelIdeal) (hReferenceIdeal := hReferenceIdeal) (hPre_normal_groups := hPre_normal_groups)
-- ==== Pre_normal_groups.lean ====
abbrev S96x1x10240 : Shape := ⟨3, ![96, 1, 10240]⟩
abbrev S9088x10240 : Shape := ⟨2, ![9088, 10240]⟩
abbrev S71x80 : Shape := ⟨2, ![71, 80]⟩
abbrev S96x80x128 : Shape := ⟨3, ![96, 80, 128]⟩
abbrev S_ : Shape := ⟨0, ![]⟩
abbrev S96x80 : Shape := ⟨2, ![96, 80]⟩

class Facts : Prop where
  bitsLt_bf16_f32 : FTy.bits .bf16 < FTy.bits .f32
  shapeCasts_S96x1x10240_S96x80x128 : S96x1x10240.ShapeCasts S96x80x128
  reducesTo_S96x80x128_S96x80_d2 : S96x80x128.ReducesTo [2] S96x80
  h_S_ : 0 < S_.numel
  bcast_S_S96x80 : S_.BroadcastsInDim S96x80 (![] : Fin 0 → Fin S96x80.rank)

variable [Facts]

def fn {F : FTy → Type} [FloatOps F] (main_arg0 : FVec F S96x1x10240 .bf16) (main_arg1 : FVec F S9088x10240 .fp8e4m3) (main_arg2 : FVec F S71x80 .f32) : IVec S96x80 1 :=
  let main_v0 : FVec F S96x1x10240 .f32 := (extf .f32 · bitsLt_bf16_f32) main_arg0
  let main_v1 : FVec F S96x80x128 .f32 := shapeCast S96x80x128 main_v0 shapeCasts_S96x1x10240_S96x80x128
  let main_v2 : FVec F S96x80x128 .f32 := Host.absf main_v1
  let main_cst : FVec F S_ .f32 := constant S_ .f32 0xFF800000#32
  let main_v3 : FVec F S96x80 .f32 := (fun x v => Host.reduce FloatOps.maximumf x v reducesTo_S96x80x128_S96x80_d2 h_S_) main_v2 main_cst
  let main_cst_0 : FVec F S_ .f32 := constant S_ .f32 0x00000000#32
  let main_v4 : FVec F S96x80 .f32 := broadcastInDim S96x80 ![] bcast_S_S96x80 main_cst_0
  let main_v5 : IVec S96x80 1 := cmpf .oeq main_v3 main_v4
  let main_cst_1 : FVec F S_ .f32 := constant S_ .f32 0x04600000#32
  let main_v6 : FVec F S96x80 .f32 := broadcastInDim S96x80 ![] bcast_S_S96x80 main_cst_1
  let main_v7 : IVec S96x80 1 := cmpf .oge main_v3 main_v6
  let main_cst_2 : FVec F S_ .f32 := constant S_ .f32 0x7F7FFFFF#32
  let main_v8 : FVec F S96x80 .f32 := broadcastInDim S96x80 ![] bcast_S_S96x80 main_cst_2
  let main_v9 : IVec S96x80 1 := cmpf .ole main_v3 main_v8
  let main_v10 : IVec S96x80 1 := andi main_v7 main_v9
  let main_v11 : IVec S96x80 1 := ori main_v5 main_v10
  main_v11
-- ==== Kernel.lean ====
abbrev S96x1x10240 : Shape := ⟨3, ![96, 1, 10240]⟩
abbrev S9088x10240 : Shape := ⟨2, ![9088, 10240]⟩
abbrev S71x80 : Shape := ⟨2, ![71, 80]⟩
abbrev S96x10240 : Shape := ⟨2, ![96, 10240]⟩
abbrev S96x9088 : Shape := ⟨2, ![96, 9088]⟩
abbrev S96x80 : Shape := ⟨2, ![96, 80]⟩
abbrev S128x10240 : Shape := ⟨2, ![128, 10240]⟩
abbrev S24x128x10240 : Shape := ⟨3, ![24, 128, 10240]⟩
abbrev S20x256x256 : Shape := ⟨3, ![20, 256, 256]⟩
abbrev S128x128 : Shape := ⟨2, ![128, 128]⟩
abbrev S3x24x128 : Shape := ⟨3, ![3, 24, 128]⟩
abbrev S72x128 : Shape := ⟨2, ![72, 128]⟩
abbrev S4x3x24x128 : Shape := ⟨4, ![4, 3, 24, 128]⟩
abbrev S24 : Shape := ⟨1, ![24]⟩
abbrev S_ : Shape := ⟨0, ![]⟩
abbrev S1 : Shape := ⟨1, ![1]⟩
abbrev S1x128x10240 : Shape := ⟨3, ![1, 128, 10240]⟩
abbrev S32x10240 : Shape := ⟨2, ![32, 10240]⟩
abbrev S71x20 : Shape := ⟨2, ![71, 20]⟩
abbrev S128 : Shape := ⟨1, ![128]⟩
abbrev S1x128 : Shape := ⟨2, ![1, 128]⟩
abbrev S256x128 : Shape := ⟨2, ![256, 128]⟩
abbrev S96x128 : Shape := ⟨2, ![96, 128]⟩
abbrev S1x128x128 : Shape := ⟨3, ![1, 128, 128]⟩
abbrev S96x20 : Shape := ⟨2, ![96, 20]⟩
abbrev S24x128 : Shape := ⟨2, ![24, 128]⟩
abbrev S1x24x128 : Shape := ⟨3, ![1, 24, 128]⟩
abbrev S1x1x24x128 : Shape := ⟨4, ![1, 1, 24, 128]⟩
abbrev S128x256 : Shape := ⟨2, ![128, 256]⟩
abbrev S1x256x256 : Shape := ⟨3, ![1, 256, 256]⟩
abbrev S256x256 : Shape := ⟨2, ![256, 256]⟩
abbrev S1x1x1x128 : Shape := ⟨4, ![1, 1, 1, 128]⟩
abbrev S64x128 : Shape := ⟨2, ![64, 128]⟩
abbrev S32x128 : Shape := ⟨2, ![32, 128]⟩

abbrev nBuf : Space → Nat
  | .hbm => 7
  | .vmem => 12
  | .smem => 0
  | _ => 0

abbrev bufTy : (tb : Table) → Fin (tcTables nBuf tb) → BufTy
  | .hbm, ⟨0, _⟩ => ⟨S96x1x10240, .bf16⟩
  | .hbm, ⟨1, _⟩ => ⟨S9088x10240, .fp8e4m3⟩
  | .hbm, ⟨2, _⟩ => ⟨S71x80, .f32⟩
  | .hbm, ⟨3, _⟩ => ⟨S96x10240, .bf16⟩
  | .hbm, ⟨4, _⟩ => ⟨S96x9088, .bf16⟩
  | .hbm, ⟨5, _⟩ => ⟨S96x10240, .fp8e4m3⟩
  | .hbm, ⟨6, _⟩ => ⟨S96x80, .f32⟩
  | .local _ .vmem, ⟨0, _⟩ => ⟨S71x80, .f32⟩
  | .local _ .vmem, ⟨1, _⟩ => ⟨S96x80, .f32⟩
  | .local _ .vmem, ⟨2, _⟩ => ⟨S128x10240, .bf16⟩
  | .local _ .vmem, ⟨3, _⟩ => ⟨S24x128x10240, .fp8e4m3⟩
  | .local _ .vmem, ⟨4, _⟩ => ⟨S20x256x256, .fp8e4m3⟩
  | .local _ .vmem, ⟨5, _⟩ => ⟨S20x256x256, .fp8e4m3⟩
  | .local _ .vmem, ⟨6, _⟩ => ⟨S128x128, .f32⟩
  | .local _ .vmem, ⟨7, _⟩ => ⟨S3x24x128, .f32⟩
  | .local _ .vmem, ⟨8, _⟩ => ⟨S72x128, .f32⟩
  | .local _ .vmem, ⟨9, _⟩ => ⟨S4x3x24x128, .f32⟩
  | .local _ .vmem, ⟨10, _⟩ => ⟨S96x10240, .fp8e4m3⟩
  | .local _ .vmem, ⟨11, _⟩ => ⟨S96x9088, .bf16⟩
  | _, _ => ⟨S96x1x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 (c0_i32_1 : BitVec 32) : Fin 1 → Nat :=
  let c24_i32 : BitVec 32 := 24#32
  let v1 : BitVec 32 := Scalar.remsi c0_i32_1 c24_i32
  ![v1.toNat]
def k0_off1_at (r : Fin 27) : BitVec 32 :=
  if r.val < 13 then
    if r.val < 6 then
      if r.val < 3 then
        if r.val < 1 then
          0#32
        else
          if r.val < 2 then
            1#32
          else
            2#32
      else
        if r.val < 4 then
          3#32
        else
          if r.val < 5 then
            4#32
          else
            5#32
    else
      if r.val < 9 then
        if r.val < 7 then
          6#32
        else
          if r.val < 8 then
            7#32
          else
            8#32
      else
        if r.val < 11 then
          if r.val < 10 then
            9#32
          else
            10#32
        else
          if r.val < 12 then
            11#32
          else
            12#32
  else
    if r.val < 20 then
      if r.val < 16 then
        if r.val < 14 then
          13#32
        else
          if r.val < 15 then
            14#32
          else
            15#32
      else
        if r.val < 18 then
          if r.val < 17 then
            16#32
          else
            17#32
        else
          if r.val < 19 then
            18#32
          else
            19#32
    else
      if r.val < 23 then
        if r.val < 21 then
          20#32
        else
          if r.val < 22 then
            21#32
          else
            22#32
      else
        if r.val < 25 then
          if r.val < 24 then
            23#32
          else
            68#32
        else
          if r.val < 26 then
            69#32
          else
            70#32
def k0_off2 (c0_i32_1 : BitVec 32) : Fin 3 → Nat :=
  let c24_i32 : BitVec 32 := 24#32
  let v1 : BitVec 32 := Scalar.remsi c0_i32_1 c24_i32
  let c0_i32_2 : BitVec 32 := 0#32
  let c0_i32_3 : BitVec 32 := 0#32
  ![v1.toNat, 0, 0]
def k0_off2_at (r : Fin 27) : BitVec 32 :=
  if r.val < 13 then
    if r.val < 6 then
      if r.val < 3 then
        if r.val < 1 then
          0#32
        else
          if r.val < 2 then
            1#32
          else
            2#32
      else
        if r.val < 4 then
          3#32
        else
          if r.val < 5 then
            4#32
          else
            5#32
    else
      if r.val < 9 then
        if r.val < 7 then
          6#32
        else
          if r.val < 8 then
            7#32
          else
            8#32
      else
        if r.val < 11 then
          if r.val < 10 then
            9#32
          else
            10#32
        else
          if r.val < 12 then
            11#32
          else
            12#32
  else
    if r.val < 20 then
      if r.val < 16 then
        if r.val < 14 then
          13#32
        else
          if r.val < 15 then
            14#32
          else
            15#32
      else
        if r.val < 18 then
          if r.val < 17 then
            16#32
          else
            17#32
        else
          if r.val < 19 then
            18#32
          else
            19#32
    else
      if r.val < 23 then
        if r.val < 21 then
          20#32
        else
          if r.val < 22 then
            21#32
          else
            22#32
      else
        if r.val < 25 then
          if r.val < 24 then
            23#32
          else
            68#32
        else
          if r.val < 26 then
            69#32
          else
            70#32
@[reducible] def k0_t1_loop : Scf.Loop 32 :=
  let c0_i32_118 : BitVec 32 := 0#32
  let c20_i32_119 : BitVec 32 := 20#32
  let v176 : BitVec 32 := Scalar.addi c0_i32_118 c20_i32_119
  let c1_i32_120 : BitVec 32 := 1#32
  ⟨c0_i32_118, v176, c1_i32_120⟩
def k0_mult1 (k0_t1 : Fin k0_t1_loop.trips) : BitVec 32 :=
  let c0_i32_118 : BitVec 32 := 0#32
  let c1_i32_120 : BitVec 32 := 1#32
  let arg20 : BitVec 32 := Scf.iv c0_i32_118 c1_i32_120 k0_t1
  let c0_i32_1843 : BitVec 32 := 0#32
  let v2797 : BitVec 32 := Scalar.addi arg20 c0_i32_1843
  let c128_i32_1844 : BitVec 32 := 128#32
  let v2798 : BitVec 32 := Scalar.muli v2797 c128_i32_1844
  v2798
def k0_off3 (k0_t1 : Fin k0_t1_loop.trips) (c0_i32_1843 : BitVec 32) : Fin 2 → Nat :=
  let c0_1845 : Index := 0#32
  let c0_i32_118 : BitVec 32 := 0#32
  let c1_i32_120 : BitVec 32 := 1#32
  let arg20 : BitVec 32 := Scf.iv c0_i32_118 c1_i32_120 k0_t1
  let v2797 : BitVec 32 := Scalar.addi arg20 c0_i32_1843
  let c128_i32_1844 : BitVec 32 := 128#32
  let v2798 : BitVec 32 := Scalar.muli v2797 c128_i32_1844
  let v2799 : BitVec 32 := v2798
  let v2800 : Index := Scalar.indexCast v2799
  ![0, v2800.toNat]
def k0_off4 (k0_t1 : Fin k0_t1_loop.trips) (c0_i32_1854 : BitVec 32) : Fin 2 → Nat :=
  let c0_i32_118 : BitVec 32 := 0#32
  let c1_i32_120 : BitVec 32 := 1#32
  let arg20 : BitVec 32 := Scf.iv c0_i32_118 c1_i32_120 k0_t1
  let v2834 : BitVec 32 := Scalar.addi c0_i32_1854 arg20
  let v2835 : Index := Scalar.indexCast v2834
  let c0_1855 : Index := 0#32
  ![v2835.toNat, 0]
def k0_mult2 (k0_t1 : Fin k0_t1_loop.trips) : BitVec 32 :=
  let c0_i32_118 : BitVec 32 := 0#32
  let c1_i32_120 : BitVec 32 := 1#32
  let arg20 : BitVec 32 := Scf.iv c0_i32_118 c1_i32_120 k0_t1
  let c0_i32_1843 : BitVec 32 := 0#32
  let v2797 : BitVec 32 := Scalar.addi arg20 c0_i32_1843
  let c128_i32_1861 : BitVec 32 := 128#32
  let v2858 : BitVec 32 := Scalar.muli v2797 c128_i32_1861
  v2858
def k0_off5 (k0_t1 : Fin k0_t1_loop.trips) (c0_i32_1843 : BitVec 32) : Fin 2 → Nat :=
  let c0_1862 : Index := 0#32
  let c0_i32_118 : BitVec 32 := 0#32
  let c1_i32_120 : BitVec 32 := 1#32
  let arg20 : BitVec 32 := Scf.iv c0_i32_118 c1_i32_120 k0_t1
  let v2797 : BitVec 32 := Scalar.addi arg20 c0_i32_1843
  let c128_i32_1861 : BitVec 32 := 128#32
  let v2858 : BitVec 32 := Scalar.muli v2797 c128_i32_1861
  let v2859 : BitVec 32 := v2858
  let v2860 : Index := Scalar.indexCast v2859
  ![0, v2860.toNat]
def k0_off6 (k0_t1 : Fin k0_t1_loop.trips) : Fin 3 → Nat :=
  let c0_i32_118 : BitVec 32 := 0#32
  let c1_i32_120 : BitVec 32 := 1#32
  let arg20 : BitVec 32 := Scf.iv c0_i32_118 c1_i32_120 k0_t1
  let v2865 : Index := Scalar.indexCast arg20
  let c0_1863 : Index := 0#32
  let c0_1864 : Index := 0#32
  ![v2865.toNat, 0, 0]
def k0_off7 (k0_t1 : Fin k0_t1_loop.trips) : Fin 3 → Nat :=
  let c0_i32_118 : BitVec 32 := 0#32
  let c1_i32_120 : BitVec 32 := 1#32
  let arg20 : BitVec 32 := Scf.iv c0_i32_118 c1_i32_120 k0_t1
  let v2869 : Index := Scalar.indexCast arg20
  let c0_1865 : Index := 0#32
  let c128_1866 : Index := 128#32
  ![v2869.toNat, 0, 128]
def k0_mult3 (k0_t1 : Fin k0_t1_loop.trips) : BitVec 32 :=
  let c0_i32_118 : BitVec 32 := 0#32
  let c1_i32_120 : BitVec 32 := 1#32
  let arg20 : BitVec 32 := Scf.iv c0_i32_118 c1_i32_120 k0_t1
  let c20_i32_1867 : BitVec 32 := 20#32
  let v2873 : BitVec 32 := Scalar.addi arg20 c20_i32_1867
  let c128_i32_1868 : BitVec 32 := 128#32
  let v2874 : BitVec 32 := Scalar.muli v2873 c128_i32_1868
  v2874
def k0_mult4 (k0_t1 : Fin k0_t1_loop.trips) : BitVec 32 :=
  let c0_i32_118 : BitVec 32 := 0#32
  let c1_i32_120 : BitVec 32 := 1#32
  let arg20 : BitVec 32 := Scf.iv c0_i32_118 c1_i32_120 k0_t1
  let c20_i32_1867 : BitVec 32 := 20#32
  let v2873 : BitVec 32 := Scalar.addi arg20 c20_i32_1867
  let c128_i32_1888 : BitVec 32 := 128#32
  let v2934 : BitVec 32 := Scalar.muli v2873 c128_i32_1888
  v2934
def k0_off8 (k0_t1 : Fin k0_t1_loop.trips) : Fin 3 → Nat :=
  let c0_i32_118 : BitVec 32 := 0#32
  let c1_i32_120 : BitVec 32 := 1#32
  let arg20 : BitVec 32 := Scf.iv c0_i32_118 c1_i32_120 k0_t1
  let v2955 : Index := Scalar.indexCast arg20
  let c128_1895 : Index := 128#32
  let c0_1896 : Index := 0#32
  ![v2955.toNat, 128, 0]
def k0_off9 (k0_t1 : Fin k0_t1_loop.trips) : Fin 3 → Nat :=
  let c0_i32_118 : BitVec 32 := 0#32
  let c1_i32_120 : BitVec 32 := 1#32
  let arg20 : BitVec 32 := Scf.iv c0_i32_118 c1_i32_120 k0_t1
  let v2959 : Index := Scalar.indexCast arg20
  let c128_1897 : Index := 128#32
  let c128_1898 : Index := 128#32
  ![v2959.toNat, 128, 128]
def k0_mult5 (k0_t1 : Fin k0_t1_loop.trips) : BitVec 32 :=
  let c0_i32_118 : BitVec 32 := 0#32
  let c1_i32_120 : BitVec 32 := 1#32
  let arg20 : BitVec 32 := Scf.iv c0_i32_118 c1_i32_120 k0_t1
  let c40_i32 : BitVec 32 := 40#32
  let v2963 : BitVec 32 := Scalar.addi arg20 c40_i32
  let c128_i32_1899 : BitVec 32 := 128#32
  let v2964 : BitVec 32 := Scalar.muli v2963 c128_i32_1899
  v2964
def k0_mult6 (k0_t1 : Fin k0_t1_loop.trips) : BitVec 32 :=
  let c0_i32_118 : BitVec 32 := 0#32
  let c1_i32_120 : BitVec 32 := 1#32
  let arg20 : BitVec 32 := Scf.iv c0_i32_118 c1_i32_120 k0_t1
  let c40_i32 : BitVec 32 := 40#32
  let v2963 : BitVec 32 := Scalar.addi arg20 c40_i32
  let c128_i32_1919 : BitVec 32 := 128#32
  let v3024 : BitVec 32 := Scalar.muli v2963 c128_i32_1919
  v3024
def k0_mult7 (k0_t1 : Fin k0_t1_loop.trips) : BitVec 32 :=
  let c0_i32_118 : BitVec 32 := 0#32
  let c1_i32_120 : BitVec 32 := 1#32
  let arg20 : BitVec 32 := Scf.iv c0_i32_118 c1_i32_120 k0_t1
  let c60_i32 : BitVec 32 := 60#32
  let v3054 : BitVec 32 := Scalar.addi arg20 c60_i32
  let c128_i32_1931 : BitVec 32 := 128#32
  let v3055 : BitVec 32 := Scalar.muli v3054 c128_i32_1931
  v3055
def k0_mult8 (k0_t1 : Fin k0_t1_loop.trips) : BitVec 32 :=
  let c0_i32_118 : BitVec 32 := 0#32
  let c1_i32_120 : BitVec 32 := 1#32
  let arg20 : BitVec 32 := Scf.iv c0_i32_118 c1_i32_120 k0_t1
  let c60_i32 : BitVec 32 := 60#32
  let v3054 : BitVec 32 := Scalar.addi arg20 c60_i32
  let c128_i32_1951 : BitVec 32 := 128#32
  let v3115 : BitVec 32 := Scalar.muli v3054 c128_i32_1951
  v3115
@[reducible] def k0_t2_loop : Scf.Loop 32 :=
  let c0_i32_150 : BitVec 32 := 0#32
  let c17_i32_151 : BitVec 32 := 17#32
  let v213 : BitVec 32 := Scalar.addi c0_i32_150 c17_i32_151
  let c1_i32_152 : BitVec 32 := 1#32
  ⟨c0_i32_150, v213, c1_i32_152⟩
def k0_off10 (k0_t2 : Fin k0_t2_loop.trips) (c0_i32_1844 : BitVec 32) : Fin 1 → Nat :=
  let c0_i32_150 : BitVec 32 := 0#32
  let c1_i32_152 : BitVec 32 := 1#32
  let arg20 : BitVec 32 := Scf.iv c0_i32_150 c1_i32_152 k0_t2
  let c4_i32_1843 : BitVec 32 := 4#32
  let v2797 : BitVec 32 := Scalar.muli arg20 c4_i32_1843
  let v2798 : BitVec 32 := Scalar.addi v2797 c0_i32_1844
  let c24_i32_1845 : BitVec 32 := 24#32
  let v2799 : BitVec 32 := Scalar.remsi v2798 c24_i32_1845
  ![v2799.toNat]
def k0_off11 (k0_t2 : Fin k0_t2_loop.trips) (c0_i32_1844 : BitVec 32) : Fin 3 → Nat :=
  let c0_i32_150 : BitVec 32 := 0#32
  let c1_i32_152 : BitVec 32 := 1#32
  let arg20 : BitVec 32 := Scf.iv c0_i32_150 c1_i32_152 k0_t2
  let c4_i32_1843 : BitVec 32 := 4#32
  let v2797 : BitVec 32 := Scalar.muli arg20 c4_i32_1843
  let v2798 : BitVec 32 := Scalar.addi v2797 c0_i32_1844
  let c24_i32_1845 : BitVec 32 := 24#32
  let v2799 : BitVec 32 := Scalar.remsi v2798 c24_i32_1845
  let c0_i32_1847 : BitVec 32 := 0#32
  let c0_i32_1848 : BitVec 32 := 0#32
  ![v2799.toNat, 0, 0]
def k0_off12 (k0_t2 : Fin k0_t2_loop.trips) (c0_i32_1844 : BitVec 32) : Fin 2 → Nat :=
  let c0_i32_150 : BitVec 32 := 0#32
  let c1_i32_152 : BitVec 32 := 1#32
  let arg20 : BitVec 32 := Scf.iv c0_i32_150 c1_i32_152 k0_t2
  let c4_i32_1843 : BitVec 32 := 4#32
  let v2797 : BitVec 32 := Scalar.muli arg20 c4_i32_1843
  let v2798 : BitVec 32 := Scalar.addi v2797 c0_i32_1844
  let c128_i32_1846 : BitVec 32 := 128#32
  let v2800 : BitVec 32 := Scalar.muli v2798 c128_i32_1846
  let c0_i32_1849 : BitVec 32 := 0#32
  ![v2800.toNat, 0]
def k0_off13 (k0_t2 : Fin k0_t2_loop.trips) (c0_i32_1872 : BitVec 32) : Fin 2 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let v2836 : Index := Scalar.indexCast v2834
  let c0_1874 : Index := 0#32
  ![v2836.toNat, 0]
def k0_off14 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2874 : Index := Scalar.indexCast v2835
  let c0_1901 : Index := 0#32
  let c0_1902 : Index := 0#32
  ![v2874.toNat, 0, 0]
def k0_off15 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2877 : Index := Scalar.indexCast v2835
  let c0_1903 : Index := 0#32
  let c2560_1904 : Index := 2560#32
  ![v2877.toNat, 0, 2560]
def k0_off16 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2880 : Index := Scalar.indexCast v2835
  let c0_1905 : Index := 0#32
  let c5120_1906 : Index := 5120#32
  ![v2880.toNat, 0, 5120]
def k0_off17 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2883 : Index := Scalar.indexCast v2835
  let c0_1907 : Index := 0#32
  let c7680_1908 : Index := 7680#32
  ![v2883.toNat, 0, 7680]
def k0_off18 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2914 : Index := Scalar.indexCast v2835
  let c0_1929 : Index := 0#32
  let c128_1930 : Index := 128#32
  ![v2914.toNat, 0, 128]
def k0_off19 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2917 : Index := Scalar.indexCast v2835
  let c0_1931 : Index := 0#32
  let c2688_1932 : Index := 2688#32
  ![v2917.toNat, 0, 2688]
def k0_off20 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2920 : Index := Scalar.indexCast v2835
  let c0_1933 : Index := 0#32
  let c5248_1934 : Index := 5248#32
  ![v2920.toNat, 0, 5248]
def k0_off21 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2923 : Index := Scalar.indexCast v2835
  let c0_1935 : Index := 0#32
  let c7808_1936 : Index := 7808#32
  ![v2923.toNat, 0, 7808]
def k0_off22 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2954 : Index := Scalar.indexCast v2835
  let c0_1957 : Index := 0#32
  let c256_1958 : Index := 256#32
  ![v2954.toNat, 0, 256]
def k0_off23 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2957 : Index := Scalar.indexCast v2835
  let c0_1959 : Index := 0#32
  let c2816_1960 : Index := 2816#32
  ![v2957.toNat, 0, 2816]
def k0_off24 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2960 : Index := Scalar.indexCast v2835
  let c0_1961 : Index := 0#32
  let c5376_1962 : Index := 5376#32
  ![v2960.toNat, 0, 5376]
def k0_off25 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2963 : Index := Scalar.indexCast v2835
  let c0_1963 : Index := 0#32
  let c7936_1964 : Index := 7936#32
  ![v2963.toNat, 0, 7936]
def k0_off26 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2994 : Index := Scalar.indexCast v2835
  let c0_1985 : Index := 0#32
  let c384_1986 : Index := 384#32
  ![v2994.toNat, 0, 384]
def k0_off27 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v2997 : Index := Scalar.indexCast v2835
  let c0_1987 : Index := 0#32
  let c2944_1988 : Index := 2944#32
  ![v2997.toNat, 0, 2944]
def k0_off28 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3000 : Index := Scalar.indexCast v2835
  let c0_1989 : Index := 0#32
  let c5504_1990 : Index := 5504#32
  ![v3000.toNat, 0, 5504]
def k0_off29 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3003 : Index := Scalar.indexCast v2835
  let c0_1991 : Index := 0#32
  let c8064_1992 : Index := 8064#32
  ![v3003.toNat, 0, 8064]
def k0_off30 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3034 : Index := Scalar.indexCast v2835
  let c0_2013 : Index := 0#32
  let c512_2014 : Index := 512#32
  ![v3034.toNat, 0, 512]
def k0_off31 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3037 : Index := Scalar.indexCast v2835
  let c0_2015 : Index := 0#32
  let c3072_2016 : Index := 3072#32
  ![v3037.toNat, 0, 3072]
def k0_off32 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3040 : Index := Scalar.indexCast v2835
  let c0_2017 : Index := 0#32
  let c5632_2018 : Index := 5632#32
  ![v3040.toNat, 0, 5632]
def k0_off33 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3043 : Index := Scalar.indexCast v2835
  let c0_2019 : Index := 0#32
  let c8192_2020 : Index := 8192#32
  ![v3043.toNat, 0, 8192]
def k0_off34 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3074 : Index := Scalar.indexCast v2835
  let c0_2041 : Index := 0#32
  let c640_2042 : Index := 640#32
  ![v3074.toNat, 0, 640]
def k0_off35 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3077 : Index := Scalar.indexCast v2835
  let c0_2043 : Index := 0#32
  let c3200_2044 : Index := 3200#32
  ![v3077.toNat, 0, 3200]
def k0_off36 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3080 : Index := Scalar.indexCast v2835
  let c0_2045 : Index := 0#32
  let c5760_2046 : Index := 5760#32
  ![v3080.toNat, 0, 5760]
def k0_off37 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3083 : Index := Scalar.indexCast v2835
  let c0_2047 : Index := 0#32
  let c8320_2048 : Index := 8320#32
  ![v3083.toNat, 0, 8320]
def k0_off38 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3114 : Index := Scalar.indexCast v2835
  let c0_2069 : Index := 0#32
  let c768_2070 : Index := 768#32
  ![v3114.toNat, 0, 768]
def k0_off39 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3117 : Index := Scalar.indexCast v2835
  let c0_2071 : Index := 0#32
  let c3328_2072 : Index := 3328#32
  ![v3117.toNat, 0, 3328]
def k0_off40 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3120 : Index := Scalar.indexCast v2835
  let c0_2073 : Index := 0#32
  let c5888_2074 : Index := 5888#32
  ![v3120.toNat, 0, 5888]
def k0_off41 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3123 : Index := Scalar.indexCast v2835
  let c0_2075 : Index := 0#32
  let c8448_2076 : Index := 8448#32
  ![v3123.toNat, 0, 8448]
def k0_off42 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3154 : Index := Scalar.indexCast v2835
  let c0_2097 : Index := 0#32
  let c896_2098 : Index := 896#32
  ![v3154.toNat, 0, 896]
def k0_off43 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3157 : Index := Scalar.indexCast v2835
  let c0_2099 : Index := 0#32
  let c3456_2100 : Index := 3456#32
  ![v3157.toNat, 0, 3456]
def k0_off44 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3160 : Index := Scalar.indexCast v2835
  let c0_2101 : Index := 0#32
  let c6016_2102 : Index := 6016#32
  ![v3160.toNat, 0, 6016]
def k0_off45 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3163 : Index := Scalar.indexCast v2835
  let c0_2103 : Index := 0#32
  let c8576_2104 : Index := 8576#32
  ![v3163.toNat, 0, 8576]
def k0_off46 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3194 : Index := Scalar.indexCast v2835
  let c0_2125 : Index := 0#32
  let c1024_2126 : Index := 1024#32
  ![v3194.toNat, 0, 1024]
def k0_off47 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3197 : Index := Scalar.indexCast v2835
  let c0_2127 : Index := 0#32
  let c3584_2128 : Index := 3584#32
  ![v3197.toNat, 0, 3584]
def k0_off48 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3200 : Index := Scalar.indexCast v2835
  let c0_2129 : Index := 0#32
  let c6144_2130 : Index := 6144#32
  ![v3200.toNat, 0, 6144]
def k0_off49 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3203 : Index := Scalar.indexCast v2835
  let c0_2131 : Index := 0#32
  let c8704_2132 : Index := 8704#32
  ![v3203.toNat, 0, 8704]
def k0_off50 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3234 : Index := Scalar.indexCast v2835
  let c0_2153 : Index := 0#32
  let c1152_2154 : Index := 1152#32
  ![v3234.toNat, 0, 1152]
def k0_off51 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3237 : Index := Scalar.indexCast v2835
  let c0_2155 : Index := 0#32
  let c3712_2156 : Index := 3712#32
  ![v3237.toNat, 0, 3712]
def k0_off52 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3240 : Index := Scalar.indexCast v2835
  let c0_2157 : Index := 0#32
  let c6272_2158 : Index := 6272#32
  ![v3240.toNat, 0, 6272]
def k0_off53 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3243 : Index := Scalar.indexCast v2835
  let c0_2159 : Index := 0#32
  let c8832_2160 : Index := 8832#32
  ![v3243.toNat, 0, 8832]
def k0_off54 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3274 : Index := Scalar.indexCast v2835
  let c0_2181 : Index := 0#32
  let c1280_2182 : Index := 1280#32
  ![v3274.toNat, 0, 1280]
def k0_off55 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3277 : Index := Scalar.indexCast v2835
  let c0_2183 : Index := 0#32
  let c3840_2184 : Index := 3840#32
  ![v3277.toNat, 0, 3840]
def k0_off56 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3280 : Index := Scalar.indexCast v2835
  let c0_2185 : Index := 0#32
  let c6400_2186 : Index := 6400#32
  ![v3280.toNat, 0, 6400]
def k0_off57 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3283 : Index := Scalar.indexCast v2835
  let c0_2187 : Index := 0#32
  let c8960_2188 : Index := 8960#32
  ![v3283.toNat, 0, 8960]
def k0_off58 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3314 : Index := Scalar.indexCast v2835
  let c0_2209 : Index := 0#32
  let c1408_2210 : Index := 1408#32
  ![v3314.toNat, 0, 1408]
def k0_off59 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3317 : Index := Scalar.indexCast v2835
  let c0_2211 : Index := 0#32
  let c3968_2212 : Index := 3968#32
  ![v3317.toNat, 0, 3968]
def k0_off60 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3320 : Index := Scalar.indexCast v2835
  let c0_2213 : Index := 0#32
  let c6528_2214 : Index := 6528#32
  ![v3320.toNat, 0, 6528]
def k0_off61 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3323 : Index := Scalar.indexCast v2835
  let c0_2215 : Index := 0#32
  let c9088_2216 : Index := 9088#32
  ![v3323.toNat, 0, 9088]
def k0_off62 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3354 : Index := Scalar.indexCast v2835
  let c0_2237 : Index := 0#32
  let c1536_2238 : Index := 1536#32
  ![v3354.toNat, 0, 1536]
def k0_off63 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3357 : Index := Scalar.indexCast v2835
  let c0_2239 : Index := 0#32
  let c4096_2240 : Index := 4096#32
  ![v3357.toNat, 0, 4096]
def k0_off64 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3360 : Index := Scalar.indexCast v2835
  let c0_2241 : Index := 0#32
  let c6656_2242 : Index := 6656#32
  ![v3360.toNat, 0, 6656]
def k0_off65 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3363 : Index := Scalar.indexCast v2835
  let c0_2243 : Index := 0#32
  let c9216_2244 : Index := 9216#32
  ![v3363.toNat, 0, 9216]
def k0_off66 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3394 : Index := Scalar.indexCast v2835
  let c0_2265 : Index := 0#32
  let c1664_2266 : Index := 1664#32
  ![v3394.toNat, 0, 1664]
def k0_off67 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3397 : Index := Scalar.indexCast v2835
  let c0_2267 : Index := 0#32
  let c4224_2268 : Index := 4224#32
  ![v3397.toNat, 0, 4224]
def k0_off68 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3400 : Index := Scalar.indexCast v2835
  let c0_2269 : Index := 0#32
  let c6784_2270 : Index := 6784#32
  ![v3400.toNat, 0, 6784]
def k0_off69 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3403 : Index := Scalar.indexCast v2835
  let c0_2271 : Index := 0#32
  let c9344_2272 : Index := 9344#32
  ![v3403.toNat, 0, 9344]
def k0_off70 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3434 : Index := Scalar.indexCast v2835
  let c0_2293 : Index := 0#32
  let c1792_2294 : Index := 1792#32
  ![v3434.toNat, 0, 1792]
def k0_off71 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3437 : Index := Scalar.indexCast v2835
  let c0_2295 : Index := 0#32
  let c4352_2296 : Index := 4352#32
  ![v3437.toNat, 0, 4352]
def k0_off72 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3440 : Index := Scalar.indexCast v2835
  let c0_2297 : Index := 0#32
  let c6912_2298 : Index := 6912#32
  ![v3440.toNat, 0, 6912]
def k0_off73 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3443 : Index := Scalar.indexCast v2835
  let c0_2299 : Index := 0#32
  let c9472_2300 : Index := 9472#32
  ![v3443.toNat, 0, 9472]
def k0_off74 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3474 : Index := Scalar.indexCast v2835
  let c0_2321 : Index := 0#32
  let c1920_2322 : Index := 1920#32
  ![v3474.toNat, 0, 1920]
def k0_off75 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3477 : Index := Scalar.indexCast v2835
  let c0_2323 : Index := 0#32
  let c4480_2324 : Index := 4480#32
  ![v3477.toNat, 0, 4480]
def k0_off76 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3480 : Index := Scalar.indexCast v2835
  let c0_2325 : Index := 0#32
  let c7040_2326 : Index := 7040#32
  ![v3480.toNat, 0, 7040]
def k0_off77 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3483 : Index := Scalar.indexCast v2835
  let c0_2327 : Index := 0#32
  let c9600_2328 : Index := 9600#32
  ![v3483.toNat, 0, 9600]
def k0_off78 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3514 : Index := Scalar.indexCast v2835
  let c0_2349 : Index := 0#32
  let c2048_2350 : Index := 2048#32
  ![v3514.toNat, 0, 2048]
def k0_off79 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3517 : Index := Scalar.indexCast v2835
  let c0_2351 : Index := 0#32
  let c4608_2352 : Index := 4608#32
  ![v3517.toNat, 0, 4608]
def k0_off80 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3520 : Index := Scalar.indexCast v2835
  let c0_2353 : Index := 0#32
  let c7168_2354 : Index := 7168#32
  ![v3520.toNat, 0, 7168]
def k0_off81 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3523 : Index := Scalar.indexCast v2835
  let c0_2355 : Index := 0#32
  let c9728_2356 : Index := 9728#32
  ![v3523.toNat, 0, 9728]
def k0_off82 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3554 : Index := Scalar.indexCast v2835
  let c0_2377 : Index := 0#32
  let c2176_2378 : Index := 2176#32
  ![v3554.toNat, 0, 2176]
def k0_off83 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3557 : Index := Scalar.indexCast v2835
  let c0_2379 : Index := 0#32
  let c4736_2380 : Index := 4736#32
  ![v3557.toNat, 0, 4736]
def k0_off84 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3560 : Index := Scalar.indexCast v2835
  let c0_2381 : Index := 0#32
  let c7296_2382 : Index := 7296#32
  ![v3560.toNat, 0, 7296]
def k0_off85 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3563 : Index := Scalar.indexCast v2835
  let c0_2383 : Index := 0#32
  let c9856_2384 : Index := 9856#32
  ![v3563.toNat, 0, 9856]
def k0_off86 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3594 : Index := Scalar.indexCast v2835
  let c0_2405 : Index := 0#32
  let c2304_2406 : Index := 2304#32
  ![v3594.toNat, 0, 2304]
def k0_off87 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3597 : Index := Scalar.indexCast v2835
  let c0_2407 : Index := 0#32
  let c4864_2408 : Index := 4864#32
  ![v3597.toNat, 0, 4864]
def k0_off88 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3600 : Index := Scalar.indexCast v2835
  let c0_2409 : Index := 0#32
  let c7424_2410 : Index := 7424#32
  ![v3600.toNat, 0, 7424]
def k0_off89 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3603 : Index := Scalar.indexCast v2835
  let c0_2411 : Index := 0#32
  let c9984_2412 : Index := 9984#32
  ![v3603.toNat, 0, 9984]
def k0_off90 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3634 : Index := Scalar.indexCast v2835
  let c0_2433 : Index := 0#32
  let c2432_2434 : Index := 2432#32
  ![v3634.toNat, 0, 2432]
def k0_off91 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3637 : Index := Scalar.indexCast v2835
  let c0_2435 : Index := 0#32
  let c4992_2436 : Index := 4992#32
  ![v3637.toNat, 0, 4992]
def k0_off92 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3640 : Index := Scalar.indexCast v2835
  let c0_2437 : Index := 0#32
  let c7552_2438 : Index := 7552#32
  ![v3640.toNat, 0, 7552]
def k0_off93 (k0_t2 : Fin k0_t2_loop.trips) (c0_i32_1872 : BitVec 32) : Fin 3 → Nat :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c24_i32_1873 : BitVec 32 := 24#32
  let v2835 : BitVec 32 := Scalar.remsi v2834 c24_i32_1873
  let v3643 : Index := Scalar.indexCast v2835
  let c0_2439 : Index := 0#32
  let c10112_2440 : Index := 10112#32
  ![v3643.toNat, 0, 10112]
def k0_mult9 (k0_t2 : Fin k0_t2_loop.trips) : BitVec 32 :=
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let c0_i32_1872 : BitVec 32 := 0#32
  let v2834 : BitVec 32 := Scalar.addi v2833 c0_i32_1872
  let c128_i32_2461 : BitVec 32 := 128#32
  let v3686 : BitVec 32 := Scalar.muli v2834 c128_i32_2461
  v3686
def k0_off94 (k0_t2 : Fin k0_t2_loop.trips) (c0_i32_1872 : BitVec 32) : Fin 2 → Nat :=
  let c0_2462 : Index := 0#32
  let c0_i32_150 : BitVec 32 := 0#32
  let c1_i32_152 : BitVec 32 := 1#32
  let arg20 : BitVec 32 := Scf.iv c0_i32_150 c1_i32_152 k0_t2
  let c4_i32_1871 : BitVec 32 := 4#32
  let v2833 : BitVec 32 := Scalar.muli arg20 c4_i32_1871
  let v2834 : BitVec 32 := Scalar.addi v2833 c0_i32_1872
  let c128_i32_2461 : BitVec 32 := 128#32
  let v3686 : BitVec 32 := Scalar.muli v2834 c128_i32_2461
  let v3687 : BitVec 32 := v3686
  let v3688 : Index := Scalar.indexCast v3687
  ![0, v3688.toNat]
def k0_mult10 (k0_t2 : Fin k0_t2_loop.trips) : BitVec 32 :=
  let c0_i32_150 : BitVec 32 := 0#32
  let c1_i32_152 : BitVec 32 := 1#32
  let arg20 : BitVec 32 := Scf.iv c0_i32_150 c1_i32_152 k0_t2
  let c4_i32_2463 : BitVec 32 := 4#32
  let v3692 : BitVec 32 := Scalar.muli arg20 c4_i32_2463
  let c1_i32_2464 : BitVec 32 := 1#32
  let v3693 : BitVec 32 := Scalar.addi v3692 c1_i32_2464
  let c128_i32_3053 : BitVec 32 := 128#32
  let v4545 : BitVec 32 := Scalar.muli v3693 c128_i32_3053
  v4545
def k0_mult11 (k0_t2 : Fin k0_t2_loop.trips) : BitVec 32 :=
  let c0_i32_150 : BitVec 32 := 0#32
  let c1_i32_152 : BitVec 32 := 1#32
  let arg20 : BitVec 32 := Scf.iv c0_i32_150 c1_i32_152 k0_t2
  let c4_i32_3055 : BitVec 32 := 4#32
  let v4551 : BitVec 32 := Scalar.muli arg20 c4_i32_3055
  let c2_i32_3056 : BitVec 32 := 2#32
  let v4552 : BitVec 32 := Scalar.addi v4551 c2_i32_3056
  let c128_i32_3645 : BitVec 32 := 128#32
  let v5404 : BitVec 32 := Scalar.muli v4552 c128_i32_3645
  v5404
def k0_mult12 (k0_t2 : Fin k0_t2_loop.trips) : BitVec 32 :=
  let c0_i32_150 : BitVec 32 := 0#32
  let c1_i32_152 : BitVec 32 := 1#32
  let arg20 : BitVec 32 := Scf.iv c0_i32_150 c1_i32_152 k0_t2
  let c4_i32_3647 : BitVec 32 := 4#32
  let v5410 : BitVec 32 := Scalar.muli arg20 c4_i32_3647
  let c3_i32_3648 : BitVec 32 := 3#32
  let v5411 : BitVec 32 := Scalar.addi v5410 c3_i32_3648
  let c128_i32_4237 : BitVec 32 := 128#32
  let v6263 : BitVec 32 := Scalar.muli v5411 c128_i32_4237
  v6263
def k0_cond1 (k0_t2 : Fin k0_t2_loop.trips) : BitVec 1 :=
  let c0_i32_150 : BitVec 32 := 0#32
  let c1_i32_152 : BitVec 32 := 1#32
  let arg20 : BitVec 32 := Scf.iv c0_i32_150 c1_i32_152 k0_t2
  let c4_i32_4239 : BitVec 32 := 4#32
  let v6269 : BitVec 32 := Scalar.muli arg20 c4_i32_4239
  let c0_i32_4240 : BitVec 32 := 0#32
  let v6270 : BitVec 32 := Scalar.addi v6269 c0_i32_4240
  let c24_i32_4241 : BitVec 32 := 24#32
  let v6271 : BitVec 32 := Scalar.addi v6270 c24_i32_4241
  let c71_i32 : BitVec 32 := 71#32
  let v6272 : BitVec 1 := Scalar.cmpi .slt v6271 c71_i32
  let v6273 : BitVec 32 := Scalar.extui v6272
  let c0_i32_4242 : BitVec 32 := 0#32
  let v6274 : BitVec 1 := Scalar.cmpi .ne v6273 c0_i32_4242
  v6274

def k0_off95 (k0_t2 : Fin k0_t2_loop.trips) : Fin 1 → Nat :=
  let c0_i32_150 : BitVec 32 := 0#32
  let c1_i32_152 : BitVec 32 := 1#32
  let arg20 : BitVec 32 := Scf.iv c0_i32_150 c1_i32_152 k0_t2
  let c4_i32_4239 : BitVec 32 := 4#32
  let v6269 : BitVec 32 := Scalar.muli arg20 c4_i32_4239
  let c0_i32_4240 : BitVec 32 := 0#32
  let v6270 : BitVec 32 := Scalar.addi v6269 c0_i32_4240
  let c24_i32_4241 : BitVec 32 := 24#32
  let v6271 : BitVec 32 := Scalar.addi v6270 c24_i32_4241
  let c24_i32_4258 : BitVec 32 := 24#32
  let v6293 : BitVec 32 := Scalar.remsi v6271 c24_i32_4258
  ![v6293.toNat]
def k0_off96 (k0_t2 : Fin k0_t2_loop.trips) : Fin 3 → Nat :=
  let c0_i32_150 : BitVec 32 := 0#32
  let c1_i32_152 : BitVec 32 := 1#32
  let arg20 : BitVec 32 := Scf.iv c0_i32_150 c1_i32_152 k0_t2
  let c4_i32_4239 : BitVec 32 := 4#32
  let v6269 : BitVec 32 := Scalar.muli arg20 c4_i32_4239
  let c0_i32_4240 : BitVec 32 := 0#32
  let v6270 : BitVec 32 := Scalar.addi v6269 c0_i32_4240
  let c24_i32_4241 : BitVec 32 := 24#32
  let v6271 : BitVec 32 := Scalar.addi v6270 c24_i32_4241
  let c24_i32_4258 : BitVec 32 := 24#32
  let v6293 : BitVec 32 := Scalar.remsi v6271 c24_i32_4258
  let c0_i32_4260 : BitVec 32 := 0#32
  let c0_i32_4261 : BitVec 32 := 0#32
  ![v6293.toNat, 0, 0]
def k0_off97 (k0_t2 : Fin k0_t2_loop.trips) : Fin 2 → Nat :=
  let c0_i32_150 : BitVec 32 := 0#32
  let c1_i32_152 : BitVec 32 := 1#32
  let arg20 : BitVec 32 := Scf.iv c0_i32_150 c1_i32_152 k0_t2
  let c4_i32_4239 : BitVec 32 := 4#32
  let v6269 : BitVec 32 := Scalar.muli arg20 c4_i32_4239
  let c0_i32_4240 : BitVec 32 := 0#32
  let v6270 : BitVec 32 := Scalar.addi v6269 c0_i32_4240
  let c24_i32_4241 : BitVec 32 := 24#32
  let v6271 : BitVec 32 := Scalar.addi v6270 c24_i32_4241
  let c128_i32_4259 : BitVec 32 := 128#32
  let v6294 : BitVec 32 := Scalar.muli v6271 c128_i32_4259
  let c0_i32_4262 : BitVec 32 := 0#32
  ![v6294.toNat, 0]
def k0_cond2 (k0_t2 : Fin k0_t2_loop.trips) : BitVec 1 :=
  let c0_i32_150 : BitVec 32 := 0#32
  let c1_i32_152 : BitVec 32 := 1#32
  let arg20 : BitVec 32 := Scf.iv c0_i32_150 c1_i32_152 k0_t2
  let c4_i32_4243 : BitVec 32 := 4#32
  let v6275 : BitVec 32 := Scalar.muli arg20 c4_i32_4243
  let c1_i32_4244 : BitVec 32 := 1#32
  let v6276 : BitVec 32 := Scalar.addi v6275 c1_i32_4244
  let c24_i32_4245 : BitVec 32 := 24#32
  let v6277 : BitVec 32 := Scalar.addi v6276 c24_i32_4245
  let c71_i32_4246 : BitVec 32 := 71#32
  let v6278 : BitVec 1 := Scalar.cmpi .slt v6277 c71_i32_4246
  let v6279 : BitVec 32 := Scalar.extui v6278
  let c0_i32_4247 : BitVec 32 := 0#32
  let v6280 : BitVec 1 := Scalar.cmpi .ne v6279 c0_i32_4247
  v6280

def k0_off98 (k0_t2 : Fin k0_t2_loop.trips) : Fin 1 → Nat :=
  let c0_i32_150 : BitVec 32 := 0#32
  let c1_i32_152 : BitVec 32 := 1#32
  let arg20 : BitVec 32 := Scf.iv c0_i32_150 c1_i32_152 k0_t2
  let c4_i32_4243 : BitVec 32 := 4#32
  let v6275 : BitVec 32 := Scalar.muli arg20 c4_i32_4243
  let c1_i32_4244 : BitVec 32 := 1#32
  let v6276 : BitVec 32 := Scalar.addi v6275 c1_i32_4244
  let c24_i32_4245 : BitVec 32 := 24#32
  let v6277 : BitVec 32 := Scalar.addi v6276 c24_i32_4245
  let c24_i32_4258 : BitVec 32 := 24#32
  let v6293 : BitVec 32 := Scalar.remsi v6277 c24_i32_4258
  ![v6293.toNat]
def k0_off99 (k0_t2 : Fin k0_t2_loop.trips) : Fin 3 → Nat :=
  let c0_i32_150 : BitVec 32 := 0#32
  let c1_i32_152 : BitVec 32 := 1#32
  let arg20 : BitVec 32 := Scf.iv c0_i32_150 c1_i32_152 k0_t2
  let c4_i32_4243 : BitVec 32 := 4#32
  let v6275 : BitVec 32 := Scalar.muli arg20 c4_i32_4243
  let c1_i32_4244 : BitVec 32 := 1#32
  let v6276 : BitVec 32 := Scalar.addi v6275 c1_i32_4244
  let c24_i32_4245 : BitVec 32 := 24#32
  let v6277 : BitVec 32 := Scalar.addi v6276 c24_i32_4245
  let c24_i32_4258 : BitVec 32 := 24#32
  let v6293 : BitVec 32 := Scalar.remsi v6277 c24_i32_4258
  let c0_i32_4260 : BitVec 32 := 0#32
  let c0_i32_4261 : BitVec 32 := 0#32
  ![v6293.toNat, 0, 0]
def k0_off100 (k0_t2 : Fin k0_t2_loop.trips) : Fin 2 → Nat :=
  let c0_i32_150 : BitVec 32 := 0#32
  let c1_i32_152 : BitVec 32 := 1#32
  let arg20 : BitVec 32 := Scf.iv c0_i32_150 c1_i32_152 k0_t2
  let c4_i32_4243 : BitVec 32 := 4#32
  let v6275 : BitVec 32 := Scalar.muli arg20 c4_i32_4243
  let c1_i32_4244 : BitVec 32 := 1#32
  let v6276 : BitVec 32 := Scalar.addi v6275 c1_i32_4244
  let c24_i32_4245 : BitVec 32 := 24#32
  let v6277 : BitVec 32 := Scalar.addi v6276 c24_i32_4245
  let c128_i32_4259 : BitVec 32 := 128#32
  let v6294 : BitVec 32 := Scalar.muli v6277 c128_i32_4259
  let c0_i32_4262 : BitVec 32 := 0#32
  ![v6294.toNat, 0]
def k0_cond3 (k0_t2 : Fin k0_t2_loop.trips) : BitVec 1 :=
  let c0_i32_150 : BitVec 32 := 0#32
  let c1_i32_152 : BitVec 32 := 1#32
  let arg20 : BitVec 32 := Scf.iv c0_i32_150 c1_i32_152 k0_t2
  let c4_i32_4248 : BitVec 32 := 4#32
  let v6281 : BitVec 32 := Scalar.muli arg20 c4_i32_4248
  let c2_i32_4249 : BitVec 32 := 2#32
  let v6282 : BitVec 32 := Scalar.addi v6281 c2_i32_4249
  let c24_i32_4250 : BitVec 32 := 24#32
  let v6283 : BitVec 32 := Scalar.addi v6282 c24_i32_4250
  let c71_i32_4251 : BitVec 32 := 71#32
  let v6284 : BitVec 1 := Scalar.cmpi .slt v6283 c71_i32_4251
  let v6285 : BitVec 32 := Scalar.extui v6284
  let c0_i32_4252 : BitVec 32 := 0#32
  let v6286 : BitVec 1 := Scalar.cmpi .ne v6285 c0_i32_4252
  v6286

def k0_off101 (k0_t2 : Fin k0_t2_loop.trips) : Fin 1 → Nat :=
  let c0_i32_150 : BitVec 32 := 0#32
  let c1_i32_152 : BitVec 32 := 1#32
  let arg20 : BitVec 32 := Scf.iv c0_i32_150 c1_i32_152 k0_t2
  let c4_i32_4248 : BitVec 32 := 4#32
  let v6281 : BitVec 32 := Scalar.muli arg20 c4_i32_4248
  let c2_i32_4249 : BitVec 32 := 2#32
  let v6282 : BitVec 32 := Scalar.addi v6281 c2_i32_4249
  let c24_i32_4250 : BitVec 32 := 24#32
  let v6283 : BitVec 32 := Scalar.addi v6282 c24_i32_4250
  let c24_i32_4258 : BitVec 32 := 24#32
  let v6293 : BitVec 32 := Scalar.remsi v6283 c24_i32_4258
  ![v6293.toNat]
def k0_off102 (k0_t2 : Fin k0_t2_loop.trips) : Fin 3 → Nat :=
  let c0_i32_150 : BitVec 32 := 0#32
  let c1_i32_152 : BitVec 32 := 1#32
  let arg20 : BitVec 32 := Scf.iv c0_i32_150 c1_i32_152 k0_t2
  let c4_i32_4248 : BitVec 32 := 4#32
  let v6281 : BitVec 32 := Scalar.muli arg20 c4_i32_4248
  let c2_i32_4249 : BitVec 32 := 2#32
  let v6282 : BitVec 32 := Scalar.addi v6281 c2_i32_4249
  let c24_i32_4250 : BitVec 32 := 24#32
  let v6283 : BitVec 32 := Scalar.addi v6282 c24_i32_4250
  let c24_i32_4258 : BitVec 32 := 24#32
  let v6293 : BitVec 32 := Scalar.remsi v6283 c24_i32_4258
  let c0_i32_4260 : BitVec 32 := 0#32
  let c0_i32_4261 : BitVec 32 := 0#32
  ![v6293.toNat, 0, 0]
def k0_off103 (k0_t2 : Fin k0_t2_loop.trips) : Fin 2 → Nat :=
  let c0_i32_150 : BitVec 32 := 0#32
  let c1_i32_152 : BitVec 32 := 1#32
  let arg20 : BitVec 32 := Scf.iv c0_i32_150 c1_i32_152 k0_t2
  let c4_i32_4248 : BitVec 32 := 4#32
  let v6281 : BitVec 32 := Scalar.muli arg20 c4_i32_4248
  let c2_i32_4249 : BitVec 32 := 2#32
  let v6282 : BitVec 32 := Scalar.addi v6281 c2_i32_4249
  let c24_i32_4250 : BitVec 32 := 24#32
  let v6283 : BitVec 32 := Scalar.addi v6282 c24_i32_4250
  let c128_i32_4259 : BitVec 32 := 128#32
  let v6294 : BitVec 32 := Scalar.muli v6283 c128_i32_4259
  let c0_i32_4262 : BitVec 32 := 0#32
  ![v6294.toNat, 0]
def k0_cond4 (k0_t2 : Fin k0_t2_loop.trips) : BitVec 1 :=
  let c0_i32_150 : BitVec 32 := 0#32
  let c1_i32_152 : BitVec 32 := 1#32
  let arg20 : BitVec 32 := Scf.iv c0_i32_150 c1_i32_152 k0_t2
  let c4_i32_4253 : BitVec 32 := 4#32
  let v6287 : BitVec 32 := Scalar.muli arg20 c4_i32_4253
  let c3_i32_4254 : BitVec 32 := 3#32
  let v6288 : BitVec 32 := Scalar.addi v6287 c3_i32_4254
  let c24_i32_4255 : BitVec 32 := 24#32
  let v6289 : BitVec 32 := Scalar.addi v6288 c24_i32_4255
  let c71_i32_4256 : BitVec 32 := 71#32
  let v6290 : BitVec 1 := Scalar.cmpi .slt v6289 c71_i32_4256
  let v6291 : BitVec 32 := Scalar.extui v6290
  let c0_i32_4257 : BitVec 32 := 0#32
  let v6292 : BitVec 1 := Scalar.cmpi .ne v6291 c0_i32_4257
  v6292

def k0_off104 (k0_t2 : Fin k0_t2_loop.trips) : Fin 1 → Nat :=
  let c0_i32_150 : BitVec 32 := 0#32
  let c1_i32_152 : BitVec 32 := 1#32
  let arg20 : BitVec 32 := Scf.iv c0_i32_150 c1_i32_152 k0_t2
  let c4_i32_4253 : BitVec 32 := 4#32
  let v6287 : BitVec 32 := Scalar.muli arg20 c4_i32_4253
  let c3_i32_4254 : BitVec 32 := 3#32
  let v6288 : BitVec 32 := Scalar.addi v6287 c3_i32_4254
  let c24_i32_4255 : BitVec 32 := 24#32
  let v6289 : BitVec 32 := Scalar.addi v6288 c24_i32_4255
  let c24_i32_4258 : BitVec 32 := 24#32
  let v6293 : BitVec 32 := Scalar.remsi v6289 c24_i32_4258
  ![v6293.toNat]
def k0_off105 (k0_t2 : Fin k0_t2_loop.trips) : Fin 3 → Nat :=
  let c0_i32_150 : BitVec 32 := 0#32
  let c1_i32_152 : BitVec 32 := 1#32
  let arg20 : BitVec 32 := Scf.iv c0_i32_150 c1_i32_152 k0_t2
  let c4_i32_4253 : BitVec 32 := 4#32
  let v6287 : BitVec 32 := Scalar.muli arg20 c4_i32_4253
  let c3_i32_4254 : BitVec 32 := 3#32
  let v6288 : BitVec 32 := Scalar.addi v6287 c3_i32_4254
  let c24_i32_4255 : BitVec 32 := 24#32
  let v6289 : BitVec 32 := Scalar.addi v6288 c24_i32_4255
  let c24_i32_4258 : BitVec 32 := 24#32
  let v6293 : BitVec 32 := Scalar.remsi v6289 c24_i32_4258
  let c0_i32_4260 : BitVec 32 := 0#32
  let c0_i32_4261 : BitVec 32 := 0#32
  ![v6293.toNat, 0, 0]
def k0_off106 (k0_t2 : Fin k0_t2_loop.trips) : Fin 2 → Nat :=
  let c0_i32_150 : BitVec 32 := 0#32
  let c1_i32_152 : BitVec 32 := 1#32
  let arg20 : BitVec 32 := Scf.iv c0_i32_150 c1_i32_152 k0_t2
  let c4_i32_4253 : BitVec 32 := 4#32
  let v6287 : BitVec 32 := Scalar.muli arg20 c4_i32_4253
  let c3_i32_4254 : BitVec 32 := 3#32
  let v6288 : BitVec 32 := Scalar.addi v6287 c3_i32_4254
  let c24_i32_4255 : BitVec 32 := 24#32
  let v6289 : BitVec 32 := Scalar.addi v6288 c24_i32_4255
  let c128_i32_4259 : BitVec 32 := 128#32
  let v6294 : BitVec 32 := Scalar.muli v6289 c128_i32_4259
  let c0_i32_4262 : BitVec 32 := 0#32
  ![v6294.toNat, 0]
def k0_off107 (c68_i32_166 : BitVec 32) : Fin 3 → Nat :=
  let c24_i32_167 : BitVec 32 := 24#32
  let v232 : BitVec 32 := Scalar.remsi c68_i32_166 c24_i32_167
  let v270 : Index := Scalar.indexCast v232
  let c0_195 : Index := 0#32
  let c0_196 : Index := 0#32
  ![v270.toNat, 0, 0]
def k0_off108 (c68_i32_166 : BitVec 32) : Fin 3 → Nat :=
  let c24_i32_167 : BitVec 32 := 24#32
  let v232 : BitVec 32 := Scalar.remsi c68_i32_166 c24_i32_167
  let v273 : Index := Scalar.indexCast v232
  let c0_197 : Index := 0#32
  let c2560 : Index := 2560#32
  ![v273.toNat, 0, 2560]
def k0_off109 (c68_i32_166 : BitVec 32) : Fin 3 → Nat :=
  let c24_i32_167 : BitVec 32 := 24#32
  let v232 : BitVec 32 := Scalar.remsi c68_i32_166 c24_i32_167
  let v276 : Index := Scalar.indexCast v232
  let c0_198 : Index := 0#32
  let c5120 : Index := 5120#32
  ![v276.toNat, 0, 5120]
def k0_off110 (c68_i32_166 : BitVec 32) : Fin 3 → Nat :=
  let c24_i32_167 : BitVec 32 := 24#32
  let v232 : BitVec 32 := Scalar.remsi c68_i32_166 c24_i32_167
  let v279 : Index := Scalar.indexCast v232
  let c0_199 : Index := 0#32
  let c7680 : Index := 7680#32
  ![v279.toNat, 0, 7680]
def k0_off111 (c68_i32_166 : BitVec 32) : Fin 3 → Nat :=
  let c24_i32_167 : BitVec 32 := 24#32
  let v232 : BitVec 32 := Scalar.remsi c68_i32_166 c24_i32_167
  let v310 : Index := Scalar.indexCast v232
  let c0_220 : Index := 0#32
  let c128 : Index := 128#32
  ![v310.toNat, 0, 128]
def k0_off112 (c68_i32_166 : BitVec 32) : Fin 3 → Nat :=
  let c24_i32_167 : BitVec 32 := 24#32
  let v232 : BitVec 32 := Scalar.remsi c68_i32_166 c24_i32_167
  let v313 : Index := Scalar.indexCast v232
  let c0_221 : Index := 0#32
  let c2688 : Index := 2688#32
  ![v313.toNat, 0, 2688]
def k0_off113 (c68_i32_166 : BitVec 32) : Fin 3 → Nat :=
  let c24_i32_167 : BitVec 32 := 24#32
  let v232 : BitVec 32 := Scalar.remsi c68_i32_166 c24_i32_167
  let v316 : Index := Scalar.indexCast v232
  let c0_222 : Index := 0#32
  let c5248 : Index := 5248#32
  ![v316.toNat, 0, 5248]
def k0_off114 (c68_i32_166 : BitVec 32) : Fin 3 → Nat :=
  let c24_i32_167 : BitVec 32 := 24#32
  let v232 : BitVec 32 := Scalar.remsi c68_i32_166 c24_i32_167
  let v319 : Index := Scalar.indexCast v232
  let c0_223 : Index := 0#32
  let c7808 : Index := 7808#32
  ![v319.toNat, 0, 7808]
def k0_off115 (c68_i32_166 : BitVec 32) : Fin 3 → Nat :=
  let c24_i32_167 : BitVec 32 := 24#32
  let v232 : BitVec 32 := Scalar.remsi c68_i32_166 c24_i32_167
  let v350 : Index := Scalar.indexCast v232
  let c0_244 : Index := 0#32
  let c256 : Index := 256#32
  ![v350.toNat, 0, 256]
def k0_off116 (c68_i32_166 : BitVec 32) : Fin 3 → Nat :=
  let c24_i32_167 : BitVec 32 := 24#32
  let v232 : BitVec 32 := Scalar.remsi c68_i32_166 c24_i32_167
  let v353 : Index := Scalar.indexCast v232
  let c0_245 : Index := 0#32
  let c2816 : Index := 2816#32
  ![v353.toNat, 0, 2816]
def k0_off117 (c68_i32_166 : BitVec 32) : Fin 3 → Nat :=
  let c24_i32_167 : BitVec 32 := 24#32
  let v232 : BitVec 32 := Scalar.remsi c68_i32_166 c24_i32_167
  let v356 : Index := Scalar.indexCast v232
  let c0_246 : Index := 0#32
  let c5376 : Index := 5376#32
  ![v356.toNat, 0, 5376]
def k0_off118 (c68_i32_166 : BitVec 32) : Fin 3 → Nat :=
  let c24_i32_167 : BitVec 32 := 24#32
  let v232 : BitVec 32 := Scalar.remsi c68_i32_166 c24_i32_167
  let v359 : Index := Scalar.indexCast v232
  let c0_247 : Index := 0#32
  let c7936 : Index := 7936#32
  ![v359.toNat, 0, 7936]
def k0_off119 (c68_i32_166 : BitVec 32) : Fin 3 → Nat :=
  let c24_i32_167 : BitVec 32 := 24#32
  let v232 : BitVec 32 := Scalar.remsi c68_i32_166 c24_i32_167
  let v390 : Index := Scalar.indexCast v232
  let c0_268 : Index := 0#32
  let c384 : Index := 384#32
  ![v390.toNat, 0, 384]
def k0_off120 (c68_i32_166 : BitVec 32) : Fin 3 → Nat :=
  let c24_i32_167 : BitVec 32 := 24#32
  let v232 : BitVec 32 := Scalar.remsi c68_i32_166 c24_i32_167
  let v393 : Index := Scalar.indexCast v232
  let c0_269 : Index := 0#32
  let c2944 : Index := 2944#32
  ![v393.toNat, 0, 2944]
def k0_off121 (c68_i32_166 : BitVec 32) : Fin 3 → Nat :=
  let c24_i32_167 : BitVec 32 := 24#32
  let v232 : BitVec 32 := Scalar.remsi c68_i32_166 c24_i32_167
  let v396 : Index := Scalar.indexCast v232
  let c0_270 : Index := 0#32
  let c5504 : Index := 5504#32
  ![v396.toNat, 0, 5504]
def k0_off122 (c68_i32_166 : BitVec 32) : Fin 3 → Nat :=
  let c24_i32_167 : BitVec 32 := 24#32
  let v232 : BitVec 32 := Scalar.remsi c68_i32_166 c24_i32_167
  let v399 : Index := Scalar.indexCast v232
  let c0_271 : Index := 0#32
  let c8064 : Index := 8064#32
  ![v399.toNat, 0, 8064]
def k0_off123 (c68_i32_166 : BitVec 32) : Fin 3 → Nat :=
  let c24_i32_167 : BitVec 32 := 24#32
  let v232 : BitVec 32 := Scalar.remsi c68_i32_166 c24_i32_167
  let v430 : Index := Scalar.indexCast v232
  let c0_291 : Index := 0#32
  let c512 : Index := 512#32
  ![v430.toNat, 0, 512]
def k0_off124 (c68_i32_166 : BitVec 32) : Fin 3 → Nat :=
  let c24_i32_167 : BitVec 32 := 24#32
  let v232 : BitVec 32 := Scalar.remsi c68_i32_166 c24_i32_167
  let v433 : Index := Scalar.indexCast v232
  let c0_292 : Index := 0#32
  let c3072 : Index := 3072#32
  ![v433.toNat, 0, 3072]
def k0_off125 (c68_i32_166 : BitVec 32) : Fin 3 → Nat :=
  let c24_i32_167 : BitVec 32 := 24#32
  let v232 : BitVec 32 := Scalar.remsi c68_i32_166 c24_i32_167
  let v436 : Index := Scalar.indexCast v232
  let c0_293 : Index := 0#32
  let c5632 : Index := 5632#32
  ![v436.toNat, 0, 5632]
def k0_off126 (c68_i32_166 : BitVec 32) : Fin 3 → Nat :=
  let c24_i32_167 : BitVec 32 := 24#32
  let v232 : BitVec 32 := Scalar.remsi c68_i32_166 c24_i32_167
  let v439 : Index := Scalar.indexCast v232
  let c0_294 : Index := 0#32
  let c8192 : Index := 8192#32
  ![v439.toNat, 0, 8192]
def k0_off127 (c68_i32_166 : BitVec 32) : Fin 3 → Nat :=
  let c24_i32_167 : BitVec 32 := 24#32
  let v232 : BitVec 32 := Scalar.remsi c68_i32_166 c24_i32_167
  let v470 : Index := Scalar.indexCast v232
  let c0_314 : Index := 0#32
  let c640 : Index := 640#32
  ![v470.toNat, 0, 640]
def k0_off128 (c68_i32_166 : BitVec 32) : Fin 3 → Nat :=
  let c24_i32_167 : BitVec 32 := 24#32
  let v232 : BitVec 32 := Scalar.remsi c68_i32_166 c24_i32_167
  let v473 : Index := Scalar.indexCast v232
  let c0_315 : Index := 0#32
  let c3200 : Index := 3200#32
  ![v473.toNat, 0, 3200]
def k0_off129 (c68_i32_166 : BitVec 32) : Fin 3 → Nat :=
  let c24_i32_167 : BitVec 32 := 24#32
  let v232 : BitVec 32 := Scalar.remsi c68_i32_166 c24_i32_167
  let v476 : Index := Scalar.indexCast v232
  let c0_316 : Index := 0#32
  let c5760 : Index := 5760#32
  ![v476.toNat, 0, 5760]
def k0_off130 (c68_i32_166 : BitVec 32) : Fin 3 → Nat :=
  let c24_i32_167 : BitVec 32 := 24#32
  let v232 : BitVec 32 := Scalar.remsi c68_i32_166 c24_i32_167
  let v479 : Index := Scalar.indexCast v232
  let c0_317 : Index := 0#32
  let c8320 : Index := 8320#32
  ![v479.toNat, 0, 8320]
def k0_off131 (c68_i32_166 : BitVec 32) : Fin 3 → Nat :=
  let c24_i32_167 : BitVec 32 := 24#32
  let v232 : BitVec 32 := Scalar.remsi c68_i32_166 c24_i32_167
  let v510 : Index := Scalar.indexCast v232
  let c0_337 : Index := 0#32
  let c768 : Index := 768#32
  ![v510.toNat, 0, 768]
def k0_off132 (c68_i32_166 : BitVec 32) : Fin 3 → Nat :=
  let c24_i32_167 : BitVec 32 := 24#32
  let v232 : BitVec 32 := Scalar.remsi c68_i32_166 c24_i32_167
  let v513 : Index := Scalar.indexCast v232
  let c0_338 : Index := 0#32
  let c3328 : Index := 3328#32
  ![v513.toNat, 0, 3328]
def k0_off133 (c68_i32_166 : BitVec 32) : Fin 3 → Nat :=
  let c24_i32_167 : BitVec 32 := 24#32
  let v232 : BitVec 32 := Scalar.remsi c68_i32_166 c24_i32_167
  let v516 : Index := Scalar.indexCast v232
  let c0_339 : Index := 0#32
  let c5888 : Index := 5888#32
  ![v516.toNat, 0, 5888]
def k0_off134 (c68_i32_166 : BitVec 32) : Fin 3 → Nat :=
  let c24_i32_167 : BitVec 32 := 24#32
  let v232 : BitVec 32 := Scalar.remsi c68_i32_166 c24_i32_167
  let v519 : Index := Scalar.indexCast v232
  let c0_340 : Index := 0#32
  let c8448 : Index := 8448#32
  ![v519.toNat, 0, 8448]
def k0_off135 (c68_i32_166 : BitVec 32) : Fin 3 → Nat :=
  let c24_i32_167 : BitVec 32 := 24#32
  let v232 : BitVec 32 := Scalar.remsi c68_i32_166 c24_i32_167
  let v550 : Index := Scalar.indexCast v232
  let c0_360 : Index := 0#32
  let c896 : Index := 896#32
  ![v550.toNat, 0, 896]
def k0_off136 (c68_i32_166 : BitVec 32) : Fin 3 → Nat :=
  let c24_i32_167 : BitVec 32 := 24#32
  let v232 : BitVec 32 := Scalar.remsi c68_i32_166 c24_i32_167
  let v553 : Index := Scalar.indexCast v232
  let c0_361 : Index := 0#32
  let c3456 : Index := 3456#32
  ![v553.toNat, 0, 3456]
def k0_off137 (c68_i32_166 : BitVec 32) : Fin 3 → Nat :=
  let c24_i32_167 : BitVec 32 := 24#32
  let v232 : BitVec 32 := Scalar.remsi c68_i32_166 c24_i32_167
  let v556 : Index := Scalar.indexCast v232
  let c0_362 : Index := 0#32
  let c6016 : Index := 6016#32
  ![v556.toNat, 0, 6016]
def k0_off138 (c68_i32_166 : BitVec 32) : Fin 3 → Nat :=
  let c24_i32_167 : BitVec 32 := 24#32
  let v232 : BitVec 32 := Scalar.remsi c68_i32_166 c24_i32_167
  let v559 : Index := Scalar.indexCast v232
  let c0_363 : Index := 0#32
  let c8576 : Index := 8576#32
  ![v559.toNat, 0, 8576]
def k0_off139 (c68_i32_166 : BitVec 32) : Fin 3 → Nat :=
  let c24_i32_167 : BitVec 32 := 24#32
  let v232 : BitVec 32 := Scalar.remsi c68_i32_166 c24_i32_167
  let v590 : Index := Scalar.indexCast v232
  let c0_383 : Index := 0#32
  let c1024 : Index := 1024#32
  ![v590.toNat, 0, 1024]
def k0_off140 (c68_i32_166 : BitVec 32) : Fin 3 → Nat :=
  let c24_i32_167 : BitVec 32 := 24#32
  let v232 : BitVec 32 := Scalar.remsi c68_i32_166 c24_i32_167
  let v593 : Index := Scalar.indexCast v232
  let c0_384 : Index := 0#32
  let c3584 : Index := 3584#32
  ![v593.toNat, 0, 3584]
def k0_off141 (c68_i32_166 : BitVec 32) : Fin 3 → Nat :=
  let c24_i32_167 : BitVec 32 := 24#32
  let v232 : BitVec 32 := Scalar.remsi c68_i32_166 c24_i32_167
  let v596 : Index := Scalar.indexCast v232
  let c0_385 : Index := 0#32
  let c6144 : Index := 6144#32
  ![v596.toNat, 0, 6144]
def k0_off142 (c68_i32_166 : BitVec 32) : Fin 3 → Nat :=
  let c24_i32_167 : BitVec 32 := 24#32
  let v232 : BitVec 32 := Scalar.remsi c68_i32_166 c24_i32_167
  let v599 : Index := Scalar.indexCast v232
  let c0_386 : Index := 0#32
  let c8704 : Index := 8704#32
  ![v599.toNat, 0, 8704]
def k0_off143 (c68_i32_166 : BitVec 32) : Fin 3 → Nat :=
  let c24_i32_167 : BitVec 32 := 24#32
  let v232 : BitVec 32 := Scalar.remsi c68_i32_166 c24_i32_167
  let v630 : Index := Scalar.indexCast v232
  let c0_406 : Index := 0#32
  let c1152 : Index := 1152#32
  ![v630.toNat, 0, 1152]
def k0_off144 (c68_i32_166 : BitVec 32) : Fin 3 → Nat :=
  let c24_i32_167 : BitVec 32 := 24#32
  let v232 : BitVec 32 := Scalar.remsi c68_i32_166 c24_i32_167
  let v633 : Index := Scalar.indexCast v232
  let c0_407 : Index := 0#32
  let c3712 : Index := 3712#32
  ![v633.toNat, 0, 3712]
def k0_off145 (c68_i32_166 : BitVec 32) : Fin 3 → Nat :=
  let c24_i32_167 : BitVec 32 := 24#32
  let v232 : BitVec 32 := Scalar.remsi c68_i32_166 c24_i32_167
  let v636 : Index := Scalar.indexCast v232
  let c0_408 : Index := 0#32
  let c6272 : Index := 6272#32
  ![v636.toNat, 0, 6272]
def k0_off146 (c68_i32_166 : BitVec 32) : Fin 3 → Nat :=
  let c24_i32_167 : BitVec 32 := 24#32
  let v232 : BitVec 32 := Scalar.remsi c68_i32_166 c24_i32_167
  let v639 : Index := Scalar.indexCast v232
  let c0_409 : Index := 0#32
  let c8832 : Index := 8832#32
  ![v639.toNat, 0, 8832]
def k0_off147 (c68_i32_166 : BitVec 32) : Fin 3 → Nat :=
  let c24_i32_167 : BitVec 32 := 24#32
  let v232 : BitVec 32 := Scalar.remsi c68_i32_166 c24_i32_167
  let v670 : Index := Scalar.indexCast v232
  let c0_429 : Index := 0#32
  let c1280 : Index := 1280#32
  ![v670.toNat, 0, 1280]
def k0_off148 (c68_i32_166 : BitVec 32) : Fin 3 → Nat :=
  let c24_i32_167 : BitVec 32 := 24#32
  let v232 : BitVec 32 := Scalar.remsi c68_i32_166 c24_i32_167
  let v673 : Index := Scalar.indexCast v232
  let c0_430 : Index := 0#32
  let c3840 : Index := 3840#32
  ![v673.toNat, 0, 3840]
def k0_off149 (c68_i32_166 : BitVec 32) : Fin 3 → Nat :=
  let c24_i32_167 : BitVec 32 := 24#32
  let v232 : BitVec 32 := Scalar.remsi c68_i32_166 c24_i32_167
  let v676 : Index := Scalar.indexCast v232
  let c0_431 : Index := 0#32
  let c6400 : Index := 6400#32
  ![v676.toNat, 0, 6400]
def k0_off150 (c68_i32_166 : BitVec 32) : Fin 3 → Nat :=
  let c24_i32_167 : BitVec 32 := 24#32
  let v232 : BitVec 32 := Scalar.remsi c68_i32_166 c24_i32_167
  let v679 : Index := Scalar.indexCast v232
  let c0_432 : Index := 0#32
  let c8960 : Index := 8960#32
  ![v679.toNat, 0, 8960]
def k0_off151 (c68_i32_166 : BitVec 32) : Fin 3 → Nat :=
  let c24_i32_167 : BitVec 32 := 24#32
  let v232 : BitVec 32 := Scalar.remsi c68_i32_166 c24_i32_167
  let v710 : Index := Scalar.indexCast v232
  let c0_452 : Index := 0#32
  let c1408 : Index := 1408#32
  ![v710.toNat, 0, 1408]
def k0_off152 (c68_i32_166 : BitVec 32) : Fin 3 → Nat :=
  let c24_i32_167 : BitVec 32 := 24#32
  let v232 : BitVec 32 := Scalar.remsi c68_i32_166 c24_i32_167
  let v713 : Index := Scalar.indexCast v232
  let c0_453 : Index := 0#32
  let c3968 : Index := 3968#32
  ![v713.toNat, 0, 3968]
def k0_off153 (c68_i32_166 : BitVec 32) : Fin 3 → Nat :=
  let c24_i32_167 : BitVec 32 := 24#32
  let v232 : BitVec 32 := Scalar.remsi c68_i32_166 c24_i32_167
  let v716 : Index := Scalar.indexCast v232
  let c0_454 : Index := 0#32
  let c6528 : Index := 6528#32
  ![v716.toNat, 0, 6528]
def k0_off154 (c68_i32_166 : BitVec 32) : Fin 3 → Nat :=
  let c24_i32_167 : BitVec 32 := 24#32
  let v232 : BitVec 32 := Scalar.remsi c68_i32_166 c24_i32_167
  let v719 : Index := Scalar.indexCast v232
  let c0_455 : Index := 0#32
  let c9088 : Index := 9088#32
  ![v719.toNat, 0, 9088]
def k0_off155 (c68_i32_166 : BitVec 32) : Fin 3 → Nat :=
  let c24_i32_167 : BitVec 32 := 24#32
  let v232 : BitVec 32 := Scalar.remsi c68_i32_166 c24_i32_167
  let v750 : Index := Scalar.indexCast v232
  let c0_475 : Index := 0#32
  let c1536 : Index := 1536#32
  ![v750.toNat, 0, 1536]
def k0_off156 (c68_i32_166 : BitVec 32) : Fin 3 → Nat :=
  let c24_i32_167 : BitVec 32 := 24#32
  let v232 : BitVec 32 := Scalar.remsi c68_i32_166 c24_i32_167
  let v753 : Index := Scalar.indexCast v232
  let c0_476 : Index := 0#32
  let c4096 : Index := 4096#32
  ![v753.toNat, 0, 4096]
def k0_off157 (c68_i32_166 : BitVec 32) : Fin 3 → Nat :=
  let c24_i32_167 : BitVec 32 := 24#32
  let v232 : BitVec 32 := Scalar.remsi c68_i32_166 c24_i32_167
  let v756 : Index := Scalar.indexCast v232
  let c0_477 : Index := 0#32
  let c6656 : Index := 6656#32
  ![v756.toNat, 0, 6656]
def k0_off158 (c68_i32_166 : BitVec 32) : Fin 3 → Nat :=
  let c24_i32_167 : BitVec 32 := 24#32
  let v232 : BitVec 32 := Scalar.remsi c68_i32_166 c24_i32_167
  let v759 : Index := Scalar.indexCast v232
  let c0_478 : Index := 0#32
  let c9216 : Index := 9216#32
  ![v759.toNat, 0, 9216]
def k0_off159 (c68_i32_166 : BitVec 32) : Fin 3 → Nat :=
  let c24_i32_167 : BitVec 32 := 24#32
  let v232 : BitVec 32 := Scalar.remsi c68_i32_166 c24_i32_167
  let v790 : Index := Scalar.indexCast v232
  let c0_498 : Index := 0#32
  let c1664 : Index := 1664#32
  ![v790.toNat, 0, 1664]
def k0_off160 (c68_i32_166 : BitVec 32) : Fin 3 → Nat :=
  let c24_i32_167 : BitVec 32 := 24#32
  let v232 : BitVec 32 := Scalar.remsi c68_i32_166 c24_i32_167
  let v793 : Index := Scalar.indexCast v232
  let c0_499 : Index := 0#32
  let c4224 : Index := 4224#32
  ![v793.toNat, 0, 4224]
def k0_off161 (c68_i32_166 : BitVec 32) : Fin 3 → Nat :=
  let c24_i32_167 : BitVec 32 := 24#32
  let v232 : BitVec 32 := Scalar.remsi c68_i32_166 c24_i32_167
  let v796 : Index := Scalar.indexCast v232
  let c0_500 : Index := 0#32
  let c6784 : Index := 6784#32
  ![v796.toNat, 0, 6784]
def k0_off162 (c68_i32_166 : BitVec 32) : Fin 3 → Nat :=
  let c24_i32_167 : BitVec 32 := 24#32
  let v232 : BitVec 32 := Scalar.remsi c68_i32_166 c24_i32_167
  let v799 : Index := Scalar.indexCast v232
  let c0_501 : Index := 0#32
  let c9344 : Index := 9344#32
  ![v799.toNat, 0, 9344]
def k0_off163 (c68_i32_166 : BitVec 32) : Fin 3 → Nat :=
  let c24_i32_167 : BitVec 32 := 24#32
  let v232 : BitVec 32 := Scalar.remsi c68_i32_166 c24_i32_167
  let v830 : Index := Scalar.indexCast v232
  let c0_521 : Index := 0#32
  let c1792 : Index := 1792#32
  ![v830.toNat, 0, 1792]
def k0_off164 (c68_i32_166 : BitVec 32) : Fin 3 → Nat :=
  let c24_i32_167 : BitVec 32 := 24#32
  let v232 : BitVec 32 := Scalar.remsi c68_i32_166 c24_i32_167
  let v833 : Index := Scalar.indexCast v232
  let c0_522 : Index := 0#32
  let c4352 : Index := 4352#32
  ![v833.toNat, 0, 4352]
def k0_off165 (c68_i32_166 : BitVec 32) : Fin 3 → Nat :=
  let c24_i32_167 : BitVec 32 := 24#32
  let v232 : BitVec 32 := Scalar.remsi c68_i32_166 c24_i32_167
  let v836 : Index := Scalar.indexCast v232
  let c0_523 : Index := 0#32
  let c6912 : Index := 6912#32
  ![v836.toNat, 0, 6912]
def k0_off166 (c68_i32_166 : BitVec 32) : Fin 3 → Nat :=
  let c24_i32_167 : BitVec 32 := 24#32
  let v232 : BitVec 32 := Scalar.remsi c68_i32_166 c24_i32_167
  let v839 : Index := Scalar.indexCast v232
  let c0_524 : Index := 0#32
  let c9472 : Index := 9472#32
  ![v839.toNat, 0, 9472]
def k0_off167 (c68_i32_166 : BitVec 32) : Fin 3 → Nat :=
  let c24_i32_167 : BitVec 32 := 24#32
  let v232 : BitVec 32 := Scalar.remsi c68_i32_166 c24_i32_167
  let v870 : Index := Scalar.indexCast v232
  let c0_544 : Index := 0#32
  let c1920 : Index := 1920#32
  ![v870.toNat, 0, 1920]
def k0_off168 (c68_i32_166 : BitVec 32) : Fin 3 → Nat :=
  let c24_i32_167 : BitVec 32 := 24#32
  let v232 : BitVec 32 := Scalar.remsi c68_i32_166 c24_i32_167
  let v873 : Index := Scalar.indexCast v232
  let c0_545 : Index := 0#32
  let c4480 : Index := 4480#32
  ![v873.toNat, 0, 4480]
def k0_off169 (c68_i32_166 : BitVec 32) : Fin 3 → Nat :=
  let c24_i32_167 : BitVec 32 := 24#32
  let v232 : BitVec 32 := Scalar.remsi c68_i32_166 c24_i32_167
  let v876 : Index := Scalar.indexCast v232
  let c0_546 : Index := 0#32
  let c7040 : Index := 7040#32
  ![v876.toNat, 0, 7040]
def k0_off170 (c68_i32_166 : BitVec 32) : Fin 3 → Nat :=
  let c24_i32_167 : BitVec 32 := 24#32
  let v232 : BitVec 32 := Scalar.remsi c68_i32_166 c24_i32_167
  let v879 : Index := Scalar.indexCast v232
  let c0_547 : Index := 0#32
  let c9600 : Index := 9600#32
  ![v879.toNat, 0, 9600]
def k0_off171 (c68_i32_166 : BitVec 32) : Fin 3 → Nat :=
  let c24_i32_167 : BitVec 32 := 24#32
  let v232 : BitVec 32 := Scalar.remsi c68_i32_166 c24_i32_167
  let v910 : Index := Scalar.indexCast v232
  let c0_567 : Index := 0#32
  let c2048 : Index := 2048#32
  ![v910.toNat, 0, 2048]
def k0_off172 (c68_i32_166 : BitVec 32) : Fin 3 → Nat :=
  let c24_i32_167 : BitVec 32 := 24#32
  let v232 : BitVec 32 := Scalar.remsi c68_i32_166 c24_i32_167
  let v913 : Index := Scalar.indexCast v232
  let c0_568 : Index := 0#32
  let c4608 : Index := 4608#32
  ![v913.toNat, 0, 4608]
def k0_off173 (c68_i32_166 : BitVec 32) : Fin 3 → Nat :=
  let c24_i32_167 : BitVec 32 := 24#32
  let v232 : BitVec 32 := Scalar.remsi c68_i32_166 c24_i32_167
  let v916 : Index := Scalar.indexCast v232
  let c0_569 : Index := 0#32
  let c7168 : Index := 7168#32
  ![v916.toNat, 0, 7168]
def k0_off174 (c68_i32_166 : BitVec 32) : Fin 3 → Nat :=
  let c24_i32_167 : BitVec 32 := 24#32
  let v232 : BitVec 32 := Scalar.remsi c68_i32_166 c24_i32_167
  let v919 : Index := Scalar.indexCast v232
  let c0_570 : Index := 0#32
  let c9728 : Index := 9728#32
  ![v919.toNat, 0, 9728]
def k0_off175 (c68_i32_166 : BitVec 32) : Fin 3 → Nat :=
  let c24_i32_167 : BitVec 32 := 24#32
  let v232 : BitVec 32 := Scalar.remsi c68_i32_166 c24_i32_167
  let v950 : Index := Scalar.indexCast v232
  let c0_590 : Index := 0#32
  let c2176 : Index := 2176#32
  ![v950.toNat, 0, 2176]
def k0_off176 (c68_i32_166 : BitVec 32) : Fin 3 → Nat :=
  let c24_i32_167 : BitVec 32 := 24#32
  let v232 : BitVec 32 := Scalar.remsi c68_i32_166 c24_i32_167
  let v953 : Index := Scalar.indexCast v232
  let c0_591 : Index := 0#32
  let c4736 : Index := 4736#32
  ![v953.toNat, 0, 4736]
def k0_off177 (c68_i32_166 : BitVec 32) : Fin 3 → Nat :=
  let c24_i32_167 : BitVec 32 := 24#32
  let v232 : BitVec 32 := Scalar.remsi c68_i32_166 c24_i32_167
  let v956 : Index := Scalar.indexCast v232
  let c0_592 : Index := 0#32
  let c7296 : Index := 7296#32
  ![v956.toNat, 0, 7296]
def k0_off178 (c68_i32_166 : BitVec 32) : Fin 3 → Nat :=
  let c24_i32_167 : BitVec 32 := 24#32
  let v232 : BitVec 32 := Scalar.remsi c68_i32_166 c24_i32_167
  let v959 : Index := Scalar.indexCast v232
  let c0_593 : Index := 0#32
  let c9856 : Index := 9856#32
  ![v959.toNat, 0, 9856]
def k0_off179 (c68_i32_166 : BitVec 32) : Fin 3 → Nat :=
  let c24_i32_167 : BitVec 32 := 24#32
  let v232 : BitVec 32 := Scalar.remsi c68_i32_166 c24_i32_167
  let v990 : Index := Scalar.indexCast v232
  let c0_613 : Index := 0#32
  let c2304 : Index := 2304#32
  ![v990.toNat, 0, 2304]
def k0_off180 (c68_i32_166 : BitVec 32) : Fin 3 → Nat :=
  let c24_i32_167 : BitVec 32 := 24#32
  let v232 : BitVec 32 := Scalar.remsi c68_i32_166 c24_i32_167
  let v993 : Index := Scalar.indexCast v232
  let c0_614 : Index := 0#32
  let c4864 : Index := 4864#32
  ![v993.toNat, 0, 4864]
def k0_off181 (c68_i32_166 : BitVec 32) : Fin 3 → Nat :=
  let c24_i32_167 : BitVec 32 := 24#32
  let v232 : BitVec 32 := Scalar.remsi c68_i32_166 c24_i32_167
  let v996 : Index := Scalar.indexCast v232
  let c0_615 : Index := 0#32
  let c7424 : Index := 7424#32
  ![v996.toNat, 0, 7424]
def k0_off182 (c68_i32_166 : BitVec 32) : Fin 3 → Nat :=
  let c24_i32_167 : BitVec 32 := 24#32
  let v232 : BitVec 32 := Scalar.remsi c68_i32_166 c24_i32_167
  let v999 : Index := Scalar.indexCast v232
  let c0_616 : Index := 0#32
  let c9984 : Index := 9984#32
  ![v999.toNat, 0, 9984]
def k0_off183 (c68_i32_166 : BitVec 32) : Fin 3 → Nat :=
  let c24_i32_167 : BitVec 32 := 24#32
  let v232 : BitVec 32 := Scalar.remsi c68_i32_166 c24_i32_167
  let v1030 : Index := Scalar.indexCast v232
  let c0_636 : Index := 0#32
  let c2432 : Index := 2432#32
  ![v1030.toNat, 0, 2432]
def k0_off184 (c68_i32_166 : BitVec 32) : Fin 3 → Nat :=
  let c24_i32_167 : BitVec 32 := 24#32
  let v232 : BitVec 32 := Scalar.remsi c68_i32_166 c24_i32_167
  let v1033 : Index := Scalar.indexCast v232
  let c0_637 : Index := 0#32
  let c4992 : Index := 4992#32
  ![v1033.toNat, 0, 4992]
def k0_off185 (c68_i32_166 : BitVec 32) : Fin 3 → Nat :=
  let c24_i32_167 : BitVec 32 := 24#32
  let v232 : BitVec 32 := Scalar.remsi c68_i32_166 c24_i32_167
  let v1036 : Index := Scalar.indexCast v232
  let c0_638 : Index := 0#32
  let c7552 : Index := 7552#32
  ![v1036.toNat, 0, 7552]
def k0_off186 (c68_i32_166 : BitVec 32) : Fin 3 → Nat :=
  let c24_i32_167 : BitVec 32 := 24#32
  let v232 : BitVec 32 := Scalar.remsi c68_i32_166 c24_i32_167
  let v1039 : Index := Scalar.indexCast v232
  let c0_639 : Index := 0#32
  let c10112 : Index := 10112#32
  ![v1039.toNat, 0, 10112]
def k0_mult13 : BitVec 32 :=
  let c8704_i32_659 : BitVec 32 := 8704#32
  c8704_i32_659
def k0_mult14 : BitVec 32 :=
  let c8832_i32_1250 : BitVec 32 := 8832#32
  c8832_i32_1250
def k0_mult15 : BitVec 32 :=
  let c8960_i32_1841 : BitVec 32 := 8960#32
  c8960_i32_1841
abbrev stage0_0 : Fin 1 → Memref sig .tc .vmem S71x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S96x1x10240 : Shape := ⟨3, ![96, 1, 10240]⟩
abbrev S9088x10240 : Shape := ⟨2, ![9088, 10240]⟩
abbrev S71x80 : Shape := ⟨2, ![71, 80]⟩
abbrev S96x80x128 : Shape := ⟨3, ![96, 80, 128]⟩
abbrev S_ : Shape := ⟨0, ![]⟩
abbrev S96x80 : Shape := ⟨2, ![96, 80]⟩
abbrev S96x80x1 : Shape := ⟨3, ![96, 80, 1]⟩
abbrev S96x10240 : Shape := ⟨2, ![96, 10240]⟩
abbrev S9088x80x128 : Shape := ⟨3, ![9088, 80, 128]⟩
abbrev S80x96x9088 : Shape := ⟨3, ![80, 96, 9088]⟩
abbrev S80x96 : Shape := ⟨2, ![80, 96]⟩
abbrev S80x71 : Shape := ⟨2, ![80, 71]⟩
abbrev S80x96x71x128 : Shape := ⟨4, ![80, 96, 71, 128]⟩
abbrev S80x96x1x1 : Shape := ⟨4, ![80, 96, 1, 1]⟩
abbrev S80x1x71x1 : Shape := ⟨4, ![80, 1, 71, 1]⟩
abbrev S96x71x128 : Shape := ⟨3, ![96, 71, 128]⟩
abbrev S96x9088 : Shape := ⟨2, ![96, 9088]⟩

abbrev nBuf : Space → Nat
  | .hbm => 61
  | .vmem => 5
  | .smem => 0
  | _ => 0

abbrev bufTy : (tb : Table) → Fin (tcTables nBuf tb) → BufTy
  | .hbm, ⟨0, _⟩ => ⟨S96x1x10240, .bf16⟩
  | .hbm, ⟨1, _⟩ => ⟨S9088x10240, .fp8e4m3⟩
  | .hbm, ⟨2, _⟩ => ⟨S71x80, .f32⟩
  | .hbm, ⟨3, _⟩ => ⟨S96x1x10240, .f32⟩
  | .hbm, ⟨4, _⟩ => ⟨S96x80x128, .f32⟩
  | .hbm, ⟨5, _⟩ => ⟨S96x80x128, .f32⟩
  | .hbm, ⟨6, _⟩ => ⟨S_, .f32⟩
  | .hbm, ⟨7, _⟩ => ⟨S96x80, .f32⟩
  | .hbm, ⟨8, _⟩ => ⟨S_, .f32⟩
  | .hbm, ⟨9, _⟩ => ⟨S96x80, .f32⟩
  | .hbm, ⟨10, _⟩ => ⟨S_, .f32⟩
  | .hbm, ⟨11, _⟩ => ⟨S96x80, .f32⟩
  | .hbm, ⟨12, _⟩ => ⟨S96x80, .i1⟩
  | .hbm, ⟨13, _⟩ => ⟨S_, .f32⟩
  | .hbm, ⟨14, _⟩ => ⟨S96x80, .f32⟩
  | .hbm, ⟨15, _⟩ => ⟨S96x80, .f32⟩
  | .hbm, ⟨16, _⟩ => ⟨S96x80, .f32⟩
  | .hbm, ⟨17, _⟩ => ⟨S96x80, .f32⟩
  | .hbm, ⟨18, _⟩ => ⟨S96x80, .f32⟩
  | .hbm, ⟨19, _⟩ => ⟨S96x80, .f32⟩
  | .hbm, ⟨20, _⟩ => ⟨S_, .f32⟩
  | .hbm, ⟨21, _⟩ => ⟨S96x80, .f32⟩
  | .hbm, ⟨22, _⟩ => ⟨S96x80, .f32⟩
  | .hbm, ⟨23, _⟩ => ⟨S_, .f32⟩
  | .hbm, ⟨24, _⟩ => ⟨S_, .f32⟩
  | .hbm, ⟨25, _⟩ => ⟨S96x80, .f32⟩
  | .hbm, ⟨26, _⟩ => ⟨S96x80, .f32⟩
  | .hbm, ⟨27, _⟩ => ⟨S96x80, .f32⟩
  | .hbm, ⟨28, _⟩ => ⟨S96x80, .f32⟩
  | .hbm, ⟨29, _⟩ => ⟨S96x80, .f32⟩
  | .hbm, ⟨30, _⟩ => ⟨S96x80x1, .f32⟩
  | .hbm, ⟨31, _⟩ => ⟨S96x80x128, .f32⟩
  | .hbm, ⟨32, _⟩ => ⟨S96x80x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S96x80x128, .f32⟩
  | .hbm, ⟨37, _⟩ => ⟨S96x80x128, .f32⟩
  | .hbm, ⟨38, _⟩ => ⟨S_, .f32⟩
  | .hbm, ⟨39, _⟩ => ⟨S96x80x128, .f32⟩
  | .hbm, ⟨40, _⟩ => ⟨S96x80x128, .f32⟩
  | .hbm, ⟨41, _⟩ => ⟨S96x10240, .f32⟩
  | .hbm, ⟨42, _⟩ => ⟨S96x10240, .fp8e4m3⟩
  | .hbm, ⟨43, _⟩ => ⟨S96x10240, .f32⟩
  | .hbm, ⟨44, _⟩ => ⟨S9088x10240, .f32⟩
  | .hbm, ⟨45, _⟩ => ⟨S96x80x128, .f32⟩
  | .hbm, ⟨46, _⟩ => ⟨S9088x80x128, .f32⟩
  | .hbm, ⟨47, _⟩ => ⟨S80x96x9088, .f32⟩
  | .hbm, ⟨48, _⟩ => ⟨S80x96, .f32⟩
  | .hbm, ⟨49, _⟩ => ⟨S80x71, .f32⟩
  | .hbm, ⟨50, _⟩ => ⟨S80x96x71x128, .f32⟩
  | .hbm, ⟨51, _⟩ => ⟨S80x96x1x1, .f32⟩
  | .hbm, ⟨52, _⟩ => ⟨S80x96x71x128, .f32⟩
  | .hbm, ⟨53, _⟩ => ⟨S80x96x71x128, .f32⟩
  | .hbm, ⟨54, _⟩ => ⟨S80x1x71x1, .f32⟩
  | .hbm, ⟨55, _⟩ => ⟨S80x96x71x128, .f32⟩
  | .hbm, ⟨56, _⟩ => ⟨S80x96x71x128, .f32⟩
  | .hbm, ⟨57, _⟩ => ⟨S_, .f32⟩
  | .hbm, ⟨58, _⟩ => ⟨S96x71x128, .f32⟩
  | .hbm, ⟨59, _⟩ => ⟨S96x9088, .f32⟩
  | .hbm, ⟨60, _⟩ => ⟨S96x9088, .bf16⟩
  | .local _ .vmem, ⟨0, _⟩ => ⟨S96x10240, .f32⟩
  | .local _ .vmem, ⟨1, _⟩ => ⟨S9088x10240, .fp8e4m3⟩
  | .local _ .vmem, ⟨2, _⟩ => ⟨S96x10240, .fp8e4m3⟩
  | .local _ .vmem, ⟨3, _⟩ => ⟨S96x10240, .f32⟩
  | .local _ .vmem, ⟨4, _⟩ => ⟨S9088x10240, .f32⟩
  | _, _ => ⟨S96x1x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S96x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9088x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9088x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Program.lean ====
/- The kernel's block of 128 weight rows as ONE program text over symbolic offsets, and the
   printed loop body and tail as that text at each of its places. The printed program spells the
   20 contraction steps of every block one after another; here one step is written once and run
   along the list of the 20 step numbers. -/
module

public import proofs.«01_k».proof.Proof.Gen.Kernel.Skeleton

@[expose] public section

set_option synthInstance.maxSize 4096

noncomputable section

namespace Cert.Proof.Kernel

open Idealize.ShloMosaic Idealize.SL.Sem Cert.Kernel Cert.Kernel.Gen

variable {F : FTy → Type} [FloatOps F]

/-! ## The values of a block -/

/-- Two 128-column tiles of the weights side by side times one 256 x 256 right-hand side. -/
def tileDot (a b : Vec F S1x128x128 .fp8e4m3) (r : Vec F S1x256x256 .fp8e4m3) : FVec F S128x256 .f32 :=
  matmul dot_S128x256_S256x256_S128x256_1_0_0_1_n_n none
    (concatenate S128x256 1 [⟨S128x128, shapeCast S128x128 a shapeCasts_S1x128x128_S128x128⟩,
      ⟨S128x128, shapeCast S128x128 b shapeCasts_S1x128x128_S128x128⟩] concatenates_S128x128_S128x128_S128x256_d1)
    (shapeCast S256x256 r shapeCasts_S1x256x256_S256x256) (constant S128x256 .f32 0x00000000#32)

/-- A row of scales repeated down 128 rows. -/
def rowScale (s : Vec F S1x1x1x128 .f32) : FVec F S128x128 .f32 :=
  broadcastTo S128x128 (shapeCast S1x128 s shapeCasts_S1x1x1x128_S1x128) broadcasts_S1x128_S128x128

/-- One step's addition to the first accumulator: the left halves of both products, scaled. -/
def acc0Step (acc : FVec F S128x128 .f32) (pa pb : FVec F S128x256 .f32) (s0 s1 : Vec F S1x1x1x128 .f32) : FVec F S128x128 .f32 :=
  addf acc (addf (mulf (extractStridedSlice S128x128 ![0, 0] pa slices_S128x256_o0_0_S128x128) (rowScale s0))
    (mulf (extractStridedSlice S128x128 ![0, 0] pb slices_S128x256_o0_0_S128x128) (rowScale s1)))

/-- One step's addition to the second accumulator: the right halves of both products, added, scaled. -/
def acc1Step (acc : FVec F S128x128 .f32) (pa pb : FVec F S128x256 .f32) (s2 : Vec F S1x1x1x128 .f32) : FVec F S128x128 .f32 :=
  addf acc (mulf (addf (extractStridedSlice S128x128 ![0, 128] pa slices_S128x256_o0_128_S128x128)
    (extractStridedSlice S128x128 ![0, 128] pb slices_S128x256_o0_128_S128x128)) (rowScale s2))

/-- Both accumulators at zero. -/
def accZero : FVec F S128x128 .f32 × FVec F S128x128 .f32 :=
  (broadcast S128x128 (Scalar.ofBits .f32 0x00000000#32), broadcast S128x128 (Scalar.ofBits .f32 0x00000000#32))

/-! ## The program of a block -/

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)

/-- Where a block's tile `(q, j)` lies in slot `s` of the ring. -/
abbrev tileOff (s : ℕ) (q : Fin 20) (j : Fin 4) : Fin 3 → ℕ := ![s, 0, (q.val + 20 * j.val) * 128]

theorem tileOff_inb {s : ℕ} (hs : s < 24) (q : Fin 20) (j : Fin 4) (a : Fin 3) :
    tileOff s q j a + S1x128x128.size a ≤ S24x128x10240.size a := by
  have := q.isLt; have := j.isLt
  fin_cases a <;> simp [tileOff, S1x128x128, S24x128x10240] <;> omega

abbrev rhsOff (q : Fin 20) : Fin 3 → ℕ := ![q.val, 0, 0]

theorem rhsOff_inb (q : Fin 20) (a : Fin 3) : rhsOff q a + S1x256x256.size a ≤ S20x256x256.size a := by
  have := q.isLt
  fin_cases a <;> simp [rhsOff, S1x256x256, S20x256x256] <;> omega

abbrev sOff (u : Fin 4) (v : Fin 3) (q : Fin 20) : Fin 4 → ℕ := ![u.val, v.val, q.val, 0]

theorem sOff_inb (u : Fin 4) (v : Fin 3) (q : Fin 20) (a : Fin 4) : sOff u v q a + S1x1x1x128.size a ≤ S4x3x24x128.size a := by
  have := q.isLt; have := u.isLt; have := v.isLt
  fin_cases a <;> simp [sOff, S1x1x1x128, S4x3x24x128] <;> omega

abbrev stOff (u : Fin 4) (v : Fin 3) : Fin 4 → ℕ := ![u.val, v.val, 0, 0]

theorem stOff_inb (u : Fin 4) (v : Fin 3) (a : Fin 4) : stOff u v a + S1x1x24x128.size a ≤ S4x3x24x128.size a := by
  have := u.isLt; have := v.isLt
  fin_cases a <;> simp [stOff, S1x1x24x128, S4x3x24x128] <;> omega

/-- One step of a block: four tiles, the two right-hand sides, three rows of scales; both accumulators. -/
def qStep (s : ℕ) (hs : s < 24) (u : Fin 4) (q : Fin 20) (A : FVec F S128x128 .f32 × FVec F S128x128 .f32) :
    Prog (TpuEff nD τ sig (Elt F) Λ₀ .tc) (FVec F S128x128 .f32 × FVec F S128x128 .f32) := do
  let la : Vec F S1x128x128 .fp8e4m3 ← Prog.lift (.load arg7 (Rect.unit (s := S24x128x10240) (tileOff s q 0) S1x128x128.size (tileOff_inb hs q 0)).toLoadRect (View.loadsAt_vmem h_S1x128x128))
  let lb : Vec F S1x128x128 .fp8e4m3 ← Prog.lift (.load arg7 (Rect.unit (s := S24x128x10240) (tileOff s q 1) S1x128x128.size (tileOff_inb hs q 1)).toLoadRect (View.loadsAt_vmem h_S1x128x128))
  let lc : Vec F S1x128x128 .fp8e4m3 ← Prog.lift (.load arg7 (Rect.unit (s := S24x128x10240) (tileOff s q 2) S1x128x128.size (tileOff_inb hs q 2)).toLoadRect (View.loadsAt_vmem h_S1x128x128))
  let ld : Vec F S1x128x128 .fp8e4m3 ← Prog.lift (.load arg7 (Rect.unit (s := S24x128x10240) (tileOff s q 3) S1x128x128.size (tileOff_inb hs q 3)).toLoadRect (View.loadsAt_vmem h_S1x128x128))
  let ra : Vec F S1x256x256 .fp8e4m3 ← Prog.lift (.load arg8 (Rect.unit (s := S20x256x256) (rhsOff q) S1x256x256.size (rhsOff_inb q)).toLoadRect (View.loadsAt_vmem h_S1x256x256))
  let rb : Vec F S1x256x256 .fp8e4m3 ← Prog.lift (.load arg9 (Rect.unit (s := S20x256x256) (rhsOff q) S1x256x256.size (rhsOff_inb q)).toLoadRect (View.loadsAt_vmem h_S1x256x256))
  let s0 : Vec F S1x1x1x128 .f32 ← Prog.lift (.load arg13 (Rect.unit (s := S4x3x24x128) (sOff u 0 q) S1x1x1x128.size (sOff_inb u 0 q)).toLoadRect (View.loadsAt_vmem h_S1x1x1x128))
  let s1 : Vec F S1x1x1x128 .f32 ← Prog.lift (.load arg13 (Rect.unit (s := S4x3x24x128) (sOff u 1 q) S1x1x1x128.size (sOff_inb u 1 q)).toLoadRect (View.loadsAt_vmem h_S1x1x1x128))
  let s2 : Vec F S1x1x1x128 .f32 ← Prog.lift (.load arg13 (Rect.unit (s := S4x3x24x128) (sOff u 2 q) S1x1x1x128.size (sOff_inb u 2 q)).toLoadRect (View.loadsAt_vmem h_S1x1x1x128))
  pure (acc0Step A.1 (tileDot la lb ra) (tileDot lc ld rb) s0 s1, acc1Step A.2 (tileDot la lb ra) (tileDot lc ld rb) s2)

/-- The steps of a list in order. -/
def qLoop (s : ℕ) (hs : s < 24) (u : Fin 4) : List (Fin 20) → FVec F S128x128 .f32 × FVec F S128x128 .f32 →
    Prog (TpuEff nD τ sig (Elt F) Λ₀ .tc) (FVec F S128x128 .f32 × FVec F S128x128 .f32)
  | [], A => pure A
  | q :: l, A => qStep arg7 arg8 arg9 arg13 s hs u q A >>= qLoop s hs u l

/-- The 20 step numbers. -/
abbrev steps : List (Fin 20) := [0, 1, 2, 3, 4, 5, 6, 7, 8, 9, 10, 11, 12, 13, 14, 15, 16, 17, 18, 19]

/-- A block's output tile of its two accumulators: transposed, its row pieces added. -/
def outTile (A : FVec F S128x128 .f32 × FVec F S128x128 .f32) : FVec F S96x128 .bf16 :=
  have t0 : FVec F S128x128 .f32 := transpose S128x128 [1, 0] A.1 transposes_S128x128_p1_0_S128x128
  have t1 : FVec F S128x128 .f32 := transpose S128x128 [1, 0] A.2 transposes_S128x128_p1_0_S128x128
  have hi : FVec F S64x128 .f32 := addf (addf (extractStridedSlice S64x128 ![0, 0] t0 slices_S128x128_o0_0_S64x128)
    (extractStridedSlice S64x128 ![0, 0] t1 slices_S128x128_o0_0_S64x128)) (extractStridedSlice S64x128 ![64, 0] t1 slices_S128x128_o64_0_S64x128)
  have lo : FVec F S32x128 .f32 := addf (extractStridedSlice S32x128 ![64, 0] t0 slices_S128x128_o64_0_S32x128)
    (extractStridedSlice S32x128 ![96, 0] t0 slices_S128x128_o96_0_S32x128)
  shapeCast S96x128 (truncf .bf16 (concatenate S96x128 0 [⟨S64x128, hi⟩, ⟨S32x128, lo⟩] concatenates_S64x128_S32x128_S96x128_d0) bitsLt_bf16_f32) shapeCasts_S96x128_S96x128

/-- A block of 128 weight rows in slot `s`, its weight scales in row `oR` of the repacked scales, its
    scale rows in part `u` of the scratch, its tile stored at `oY` of the result buffer. -/
def blockProg (v191 : IVec S24x128 32) (s : ℕ) (hs : s < 24) (u : Fin 4) (oR : Fin 2 → ℕ) (hR : ∀ a, oR a + S1x128.size a ≤ S72x128.size a)
    (oY : Fin 2 → ℕ) (hY : ∀ a, oY a + S96x128.size a ≤ S96x9088.size a)
    (hP : (arg15.access (Rect.unit (s := S96x9088) oY S96x128.size hY)).Stores Finset.univ) :
    Prog (TpuEff nD τ sig (Elt F) Λ₀ .tc) PUnit := do
  let wr : Vec F S1x128 .f32 ← Prog.lift (.load arg12 (Rect.unit (s := S72x128) oR S1x128.size hR).toLoadRect (View.loadsAt_vmem h_S1x128))
  let x0 : Vec F S1x24x128 .f32 ← Prog.lift (.load arg11 (Rect.unit (s := S3x24x128) ![0, 0, 0] S1x24x128.size inb_S3x24x128_S1x24x128_0_0_0).toLoadRect (View.loadsAt_vmem h_S1x24x128))
  let d0 : Vec F S1x1x24x128 .f32 ← Prog.lift (.load arg13 (Rect.unit (s := S4x3x24x128) (stOff u 0) S1x1x24x128.size (stOff_inb u 0)).toLoadRect (View.loadsAt_vmem h_S1x1x24x128))
  Prog.lift (.store arg13 (Rect.unit (s := S4x3x24x128) (stOff u 0) S1x1x24x128.size (stOff_inb u 0)) (k0_pay35 v191 wr x0) Finset.univ (View.stores_vmem_bits_univ h_S1x1x24x128 rfl) (.inl rfl))
  let x1 : Vec F S1x24x128 .f32 ← Prog.lift (.load arg11 (Rect.unit (s := S3x24x128) ![1, 0, 0] S1x24x128.size inb_S3x24x128_S1x24x128_1_0_0).toLoadRect (View.loadsAt_vmem h_S1x24x128))
  let d1 : Vec F S1x1x24x128 .f32 ← Prog.lift (.load arg13 (Rect.unit (s := S4x3x24x128) (stOff u 1) S1x1x24x128.size (stOff_inb u 1)).toLoadRect (View.loadsAt_vmem h_S1x1x24x128))
  Prog.lift (.store arg13 (Rect.unit (s := S4x3x24x128) (stOff u 1) S1x1x24x128.size (stOff_inb u 1)) (k0_pay36 v191 wr x1) Finset.univ (View.stores_vmem_bits_univ h_S1x1x24x128 rfl) (.inl rfl))
  let x2 : Vec F S1x24x128 .f32 ← Prog.lift (.load arg11 (Rect.unit (s := S3x24x128) ![2, 0, 0] S1x24x128.size inb_S3x24x128_S1x24x128_2_0_0).toLoadRect (View.loadsAt_vmem h_S1x24x128))
  let d2 : Vec F S1x1x24x128 .f32 ← Prog.lift (.load arg13 (Rect.unit (s := S4x3x24x128) (stOff u 2) S1x1x24x128.size (stOff_inb u 2)).toLoadRect (View.loadsAt_vmem h_S1x1x24x128))
  Prog.lift (.store arg13 (Rect.unit (s := S4x3x24x128) (stOff u 2) S1x1x24x128.size (stOff_inb u 2)) (k0_pay37 v191 (k0_pay33 wr) (k0_pay34 wr) x2) Finset.univ (View.stores_vmem_bits_univ h_S1x1x24x128 rfl) (.inl rfl))
  let A ← qLoop arg7 arg8 arg9 arg13 s hs u steps accZero
  let dy : Vec F S96x128 .bf16 ← Prog.lift (.load arg15 (Rect.unit (s := S96x9088) oY S96x128.size hY).toLoadRect (View.loadsAt_vmem h_S96x128))
  Prog.lift (.store arg15 (Rect.unit (s := S96x9088) oY S96x128.size hY) (outTile A) Finset.univ hP (.inl rfl))

/-! ## Starting and awaiting a block's copy -/

abbrev wSrc (o : Fin 2 → ℕ) (h : ∀ a, o a + S128x10240.size a ≤ S9088x10240.size a) : Memref sig .tc .hbm S128x10240 .fp8e4m3 :=
  arg1.slice (Rect.unit (s := S9088x10240) o S128x10240.size h) (fun _ => rfl)

abbrev wDst (o : Fin 3 → ℕ) (h : ∀ a, o a + S1x128x10240.size a ≤ S24x128x10240.size a) : Memref sig .tc .vmem S128x10240 .fp8e4m3 :=
  (arg7.slice (Rect.unit (s := S24x128x10240) o S1x128x10240.size h) (fun _ => rfl)).squeeze S128x10240 squeezes_S1x128x10240_S128x10240

abbrev wSem (o : Fin 1 → ℕ) (h : ∀ a, o a + S1.size a ≤ S24.size a) : DmaSems sig S_ :=
  (arg16.slice (Rect.unit (s := S24) o S1.size h)).squeeze S_ squeezes_S1_S_

universe uE

/-- Two programs beginning with one effect are equal when what follows is. -/

theorem op_congr {E : Type → Type uE} {A B : Type} {e : E A} {k k' : A → Prog E B} (h : ∀ v, k v = k' v) :
    Prog.op e k = Prog.op e k' := by rw [funext h]

/-! ## A trip of the loop over the blocks -/

abbrev tripNb (k : Fin k0_t2_loop.trips) (u : BitVec 32) : BitVec 32 := Scalar.addi (Scalar.muli (Scf.iv 0#32 1#32 k) 4#32) u

abbrev tripSlot (k : Fin k0_t2_loop.trips) (u : BitVec 32) : ℕ := (Scalar.indexCast (Scalar.remsi (tripNb k u) 24#32)).toNat

theorem tripSlot_lt (k : Fin k0_t2_loop.trips) (u : Fin 4) : tripSlot k (BitVec.ofNat 32 u.val) < 24 := by
  have h := k0_off14_inb k u 0
  change tripSlot k (BitVec.ofNat 32 u.val) + 1 ≤ 24 at h
  omega

abbrev loopBlock (v191 : IVec S24x128 32) (k : Fin k0_t2_loop.trips) (u : Fin 4) : Prog (TpuEff nD τ sig (Elt F) Λ₀ .tc) PUnit :=
  blockProg arg7 arg8 arg9 arg11 arg12 arg13 arg15 v191 (tripSlot k (BitVec.ofNat 32 u.val)) (tripSlot_lt k u) u
    (k0_off13 k (BitVec.ofNat 32 u.val)) (k0_off13_inb k u) (k0_off94 k (BitVec.ofNat 32 u.val)) (k0_off94_inb k u)
    (View.stores_vmem h_S96x128 (harg15.storeExact_slice rfl _ (k0_off94_packedbf16 k u)) (fun _ => rfl))

abbrev loopWait (k : Fin k0_t2_loop.trips) (u : Fin 4) : Prog (TpuEff nD τ sig (Elt F) Λ₀ .tc) PUnit :=
  Prog.lift (.waitDma2 (wSem arg16 (k0_off10 k (BitVec.ofNat 32 u.val)) (k0_off10_inb k u)).sem
    (wSrc arg1 (k0_off12 k (BitVec.ofNat 32 u.val)) (k0_off12_inb k u)) (wDst arg7 (k0_off11 k (BitVec.ofNat 32 u.val)) (k0_off11_inb k u))
    (harg1.wordExact_slice rfl _ (k0_off12_wordsfp8e4m3 k u)) ((harg7.wordExact_slice rfl _ (k0_off11_wordsfp8e4m3 k u)).reshape _ _))

/-- The start of the block that follows in slot `0` of the trip's four. -/
def refill1 (k : Fin k0_t2_loop.trips) : Prog (TpuEff nD τ sig (Elt F) Λ₀ .tc) PUnit := do
  if h : k0_cond1 k = 1#1 then do
    Prog.lift (.enqueueDma (wSrc arg1 (k0_off97 k) (k0_off97_inb k h)) (.here (wDst arg7 (k0_off96 k) (k0_off96_inb k h))) (.dma (wSem arg16 (k0_off95 k) (k0_off95_inb k h)).sem) (harg1.wordExact_slice rfl _ (k0_off97_wordsfp8e4m3 k h)) ((harg7.wordExact_slice rfl _ (k0_off96_wordsfp8e4m3 k h)).reshape _ _) ⟨Or.inl rfl, trivial⟩)
    pure ⟨⟩
  else do
    pure ⟨⟩

/-- The start of the block that follows in slot `1` of the trip's four. -/
def refill2 (k : Fin k0_t2_loop.trips) : Prog (TpuEff nD τ sig (Elt F) Λ₀ .tc) PUnit := do
  if h : k0_cond2 k = 1#1 then do
    Prog.lift (.enqueueDma (wSrc arg1 (k0_off100 k) (k0_off100_inb k h)) (.here (wDst arg7 (k0_off99 k) (k0_off99_inb k h))) (.dma (wSem arg16 (k0_off98 k) (k0_off98_inb k h)).sem) (harg1.wordExact_slice rfl _ (k0_off100_wordsfp8e4m3 k h)) ((harg7.wordExact_slice rfl _ (k0_off99_wordsfp8e4m3 k h)).reshape _ _) ⟨Or.inl rfl, trivial⟩)
    pure ⟨⟩
  else do
    pure ⟨⟩

/-- The start of the block that follows in slot `2` of the trip's four. -/
def refill3 (k : Fin k0_t2_loop.trips) : Prog (TpuEff nD τ sig (Elt F) Λ₀ .tc) PUnit := do
  if h : k0_cond3 k = 1#1 then do
    Prog.lift (.enqueueDma (wSrc arg1 (k0_off103 k) (k0_off103_inb k h)) (.here (wDst arg7 (k0_off102 k) (k0_off102_inb k h))) (.dma (wSem arg16 (k0_off101 k) (k0_off101_inb k h)).sem) (harg1.wordExact_slice rfl _ (k0_off103_wordsfp8e4m3 k h)) ((harg7.wordExact_slice rfl _ (k0_off102_wordsfp8e4m3 k h)).reshape _ _) ⟨Or.inl rfl, trivial⟩)
    pure ⟨⟩
  else do
    pure ⟨⟩

/-- The start of the block that follows in slot `3` of the trip's four. -/
def refill4 (k : Fin k0_t2_loop.trips) : Prog (TpuEff nD τ sig (Elt F) Λ₀ .tc) PUnit := do
  if h : k0_cond4 k = 1#1 then do
    Prog.lift (.enqueueDma (wSrc arg1 (k0_off106 k) (k0_off106_inb k h)) (.here (wDst arg7 (k0_off105 k) (k0_off105_inb k h))) (.dma (wSem arg16 (k0_off104 k) (k0_off104_inb k h)).sem) (harg1.wordExact_slice rfl _ (k0_off106_wordsfp8e4m3 k h)) ((harg7.wordExact_slice rfl _ (k0_off105_wordsfp8e4m3 k h)).reshape _ _) ⟨Or.inl rfl, trivial⟩)
    pure ⟨⟩
  else do
    pure ⟨⟩

/-- The waits, the four blocks and the first start of a trip. -/
def tripA (v191 : IVec S24x128 32) (k : Fin k0_t2_loop.trips) : Prog (TpuEff nD τ sig (Elt F) Λ₀ .tc) (BitVec 32) := do
  loopWait arg1 harg1 arg7 harg7 arg16 k 0
  loopWait arg1 harg1 arg7 harg7 arg16 k 1
  loopWait arg1 harg1 arg7 harg7 arg16 k 2
  loopWait arg1 harg1 arg7 harg7 arg16 k 3
  loopBlock arg7 arg8 arg9 arg11 arg12 arg13 arg15 harg15 v191 k 0
  loopBlock arg7 arg8 arg9 arg11 arg12 arg13 arg15 harg15 v191 k 1
  loopBlock arg7 arg8 arg9 arg11 arg12 arg13 arg15 harg15 v191 k 2
  loopBlock arg7 arg8 arg9 arg11 arg12 arg13 arg15 harg15 v191 k 3
  refill1 arg1 harg1 arg7 harg7 arg16 k
  pure 4#32

/-- A trip: the waits, the four blocks, the four starts. -/
def trip (v191 : IVec S24x128 32) (k : Fin k0_t2_loop.trips) : Prog (TpuEff nD τ sig (Elt F) Λ₀ .tc) PUnit := do
  let _ ← tripA arg1 harg1 arg7 harg7 arg8 arg9 arg11 arg12 arg13 arg15 harg15 arg16 v191 k
  refill2 arg1 harg1 arg7 harg7 arg16 k
  refill3 arg1 harg1 arg7 harg7 arg16 k
  refill4 arg1 harg1 arg7 harg7 arg16 k
  pure ⟨⟩

/-- The same, each start written in place. -/
def printedTripA (v191 : IVec S24x128 32) (k : Fin k0_t2_loop.trips) : Prog (TpuEff nD τ sig (Elt F) Λ₀ .tc) (BitVec 32) := do
  loopWait arg1 harg1 arg7 harg7 arg16 k 0
  loopWait arg1 harg1 arg7 harg7 arg16 k 1
  loopWait arg1 harg1 arg7 harg7 arg16 k 2
  loopWait arg1 harg1 arg7 harg7 arg16 k 3
  loopBlock arg7 arg8 arg9 arg11 arg12 arg13 arg15 harg15 v191 k 0
  loopBlock arg7 arg8 arg9 arg11 arg12 arg13 arg15 harg15 v191 k 1
  loopBlock arg7 arg8 arg9 arg11 arg12 arg13 arg15 harg15 v191 k 2
  loopBlock arg7 arg8 arg9 arg11 arg12 arg13 arg15 harg15 v191 k 3
  if h : k0_cond1 k = 1#1 then do
    Prog.lift (.enqueueDma (wSrc arg1 (k0_off97 k) (k0_off97_inb k h)) (.here (wDst arg7 (k0_off96 k) (k0_off96_inb k h))) (.dma (wSem arg16 (k0_off95 k) (k0_off95_inb k h)).sem) (harg1.wordExact_slice rfl _ (k0_off97_wordsfp8e4m3 k h)) ((harg7.wordExact_slice rfl _ (k0_off96_wordsfp8e4m3 k h)).reshape _ _) ⟨Or.inl rfl, trivial⟩)
    pure ⟨⟩
  else do
    pure ⟨⟩
  pure 4#32

/-- A trip, each start written in place. -/
def printedTrip (v191 : IVec S24x128 32) (k : Fin k0_t2_loop.trips) : Prog (TpuEff nD τ sig (Elt F) Λ₀ .tc) PUnit := do
  let _ ← printedTripA arg1 harg1 arg7 harg7 arg8 arg9 arg11 arg12 arg13 arg15 harg15 arg16 v191 k
  if h : k0_cond2 k = 1#1 then do
    Prog.lift (.enqueueDma (wSrc arg1 (k0_off100 k) (k0_off100_inb k h)) (.here (wDst arg7 (k0_off99 k) (k0_off99_inb k h))) (.dma (wSem arg16 (k0_off98 k) (k0_off98_inb k h)).sem) (harg1.wordExact_slice rfl _ (k0_off100_wordsfp8e4m3 k h)) ((harg7.wordExact_slice rfl _ (k0_off99_wordsfp8e4m3 k h)).reshape _ _) ⟨Or.inl rfl, trivial⟩)
    pure ⟨⟩
  else do
    pure ⟨⟩
  if h : k0_cond3 k = 1#1 then do
    Prog.lift (.enqueueDma (wSrc arg1 (k0_off103 k) (k0_off103_inb k h)) (.here (wDst arg7 (k0_off102 k) (k0_off102_inb k h))) (.dma (wSem arg16 (k0_off101 k) (k0_off101_inb k h)).sem) (harg1.wordExact_slice rfl _ (k0_off103_wordsfp8e4m3 k h)) ((harg7.wordExact_slice rfl _ (k0_off102_wordsfp8e4m3 k h)).reshape _ _) ⟨Or.inl rfl, trivial⟩)
    pure ⟨⟩
  else do
    pure ⟨⟩
  if h : k0_cond4 k = 1#1 then do
    Prog.lift (.enqueueDma (wSrc arg1 (k0_off106 k) (k0_off106_inb k h)) (.here (wDst arg7 (k0_off105 k) (k0_off105_inb k h))) (.dma (wSem arg16 (k0_off104 k) (k0_off104_inb k h)).sem) (harg1.wordExact_slice rfl _ (k0_off106_wordsfp8e4m3 k h)) ((harg7.wordExact_slice rfl _ (k0_off105_wordsfp8e4m3 k h)).reshape _ _) ⟨Or.inl rfl, trivial⟩)
    pure ⟨⟩
  else do
    pure ⟨⟩
  pure ⟨⟩

theorem printedTrip_eq (v191 : IVec S24x128 32) (k : Fin k0_t2_loop.trips) :
    printedTrip (F := F) arg1 harg1 arg7 harg7 arg8 arg9 arg11 arg12 arg13 arg15 harg15 arg16 v191 k = trip arg1 harg1 arg7 harg7 arg8 arg9 arg11 arg12 arg13 arg15 harg15 arg16 v191 k := by
  unfold printedTrip printedTripA trip tripA refill1 refill2 refill3 refill4
  by_cases h1 : k0_cond1 k = 1#1 <;> by_cases h2 : k0_cond2 k = 1#1 <;> by_cases h3 : k0_cond3 k = 1#1 <;> by_cases h4 : k0_cond4 k = 1#1
  all_goals (simp only [h1, h2, h3, h4, dite_true, dite_false, bind_assoc, pure_bind, not_false_eq_true, not_true_eq_false, reduceDIte])
  all_goals rfl

/-! ## After the loop -/

/-- The ring slot of a block given by its number. -/
abbrev tailSlot (nb : BitVec 32) : ℕ := (Scalar.indexCast (Scalar.remsi nb 24#32)).toNat

/-- The last three blocks awaited and computed, then the results' copies: `y` started, both awaited. -/
def tail (v191 : IVec S24x128 32) : Prog (TpuEff nD τ sig (Elt F) Λ₀ .tc) PUnit := do
  Prog.lift (.waitDma2 (wSem arg16 (k0_off1 68#32) (k0_off1_inb 24)).sem (wSrc arg1 ![8704, 0] inb_S9088x10240_S128x10240_8704_0)
    (wDst arg7 (k0_off2 68#32) (k0_off2_inb 24)) (harg1.wordExact_slice rfl _ wordsfp8e4m3_S9088x10240_S128x10240_8704_0)
    ((harg7.wordExact_slice rfl _ (k0_off2_wordsfp8e4m3 24)).reshape _ _))
  Prog.lift (.waitDma2 (wSem arg16 (k0_off1 69#32) (k0_off1_inb 25)).sem (wSrc arg1 ![8832, 0] inb_S9088x10240_S128x10240_8832_0)
    (wDst arg7 (k0_off2 69#32) (k0_off2_inb 25)) (harg1.wordExact_slice rfl _ wordsfp8e4m3_S9088x10240_S128x10240_8832_0)
    ((harg7.wordExact_slice rfl _ (k0_off2_wordsfp8e4m3 25)).reshape _ _))
  Prog.lift (.waitDma2 (wSem arg16 (k0_off1 70#32) (k0_off1_inb 26)).sem (wSrc arg1 ![8960, 0] inb_S9088x10240_S128x10240_8960_0)
    (wDst arg7 (k0_off2 70#32) (k0_off2_inb 26)) (harg1.wordExact_slice rfl _ wordsfp8e4m3_S9088x10240_S128x10240_8960_0)
    ((harg7.wordExact_slice rfl _ (k0_off2_wordsfp8e4m3 26)).reshape _ _))
  blockProg arg7 arg8 arg9 arg11 arg12 arg13 arg15 v191 (tailSlot 68#32) (by decide) 0 ![68, 0] inb_S72x128_S1x128_68_0
    ![0, 8704] inb_S96x9088_S96x128_0_8704 (View.stores_vmem h_S96x128 (harg15.storeExact_slice rfl _ packedbf16_S96x9088_S96x128_0_8704) (fun _ => rfl))
  blockProg arg7 arg8 arg9 arg11 arg12 arg13 arg15 v191 (tailSlot 69#32) (by decide) 1 ![69, 0] inb_S72x128_S1x128_69_0
    ![0, 8832] inb_S96x9088_S96x128_0_8832 (View.stores_vmem h_S96x128 (harg15.storeExact_slice rfl _ packedbf16_S96x9088_S96x128_0_8832) (fun _ => rfl))
  blockProg arg7 arg8 arg9 arg11 arg12 arg13 arg15 v191 (tailSlot 70#32) (by decide) 2 ![70, 0] inb_S72x128_S1x128_70_0
    ![0, 8960] inb_S96x9088_S96x128_0_8960 (View.stores_vmem h_S96x128 (harg15.storeExact_slice rfl _ packedbf16_S96x9088_S96x128_0_8960) (fun _ => rfl))
  Prog.lift (.enqueueDma arg15 (.here arg3) (.dma arg18.sem) harg15.wordExact harg3.wordExact ⟨Or.inl rfl, trivial⟩)
  Prog.lift (.waitDma2 arg19.sem arg14 arg4 harg14.wordExact harg4.wordExact)
  Prog.lift (.waitDma2 arg18.sem arg15 arg3 harg15.wordExact harg3.wordExact)
  pure ⟨⟩

end Cert.Proof.Kernel
-- ==== Proof.Held.lean ====
/- Loads and stores of a memref owned at given contents, the contents followed through the store. -/
module

public import Idealize.ShloMosaic.Lib.Tactic
public import Idealize.ShloMosaic.Lib.Memref
public import Idealize.ShloMosaic.Lib.WritesUnit
public import Idealize.ShloMosaic.Lib.Transfers
public import Idealize.ShloMosaic.Lib.Pipeline.ValueKit.Tiles

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Contents `d` with the window at `off` replaced by `w`. -/
def put {s : Shape} {X : Type} (d : s.Idx → X) (off size : Fin s.rank → ℕ) (inb : ∀ a, off a + size a ≤ s.size a)
    (w : (Rect.unit off size inb).shape.Idx → X) : s.Idx → X :=
  fun y => if h : ∀ a, off a ≤ (y a).val ∧ (y a).val < off a + size a then w (Rect.unitLocal (s := s) (off := off) (size := size) y h) else d y

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} {α : Type}

local notation "𝕄" => MT nD τ sig Ix Val Name U Lvl

variable (𝒱 : Variants) (c : Thread nD τ) (bd : Option 𝒱.V) {s : Shape} {e : EltTy} {Q : α → sProp (MT nD τ sig Ix Val Name U Lvl)}

theorem wp_ld {cs : CoreSpace} {m : Memref sig c.2.kind cs s e} {r : Rect s} {hl : m.view.LoadsAt r}
    {k : (r.shape.Idx → Val e) → Prog (TpuEff nD τ sig Val Λ c.2) α} {q : PosShare TreeShare} {d : s.Idx → Val e} :
    (owns c m q d : sProp 𝕄)
      ⊢ iprop((owns c m q d -∗ wp frame (wpE defs 𝒱 c bd) Set.univ (k (View.ld d r)) Q)
        -∗ wp frame (wpE defs 𝒱 c bd) Set.univ (.op (.load m r.toLoadRect hl) k) Q) := by
  unfold owns
  iintro ⟨%f, %hf, H⟩ Hk
  iapply (wp_load 𝒱 c bd Set.univ (m := m) (S := m.view.set) (q := q) (f := f) (View.setOn_subset_set _ _)) $$ H
  iintro H
  have e1 : m.view.readAt Val r.toLoadRect f = View.ld d r := by subst hf; rfl
  rw [e1]
  iapply Hk
  iexists f
  isplitr; · ipureintro; exact hf
  iexact H

theorem wp_st {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ} {hm}
    {k : PUnit → Prog (TpuEff nD τ sig Val Λ c.2) α} {d : s.Idx → Val e} :
    (owns c m fullShare d : sProp 𝕄)
      ⊢ iprop((owns c m fullShare (put d off size inb w) -∗ wp frame (wpE defs 𝒱 c bd) Set.univ (k ⟨⟩) Q)
        -∗ wp frame (wpE defs 𝒱 c bd) Set.univ (.op (.store m (Rect.unit off size inb) w Finset.univ hx hm) k) Q) := by
  unfold owns
  iintro ⟨%f, %hf, H⟩ Hk
  iapply (wp_store 𝒱 c bd Set.univ (m := m) (r := Rect.unit off size inb) (S := m.view.set) (f := f) ((Memref.setOn_access_subset_setOn ..).trans (View.setOn_subset_set _ _))) $$ H
  iintro H
  iapply Hk
  iexists _
  isplitr; swap; · iexact H
  ipureintro
  funext y
  have h := View.read_writes_cons_unit m.view f (off' := off) inb w [] y rfl
  rw [show put d off size inb w y = _ from rfl]
  unfold put
  subst hf
  exact h

/-- A load first in a sequence. -/
theorem wp_ld_bind {cs : CoreSpace} {m : Memref sig c.2.kind cs s e} {r : Rect s} {hl : m.view.LoadsAt r}
    {k : (r.shape.Idx → Val e) → Prog (TpuEff nD τ sig Val Λ c.2) α} {q : PosShare TreeShare} {d : s.Idx → Val e} :
    (owns c m q d : sProp (MT nD τ sig Ix Val Name U Lvl))
      ⊢ iprop((owns c m q d -∗ wp frame (wpE defs 𝒱 c bd) Set.univ (k (View.ld d r)) Q)
        -∗ wp frame (wpE defs 𝒱 c bd) Set.univ (Prog.lift (TpuEff.load m r.toLoadRect hl) >>= k) Q) :=
  wp_ld 𝒱 c bd

/-- A store first in a sequence. -/
theorem wp_st_bind {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ} {hm}
    {k : PUnit → Prog (TpuEff nD τ sig Val Λ c.2) α} {d : s.Idx → Val e} :
    (owns c m fullShare d : sProp (MT nD τ sig Ix Val Name U Lvl))
      ⊢ iprop((owns c m fullShare (put d off size inb w) -∗ wp frame (wpE defs 𝒱 c bd) Set.univ (k ⟨⟩) Q)
        -∗ wp frame (wpE defs 𝒱 c bd) Set.univ (Prog.lift (TpuEff.store m (Rect.unit off size inb) w Finset.univ hx hm) >>= k) Q) :=
  wp_st 𝒱 c bd

/-- A store at the end of a sequence. -/
theorem wp_st_last {Q : PUnit → sProp (MT nD τ sig Ix Val Name U Lvl)} {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ} {hm} {d : s.Idx → Val e} :
    (owns c m fullShare d : sProp (MT nD τ sig Ix Val Name U Lvl))
      ⊢ iprop((owns c m fullShare (put d off size inb w) -∗ Q ⟨⟩)
        -∗ wp frame (wpE defs 𝒱 c bd) Set.univ (Prog.lift (TpuEff.store m (Rect.unit off size inb) w Finset.univ hx hm)) Q) := by
  iintro H Hk
  have e1 : (Prog.lift (TpuEff.store m (Rect.unit off size inb) w Finset.univ hx hm) : Prog (TpuEff nD τ sig Val Λ c.2) PUnit)
    = (Prog.lift (TpuEff.store m (Rect.unit off size inb) w Finset.univ hx hm) >>= fun u => pure u) := rfl
  rw [e1]
  iapply (wp_st_bind 𝒱 c bd) $$ H
  iintro H
  rw [wp_pure]
  imodintro
  iapply Hk $$ H

/-- A load inside a slice held on its own. -/
theorem wp_ld_slice_bind {cs : CoreSpace} {m : Memref sig c.2.kind cs s e} {off size off' size' offS : Fin s.rank → ℕ}
    {inb : ∀ a, off a + size a ≤ s.size a} {inb' : ∀ a, off' a + size' a ≤ s.size a} {inbS : ∀ a, offS a + size a ≤ size' a}
    (ho : ∀ a, off a = off' a + offS a)
    {hs : ∀ a, (Rect.unit (s := s) off' size' inb').stride a = 1}
    {hl : m.view.LoadsAt (Rect.unit (s := s) off size inb)}
    {k : ((Rect.unit (s := s) off size inb).shape.Idx → Val e) → Prog (TpuEff nD τ sig Val Λ c.2) α} {q : PosShare TreeShare}
    {d : (Rect.unit (s := s) off' size' inb').shape.Idx → Val e} :
    (owns c (m.slice (Rect.unit (s := s) off' size' inb') hs) q d : sProp (MT nD τ sig Ix Val Name U Lvl))
      ⊢ iprop((owns c (m.slice (Rect.unit (s := s) off' size' inb') hs) q d
          -∗ wp frame (wpE defs 𝒱 c bd) Set.univ (k (View.ld d (Rect.unit (s := (Rect.unit (s := s) off' size' inb').shape) offS size inbS))) Q)
        -∗ wp frame (wpE defs 𝒱 c bd) Set.univ (Prog.lift (TpuEff.load m (Rect.unit (s := s) off size inb).toLoadRect hl) >>= k) Q) := by
  unfold owns
  iintro ⟨%f, %hf, H⟩ Hk
  have hsub : m.view.setOn (Rect.unit (s := s) off size inb).toLoadRect.set ⊆ (m.slice (Rect.unit (s := s) off' size' inb') hs).view.set := by
    show m.view.setOn (Rect.unit (s := s) off size inb).set ⊆ (m.view.slice (Rect.unit (s := s) off' size' inb')).set
    rw [View.set_slice]
    refine Finset.map_subset_map.mpr ?_
    intro x hx
    rw [Rect.mem_set_unit] at hx ⊢
    intro a
    have h1 := hx a; have h2 := ho a; have h3 := inbS a
    omega
  have e0 : (Prog.lift (TpuEff.load m (Rect.unit (s := s) off size inb).toLoadRect hl) >>= k : Prog (TpuEff nD τ sig Val Λ c.2) α)
    = .op (.load m (Rect.unit (s := s) off size inb).toLoadRect hl) k := rfl
  rw [e0]
  iapply (wp_load 𝒱 c bd Set.univ (m := m) (S := (m.slice (Rect.unit (s := s) off' size' inb') hs).view.set) (q := q) (f := f) hsub) $$ H
  iintro H
  have e1 : m.view.readAt Val (Rect.unit (s := s) off size inb).toLoadRect f
      = View.ld d (Rect.unit (s := (Rect.unit (s := s) off' size' inb').shape) offS size inbS) := by
    subst hf
    funext x
    show m.view.read Val f _ = m.view.read Val f _
    refine congrArg (m.view.read Val f) (funext fun a => Fin.ext ?_)
    show off a + 1 * (x a).val = off' a + 1 * (offS a + 1 * (x a).val)
    rw [ho a]; omega
  rw [e1]
  iapply Hk
  iexists f
  isplitr; · ipureintro; exact hf
  iexact H

/-- A store of a whole slice held on its own. -/
theorem wp_st_slice_bind {cs : CoreSpace} {m : Memref sig c.2.kind cs s e} {off size : Fin s.rank → ℕ} {inb : ∀ a, off a + size a ≤ s.size a}
    {hs : ∀ a, (Rect.unit (s := s) off size inb).stride a = 1}
    {w : (Rect.unit (s := s) off size inb).shape.Idx → Val e} {hx : (m.access (Rect.unit (s := s) off size inb)).Stores Finset.univ} {hm}
    {k : PUnit → Prog (TpuEff nD τ sig Val Λ c.2) α} {d : (Rect.unit (s := s) off size inb).shape.Idx → Val e} :
    (owns c (m.slice (Rect.unit (s := s) off size inb) hs) fullShare d : sProp (MT nD τ sig Ix Val Name U Lvl))
      ⊢ iprop((owns c (m.slice (Rect.unit (s := s) off size inb) hs) fullShare w -∗ wp frame (wpE defs 𝒱 c bd) Set.univ (k ⟨⟩) Q)
        -∗ wp frame (wpE defs 𝒱 c bd) Set.univ (Prog.lift (TpuEff.store m (Rect.unit (s := s) off size inb) w Finset.univ hx hm) >>= k) Q) := by
  unfold owns
  iintro ⟨%f, %hf, H⟩ Hk
  have e0 : (Prog.lift (TpuEff.store m (Rect.unit (s := s) off size inb) w Finset.univ hx hm) >>= k : Prog (TpuEff nD τ sig Val Λ c.2) α)
    = .op (.store m (Rect.unit (s := s) off size inb) w Finset.univ hx hm) k := rfl
  rw [e0]
  iapply (wp_store 𝒱 c bd Set.univ (m := m) (r := Rect.unit (s := s) off size inb) (S := (m.slice (Rect.unit (s := s) off size inb) hs).view.set) (f := f)
    (View.setOn_subset_set _ _)) $$ H
  iintro H
  iapply Hk
  iexists _
  isplitr; swap; · iexact H
  ipureintro
  exact View.read_write_univ ..

theorem put_whole {s : Shape} {X : Type} (d : s.Idx → X) (off : Fin s.rank → ℕ) (h0 : ∀ a, off a = 0) (inb : ∀ a, off a + s.size a ≤ s.size a)
    (w : s.Idx → X) : put d off s.size inb w = w := by
  funext y
  unfold put
  rw [dif_pos (fun a => ⟨by rw [h0 a]; exact Nat.zero_le _, by rw [h0 a, Nat.zero_add]; exact (y a).isLt⟩)]
  refine congrArg w (funext fun a => Fin.ext ?_)
  show (y a).val - off a = (y a).val
  rw [h0 a]; rfl

end Cert.Proof
-- ==== Proof.Block.lean ====
/- What a block of 128 weight rows computes: the values of its twenty steps folded, and its run. -/
module

public import proofs.«01_k».proof.Proof.Program
public import proofs.«01_k».proof.Proof.Held
public import Idealize.ShloMosaic.Lib.Pipeline.Routed

@[expose] public section

set_option synthInstance.maxSize 4096

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof

variable {F : FTy → Type} [FloatOps F]

/-! ## The values -/

theorem wTile_inb (q : Fin 20) (j : Fin 4) (a : Fin 3) :
    (![0, 0, (q.val + 20 * j.val) * 128] : Fin 3 → ℕ) a + S1x128x128.size a ≤ S1x128x10240.size a := by
  have := q.isLt; have := j.isLt
  fin_cases a <;> simp [S1x128x128, S1x128x10240] <;> omega

/-- A block's weight tile of group `q + 20 j`. -/
def wTile (L : Vec F S1x128x10240 .fp8e4m3) (q : Fin 20) (j : Fin 4) : Vec F S1x128x128 .fp8e4m3 :=
  View.ld L (Rect.unit (s := S1x128x10240) ![0, 0, (q.val + 20 * j.val) * 128] S1x128x128.size (wTile_inb q j))

/-- The right-hand side of step `q`. -/
def rhsTile (R : Vec F S20x256x256 .fp8e4m3) (q : Fin 20) : Vec F S1x256x256 .fp8e4m3 :=
  View.ld R (Rect.unit (s := S20x256x256) (rhsOff q) S1x256x256.size (rhsOff_inb q))

/-- The scale row of step `q` out of a block's 24 rows. -/
def scaleRow (p : FVec F S1x1x24x128 .f32) (q : Fin 20) : Vec F S1x1x1x128 .f32 :=
  View.ld p (Rect.unit (s := S1x1x24x128) ![0, 0, q.val, 0] S1x1x1x128.size (by
    intro a; have := q.isLt; fin_cases a <;> simp [S1x1x24x128, S1x1x1x128] <;> omega))

/-- The accumulators after one step. -/
def qVal (L : Vec F S1x128x10240 .fp8e4m3) (RA RB : Vec F S20x256x256 .fp8e4m3) (p0 p1 p2 : FVec F S1x1x24x128 .f32)
    (A : FVec F S128x128 .f32 × FVec F S128x128 .f32) (q : Fin 20) : FVec F S128x128 .f32 × FVec F S128x128 .f32 :=
  (acc0Step A.1 (tileDot (wTile L q 0) (wTile L q 1) (rhsTile RA q)) (tileDot (wTile L q 2) (wTile L q 3) (rhsTile RB q)) (scaleRow p0 q) (scaleRow p1 q),
    acc1Step A.2 (tileDot (wTile L q 0) (wTile L q 1) (rhsTile RA q)) (tileDot (wTile L q 2) (wTile L q 3) (rhsTile RB q)) (scaleRow p2 q))

/-- Plane `v` of the activation scales. -/
def xsPlane (XS : Vec F S3x24x128 .f32) (v : Fin 3) : Vec F S1x24x128 .f32 :=
  View.ld XS (Rect.unit (s := S3x24x128) ![v.val, 0, 0] S1x24x128.size (by
    intro a; have := v.isLt; fin_cases a <;> simp [S3x24x128, S1x24x128] <;> omega))

/-- A block's tile of the result. -/
def blockVal (v191 : IVec S24x128 32) (L : Vec F S1x128x10240 .fp8e4m3) (RA RB : Vec F S20x256x256 .fp8e4m3)
    (XS : Vec F S3x24x128 .f32) (wr : Vec F S1x128 .f32) : FVec F S96x128 .bf16 :=
  outTile (steps.foldl (qVal L RA RB (k0_pay35 v191 wr (xsPlane XS 0)) (k0_pay36 v191 wr (xsPlane XS 1))
    (k0_pay37 v191 (k0_pay33 wr) (k0_pay34 wr) (xsPlane XS 2))) accZero)

/-- The scale scratch after a block's three stores. -/
def scratchPut (d : Vec F S4x3x24x128 .f32) (u : Fin 4) (p0 p1 p2 : FVec F S1x1x24x128 .f32) : Vec F S4x3x24x128 .f32 :=
  put (put (put d (stOff u 0) S1x1x24x128.size (stOff_inb u 0) p0) (stOff u 1) S1x1x24x128.size (stOff_inb u 1) p1)
    (stOff u 2) S1x1x24x128.size (stOff_inb u 2) p2

theorem put_hit {s : Shape} {X : Type} (d : s.Idx → X) (off size : Fin s.rank → ℕ) (inb : ∀ a, off a + size a ≤ s.size a)
    (w : (Rect.unit off size inb).shape.Idx → X) (y : s.Idx) (x : (Rect.unit off size inb).shape.Idx) (h : ∀ a, (y a).val = off a + (x a).val) :
    put d off size inb w y = w x := by
  have hx : ∀ a, (x a).val < size a := fun a => (x a).isLt
  have hc : ∀ a, off a ≤ (y a).val ∧ (y a).val < off a + size a := fun a => by have := h a; have := hx a; omega
  unfold put
  rw [dif_pos hc]
  refine congrArg w (funext fun a => Fin.ext ?_)
  show (y a).val - off a = (x a).val
  have := h a; omega

theorem put_miss {s : Shape} {X : Type} (d : s.Idx → X) (off size : Fin s.rank → ℕ) (inb : ∀ a, off a + size a ≤ s.size a)
    (w : (Rect.unit off size inb).shape.Idx → X) (y : s.Idx) (a : Fin s.rank) (h : (y a).val < off a ∨ off a + size a ≤ (y a).val) :
    put d off size inb w y = d y := by
  unfold put
  rw [dif_neg]
  intro hc
  have := hc a; omega

theorem row_of_put (d : Vec F S4x3x24x128 .f32) (u : Fin 4) (v v' : Fin 3) (p : FVec F S1x1x24x128 .f32) (q : Fin 20) :
    View.ld (put d (stOff u v') S1x1x24x128.size (stOff_inb u v') p) (Rect.unit (s := S4x3x24x128) (sOff u v q) S1x1x1x128.size (sOff_inb u v q))
      = if v = v' then scaleRow p q else View.ld d (Rect.unit (s := S4x3x24x128) (sOff u v q) S1x1x1x128.size (sOff_inb u v q)) := by
  have hy : ∀ (x : S1x1x1x128.Idx) (a : Fin 4), (((Rect.unit (s := S4x3x24x128) (sOff u v q) S1x1x1x128.size (sOff_inb u v q)).idx x) a).val
      = sOff u v q a + (x a).val := fun x a => by show sOff u v q a + 1 * _ = _; rw [Nat.one_mul]
  split
  · rename_i h; subst h
    funext x
    refine (put_hit _ _ _ _ _ _ ((Rect.unit (s := S1x1x24x128) ![0, 0, q.val, 0] S1x1x1x128.size (by
      intro a; have := q.isLt; fin_cases a <;> simp [S1x1x24x128, S1x1x1x128] <;> omega)).idx x) fun a => ?_).trans rfl
    rw [hy]
    show _ = stOff u v a + (![0, 0, q.val, 0] a + 1 * (x a).val)
    fin_cases a <;> simp [sOff, stOff]
  · rename_i h
    funext x
    refine put_miss _ _ _ _ _ _ (1 : Fin 4) ?_
    rw [hy]
    have h0 : (x 1).val = 0 := by have : (x 1).val < 1 := (x 1).isLt; omega
    rw [h0]
    have hne : v.val ≠ v'.val := fun e => h (Fin.ext e)
    show v.val + 0 < v'.val ∨ v'.val + 1 ≤ v.val + 0
    omega

theorem scratch_row (d : Vec F S4x3x24x128 .f32) (u : Fin 4) (p0 p1 p2 : FVec F S1x1x24x128 .f32) (q : Fin 20) :
    View.ld (scratchPut d u p0 p1 p2) (Rect.unit (s := S4x3x24x128) (sOff u 0 q) S1x1x1x128.size (sOff_inb u 0 q)) = scaleRow p0 q
    ∧ View.ld (scratchPut d u p0 p1 p2) (Rect.unit (s := S4x3x24x128) (sOff u 1 q) S1x1x1x128.size (sOff_inb u 1 q)) = scaleRow p1 q
    ∧ View.ld (scratchPut d u p0 p1 p2) (Rect.unit (s := S4x3x24x128) (sOff u 2 q) S1x1x1x128.size (sOff_inb u 2 q)) = scaleRow p2 q := by
  unfold scratchPut
  refine ⟨?_, ?_, ?_⟩
  · rw [row_of_put, if_neg (by decide), row_of_put, if_neg (by decide), row_of_put, if_pos rfl]
  · rw [row_of_put, if_neg (by decide), row_of_put, if_pos rfl]
  · rw [row_of_put, if_pos rfl]

/-! ## The run -/

local notation "𝕄" => MT nD τ sig Unit (Elt F) ℕ (Pipeline.UC sig nD τ) ℕ

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)

/-- Core `c`'s memref at contents `d`. -/
abbrev own (c : Dev nD) {sp : Space} {s : Shape} {e : EltTy} (M : Memref sig .tc sp s e) (d : s.Idx → Elt F e) :
    sProp (MT nD τ sig Unit (Elt F) ℕ (Pipeline.UC sig nD τ) ℕ) := owns (c.tc : Thread nD τ) M fullShare d

/-- Slot `s` of the ring, as the planes of the ring's memref. -/
abbrev slotM (o : Fin 3 → ℕ) (h : ∀ a, o a + S1x128x10240.size a ≤ S24x128x10240.size a) : Memref sig .tc .vmem S1x128x10240 .fp8e4m3 :=
  arg7.slice (Rect.unit (s := S24x128x10240) o S1x128x10240.size h) (fun _ => rfl)

theorem slot_inb {s : ℕ} (hs : s < 24) (a : Fin 3) : (![s, 0, 0] : Fin 3 → ℕ) a + S1x128x10240.size a ≤ S24x128x10240.size a := by
  fin_cases a <;> simp [S1x128x10240, S24x128x10240]; omega

variable (c : Dev nD)

abbrev wpK {α : Type} (p : Prog (TpuEff nD τ sig (Elt F) Λ₀ .tc) α) (Q : α → sProp (MT nD τ sig Unit (Elt F) ℕ (Pipeline.UC sig nD τ) ℕ)) :
    sProp (MT nD τ sig Unit (Elt F) ℕ (Pipeline.UC sig nD τ) ℕ) :=
  wp frame (wpE (defs₀ (F := F)) Variants.none (c.tc : Thread nD τ) none) Set.univ p Q

theorem wp_qStep {s : ℕ} (hs : s < 24) (u : Fin 4) (q : Fin 20) (A : FVec F S128x128 .f32 × FVec F S128x128 .f32)
    (L : Vec F S1x128x10240 .fp8e4m3) (RA RB : Vec F S20x256x256 .fp8e4m3) (d : Vec F S4x3x24x128 .f32) (p0 p1 p2 : FVec F S1x1x24x128 .f32)
    (Q : FVec F S128x128 .f32 × FVec F S128x128 .f32 → sProp (MT nD τ sig Unit (Elt F) ℕ (Pipeline.UC sig nD τ) ℕ)) :
    iprop(own c (slotM arg7 ![s, 0, 0] (slot_inb hs)) L ∗ own c arg8 RA ∗ own c arg9 RB ∗ own c arg13 (scratchPut d u p0 p1 p2))
      ⊢ iprop((iprop(own c (slotM arg7 ![s, 0, 0] (slot_inb hs)) L ∗ own c arg8 RA ∗ own c arg9 RB ∗ own c arg13 (scratchPut d u p0 p1 p2))
          -∗ Q (qVal L RA RB p0 p1 p2 A q))
        -∗ wpK c (qStep arg7 arg8 arg9 arg13 s hs u q A) Q) := by
  iintro ⟨HL, HA, HB, HS⟩ Hk
  unfold qStep wpK qVal wTile rhsTile
  have ho : ∀ (j : Fin 4) (a : Fin 3), tileOff s q j a = (![s, 0, 0] : Fin 3 → ℕ) a + (![0, 0, (q.val + 20 * j.val) * 128] : Fin 3 → ℕ) a := by
    intro j a; fin_cases a <;> simp [tileOff]
  iapply (wp_ld_slice_bind Variants.none (c.tc : Thread nD τ) none (m := arg7) (inb' := slot_inb hs) (inbS := wTile_inb q 0) (ho 0)) $$ HL
  iintro HL
  iapply (wp_ld_slice_bind Variants.none (c.tc : Thread nD τ) none (m := arg7) (inb' := slot_inb hs) (inbS := wTile_inb q 1) (ho 1)) $$ HL
  iintro HL
  iapply (wp_ld_slice_bind Variants.none (c.tc : Thread nD τ) none (m := arg7) (inb' := slot_inb hs) (inbS := wTile_inb q 2) (ho 2)) $$ HL
  iintro HL
  iapply (wp_ld_slice_bind Variants.none (c.tc : Thread nD τ) none (m := arg7) (inb' := slot_inb hs) (inbS := wTile_inb q 3) (ho 3)) $$ HL
  iintro HL
  iapply (wp_ld_bind Variants.none (c.tc : Thread nD τ) none) $$ HA
  iintro HA
  iapply (wp_ld_bind Variants.none (c.tc : Thread nD τ) none) $$ HB
  iintro HB
  iapply (wp_ld_bind Variants.none (c.tc : Thread nD τ) none) $$ HS
  iintro HS
  iapply (wp_ld_bind Variants.none (c.tc : Thread nD τ) none) $$ HS
  iintro HS
  iapply (wp_ld_bind Variants.none (c.tc : Thread nD τ) none) $$ HS
  iintro HS
  rw [wp_pure, (scratch_row d u p0 p1 p2 q).1, (scratch_row d u p0 p1 p2 q).2.1, (scratch_row d u p0 p1 p2 q).2.2]
  imodintro
  iapply Hk
  isplitl [HL]; · iexact HL
  isplitl [HA]; · iexact HA
  isplitl [HB]; · iexact HB
  iexact HS

theorem wp_qLoop {s : ℕ} (hs : s < 24) (u : Fin 4) (l : List (Fin 20)) (A : FVec F S128x128 .f32 × FVec F S128x128 .f32)
    (L : Vec F S1x128x10240 .fp8e4m3) (RA RB : Vec F S20x256x256 .fp8e4m3) (d : Vec F S4x3x24x128 .f32) (p0 p1 p2 : FVec F S1x1x24x128 .f32)
    (Q : FVec F S128x128 .f32 × FVec F S128x128 .f32 → sProp (MT nD τ sig Unit (Elt F) ℕ (Pipeline.UC sig nD τ) ℕ)) :
    iprop(own c (slotM arg7 ![s, 0, 0] (slot_inb hs)) L ∗ own c arg8 RA ∗ own c arg9 RB ∗ own c arg13 (scratchPut d u p0 p1 p2))
      ⊢ iprop((iprop(own c (slotM arg7 ![s, 0, 0] (slot_inb hs)) L ∗ own c arg8 RA ∗ own c arg9 RB ∗ own c arg13 (scratchPut d u p0 p1 p2))
          -∗ Q (l.foldl (qVal L RA RB p0 p1 p2) A))
        -∗ wpK c (qLoop arg7 arg8 arg9 arg13 s hs u l A) Q) := by
  induction l generalizing A with
  | nil =>
    iintro H Hk
    unfold qLoop wpK
    rw [wp_pure, List.foldl_nil]
    imodintro
    iapply Hk $$ H
  | cons q l ih =>
    iintro H Hk
    unfold qLoop wpK
    rw [wp_bind, List.foldl_cons]
    iapply (wp_qStep arg7 arg8 arg9 arg13 c hs u q A L RA RB d p0 p1 p2 _) $$ H
    iintro H
    iapply (ih (qVal L RA RB p0 p1 p2 A q)) $$ H Hk

/-- A block's run: its slot, right-hand sides and scales read, its tile put into the result. -/
theorem wp_block (v191 : IVec S24x128 32) {s : ℕ} (hs : s < 24) (u : Fin 4) (oR : Fin 2 → ℕ) (hR : ∀ a, oR a + S1x128.size a ≤ S72x128.size a)
    (oY : Fin 2 → ℕ) (hY : ∀ a, oY a + S96x128.size a ≤ S96x9088.size a)
    (hP : (arg15.access (Rect.unit (s := S96x9088) oY S96x128.size hY)).Stores Finset.univ)
    (L : Vec F S1x128x10240 .fp8e4m3) (RA RB : Vec F S20x256x256 .fp8e4m3) (XS : Vec F S3x24x128 .f32) (WS : Vec F S72x128 .f32)
    (d13 : Vec F S4x3x24x128 .f32) (d15 : Vec F S96x9088 .bf16)
    (Q : PUnit → sProp (MT nD τ sig Unit (Elt F) ℕ (Pipeline.UC sig nD τ) ℕ)) :
    iprop(own c (slotM arg7 ![s, 0, 0] (slot_inb hs)) L ∗ own c arg8 RA ∗ own c arg9 RB ∗ own c arg11 XS ∗ own c arg12 WS ∗ own c arg13 d13 ∗ own c arg15 d15)
      ⊢ iprop((iprop(own c (slotM arg7 ![s, 0, 0] (slot_inb hs)) L ∗ own c arg8 RA ∗ own c arg9 RB ∗ own c arg11 XS ∗ own c arg12 WS ∗ (∃ d, own c arg13 d)
            ∗ own c arg15 (put d15 oY S96x128.size hY (blockVal v191 L RA RB XS (View.ld WS (Rect.unit (s := S72x128) oR S1x128.size hR)))))
          -∗ Q ⟨⟩)
        -∗ wpK c (blockProg arg7 arg8 arg9 arg11 arg12 arg13 arg15 v191 s hs u oR hR oY hY hP) Q) := by
  iintro ⟨HL, HA, HB, HX, HW, HS, HY⟩ Hk
  unfold blockProg wpK
  iapply (wp_ld_bind Variants.none (c.tc : Thread nD τ) none) $$ HW
  iintro HW
  iapply (wp_ld_bind Variants.none (c.tc : Thread nD τ) none) $$ HX
  iintro HX
  iapply (wp_ld_bind Variants.none (c.tc : Thread nD τ) none) $$ HS
  iintro HS
  iapply (wp_st_bind Variants.none (c.tc : Thread nD τ) none) $$ HS
  iintro HS
  iapply (wp_ld_bind Variants.none (c.tc : Thread nD τ) none) $$ HX
  iintro HX
  iapply (wp_ld_bind Variants.none (c.tc : Thread nD τ) none) $$ HS
  iintro HS
  iapply (wp_st_bind Variants.none (c.tc : Thread nD τ) none) $$ HS
  iintro HS
  iapply (wp_ld_bind Variants.none (c.tc : Thread nD τ) none) $$ HX
  iintro HX
  iapply (wp_ld_bind Variants.none (c.tc : Thread nD τ) none) $$ HS
  iintro HS
  iapply (wp_st_bind Variants.none (c.tc : Thread nD τ) none) $$ HS
  iintro HS
  rw [wp_bind]
  iapply (wp_qLoop arg7 arg8 arg9 arg13 c hs u steps accZero L RA RB d13 _ _ _ _) $$ [HL HA HB HS]
  · isplitl [HL]; · iexact HL
    isplitl [HA]; · iexact HA
    isplitl [HB]; · iexact HB
    iexact HS
  iintro ⟨HL, HA, HB, HS⟩
  iapply (wp_ld_bind Variants.none (c.tc : Thread nD τ) none) $$ HY
  iintro HY
  iapply (wp_st_last Variants.none (c.tc : Thread nD τ) none) $$ HY
  iintro HY
  iapply Hk
  isplitl [HL]; · iexact HL
  isplitl [HA]; · iexact HA
  isplitl [HB]; · iexact HB
  isplitl [HX]; · iexact HX
  isplitl [HW]; · iexact HW
  isplitl [HS]; · iexists _; iexact HS
  iexact HY

end Cert.Proof.Kernel
-- ==== Proof.Copy.lean ====
/- A local copy between two memrefs, each owned at given contents: its start and its wait. -/
module

public import Idealize.ShloMosaic.Lib.Tactic
public import Idealize.ShloMosaic.Lib.Memref
public import Idealize.ShloMosaic.Lib.Transfers
public import Idealize.ShloMosaic.Lib.Exec.Geometry
public import Idealize.ShloMosaic.Lib.Pipeline.Value
public import Idealize.ShloMosaic.Lib.Pipeline.Routed

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Λ : Labels} {defs : Defs nD τ sig Val Λ} {α : Type}

local notation "𝕄" => MT nD τ sig Unit Val ℕ (Pipeline.UC sig nD τ) ℕ

variable (𝒱 : Variants) (c : Thread nD τ) (bd : Option 𝒱.V) {s : Shape} {e : EltTy}
  {Q : α → sProp (MT nD τ sig Unit Val ℕ (Pipeline.UC sig nD τ) ℕ)}

/-- A copy of contents `X` from `src` to `dst` on its way, signalled on the semaphore `sm`. -/
def copying {sp sp' : Space} (src : Memref sig c.2.kind sp s e) (dst : Memref sig c.2.kind sp' s e) (sm : DmaSem sig) (X : s.Idx → Val e) :
    sProp (MT nD τ sig Unit Val ℕ (Pipeline.UC sig nD τ) ℕ) :=
  iprop(∃ fs fd, ⌜src.view.read Val fs = X⌝ ∗ Transfers.Flight (countersEmb (U := Pipeline.UC sig nD τ)) c (.dma sm) () dst.view.dmaCredit
    iprop((dst.view.loc c ↦[dst.view.set]{fullShare} (dst.view.write Val fd (ReadAs.same.apply (src.view.read Val fs)) Finset.univ))
      ∗ (src.view.loc c ↦[src.view.set]{fullShare} fs)))

theorem wp_copy_start {sp sp' : Space} {src : Memref sig c.2.kind sp s e} {dst : Memref sig c.2.kind sp' s e} {sm : DmaSem sig}
    {hsrc : src.view.WordExact} {hdst : dst.view.WordExact} {hsem : DmaTarget.Typed (nD := nD) (τ := τ) (p := c.2) sp (.dma sm) (.here dst)}
    {k : PUnit → Prog (TpuEff nD τ sig Val Λ c.2) α} {X : s.Idx → Val e} (hpos : 0 < s.numel) :
    iprop(owns c src fullShare X ∗ (∃ d, owns c dst fullShare d) ∗ semVal (c, .dma sm) 0 : sProp (MT nD τ sig Unit Val ℕ (Pipeline.UC sig nD τ) ℕ))
      ⊢ iprop((copying c src dst sm X -∗ wp frame (wpE defs 𝒱 c bd) Set.univ (k ⟨⟩) Q)
        -∗ wp frame (wpE defs 𝒱 c bd) Set.univ (Prog.lift (TpuEff.enqueueDma src (.here dst) (.dma sm) hsrc hdst hsem) >>= k) Q) := by
  unfold owns
  iintro ⟨⟨%fs, %hfs, Hs⟩, ⟨%d, %fd, %hfd, Hd⟩, Hv⟩ Hk
  iapply (Transfers.wp_dmaLocal (countersEmb (U := Pipeline.UC sig nD τ)) 𝒱 c bd (src := src) (via := .same) (dst := dst) (sm := .dma sm) (hsrc := hsrc) (hdst := hdst) (hsem := hsem)
      (k := k) (q := fullShare) (fs := fs) (fd := fd) (Sd := dst.view.set) () dst.view.dmaCredit rfl (View.dmaCredit_pos _ hpos) (Finset.Subset.refl _)) $$ [Hs Hd Hv]
  · isplitl [Hs]; · iexact Hs
    isplitl [Hd]; · iexact Hd
    iexact Hv
  iintro Hf
  iapply Hk
  unfold copying
  iexists fs, fd
  isplitr; · ipureintro; exact hfs
  iexact Hf

theorem wp_copy_wait {sp sp' sp'' : Space} {src : Memref sig c.2.kind sp s e} {dst : Memref sig c.2.kind sp' s e} {sm : DmaSem sig}
    {srcw : Memref sig c.2.kind sp'' s e}
    {hsrc : srcw.view.WordExact} {hdst : dst.view.WordExact}
    {k : PUnit → Prog (TpuEff nD τ sig Val Λ c.2) α} {X : s.Idx → Val e} :
    iprop(copying c src dst sm X ∗ (∃ W, owes c 0 W) : sProp (MT nD τ sig Unit Val ℕ (Pipeline.UC sig nD τ) ℕ))
      ⊢ iprop((owns c src fullShare X ∗ owns c dst fullShare X ∗ semVal (c, .dma sm) 0 ∗ (∃ W, owes c 0 W) -∗ wp frame (wpE defs 𝒱 c bd) Set.univ (k ⟨⟩) Q)
        -∗ wp frame (wpE defs 𝒱 c bd) Set.univ (Prog.lift (TpuEff.waitDma2 sm srcw dst hsrc hdst) >>= k) Q) := by
  unfold copying owns
  iintro ⟨⟨%fs, %fd, %hX, Hf⟩, ⟨%W, HW⟩⟩ Hk
  iapply (Transfers.wp_waitLocal (countersEmb (U := Pipeline.UC sig nD τ)) 𝒱 c bd (sem := sm) (srcw := srcw) (dstw := dst) (hsrc := hsrc) (hdst := hdst)
      (k := k) () (N := dst.view.dmaCredit) rfl (W := W)) $$ [Hf HW]
  · isplitl [Hf]; · iexact Hf
    iexact HW
  iintro ⟨⟨Hd, Hs⟩, Hv, Ho⟩
  iapply Hk
  isplitl [Hs]; · iexists fs; isplitr; · ipureintro; exact hX
                  iexact Hs
  isplitl [Hd]; · iexists _; isplitr; swap; · iexact Hd
                  ipureintro; rw [View.read_write_univ]; exact hX
  isplitl [Hv]; · iexact Hv
  iexists _; iexact Ho

/-- A memref owned is its squeeze owned at the contents cast, -/
theorem owns_squeeze {sp : Space} {s' : Shape} (m : Memref sig c.2.kind sp s e) (hq : s.Squeezes s') (hc : s.ShapeCasts s') (q : PosShare TreeShare)
    (d : s.Idx → Val e) : (owns c m q d : sProp (MT nD τ sig Unit Val ℕ (Pipeline.UC sig nD τ) ℕ)) ⊢ owns c (m.squeeze s' hq) q (shapeCast s' d hc) := by
  unfold owns
  rw [Memref.set_view_squeeze]
  iintro ⟨%f, %hf, H⟩
  iexists f
  isplitr
  · ipureintro; subst hf; rfl
  iexact H

/-- and back. -/
theorem owns_unsqueeze {sp : Space} {s' : Shape} (m : Memref sig c.2.kind sp s e) (hq : s.Squeezes s') (hc : s'.ShapeCasts s) (q : PosShare TreeShare)
    (d : s'.Idx → Val e) : (owns c (m.squeeze s' hq) q d : sProp (MT nD τ sig Unit Val ℕ (Pipeline.UC sig nD τ) ℕ)) ⊢ owns c m q (shapeCast s d hc) := by
  unfold owns
  rw [Memref.set_view_squeeze]
  iintro ⟨%f, %hf, H⟩
  iexists f
  isplitr
  · ipureintro; subst hf
    exact (shapeCast_shapeCast (m.view.read Val f) hc.symm hc).symm
  iexact H

end Cert.Proof
-- ==== Proof.Offs.lean ====
/- The offsets of the loop over the blocks, as numbers. -/
module

public import proofs.«01_k».proof.Proof.Block

@[expose] public section

namespace Cert.Proof.Kernel

open Idealize.ShloMosaic
open Cert.Kernel Cert.Kernel.Gen Cert.Proof

theorem trips1 : k0_t1_loop.trips = 20 := by decide
theorem trips2 : k0_t2_loop.trips = 17 := by decide

theorem off_slot (k : Fin k0_t2_loop.trips) (u : Fin 4) : tripSlot k (BitVec.ofNat 32 u.val) = (4 * k.val + u.val) % 24 := by
  revert k u; decide +kernel
theorem off10 (k : Fin k0_t2_loop.trips) (u : Fin 4) : k0_off10 k (BitVec.ofNat 32 u.val) = ![(4 * k.val + u.val) % 24] := by
  revert k u; decide +kernel
theorem off11 (k : Fin k0_t2_loop.trips) (u : Fin 4) : k0_off11 k (BitVec.ofNat 32 u.val) = ![(4 * k.val + u.val) % 24, 0, 0] := by
  revert k u; decide +kernel
theorem off12 (k : Fin k0_t2_loop.trips) (u : Fin 4) : k0_off12 k (BitVec.ofNat 32 u.val) = ![128 * (4 * k.val + u.val), 0] := by
  revert k u; decide +kernel
theorem off13 (k : Fin k0_t2_loop.trips) (u : Fin 4) : k0_off13 k (BitVec.ofNat 32 u.val) = ![4 * k.val + u.val, 0] := by
  revert k u; decide +kernel
theorem off94 (k : Fin k0_t2_loop.trips) (u : Fin 4) : k0_off94 k (BitVec.ofNat 32 u.val) = ![0, 128 * (4 * k.val + u.val)] := by
  revert k u; decide +kernel

theorem off_next1 (k : Fin k0_t2_loop.trips) : (k0_cond1 k = 1#1 ↔ 4 * k.val + 24 < 71) ∧ k0_off95 k = ![(4 * k.val + 24) % 24]
    ∧ k0_off96 k = ![(4 * k.val + 24) % 24, 0, 0] ∧ k0_off97 k = ![128 * (4 * k.val + 24), 0] := by
  revert k; decide +kernel
theorem off_next2 (k : Fin k0_t2_loop.trips) : (k0_cond2 k = 1#1 ↔ 4 * k.val + 25 < 71) ∧ k0_off98 k = ![(4 * k.val + 25) % 24]
    ∧ k0_off99 k = ![(4 * k.val + 25) % 24, 0, 0] ∧ k0_off100 k = ![128 * (4 * k.val + 25), 0] := by
  revert k; decide +kernel
theorem off_next3 (k : Fin k0_t2_loop.trips) : (k0_cond3 k = 1#1 ↔ 4 * k.val + 26 < 71) ∧ k0_off101 k = ![(4 * k.val + 26) % 24]
    ∧ k0_off102 k = ![(4 * k.val + 26) % 24, 0, 0] ∧ k0_off103 k = ![128 * (4 * k.val + 26), 0] := by
  revert k; decide +kernel
theorem off_next4 (k : Fin k0_t2_loop.trips) : (k0_cond4 k = 1#1 ↔ 4 * k.val + 27 < 71) ∧ k0_off104 k = ![(4 * k.val + 27) % 24]
    ∧ k0_off105 k = ![(4 * k.val + 27) % 24, 0, 0] ∧ k0_off106 k = ![128 * (4 * k.val + 27), 0] := by
  revert k; decide +kernel

theorem off1 (b : Fin 71) : k0_off1 (BitVec.ofNat 32 b.val) = ![b.val % 24] := by
  revert b; decide +kernel
theorem off2 (b : Fin 71) : k0_off2 (BitVec.ofNat 32 b.val) = ![b.val % 24, 0, 0] := by
  revert b; decide +kernel

theorem off3 (k : Fin k0_t1_loop.trips) (j : Fin 4) : k0_off3 k (BitVec.ofNat 32 (20 * j.val)) = ![0, 128 * (k.val + 20 * j.val)] := by
  revert k j; decide +kernel
theorem off4 (k : Fin k0_t1_loop.trips) (j : Fin 4) : k0_off4 k (BitVec.ofNat 32 (32 * j.val)) = ![32 * j.val + k.val, 0] := by
  revert k j; decide +kernel
theorem off5 (k : Fin k0_t1_loop.trips) (j : Fin 4) : k0_off5 k (BitVec.ofNat 32 (20 * j.val)) = ![0, 128 * (k.val + 20 * j.val)] := by
  revert k j; decide +kernel
theorem off6 (k : Fin k0_t1_loop.trips) : k0_off6 k = ![k.val, 0, 0] := by revert k; decide +kernel
theorem off7 (k : Fin k0_t1_loop.trips) : k0_off7 k = ![k.val, 0, 128] := by revert k; decide +kernel
theorem off8 (k : Fin k0_t1_loop.trips) : k0_off8 k = ![k.val, 128, 0] := by revert k; decide +kernel
theorem off9 (k : Fin k0_t1_loop.trips) : k0_off9 k = ![k.val, 128, 128] := by revert k; decide +kernel

end Cert.Proof.Kernel
-- ==== Proof.Ring.lean ====
/- The ring of weight blocks: what is held of block and slot at each moment, and the trip that awaits four blocks, computes them
   and starts four more. -/
module

public import proofs.«01_k».proof.Proof.Block
public import proofs.«01_k».proof.Proof.Copy
public import proofs.«01_k».proof.Proof.Offs

@[expose] public section

set_option synthInstance.maxSize 4096

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof

variable {F : FTy → Type} [FloatOps F]

theorem bigSep_Ico_head {M : Type} [URA M] {a b : ℕ} (h : a < b) (Φ : ℕ → sProp M) :
    BI.bigSep (Finset.Ico a b) Φ = iprop(Φ a ∗ BI.bigSep (Finset.Ico (a + 1) b) Φ) := by
  have e : Finset.Ico a b = insert a (Finset.Ico (a + 1) b) := by ext x; simp; omega
  rw [e]; exact BI.bigSep_insert (by simp)

theorem bigSep_Ico_last {M : Type} [URA M] {a b : ℕ} (h : a ≤ b) (Φ : ℕ → sProp M) :
    BI.bigSep (Finset.Ico a (b + 1)) Φ = iprop(Φ b ∗ BI.bigSep (Finset.Ico a b) Φ) := by
  have e : Finset.Ico a (b + 1) = insert b (Finset.Ico a b) := by ext x; simp; omega
  rw [e]; exact BI.bigSep_insert (by simp)

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)

/-! ## Offsets -/

theorem src_inb {b : ℕ} (h : b < 71) (a : Fin 2) : (![128 * b, 0] : Fin 2 → ℕ) a + S128x10240.size a ≤ S9088x10240.size a := by
  fin_cases a <;> simp [S128x10240, S9088x10240]; omega
theorem sem_inb {s : ℕ} (h : s < 24) (a : Fin 1) : (![s] : Fin 1 → ℕ) a + S1.size a ≤ S24.size a := by
  fin_cases a; simp [S1, S24]; omega
theorem row_inb {b : ℕ} (h : b < 71) (a : Fin 2) : (![b, 0] : Fin 2 → ℕ) a + S1x128.size a ≤ S72x128.size a := by
  fin_cases a <;> simp [S1x128, S72x128]; omega
theorem mod_lt (b : ℕ) : b % 24 < 24 := Nat.mod_lt _ (by decide)

/-! ## The blocks -/

variable (c : Dev nD) (Wt : Vec F S9088x10240 .fp8e4m3)

/-- Block `b` of 128 weight rows. -/
def wBlk (b : ℕ) (h : b < 71) : Vec F S128x10240 .fp8e4m3 := View.ld Wt (Rect.unit (s := S9088x10240) ![128 * b, 0] S128x10240.size (src_inb h))

/-- The block as a slot of the ring holds it. -/
def wL (b : ℕ) (h : b < 71) : Vec F S1x128x10240 .fp8e4m3 := shapeCast S1x128x10240 (wBlk Wt b h) (by decide)

/-- The rows of block `b`, where there are such. -/
def home (b : ℕ) : sProp (MT nD τ sig Unit (Elt F) ℕ (Pipeline.UC sig nD τ) ℕ) :=
  if h : b < 71 then own c (wSrc arg1 ![128 * b, 0] (src_inb h)) (wBlk Wt b h) else iprop(emp)

/-- Block `b` on its way. -/
def flight (b : ℕ) (h : b < 71) : sProp (MT nD τ sig Unit (Elt F) ℕ (Pipeline.UC sig nD τ) ℕ) :=
  copying (c.tc : Thread nD τ) (wSrc arg1 ![128 * b, 0] (src_inb h)) (wDst arg7 ![b % 24, 0, 0] (slot_inb (mod_lt b)))
    (wSem arg16 ![b % 24] (sem_inb (mod_lt b))).sem (wBlk Wt b h)

/-- Slot `s` at rest. -/
def freeSlot (s : ℕ) : sProp (MT nD τ sig Unit (Elt F) ℕ (Pipeline.UC sig nD τ) ℕ) :=
  if h : s < 24 then iprop((∃ d, own c (wDst arg7 ![s, 0, 0] (slot_inb h)) d)
    ∗ semVal ((c.tc : Thread nD τ), .dma (wSem arg16 ![s] (sem_inb h)).sem) 0) else iprop(emp)

/-- Slot `b % 24` once block `b` has been sent for. -/
def sent (b : ℕ) : sProp (MT nD τ sig Unit (Elt F) ℕ (Pipeline.UC sig nD τ) ℕ) :=
  if h : b < 71 then flight arg1 arg7 arg16 c Wt b h else freeSlot arg7 arg16 c (b % 24)

/-- The ring with `n` blocks done. -/
def ring (n : ℕ) : sProp (MT nD τ sig Unit (Elt F) ℕ (Pipeline.UC sig nD τ) ℕ) :=
  iprop(BI.bigSep (Finset.Ico 0 n) (home arg1 c Wt) ∗ BI.bigSep (Finset.Ico n (n + 24)) (sent arg1 arg7 arg16 c Wt)
    ∗ BI.bigSep (Finset.Ico (n + 24) 95) (home arg1 c Wt))

theorem wp_wStart {α : Type} {b : ℕ} (hb : b < 71) {oS : Fin 1 → ℕ} {hS : ∀ a, oS a + S1.size a ≤ S24.size a} {oD : Fin 3 → ℕ}
    {hD : ∀ a, oD a + S1x128x10240.size a ≤ S24x128x10240.size a} {oW : Fin 2 → ℕ} {hW : ∀ a, oW a + S128x10240.size a ≤ S9088x10240.size a}
    (eS : oS = ![b % 24]) (eD : oD = ![b % 24, 0, 0]) (eW : oW = ![128 * b, 0])
    {h1 : (wSrc arg1 oW hW).view.WordExact} {h2 : (wDst arg7 oD hD).view.WordExact}
    {h3 : DmaTarget.Typed (nD := nD) (τ := τ) (p := Proc.tc) .hbm (.dma (wSem arg16 oS hS).sem) (.here (wDst arg7 oD hD))}
    (k : PUnit → Prog (TpuEff nD τ sig (Elt F) Λ₀ .tc) α) (Q : α → sProp (MT nD τ sig Unit (Elt F) ℕ (Pipeline.UC sig nD τ) ℕ)) :
    iprop(home arg1 c Wt b ∗ freeSlot arg7 arg16 c (b % 24))
      ⊢ iprop((sent arg1 arg7 arg16 c Wt b -∗ wpK c (k ⟨⟩) Q)
        -∗ wpK c (Prog.lift (.enqueueDma (wSrc arg1 oW hW) (.here (wDst arg7 oD hD)) (.dma (wSem arg16 oS hS).sem) h1 h2 h3) >>= k) Q) := by
  subst eS eD eW
  unfold home freeSlot sent
  rw [dif_pos hb, dif_pos (mod_lt b), dif_pos hb]
  unfold flight
  iintro ⟨Hs, Hd, Hv⟩ Hk
  iapply (wp_copy_start Variants.none (c.tc : Thread nD τ) none (by decide)) $$ [Hs Hd Hv]
  · isplitl [Hs]; · iexact Hs
    isplitl [Hd]; · iexact Hd
    iexact Hv
  iexact Hk

/-- A start made under its condition. -/
theorem wp_wRefill {α : Type} {b : ℕ} {cond : BitVec 1} (hc : cond = 1#1 ↔ b < 71) {oS : Fin 1 → ℕ}
    {hS : cond = 1#1 → ∀ a, oS a + S1.size a ≤ S24.size a} {oD : Fin 3 → ℕ}
    {hD : cond = 1#1 → ∀ a, oD a + S1x128x10240.size a ≤ S24x128x10240.size a} {oW : Fin 2 → ℕ}
    {hW : cond = 1#1 → ∀ a, oW a + S128x10240.size a ≤ S9088x10240.size a}
    (eS : oS = ![b % 24]) (eD : oD = ![b % 24, 0, 0]) (eW : oW = ![128 * b, 0])
    {h1 : ∀ h, (wSrc arg1 oW (hW h)).view.WordExact} {h2 : ∀ h, (wDst arg7 oD (hD h)).view.WordExact}
    {h3 : ∀ h, DmaTarget.Typed (nD := nD) (τ := τ) (p := Proc.tc) .hbm (.dma (wSem arg16 oS (hS h)).sem) (.here (wDst arg7 oD (hD h)))}
    (k : PUnit → Prog (TpuEff nD τ sig (Elt F) Λ₀ .tc) α) (Q : α → sProp (MT nD τ sig Unit (Elt F) ℕ (Pipeline.UC sig nD τ) ℕ)) :
    iprop(home arg1 c Wt b ∗ freeSlot arg7 arg16 c (b % 24))
      ⊢ iprop((sent arg1 arg7 arg16 c Wt b -∗ wpK c (k ⟨⟩) Q)
        -∗ wpK c ((if h : cond = 1#1 then (do
            Prog.lift (.enqueueDma (wSrc arg1 oW (hW h)) (.here (wDst arg7 oD (hD h))) (.dma (wSem arg16 oS (hS h)).sem) (h1 h) (h2 h) (h3 h))
            pure ⟨⟩)
          else (do
            pure ⟨⟩ : Prog (TpuEff nD τ sig (Elt F) Λ₀ .tc) PUnit)) >>= k) Q) := by
  by_cases h : cond = 1#1
  · rw [dif_pos h, bind_assoc]
    simp only [pure_bind]
    exact wp_wStart arg1 arg7 arg16 c Wt (hc.mp h) eS eD eW k Q
  · rw [dif_neg h]
    have hb : ¬ b < 71 := fun hb => h (hc.mpr hb)
    unfold home sent
    rw [dif_neg hb, dif_neg hb, pure_bind]
    iintro ⟨He, Hf⟩ Hk
    iapply Hk
    iexact Hf

theorem wp_wWait {α : Type} {b : ℕ} (hb : b < 71) {oS : Fin 1 → ℕ} {hS : ∀ a, oS a + S1.size a ≤ S24.size a} {oD : Fin 3 → ℕ}
    {hD : ∀ a, oD a + S1x128x10240.size a ≤ S24x128x10240.size a} {oW : Fin 2 → ℕ} {hW : ∀ a, oW a + S128x10240.size a ≤ S9088x10240.size a}
    (eS : oS = ![b % 24]) (eD : oD = ![b % 24, 0, 0])
    {h1 : (wSrc arg1 oW hW).view.WordExact} {h2 : (wDst arg7 oD hD).view.WordExact}
    (k : PUnit → Prog (TpuEff nD τ sig (Elt F) Λ₀ .tc) α) (Q : α → sProp (MT nD τ sig Unit (Elt F) ℕ (Pipeline.UC sig nD τ) ℕ)) :
    iprop(sent arg1 arg7 arg16 c Wt b ∗ (∃ W, owes (c.tc : Thread nD τ) 0 W))
      ⊢ iprop((iprop(home arg1 c Wt b ∗ own c (slotM arg7 ![b % 24, 0, 0] (slot_inb (mod_lt b))) (wL Wt b hb)
          ∗ semVal ((c.tc : Thread nD τ), .dma (wSem arg16 ![b % 24] (sem_inb (mod_lt b))).sem) 0
          ∗ (∃ W, owes (c.tc : Thread nD τ) 0 W)) -∗ wpK c (k ⟨⟩) Q)
        -∗ wpK c (Prog.lift (.waitDma2 (wSem arg16 oS hS).sem (wSrc arg1 oW hW) (wDst arg7 oD hD) h1 h2) >>= k) Q) := by
  subst eS eD
  unfold home sent
  rw [dif_pos hb, dif_pos hb]
  unfold flight
  iintro H Hk
  iapply (wp_copy_wait Variants.none (c.tc : Thread nD τ) none) $$ H
  iintro ⟨Hs, Hd, Hv, Ho⟩
  iapply Hk
  isplitl [Hs]; · iexact Hs
  isplitl [Hd]
  · iapply (owns_unsqueeze (c.tc : Thread nD τ) (slotM arg7 ![b % 24, 0, 0] (slot_inb (mod_lt b))) squeezes_S1x128x10240_S128x10240 (by decide)) $$ Hd
  isplitl [Hv]; · iexact Hv
  iexact Ho

/-! ## The result -/

variable (v191 : IVec S24x128 32) (RA RB : Vec F S20x256x256 .fp8e4m3) (XS : Vec F S3x24x128 .f32) (WS : Vec F S72x128 .f32)

/-- The result's columns of block `b`. -/
def yTile (b : ℕ) (h : b < 71) : FVec F S96x128 .bf16 :=
  blockVal v191 (wL Wt b h) RA RB XS (View.ld WS (Rect.unit (s := S72x128) ![b, 0] S1x128.size (row_inb h)))

theorem col_lt (i : S96x9088.Idx) : (i 1).val / 128 < 71 := by
  have : (i 1).val < 9088 := (i 1).isLt
  omega

/-- The whole result. -/
def yFull : Vec F S96x9088 .bf16 := fun i =>
  yTile Wt v191 RA RB XS WS ((i 1).val / 128) (col_lt i)
    (Fin.cons (i 0) (Fin.cons ⟨(i 1).val % 128, Nat.mod_lt _ (by decide)⟩ finZeroElim))

/-- The columns of `n` blocks are there. -/
def yDone (n : ℕ) (d : Vec F S96x9088 .bf16) : Prop := ∀ i : S96x9088.Idx, (i 1).val < 128 * n → d i = yFull Wt v191 RA RB XS WS i

theorem y_inb {b : ℕ} (h : b < 71) (a : Fin 2) : (![0, 128 * b] : Fin 2 → ℕ) a + S96x128.size a ≤ S96x9088.size a := by
  fin_cases a <;> simp [S96x128, S96x9088]; omega

theorem yDone_put {b : ℕ} (h : b < 71) (d : Vec F S96x9088 .bf16) (hd : yDone Wt v191 RA RB XS WS b d) :
    yDone Wt v191 RA RB XS WS (b + 1) (put d ![0, 128 * b] S96x128.size (y_inb h) (yTile Wt v191 RA RB XS WS b h)) := by
  intro i hi
  unfold put
  split
  · rename_i hw
    have h1 := hw 1
    simp [S96x128] at h1
    have hb : (i 1).val / 128 = b := by omega
    unfold yFull
    subst hb
    congr 1
    funext a
    apply Fin.ext
    fin_cases a
    · simp [Rect.unitLocal]
      rfl
    · show (i 1).val - 128 * ((i 1).val / 128) = (i 1).val % 128
      omega
  · rename_i hw
    refine hd i ?_
    by_contra hlt
    apply hw
    intro a
    fin_cases a
    · have : (i 0).val < 96 := (i 0).isLt
      simp [S96x128]; exact this
    · simp [S96x128]; omega

/-- What the blocks read, and what they write to. -/
def work (n : ℕ) : sProp (MT nD τ sig Unit (Elt F) ℕ (Pipeline.UC sig nD τ) ℕ) :=
  iprop(own c arg8 RA ∗ own c arg9 RB ∗ own c arg11 XS ∗ own c arg12 WS ∗ (∃ d, own c arg13 d)
    ∗ ∃ d, ⌜yDone Wt v191 RA RB XS WS n d⌝ ∗ own c arg15 d)

theorem wp_blockAt {α : Type} {b : ℕ} (hb : b < 71) {s : ℕ} (es : s = b % 24) (hs : s < 24) (u : Fin 4)
    {oR : Fin 2 → ℕ} (eR : oR = ![b, 0]) (hR : ∀ a, oR a + S1x128.size a ≤ S72x128.size a)
    {oY : Fin 2 → ℕ} (eY : oY = ![0, 128 * b]) (hY : ∀ a, oY a + S96x128.size a ≤ S96x9088.size a)
    (hP : (arg15.access (Rect.unit (s := S96x9088) oY S96x128.size hY)).Stores Finset.univ)
    (k : PUnit → Prog (TpuEff nD τ sig (Elt F) Λ₀ .tc) α) (Q : α → sProp (MT nD τ sig Unit (Elt F) ℕ (Pipeline.UC sig nD τ) ℕ)) :
    iprop(own c (slotM arg7 ![b % 24, 0, 0] (slot_inb (mod_lt b))) (wL Wt b hb)
        ∗ semVal ((c.tc : Thread nD τ), .dma (wSem arg16 ![b % 24] (sem_inb (mod_lt b))).sem) 0
        ∗ work arg8 arg9 arg11 arg12 arg13 arg15 c Wt v191 RA RB XS WS b)
      ⊢ iprop((iprop(freeSlot arg7 arg16 c (b % 24) ∗ work arg8 arg9 arg11 arg12 arg13 arg15 c Wt v191 RA RB XS WS (b + 1)) -∗ wpK c (k ⟨⟩) Q)
        -∗ wpK c (blockProg arg7 arg8 arg9 arg11 arg12 arg13 arg15 v191 s hs u oR hR oY hY hP >>= k) Q) := by
  subst es eR eY
  unfold work freeSlot
  rw [dif_pos (mod_lt b)]
  iintro ⟨HL, Hv, HA, HB, HX, HW, ⟨%d13, H13⟩, ⟨%d15, %hd, H15⟩⟩ Hk
  unfold wpK
  rw [wp_bind]
  iapply (wp_block arg7 arg8 arg9 arg11 arg12 arg13 arg15 c v191 hs u ![b, 0] hR ![0, 128 * b] hY hP (wL Wt b hb) RA RB XS WS d13 d15) $$ [HL HA HB HX HW H13 H15]
  · isplitl [HL]; · iexact HL
    isplitl [HA]; · iexact HA
    isplitl [HB]; · iexact HB
    isplitl [HX]; · iexact HX
    isplitl [HW]; · iexact HW
    isplitl [H13]; · iexact H13
    iexact H15
  iintro ⟨HL, HA, HB, HX, HW, H13, H15⟩
  iapply Hk
  isplitl [HL Hv]
  · isplitl [HL]
    · iexists _
      iapply (owns_squeeze (c.tc : Thread nD τ) (slotM arg7 ![b % 24, 0, 0] (slot_inb (mod_lt b))) squeezes_S1x128x10240_S128x10240 (by decide)) $$ HL
    iexact Hv
  isplitl [HA]; · iexact HA
  isplitl [HB]; · iexact HB
  isplitl [HX]; · iexact HX
  isplitl [HW]; · iexact HW
  isplitl [H13]; · iexact H13
  iexists _
  isplitr; swap; · iexact H15
  ipureintro
  exact yDone_put Wt v191 RA RB XS WS hb d15 hd

end Cert.Proof.Kernel
-- ==== Proof.RingTrip.lean ====
/- A trip of the ring, and what follows the last. -/
module

public import proofs.«01_k».proof.Proof.Ring

@[expose] public section

set_option synthInstance.maxSize 4096

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD) (Wt : Vec F S9088x10240 .fp8e4m3)
variable (v191 : IVec S24x128 32) (RA RB : Vec F S20x256x256 .fp8e4m3) (XS : Vec F S3x24x128 .f32) (WS : Vec F S72x128 .f32)

theorem ring_open (n : ℕ) (hn : n ≤ 67) : ring arg1 arg7 arg16 c Wt n = iprop(BI.bigSep (Finset.Ico 0 n) (home arg1 c Wt)
    ∗ (sent arg1 arg7 arg16 c Wt n ∗ sent arg1 arg7 arg16 c Wt (n + 1) ∗ sent arg1 arg7 arg16 c Wt (n + 2) ∗ sent arg1 arg7 arg16 c Wt (n + 3)
      ∗ BI.bigSep (Finset.Ico (n + 4) (n + 24)) (sent arg1 arg7 arg16 c Wt))
    ∗ (home arg1 c Wt (n + 24) ∗ home arg1 c Wt (n + 25) ∗ home arg1 c Wt (n + 26) ∗ home arg1 c Wt (n + 27)
      ∗ BI.bigSep (Finset.Ico (n + 28) 95) (home arg1 c Wt))) := by
  unfold ring
  rw [bigSep_Ico_head (show n < n + 24 by omega), bigSep_Ico_head (show n + 1 < n + 24 by omega), bigSep_Ico_head (show n + 1 + 1 < n + 24 by omega),
    bigSep_Ico_head (show n + 1 + 1 + 1 < n + 24 by omega), bigSep_Ico_head (show n + 24 < 95 by omega), bigSep_Ico_head (show n + 24 + 1 < 95 by omega),
    bigSep_Ico_head (show n + 24 + 1 + 1 < 95 by omega), bigSep_Ico_head (show n + 24 + 1 + 1 + 1 < 95 by omega)]

theorem ring_close (n : ℕ) : ring arg1 arg7 arg16 c Wt (n + 4) = iprop((home arg1 c Wt (n + 3) ∗ home arg1 c Wt (n + 2) ∗ home arg1 c Wt (n + 1)
      ∗ home arg1 c Wt n ∗ BI.bigSep (Finset.Ico 0 n) (home arg1 c Wt))
    ∗ (sent arg1 arg7 arg16 c Wt (n + 27) ∗ sent arg1 arg7 arg16 c Wt (n + 26) ∗ sent arg1 arg7 arg16 c Wt (n + 25) ∗ sent arg1 arg7 arg16 c Wt (n + 24)
      ∗ BI.bigSep (Finset.Ico (n + 4) (n + 24)) (sent arg1 arg7 arg16 c Wt))
    ∗ BI.bigSep (Finset.Ico (n + 28) 95) (home arg1 c Wt)) := by
  unfold ring
  rw [show n + 4 + 24 = n + 27 + 1 by omega, bigSep_Ico_last (show n + 4 ≤ n + 27 by omega), show n + 27 = n + 26 + 1 by omega,
    bigSep_Ico_last (show n + 4 ≤ n + 26 by omega), show n + 26 = n + 25 + 1 by omega, bigSep_Ico_last (show n + 4 ≤ n + 25 by omega),
    show n + 25 = n + 24 + 1 by omega, bigSep_Ico_last (show n + 4 ≤ n + 24 by omega)]
  rw [bigSep_Ico_last (show 0 ≤ n + 3 by omega), bigSep_Ico_last (show 0 ≤ n + 2 by omega), bigSep_Ico_last (show 0 ≤ n + 1 by omega), bigSep_Ico_last (show 0 ≤ n by omega)]

/-- What is held before block `n`. -/
def ringInv (n : ℕ) : sProp (MT nD τ sig Unit (Elt F) ℕ (Pipeline.UC sig nD τ) ℕ) :=
  iprop(ring arg1 arg7 arg16 c Wt n ∗ work arg8 arg9 arg11 arg12 arg13 arg15 c Wt v191 RA RB XS WS n ∗ ∃ W, owes (c.tc : Thread nD τ) 0 W)

theorem free_next (n m : ℕ) (h : m = n + 24) : freeSlot arg7 arg16 (F := F) c (n % 24) ⊢ freeSlot arg7 arg16 c (m % 24) := by
  subst h; rw [Nat.add_mod_right]

theorem wp_loopWait {α : Type} (k : Fin k0_t2_loop.trips) (u : Fin 4) {b : ℕ} (eb : b = 4 * k.val + u.val) (hb : b < 71)
    (kk : PUnit → Prog (TpuEff nD τ sig (Elt F) Λ₀ .tc) α) (Q : α → sProp (MT nD τ sig Unit (Elt F) ℕ (Pipeline.UC sig nD τ) ℕ)) :
    iprop(sent arg1 arg7 arg16 c Wt b ∗ (∃ W, owes (c.tc : Thread nD τ) 0 W))
      ⊢ iprop((iprop(home arg1 c Wt b ∗ own c (slotM arg7 ![b % 24, 0, 0] (slot_inb (mod_lt b))) (wL Wt b hb)
          ∗ semVal ((c.tc : Thread nD τ), .dma (wSem arg16 ![b % 24] (sem_inb (mod_lt b))).sem) 0
          ∗ (∃ W, owes (c.tc : Thread nD τ) 0 W)) -∗ wpK c (kk ⟨⟩) Q)
        -∗ wpK c (loopWait arg1 harg1 arg7 harg7 arg16 k u >>= kk) Q) := by
  subst eb
  exact wp_wWait arg1 arg7 arg16 c Wt hb (off10 k u) (off11 k u) kk Q

theorem wp_loopBlock {α : Type} (k : Fin k0_t2_loop.trips) (u : Fin 4) {b : ℕ} (eb : b = 4 * k.val + u.val) (hb : b < 71)
    (kk : PUnit → Prog (TpuEff nD τ sig (Elt F) Λ₀ .tc) α) (Q : α → sProp (MT nD τ sig Unit (Elt F) ℕ (Pipeline.UC sig nD τ) ℕ)) :
    iprop(own c (slotM arg7 ![b % 24, 0, 0] (slot_inb (mod_lt b))) (wL Wt b hb)
        ∗ semVal ((c.tc : Thread nD τ), .dma (wSem arg16 ![b % 24] (sem_inb (mod_lt b))).sem) 0
        ∗ work arg8 arg9 arg11 arg12 arg13 arg15 c Wt v191 RA RB XS WS b)
      ⊢ iprop((iprop(freeSlot arg7 arg16 c (b % 24) ∗ work arg8 arg9 arg11 arg12 arg13 arg15 c Wt v191 RA RB XS WS (b + 1)) -∗ wpK c (kk ⟨⟩) Q)
        -∗ wpK c (loopBlock arg7 arg8 arg9 arg11 arg12 arg13 arg15 harg15 v191 k u >>= kk) Q) := by
  subst eb
  exact wp_blockAt arg7 arg8 arg9 arg11 arg12 arg13 arg15 arg16 c Wt v191 RA RB XS WS hb (off_slot k u) (tripSlot_lt k u) u
    (off13 k u) (k0_off13_inb k u) (off94 k u) (k0_off94_inb k u) _ kk Q

theorem wp_refill1 {α : Type} (k : Fin k0_t2_loop.trips)
    (kk : PUnit → Prog (TpuEff nD τ sig (Elt F) Λ₀ .tc) α) (Q : α → sProp (MT nD τ sig Unit (Elt F) ℕ (Pipeline.UC sig nD τ) ℕ)) :
    iprop(home arg1 c Wt (4 * k.val + 24) ∗ freeSlot arg7 arg16 c ((4 * k.val + 24) % 24))
      ⊢ iprop((sent arg1 arg7 arg16 c Wt (4 * k.val + 24) -∗ wpK c (kk ⟨⟩) Q)
        -∗ wpK c (refill1 arg1 harg1 arg7 harg7 arg16 k >>= kk) Q) := by
  obtain ⟨hc, eS, eD, eW⟩ := off_next1 k
  unfold refill1
  by_cases h : k0_cond1 k = 1#1
  · rw [dif_pos h, bind_assoc]
    simp only [pure_bind]
    exact wp_wStart arg1 arg7 arg16 c Wt (hc.mp h) eS eD eW kk Q
  · rw [dif_neg h]
    have hb : ¬ 4 * k.val + 24 < 71 := fun hb => h (hc.mpr hb)
    unfold home sent
    rw [dif_neg hb, dif_neg hb, pure_bind]
    iintro ⟨He, Hf⟩ Hk
    iapply Hk
    iexact Hf

theorem wp_refill2 {α : Type} (k : Fin k0_t2_loop.trips)
    (kk : PUnit → Prog (TpuEff nD τ sig (Elt F) Λ₀ .tc) α) (Q : α → sProp (MT nD τ sig Unit (Elt F) ℕ (Pipeline.UC sig nD τ) ℕ)) :
    iprop(home arg1 c Wt (4 * k.val + 25) ∗ freeSlot arg7 arg16 c ((4 * k.val + 25) % 24))
      ⊢ iprop((sent arg1 arg7 arg16 c Wt (4 * k.val + 25) -∗ wpK c (kk ⟨⟩) Q)
        -∗ wpK c (refill2 arg1 harg1 arg7 harg7 arg16 k >>= kk) Q) := by
  obtain ⟨hc, eS, eD, eW⟩ := off_next2 k
  unfold refill2
  by_cases h : k0_cond2 k = 1#1
  · rw [dif_pos h, bind_assoc]
    simp only [pure_bind]
    exact wp_wStart arg1 arg7 arg16 c Wt (hc.mp h) eS eD eW kk Q
  · rw [dif_neg h]
    have hb : ¬ 4 * k.val + 25 < 71 := fun hb => h (hc.mpr hb)
    unfold home sent
    rw [dif_neg hb, dif_neg hb, pure_bind]
    iintro ⟨He, Hf⟩ Hk
    iapply Hk
    iexact Hf

theorem wp_refill3 {α : Type} (k : Fin k0_t2_loop.trips)
    (kk : PUnit → Prog (TpuEff nD τ sig (Elt F) Λ₀ .tc) α) (Q : α → sProp (MT nD τ sig Unit (Elt F) ℕ (Pipeline.UC sig nD τ) ℕ)) :
    iprop(home arg1 c Wt (4 * k.val + 26) ∗ freeSlot arg7 arg16 c ((4 * k.val + 26) % 24))
      ⊢ iprop((sent arg1 arg7 arg16 c Wt (4 * k.val + 26) -∗ wpK c (kk ⟨⟩) Q)
        -∗ wpK c (refill3 arg1 harg1 arg7 harg7 arg16 k >>= kk) Q) := by
  obtain ⟨hc, eS, eD, eW⟩ := off_next3 k
  unfold refill3
  by_cases h : k0_cond3 k = 1#1
  · rw [dif_pos h, bind_assoc]
    simp only [pure_bind]
    exact wp_wStart arg1 arg7 arg16 c Wt (hc.mp h) eS eD eW kk Q
  · rw [dif_neg h]
    have hb : ¬ 4 * k.val + 26 < 71 := fun hb => h (hc.mpr hb)
    unfold home sent
    rw [dif_neg hb, dif_neg hb, pure_bind]
    iintro ⟨He, Hf⟩ Hk
    iapply Hk
    iexact Hf

theorem wp_refill4 {α : Type} (k : Fin k0_t2_loop.trips)
    (kk : PUnit → Prog (TpuEff nD τ sig (Elt F) Λ₀ .tc) α) (Q : α → sProp (MT nD τ sig Unit (Elt F) ℕ (Pipeline.UC sig nD τ) ℕ)) :
    iprop(home arg1 c Wt (4 * k.val + 27) ∗ freeSlot arg7 arg16 c ((4 * k.val + 27) % 24))
      ⊢ iprop((sent arg1 arg7 arg16 c Wt (4 * k.val + 27) -∗ wpK c (kk ⟨⟩) Q)
        -∗ wpK c (refill4 arg1 harg1 arg7 harg7 arg16 k >>= kk) Q) := by
  obtain ⟨hc, eS, eD, eW⟩ := off_next4 k
  unfold refill4
  by_cases h : k0_cond4 k = 1#1
  · rw [dif_pos h, bind_assoc]
    simp only [pure_bind]
    exact wp_wStart arg1 arg7 arg16 c Wt (hc.mp h) eS eD eW kk Q
  · rw [dif_neg h]
    have hb : ¬ 4 * k.val + 27 < 71 := fun hb => h (hc.mpr hb)
    unfold home sent
    rw [dif_neg hb, dif_neg hb, pure_bind]
    iintro ⟨He, Hf⟩ Hk
    iapply Hk
    iexact Hf

set_option maxHeartbeats 4000000 in
theorem wp_trip (k : Fin k0_t2_loop.trips) :
    ringInv arg1 arg7 arg8 arg9 arg11 arg12 arg13 arg15 arg16 c Wt v191 RA RB XS WS (4 * k.val)
      ⊢ wpK c (trip arg1 harg1 arg7 harg7 arg8 arg9 arg11 arg12 arg13 arg15 harg15 arg16 v191 k)
          (fun _ => ringInv arg1 arg7 arg8 arg9 arg11 arg12 arg13 arg15 arg16 c Wt v191 RA RB XS WS (4 * (k.val + 1))) := by
  have hk : k.val < 17 := by have := k.isLt; have e := trips2; omega
  unfold ringInv
  rw [show 4 * (k.val + 1) = 4 * k.val + 4 by omega, ring_open _ _ _ _ _ (4 * k.val) (by omega), ring_close]
  unfold trip tripA
  simp only [bind_assoc]
  iintro ⟨⟨HD, ⟨S0, S1, S2, S3, HS⟩, ⟨N0, N1, N2, N3, HN⟩⟩, HW, HO⟩
  iapply (wp_loopWait arg1 harg1 arg7 harg7 arg16 c Wt k 0 (b := (4 * k.val)) rfl (by omega)) $$ [S0 HO]
  · isplitl [S0]; · iexact S0
    iexact HO
  iintro ⟨D0, L0, V0, HO⟩
  iapply (wp_loopWait arg1 harg1 arg7 harg7 arg16 c Wt k 1 (b := (4 * k.val + 1)) rfl (by omega)) $$ [S1 HO]
  · isplitl [S1]; · iexact S1
    iexact HO
  iintro ⟨D1, L1, V1, HO⟩
  iapply (wp_loopWait arg1 harg1 arg7 harg7 arg16 c Wt k 2 (b := (4 * k.val + 2)) rfl (by omega)) $$ [S2 HO]
  · isplitl [S2]; · iexact S2
    iexact HO
  iintro ⟨D2, L2, V2, HO⟩
  iapply (wp_loopWait arg1 harg1 arg7 harg7 arg16 c Wt k 3 (b := (4 * k.val + 3)) rfl (by omega)) $$ [S3 HO]
  · isplitl [S3]; · iexact S3
    iexact HO
  iintro ⟨D3, L3, V3, HO⟩
  iapply (wp_loopBlock arg7 arg8 arg9 arg11 arg12 arg13 arg15 harg15 arg16 c Wt v191 RA RB XS WS k 0 (b := (4 * k.val)) rfl (by omega)) $$ [L0 V0 HW]
  · isplitl [L0]; · iexact L0
    isplitl [V0]; · iexact V0
    iexact HW
  iintro ⟨F0, HW⟩
  iapply (wp_loopBlock arg7 arg8 arg9 arg11 arg12 arg13 arg15 harg15 arg16 c Wt v191 RA RB XS WS k 1 (b := (4 * k.val + 1)) rfl (by omega)) $$ [L1 V1 HW]
  · isplitl [L1]; · iexact L1
    isplitl [V1]; · iexact V1
    iexact HW
  iintro ⟨F1, HW⟩
  iapply (wp_loopBlock arg7 arg8 arg9 arg11 arg12 arg13 arg15 harg15 arg16 c Wt v191 RA RB XS WS k 2 (b := (4 * k.val + 2)) rfl (by omega)) $$ [L2 V2 HW]
  · isplitl [L2]; · iexact L2
    isplitl [V2]; · iexact V2
    iexact HW
  iintro ⟨F2, HW⟩
  iapply (wp_loopBlock arg7 arg8 arg9 arg11 arg12 arg13 arg15 harg15 arg16 c Wt v191 RA RB XS WS k 3 (b := (4 * k.val + 3)) rfl (by omega)) $$ [L3 V3 HW]
  · isplitl [L3]; · iexact L3
    isplitl [V3]; · iexact V3
    iexact HW
  iintro ⟨F3, HW⟩
  ihave F0' := (free_next arg7 arg16 c (4 * k.val) (4 * k.val + 24) (by omega)) $$ F0
  iapply (wp_refill1 arg1 harg1 arg7 harg7 arg16 c Wt k) $$ [N0 F0']
  · isplitl [N0]; · iexact N0
    iexact F0'
  iintro X0
  simp only [pure_bind]
  ihave F1' := (free_next arg7 arg16 c (4 * k.val + 1) (4 * k.val + 25) (by omega)) $$ F1
  iapply (wp_refill2 arg1 harg1 arg7 harg7 arg16 c Wt k) $$ [N1 F1']
  · isplitl [N1]; · iexact N1
    iexact F1'
  iintro X1
  ihave F2' := (free_next arg7 arg16 c (4 * k.val + 2) (4 * k.val + 26) (by omega)) $$ F2
  iapply (wp_refill3 arg1 harg1 arg7 harg7 arg16 c Wt k) $$ [N2 F2']
  · isplitl [N2]; · iexact N2
    iexact F2'
  iintro X2
  ihave F3' := (free_next arg7 arg16 c (4 * k.val + 3) (4 * k.val + 27) (by omega)) $$ F3
  iapply (wp_refill4 arg1 harg1 arg7 harg7 arg16 c Wt k) $$ [N3 F3']
  · isplitl [N3]; · iexact N3
    iexact F3'
  iintro X3
  unfold wpK
  rw [wp_pure]
  imodintro
  isplitl [D0 D1 D2 D3 HD X0 X1 X2 X3 HS HN]
  · isplitl [D0 D1 D2 D3 HD]
    · isplitl [D3]; · iexact D3
      isplitl [D2]; · iexact D2
      isplitl [D1]; · iexact D1
      isplitl [D0]; · iexact D0
      iexact HD
    isplitl [X0 X1 X2 X3 HS]
    · isplitl [X3]; · iexact X3
      isplitl [X2]; · iexact X2
      isplitl [X1]; · iexact X1
      isplitl [X0]; · iexact X0
      iexact HS
    iexact HN
  isplitl [HW]; · iexact HW
  iexact HO

end Cert.Proof.Kernel
-- ==== Proof.Fill.lean ====
/- The ring filled: the first 24 blocks sent for. -/
module

public import proofs.«01_k».proof.Proof.RingTrip

@[expose] public section

set_option synthInstance.maxSize 4096

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD) (Wt : Vec F S9088x10240 .fp8e4m3)

/-- The ring with its first `n` blocks sent for. -/
def filling (n : ℕ) : sProp (MT nD τ sig Unit (Elt F) ℕ (Pipeline.UC sig nD τ) ℕ) :=
  iprop(BI.bigSep (Finset.Ico 0 n) (sent arg1 arg7 arg16 c Wt) ∗ BI.bigSep (Finset.Ico n 24) (freeSlot arg7 arg16 (F := F) c)
    ∗ BI.bigSep (Finset.Ico n 95) (home arg1 c Wt))

theorem wp_fill {α : Type} {b : ℕ} (hb : b < 24) {oS : Fin 1 → ℕ} {hS : ∀ a, oS a + S1.size a ≤ S24.size a} {oD : Fin 3 → ℕ}
    {hD : ∀ a, oD a + S1x128x10240.size a ≤ S24x128x10240.size a} {oW : Fin 2 → ℕ} {hW : ∀ a, oW a + S128x10240.size a ≤ S9088x10240.size a}
    (eS : oS = ![b % 24]) (eD : oD = ![b % 24, 0, 0]) (eW : oW = ![128 * b, 0])
    {h1 : (wSrc arg1 oW hW).view.WordExact} {h2 : (wDst arg7 oD hD).view.WordExact}
    {h3 : DmaTarget.Typed (nD := nD) (τ := τ) (p := Proc.tc) .hbm (.dma (wSem arg16 oS hS).sem) (.here (wDst arg7 oD hD))}
    (k : PUnit → Prog (TpuEff nD τ sig (Elt F) Λ₀ .tc) α) (Q : α → sProp (MT nD τ sig Unit (Elt F) ℕ (Pipeline.UC sig nD τ) ℕ)) :
    filling arg1 arg7 arg16 c Wt b
      ⊢ iprop((filling arg1 arg7 arg16 c Wt (b + 1) -∗ wpK c (k ⟨⟩) Q)
        -∗ wpK c (Prog.lift (.enqueueDma (wSrc arg1 oW hW) (.here (wDst arg7 oD hD)) (.dma (wSem arg16 oS hS).sem) h1 h2 h3) >>= k) Q) := by
  unfold filling
  rw [bigSep_Ico_head (show b < 24 by omega), bigSep_Ico_head (show b < 95 by omega), bigSep_Ico_last (show 0 ≤ b by omega)]
  iintro ⟨HS, ⟨F, HF⟩, ⟨N, HN⟩⟩ Hk
  iapply (wp_wStart arg1 arg7 arg16 c Wt (b := b) (by omega) eS eD eW) $$ [F N]
  · isplitl [N]; · iexact N
    rw [Nat.mod_eq_of_lt hb]
    iexact F
  iintro S
  iapply Hk
  isplitl [S HS]
  · isplitl [S]; · iexact S
    iexact HS
  isplitl [HF]; · iexact HF
  iexact HN

theorem filled : filling arg1 arg7 arg16 c Wt 24 ⊢ ring arg1 arg7 arg16 c Wt 0 := by
  unfold filling ring
  iintro ⟨HS, HF, HN⟩
  isplitr
  · rw [Finset.Ico_self, BI.bigSep_empty]
    iempintro
  isplitl [HS]; · iexact HS
  iexact HN

set_option maxHeartbeats 1000000 in
theorem wp_part108 (X : Vec F S96x10240 .bf16) (Q : PUnit → sProp (MT nD τ sig Unit (Elt F) ℕ (Pipeline.UC sig nD τ) ℕ)) :
    iprop(filling arg1 arg7 arg16 c Wt 0 ∗ own c arg0 X ∗ (∃ d, own c (arg6.slice (Rect.unit (s := S128x10240) ![0, 0] S96x10240.size inb_S128x10240_S96x10240_0_0) (fun _ => rfl)) d) ∗ semVal ((c.tc : Thread nD τ), .dma arg17.sem) 0)
      ⊢ iprop((iprop(filling arg1 arg7 arg16 c Wt 4 ∗ copying (c.tc : Thread nD τ) arg0 (arg6.slice (Rect.unit (s := S128x10240) ![0, 0] S96x10240.size inb_S128x10240_S96x10240_0_0) (fun _ => rfl)) arg17.sem X) -∗ Q ⟨⟩)
        -∗ wpK c (k0_part108 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) Q) := by
  rw [k0_part108_eq_skeleton]
  unfold k0_part108_skel wpK
  dsimp only
  iintro ⟨HF, HX, HT, HV⟩ Hk
  iapply (wp_copy_start Variants.none (c.tc : Thread nD τ) none (by decide)) $$ [HX HT HV]
  · isplitl [HX]; · iexact HX
    isplitl [HT]; · iexact HT
    iexact HV
  iintro HC
  iapply (wp_fill arg1 arg7 arg16 c Wt (b := 0) (by omega) (off1 0) (off2 0) rfl) $$ HF
  iintro HF
  iapply (wp_fill arg1 arg7 arg16 c Wt (b := 1) (by omega) (off1 1) (off2 1) rfl) $$ HF
  iintro HF
  iapply (wp_fill arg1 arg7 arg16 c Wt (b := 2) (by omega) (off1 2) (off2 2) rfl) $$ HF
  iintro HF
  iapply (wp_fill arg1 arg7 arg16 c Wt (b := 3) (by omega) (off1 3) (off2 3) rfl) $$ HF
  iintro HF
  unfold wpK
  rw [wp_pure]
  imodintro
  iapply Hk
  isplitl [HF]; · iexact HF
  iexact HC

set_option maxHeartbeats 1000000 in
theorem wp_part109 (Q : PUnit → sProp (MT nD τ sig Unit (Elt F) ℕ (Pipeline.UC sig nD τ) ℕ)) :
    filling arg1 arg7 arg16 c Wt 4
      ⊢ iprop((filling arg1 arg7 arg16 c Wt 8 -∗ Q ⟨⟩) -∗ wpK c (k0_part109 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) Q) := by
  rw [k0_part109_eq_skeleton]
  unfold k0_part109_skel wpK
  dsimp only
  iintro HF Hk
  iapply (wp_fill arg1 arg7 arg16 c Wt (b := 4) (by omega) (off1 4) (off2 4) rfl) $$ HF
  iintro HF
  iapply (wp_fill arg1 arg7 arg16 c Wt (b := 5) (by omega) (off1 5) (off2 5) rfl) $$ HF
  iintro HF
  iapply (wp_fill arg1 arg7 arg16 c Wt (b := 6) (by omega) (off1 6) (off2 6) rfl) $$ HF
  iintro HF
  iapply (wp_fill arg1 arg7 arg16 c Wt (b := 7) (by omega) (off1 7) (off2 7) rfl) $$ HF
  iintro HF
  unfold wpK
  rw [wp_pure]
  imodintro
  iapply Hk
  iexact HF

set_option maxHeartbeats 1000000 in
theorem wp_part110 (Q : PUnit → sProp (MT nD τ sig Unit (Elt F) ℕ (Pipeline.UC sig nD τ) ℕ)) :
    filling arg1 arg7 arg16 c Wt 8
      ⊢ iprop((filling arg1 arg7 arg16 c Wt 13 -∗ Q ⟨⟩) -∗ wpK c (k0_part110 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) Q) := by
  rw [k0_part110_eq_skeleton]
  unfold k0_part110_skel wpK
  dsimp only
  iintro HF Hk
  iapply (wp_fill arg1 arg7 arg16 c Wt (b := 8) (by omega) (off1 8) (off2 8) rfl) $$ HF
  iintro HF
  iapply (wp_fill arg1 arg7 arg16 c Wt (b := 9) (by omega) (off1 9) (off2 9) rfl) $$ HF
  iintro HF
  iapply (wp_fill arg1 arg7 arg16 c Wt (b := 10) (by omega) (off1 10) (off2 10) rfl) $$ HF
  iintro HF
  iapply (wp_fill arg1 arg7 arg16 c Wt (b := 11) (by omega) (off1 11) (off2 11) rfl) $$ HF
  iintro HF
  iapply (wp_fill arg1 arg7 arg16 c Wt (b := 12) (by omega) (off1 12) (off2 12) rfl) $$ HF
  iintro HF
  unfold wpK
  rw [wp_pure]
  imodintro
  iapply Hk
  iexact HF

set_option maxHeartbeats 1000000 in
theorem wp_part111 (Q : (Σ' (c18_i32 : BitVec 32), BitVec 32) → sProp (MT nD τ sig Unit (Elt F) ℕ (Pipeline.UC sig nD τ) ℕ)) :
    filling arg1 arg7 arg16 c Wt 13
      ⊢ iprop((filling arg1 arg7 arg16 c Wt 18 -∗ Q ⟨18#32, 24#32⟩) -∗ wpK c (k0_part111 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) Q) := by
  rw [k0_part111_eq_skeleton]
  unfold k0_part111_skel wpK
  dsimp only
  iintro HF Hk
  iapply (wp_fill arg1 arg7 arg16 c Wt (b := 13) (by omega) (off1 13) (off2 13) rfl) $$ HF
  iintro HF
  iapply (wp_fill arg1 arg7 arg16 c Wt (b := 14) (by omega) (off1 14) (off2 14) rfl) $$ HF
  iintro HF
  iapply (wp_fill arg1 arg7 arg16 c Wt (b := 15) (by omega) (off1 15) (off2 15) rfl) $$ HF
  iintro HF
  iapply (wp_fill arg1 arg7 arg16 c Wt (b := 16) (by omega) (off1 16) (off2 16) rfl) $$ HF
  iintro HF
  iapply (wp_fill arg1 arg7 arg16 c Wt (b := 17) (by omega) (off1 17) (off2 17) rfl) $$ HF
  iintro HF
  unfold wpK
  rw [wp_pure]
  imodintro
  iapply Hk
  iexact HF

set_option maxHeartbeats 1000000 in
theorem wp_part112 (Q : PUnit → sProp (MT nD τ sig Unit (Elt F) ℕ (Pipeline.UC sig nD τ) ℕ)) :
    filling arg1 arg7 arg16 c Wt 18
      ⊢ iprop((filling arg1 arg7 arg16 c Wt 22 -∗ Q ⟨⟩) -∗ wpK c (k0_part112 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 18#32 24#32) Q) := by
  rw [k0_part112_eq_skeleton]
  unfold k0_part112_skel wpK
  dsimp only
  iintro HF Hk
  iapply (wp_fill arg1 arg7 arg16 c Wt (b := 18) (by omega) (off1 18) (off2 18) rfl) $$ HF
  iintro HF
  iapply (wp_fill arg1 arg7 arg16 c Wt (b := 19) (by omega) (off1 19) (off2 19) rfl) $$ HF
  iintro HF
  iapply (wp_fill arg1 arg7 arg16 c Wt (b := 20) (by omega) (off1 20) (off2 20) rfl) $$ HF
  iintro HF
  iapply (wp_fill arg1 arg7 arg16 c Wt (b := 21) (by omega) (off1 21) (off2 21) rfl) $$ HF
  iintro HF
  unfold wpK
  rw [wp_pure]
  imodintro
  iapply Hk
  iexact HF

end Cert.Proof.Kernel
-- ==== Proof.Tail.lean ====
/- What follows the loop over the blocks: the last three blocks, and the results' copies. -/
module

public import proofs.«01_k».proof.Proof.RingTrip

@[expose] public section

set_option synthInstance.maxSize 4096

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD) (Wt : Vec F S9088x10240 .fp8e4m3)
variable (v191 : IVec S24x128 32) (RA RB : Vec F S20x256x256 .fp8e4m3) (XS : Vec F S3x24x128 .f32) (WS : Vec F S72x128 .f32)

/-- The ring after its last block. -/
def ringEnd : sProp (MT nD τ sig Unit (Elt F) ℕ (Pipeline.UC sig nD τ) ℕ) :=
  iprop(BI.bigSep (Finset.Ico 0 71) (home arg1 c Wt) ∗ BI.bigSep (Finset.range 24) (freeSlot arg7 arg16 (F := F) c))

theorem sent_free {b : ℕ} (h : 71 ≤ b) : sent arg1 arg7 arg16 c Wt b = freeSlot arg7 arg16 c (b % 24) := by
  unfold sent; rw [dif_neg (by omega)]

theorem ring_end : iprop((home arg1 c Wt 70 ∗ home arg1 c Wt 69 ∗ home arg1 c Wt 68 ∗ BI.bigSep (Finset.Ico 0 68) (home arg1 c Wt))
    ∗ (freeSlot arg7 arg16 c (68 % 24) ∗ freeSlot arg7 arg16 c (69 % 24) ∗ freeSlot arg7 arg16 c (70 % 24)
      ∗ BI.bigSep (Finset.Ico 71 92) (sent arg1 arg7 arg16 c Wt))) ⊢ ringEnd arg1 arg7 arg16 c Wt := by
  unfold ringEnd
  have e : Finset.range 24 = (Finset.Ico 68 92).image (· % 24) := by decide
  have hinj : Set.InjOn (· % 24) ((Finset.Ico 68 92 : Finset ℕ) : Set ℕ) := by
    intro a ha b hb hab
    simp at ha hb hab; omega
  rw [e, BI.bigSep_image_of_injOn hinj, bigSep_Ico_last (show 0 ≤ 70 by omega), bigSep_Ico_last (show 0 ≤ 69 by omega), bigSep_Ico_last (show 0 ≤ 68 by omega),
    bigSep_Ico_head (show 68 < 92 by omega), bigSep_Ico_head (show 68 + 1 < 92 by omega), bigSep_Ico_head (show 68 + 1 + 1 < 92 by omega)]
  rw [BI.bigSep_congr (Ψ := fun b => freeSlot arg7 arg16 (F := F) c (b % 24)) (fun b hb => sent_free arg1 arg7 arg16 c Wt (by simp at hb; omega))]

theorem ring_last : ring arg1 arg7 arg16 c Wt 68 ⊢ iprop(BI.bigSep (Finset.Ico 0 68) (home arg1 c Wt)
    ∗ (sent arg1 arg7 arg16 c Wt 68 ∗ sent arg1 arg7 arg16 c Wt 69 ∗ sent arg1 arg7 arg16 c Wt 70
      ∗ BI.bigSep (Finset.Ico 71 92) (sent arg1 arg7 arg16 c Wt))) := by
  unfold ring
  rw [bigSep_Ico_head (show 68 < 68 + 24 by omega), bigSep_Ico_head (show 68 + 1 < 68 + 24 by omega), bigSep_Ico_head (show 68 + 1 + 1 < 68 + 24 by omega)]
  iintro ⟨HD, HS, He⟩
  isplitl [HD]; · iexact HD
  iexact HS

theorem yDone_all {d : Vec F S96x9088 .bf16} (h : yDone Wt v191 RA RB XS WS 71 d) : d = yFull Wt v191 RA RB XS WS := by
  funext i
  refine h i ?_
  have := (i 1).isLt
  change (i 1).val < 9088 at this
  omega

theorem off_tail (b : Fin 71) : tailSlot (BitVec.ofNat 32 b.val) = b.val % 24 := by
  revert b; decide +kernel

/-- What is held before the last three blocks: the codes' copy is on its way. -/
def tailPre (CD : Vec F S96x10240 .fp8e4m3) : sProp (MT nD τ sig Unit (Elt F) ℕ (Pipeline.UC sig nD τ) ℕ) :=
  iprop(ringInv arg1 arg7 arg8 arg9 arg11 arg12 arg13 arg15 arg16 c Wt v191 RA RB XS WS 68
    ∗ copying (c.tc : Thread nD τ) arg14 arg4 arg19.sem CD ∗ (∃ d, own c arg3 d) ∗ semVal ((c.tc : Thread nD τ), .dma arg18.sem) 0)

/-- What is held at the end. -/
def tailPost (CD : Vec F S96x10240 .fp8e4m3) : sProp (MT nD τ sig Unit (Elt F) ℕ (Pipeline.UC sig nD τ) ℕ) :=
  iprop(ringEnd arg1 arg7 arg16 c Wt ∗ (own c arg8 RA ∗ own c arg9 RB ∗ own c arg11 XS ∗ own c arg12 WS ∗ (∃ d, own c arg13 d))
    ∗ own c arg15 (yFull Wt v191 RA RB XS WS) ∗ own c arg3 (yFull Wt v191 RA RB XS WS) ∗ own c arg14 CD ∗ own c arg4 CD
    ∗ semVal ((c.tc : Thread nD τ), .dma arg18.sem) 0 ∗ semVal ((c.tc : Thread nD τ), .dma arg19.sem) 0
    ∗ ∃ W, owes (c.tc : Thread nD τ) 0 W)

set_option maxHeartbeats 4000000 in
theorem wp_tail (CD : Vec F S96x10240 .fp8e4m3) :
    tailPre arg1 arg3 arg4 arg7 arg8 arg9 arg11 arg12 arg13 arg14 arg15 arg16 arg18 arg19 c Wt v191 RA RB XS WS CD
      ⊢ wpK c (tail arg1 harg1 arg3 harg3 arg4 harg4 arg7 harg7 arg8 arg9 arg11 arg12 arg13 arg14 harg14 arg15 harg15 arg16 arg18 arg19 v191)
          (fun _ => tailPost arg1 arg3 arg4 arg7 arg8 arg9 arg11 arg12 arg13 arg14 arg15 arg16 arg18 arg19 c Wt v191 RA RB XS WS CD) := by
  unfold tailPre ringInv tail
  iintro ⟨⟨HR, HW, HO⟩, HC, H3, H18⟩
  ihave HR' := (ring_last arg1 arg7 arg16 c Wt) $$ HR
  icases HR' with ⟨HD, S0, S1, S2, HS⟩
  iapply (wp_wWait arg1 arg7 arg16 c Wt (b := 68) (by omega) (off1 68) (off2 68)) $$ [S0 HO]
  · isplitl [S0]; · iexact S0
    iexact HO
  iintro ⟨D0, L0, V0, HO⟩
  iapply (wp_wWait arg1 arg7 arg16 c Wt (b := 69) (by omega) (off1 69) (off2 69)) $$ [S1 HO]
  · isplitl [S1]; · iexact S1
    iexact HO
  iintro ⟨D1, L1, V1, HO⟩
  iapply (wp_wWait arg1 arg7 arg16 c Wt (b := 70) (by omega) (off1 70) (off2 70)) $$ [S2 HO]
  · isplitl [S2]; · iexact S2
    iexact HO
  iintro ⟨D2, L2, V2, HO⟩
  iapply (wp_blockAt arg7 arg8 arg9 arg11 arg12 arg13 arg15 arg16 c Wt v191 RA RB XS WS (b := 68) (by omega) (off_tail 68) (by decide) 0
    rfl inb_S72x128_S1x128_68_0 rfl inb_S96x9088_S96x128_0_8704) $$ [L0 V0 HW]
  · isplitl [L0]; · iexact L0
    isplitl [V0]; · iexact V0
    iexact HW
  iintro ⟨F0, HW⟩
  iapply (wp_blockAt arg7 arg8 arg9 arg11 arg12 arg13 arg15 arg16 c Wt v191 RA RB XS WS (b := 69) (by omega) (off_tail 69) (by decide) 1
    rfl inb_S72x128_S1x128_69_0 rfl inb_S96x9088_S96x128_0_8832) $$ [L1 V1 HW]
  · isplitl [L1]; · iexact L1
    isplitl [V1]; · iexact V1
    iexact HW
  iintro ⟨F1, HW⟩
  iapply (wp_blockAt arg7 arg8 arg9 arg11 arg12 arg13 arg15 arg16 c Wt v191 RA RB XS WS (b := 70) (by omega) (off_tail 70) (by decide) 2
    rfl inb_S72x128_S1x128_70_0 rfl inb_S96x9088_S96x128_0_8960) $$ [L2 V2 HW]
  · isplitl [L2]; · iexact L2
    isplitl [V2]; · iexact V2
    iexact HW
  iintro ⟨F2, HW⟩
  unfold work
  icases HW with ⟨HA, HB, HX, H12, H13, ⟨%d, %hd, H15⟩⟩
  obtain rfl := yDone_all Wt v191 RA RB XS WS hd
  unfold wpK
  iapply (wp_copy_start Variants.none (c.tc : Thread nD τ) none (by decide)) $$ [H15 H3 H18]
  · isplitl [H15]; · iexact H15
    isplitl [H3]; · iexact H3
    iexact H18
  iintro HY
  iapply (wp_copy_wait Variants.none (c.tc : Thread nD τ) none) $$ [HC HO]
  · isplitl [HC]; · iexact HC
    iexact HO
  iintro ⟨H14, H4, H19, HO⟩
  iapply (wp_copy_wait Variants.none (c.tc : Thread nD τ) none) $$ [HY HO]
  · isplitl [HY]; · iexact HY
    iexact HO
  iintro ⟨H15, H3, H18, HO⟩
  rw [wp_pure]
  imodintro
  unfold tailPost
  isplitl [D0 D1 D2 HD F0 F1 F2 HS]
  · iapply (ring_end arg1 arg7 arg16 c Wt)
    isplitl [D0 D1 D2 HD]
    · isplitl [D2]; · iexact D2
      isplitl [D1]; · iexact D1
      isplitl [D0]; · iexact D0
      iexact HD
    isplitl [F0]; · iexact F0
    isplitl [F1]; · iexact F1
    isplitl [F2]; · iexact F2
    iexact HS
  isplitl [HA HB HX H12 H13]
  · isplitl [HA]; · iexact HA
    isplitl [HB]; · iexact HB
    isplitl [HX]; · iexact HX
    isplitl [H12]; · iexact H12
    iexact H13
  isplitl [H15]; · iexact H15
  isplitl [H3]; · iexact H3
  isplitl [H14]; · iexact H14
  isplitl [H4]; · iexact H4
  isplitl [H18]; · iexact H18
  isplitl [H19]; · iexact H19
  iexact HO

end Cert.Proof.Kernel
-- ==== Proof.Quant.lean ====
/- The program of a trip of the quantiser's loop: four groups, each scaled, its codes stored, and its two halves laid out for the
   products. -/
module

public import proofs.«01_k».proof.Proof.Block

@[expose] public section

set_option synthInstance.maxSize 4096

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)

/-- The scales of a group, of its columns `v`. -/
def scRow (v : Vec F S128x128 .bf16) : FVec F S1x128 .f32 := k0_pay4 v

/-- The codes of a group. -/
def codeTile (v : Vec F S128x128 .bf16) : FVec F S96x128 .fp8e4m3 := k0_pay6 (k0_pay2 v) (k0_pay3 v)

/-- The two tiles a group `j` of a step gives the right-hand sides. -/
def quadTile (v145 : IVec S128x128 32) (v146 : FVec F S128x128 .fp8e4m3) (j : Fin 4) (t : Fin 2) (v : Vec F S128x128 .bf16) : FVec F S1x128x128 .fp8e4m3 :=
  match j, t with
  | 0, 0 => k0_pay7 (k0_pay2 v) (k0_pay3 v)
  | 0, 1 => k0_pay8 v146
  | 1, 0 => k0_pay17 v145 (k0_pay13 (k0_pay9 v) (k0_pay10 v))
  | 1, 1 => k0_pay18 v145 (k0_pay13 (k0_pay9 v) (k0_pay10 v))
  | 2, 0 => k0_pay27 v145 (k0_pay19 v) (k0_pay22 v) 23#32
  | 2, 1 => k0_pay28 (k0_pay26 v145 (k0_pay19 v) (k0_pay22 v) 23#32)
  | 3, 0 => k0_pay550 (k0_pay29 v) (k0_pay30 v)
  | 3, 1 => k0_pay551 v146

/-- One group: its columns loaded, its scale row, its codes and its two tiles stored. -/
def seg (M : Memref sig .tc .vmem S20x256x256 .fp8e4m3) (v145 : IVec S128x128 32) (v146 : FVec F S128x128 .fp8e4m3) (j : Fin 4)
    (o3 : Fin 2 → ℕ) (h3 : ∀ a, o3 a + S128x128.size a ≤ S128x10240.size a)
    (o4 : Fin 2 → ℕ) (h4 : ∀ a, o4 a + S1x128.size a ≤ S128x128.size a)
    (o5 : Fin 2 → ℕ) (h5 : ∀ a, o5 a + S96x128.size a ≤ S96x10240.size a)
    (hP5 : (arg14.access (Rect.unit (s := S96x10240) o5 S96x128.size h5)).Stores Finset.univ)
    (oA : Fin 3 → ℕ) (hA : ∀ a, oA a + S1x128x128.size a ≤ S20x256x256.size a)
    (hPA : (M.access (Rect.unit (s := S20x256x256) oA S1x128x128.size hA)).Stores Finset.univ)
    (oB : Fin 3 → ℕ) (hB : ∀ a, oB a + S1x128x128.size a ≤ S20x256x256.size a)
    (hPB : (M.access (Rect.unit (s := S20x256x256) oB S1x128x128.size hB)).Stores Finset.univ) :
    Prog (TpuEff nD τ sig (Elt F) Λ₀ .tc) PUnit := do
  let v : Vec F S128x128 .bf16 ← Prog.lift (.load arg6 (Rect.unit (s := S128x10240) o3 S128x128.size h3).toLoadRect (View.loadsAt_vmem h_S128x128))
  let _ : Vec F S1x128 .f32 ← Prog.lift (.load arg10 (Rect.unit (s := S128x128) o4 S1x128.size h4).toLoadRect (View.loadsAt_vmem h_S1x128))
  Prog.lift (.store arg10 (Rect.unit (s := S128x128) o4 S1x128.size h4) (scRow v) Finset.univ (View.stores_vmem_bits_univ h_S1x128 rfl) (.inl rfl))
  let _ : Vec F S96x128 .fp8e4m3 ← Prog.lift (.load arg14 (Rect.unit (s := S96x10240) o5 S96x128.size h5).toLoadRect (View.loadsAt_vmem h_S96x128))
  Prog.lift (.store arg14 (Rect.unit (s := S96x10240) o5 S96x128.size h5) (codeTile v) Finset.univ hP5 (.inl rfl))
  let _ : Vec F S1x128x128 .fp8e4m3 ← Prog.lift (.load M (Rect.unit (s := S20x256x256) oA S1x128x128.size hA).toLoadRect (View.loadsAt_vmem h_S1x128x128))
  Prog.lift (.store M (Rect.unit (s := S20x256x256) oA S1x128x128.size hA) (quadTile v145 v146 j 0 v) Finset.univ hPA (.inl rfl))
  let _ : Vec F S1x128x128 .fp8e4m3 ← Prog.lift (.load M (Rect.unit (s := S20x256x256) oB S1x128x128.size hB).toLoadRect (View.loadsAt_vmem h_S1x128x128))
  Prog.lift (.store M (Rect.unit (s := S20x256x256) oB S1x128x128.size hB) (quadTile v145 v146 j 1 v) Finset.univ hPB (.inl rfl))

/-- The four groups of a trip. -/
def quant (v145 : IVec S128x128 32) (v146 : FVec F S128x128 .fp8e4m3) (k : Fin k0_t1_loop.trips) : Prog (TpuEff nD τ sig (Elt F) Λ₀ .tc) PUnit := do
  seg arg6 arg10 arg14 arg8 v145 v146 0 (k0_off3 k 0#32) (k0_off3_inb k 0) (k0_off4 k 0#32) (k0_off4_inb k 0) (k0_off5 k 0#32) (k0_off5_inb k 0)
    (View.stores_vmem h_S96x128 (harg14.storeExact_slice rfl _ (k0_off5_packedfp8e4m3 k 0)) (fun _ => rfl))
    (k0_off6 k) (k0_off6_inb k) (View.stores_vmem h_S1x128x128 (harg8.storeExact_slice rfl _ (k0_off6_packedfp8e4m3 k)) (fun _ => rfl))
    (k0_off7 k) (k0_off7_inb k) (View.stores_vmem h_S1x128x128 (harg8.storeExact_slice rfl _ (k0_off7_packedfp8e4m3 k)) (fun _ => rfl))
  seg arg6 arg10 arg14 arg8 v145 v146 1 (k0_off3 k 20#32) (k0_off3_inb k 1) (k0_off4 k 32#32) (k0_off4_inb k 1) (k0_off5 k 20#32) (k0_off5_inb k 1)
    (View.stores_vmem h_S96x128 (harg14.storeExact_slice rfl _ (k0_off5_packedfp8e4m3 k 1)) (fun _ => rfl))
    (k0_off8 k) (k0_off8_inb k) (View.stores_vmem h_S1x128x128 (harg8.storeExact_slice rfl _ (k0_off8_packedfp8e4m3 k)) (fun _ => rfl))
    (k0_off9 k) (k0_off9_inb k) (View.stores_vmem h_S1x128x128 (harg8.storeExact_slice rfl _ (k0_off9_packedfp8e4m3 k)) (fun _ => rfl))
  seg arg6 arg10 arg14 arg9 v145 v146 2 (k0_off3 k 40#32) (k0_off3_inb k 2) (k0_off4 k 64#32) (k0_off4_inb k 2) (k0_off5 k 40#32) (k0_off5_inb k 2)
    (View.stores_vmem h_S96x128 (harg14.storeExact_slice rfl _ (k0_off5_packedfp8e4m3 k 2)) (fun _ => rfl))
    (k0_off6 k) (k0_off6_inb k) (View.stores_vmem h_S1x128x128 (harg9.storeExact_slice rfl _ (k0_off6_packedfp8e4m3 k)) (fun _ => rfl))
    (k0_off7 k) (k0_off7_inb k) (View.stores_vmem h_S1x128x128 (harg9.storeExact_slice rfl _ (k0_off7_packedfp8e4m3 k)) (fun _ => rfl))
  seg arg6 arg10 arg14 arg9 v145 v146 3 (k0_off3 k 60#32) (k0_off3_inb k 3) (k0_off4 k 96#32) (k0_off4_inb k 3) (k0_off5 k 60#32) (k0_off5_inb k 3)
    (View.stores_vmem h_S96x128 (harg14.storeExact_slice rfl _ (k0_off5_packedfp8e4m3 k 3)) (fun _ => rfl))
    (k0_off8 k) (k0_off8_inb k) (View.stores_vmem h_S1x128x128 (harg9.storeExact_slice rfl _ (k0_off8_packedfp8e4m3 k)) (fun _ => rfl))
    (k0_off9 k) (k0_off9_inb k) (View.stores_vmem h_S1x128x128 (harg9.storeExact_slice rfl _ (k0_off9_packedfp8e4m3 k)) (fun _ => rfl))
  pure ⟨⟩

set_option maxRecDepth 65536 in
set_option maxHeartbeats 0 in
theorem t1_body_eq (v145 : IVec S128x128 32) (v146 : FVec F S128x128 .fp8e4m3) (v166 : FVec F S71x20 .f32) :
    k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v145 v146 v166 = fun k _ => quant arg6 arg8 harg8 arg9 harg9 arg10 arg14 harg14 v145 v146 k := by
  funext k _
  unfold k0_t1_body quant
  iterate 36 (conv_lhs => whnf
              conv_rhs => whnf
              refine op_congr fun v => ?_)
  rfl

end Cert.Proof.Kernel
-- ==== Proof.QuantRun.lean ====
/- The quantiser's loop: what the scales, the codes and the two right-hand sides hold once its groups are done. -/
module

public import proofs.«01_k».proof.Proof.Quant
public import proofs.«01_k».proof.Proof.Offs

@[expose] public section

set_option synthInstance.maxSize 4096

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof

variable {F : FTy → Type} [FloatOps F]

/-- `d` is `G` on `S`. -/
def Agree {s : Shape} {X : Type} (S : s.Idx → Prop) (d G : s.Idx → X) : Prop := ∀ y, S y → d y = G y

/-- The elements of a window. -/
def Win {s : Shape} (off size : Fin s.rank → ℕ) (y : s.Idx) : Prop := ∀ a, off a ≤ (y a).val ∧ (y a).val < off a + size a

theorem agree_put {s : Shape} {X : Type} {S : s.Idx → Prop} {d G : s.Idx → X} {off size : Fin s.rank → ℕ} {inb : ∀ a, off a + size a ≤ s.size a}
    {w : (Rect.unit off size inb).shape.Idx → X} (hd : Agree S d G)
    (hw : ∀ y (h : Win off size y), w (Rect.unitLocal (s := s) (off := off) (size := size) y h) = G y) :
    Agree (fun y => S y ∨ Win off size y) (put d off size inb w) G := by
  intro y hy
  unfold put
  split
  · rename_i h; exact hw y h
  · rename_i h; exact hd y (hy.resolve_right h)

theorem agree_mono {s : Shape} {X : Type} {S S' : s.Idx → Prop} {d G : s.Idx → X} (hd : Agree S d G) (h : ∀ y, S' y → S y) : Agree S' d G :=
  fun y hy => hd y (h y hy)

/-! ## The values -/

theorem xt_inb {g : ℕ} (h : g < 80) (a : Fin 2) : (![0, 128 * g] : Fin 2 → ℕ) a + S128x128.size a ≤ S128x10240.size a := by
  fin_cases a <;> simp [S128x128, S128x10240]; omega

variable (XV : Vec F S128x10240 .bf16)

/-- The columns of group `g`. -/
def xtile (g : ℕ) (h : g < 80) : Vec F S128x128 .bf16 := View.ld XV (Rect.unit (s := S128x10240) ![0, 128 * g] S128x128.size (xt_inb h))

theorem xtile_congr {g g' : ℕ} (e : g = g') (h : g < 80) (h' : g' < 80) : xtile XV g h = xtile XV g' h' := by subst e; rfl

variable (v145 : IVec S128x128 32) (v146 : FVec F S128x128 .fp8e4m3)

/-- The scales' table: row `32 j + q` holds group `q + 20 j`, the rows between hold `z`. -/
def scFull (z : Vec F S128x128 .f32) : Vec F S128x128 .f32 := fun y =>
  if h : (y 0).val % 32 < 20 then
    scRow (xtile XV ((y 0).val % 32 + 20 * ((y 0).val / 32)) (by have : (y 0).val < 128 := (y 0).isLt; omega))
      (Fin.cons ⟨0, by decide⟩ (Fin.cons (y 1) finZeroElim))
  else z y

/-- The codes. -/
def cdFull : Vec F S96x10240 .fp8e4m3 := fun y =>
  codeTile (xtile XV ((y 1).val / 128) (by have : (y 1).val < 10240 := (y 1).isLt; omega))
    (Fin.cons (y 0) (Fin.cons ⟨(y 1).val % 128, Nat.mod_lt _ (by decide)⟩ finZeroElim))

/-- The right-hand sides of the groups `q + 20 J` and `q + 20 (J + 1)`. -/
def rFull (J : ℕ) (hJ : J ≤ 2) : Vec F S20x256x256 .fp8e4m3 := fun y =>
  quadTile v145 v146 ⟨J + (y 1).val / 128, by have : (y 1).val < 256 := (y 1).isLt; omega⟩ ⟨(y 2).val / 128, by have : (y 2).val < 256 := (y 2).isLt; omega⟩
    (xtile XV ((y 0).val + 20 * (J + (y 1).val / 128)) (by have : (y 0).val < 20 := (y 0).isLt; have : (y 1).val < 256 := (y 1).isLt; omega))
    (Fin.cons ⟨0, by decide⟩ (Fin.cons ⟨(y 1).val % 128, Nat.mod_lt _ (by decide)⟩ (Fin.cons ⟨(y 2).val % 128, Nat.mod_lt _ (by decide)⟩ finZeroElim)))

theorem sc_win (z : Vec F S128x128 .f32) {q j : ℕ} (hq : q < 20) (hj : j < 4) (y : S128x128.Idx) (h : Win (s := S128x128) ![32 * j + q, 0] S1x128.size y) :
    scRow (xtile XV (q + 20 * j) (by omega)) (Rect.unitLocal (s := S128x128) (off := ![32 * j + q, 0]) (size := S1x128.size) y h) = scFull XV z y := by
  have h0 := h 0
  simp [S1x128] at h0
  have e0 : (y 0).val = 32 * j + q := by omega
  unfold scFull
  rw [dif_pos (by omega)]
  rw [xtile_congr XV (show (y 0).val % 32 + 20 * ((y 0).val / 32) = q + 20 * j by omega) _ (by omega)]
  congr 1
  funext a
  apply Fin.ext
  fin_cases a
  · show (y 0).val - (32 * j + q) = 0
    omega
  · show (y 1).val - 0 = (y 1).val
    omega

theorem cd_win {g : ℕ} (hg : g < 80) (y : S96x10240.Idx) (h : Win (s := S96x10240) ![0, 128 * g] S96x128.size y) :
    codeTile (xtile XV g hg) (Rect.unitLocal (s := S96x10240) (off := ![0, 128 * g]) (size := S96x128.size) y h) = cdFull XV y := by
  have h1 := h 1
  simp [S96x128] at h1
  unfold cdFull
  rw [xtile_congr XV (show (y 1).val / 128 = g by omega) _ hg]
  congr 1
  funext a
  apply Fin.ext
  fin_cases a
  · show (y 0).val - 0 = (y 0).val
    omega
  · show (y 1).val - 128 * g = (y 1).val % 128
    omega

theorem r_win (J : ℕ) (hJ : J ≤ 2) {q : ℕ} (hq : q < 20) (i t : Fin 2) (j : Fin 4) (hj : j.val = J + i.val) (y : S20x256x256.Idx)
    (h : Win (s := S20x256x256) ![q, 128 * i.val, 128 * t.val] S1x128x128.size y) :
    quadTile v145 v146 j t (xtile XV (q + 20 * j.val) (by omega))
      (Rect.unitLocal (s := S20x256x256) (off := ![q, 128 * i.val, 128 * t.val]) (size := S1x128x128.size) y h) = rFull XV v145 v146 J hJ y := by
  have h0 := h 0
  have h1 := h 1
  have h2 := h 2
  simp [S1x128x128] at h0 h1 h2
  have e0 : (y 0).val = q := by omega
  have e1 : (y 1).val / 128 = i.val := by omega
  have e2 : (y 2).val / 128 = t.val := by omega
  unfold rFull
  rw [xtile_congr XV (show (y 0).val + 20 * (J + (y 1).val / 128) = q + 20 * j.val by omega) _ (by omega)]
  rw [show (⟨J + (y 1).val / 128, by have : (y 1).val < 256 := (y 1).isLt; omega⟩ : Fin 4) = j from Fin.ext (by simp; omega),
    show (⟨(y 2).val / 128, by have : (y 2).val < 256 := (y 2).isLt; omega⟩ : Fin 2) = t from Fin.ext e2]
  congr 1
  funext a
  apply Fin.ext
  fin_cases a
  · show (y 0).val - q = 0
    omega
  · show (y 1).val - 128 * i.val = (y 1).val % 128
    omega
  · show (y 2).val - 128 * t.val = (y 2).val % 128
    omega

/-! ## The run -/

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD) (z : Vec F S128x128 .f32)

/-- A memref whose contents are `G` on `S`. -/
def held {sp : Space} {s : Shape} {e : EltTy} (M : Memref sig .tc sp s e) (S : s.Idx → Prop) (G : s.Idx → Elt F e) :
    sProp (MT nD τ sig Unit (Elt F) ℕ (Pipeline.UC sig nD τ) ℕ) :=
  iprop(∃ d, ⌜Agree S d G⌝ ∗ own c M d)

theorem held_mono {sp : Space} {s : Shape} {e : EltTy} (M : Memref sig .tc sp s e) {S S' : s.Idx → Prop} (G : s.Idx → Elt F e) (h : ∀ y, S' y → S y) :
    held c M S G ⊢ held c M S' G := by
  unfold held
  iintro ⟨%d, %hd, H⟩
  iexists d
  isplitr; · ipureintro; exact agree_mono hd h
  iexact H

theorem wp_seg {α : Type} (M : Memref sig .tc .vmem S20x256x256 .fp8e4m3) (J : ℕ) (hJ : J ≤ 2) {q : ℕ} (hq : q < 20) (i : Fin 2) (j : Fin 4) (hj : j.val = J + i.val)
    {o3 : Fin 2 → ℕ} {h3 : ∀ a, o3 a + S128x128.size a ≤ S128x10240.size a}
    {o4 : Fin 2 → ℕ} {h4 : ∀ a, o4 a + S1x128.size a ≤ S128x128.size a}
    {o5 : Fin 2 → ℕ} {h5 : ∀ a, o5 a + S96x128.size a ≤ S96x10240.size a}
    {hP5 : (arg14.access (Rect.unit (s := S96x10240) o5 S96x128.size h5)).Stores Finset.univ}
    {oA : Fin 3 → ℕ} {hA : ∀ a, oA a + S1x128x128.size a ≤ S20x256x256.size a}
    {hPA : (M.access (Rect.unit (s := S20x256x256) oA S1x128x128.size hA)).Stores Finset.univ}
    {oB : Fin 3 → ℕ} {hB : ∀ a, oB a + S1x128x128.size a ≤ S20x256x256.size a}
    {hPB : (M.access (Rect.unit (s := S20x256x256) oB S1x128x128.size hB)).Stores Finset.univ}
    (e3 : o3 = ![0, 128 * (q + 20 * j.val)]) (e4 : o4 = ![32 * j.val + q, 0]) (e5 : o5 = ![0, 128 * (q + 20 * j.val)])
    (eA : oA = ![q, 128 * i.val, 128 * (0 : Fin 2).val]) (eB : oB = ![q, 128 * i.val, 128 * (1 : Fin 2).val])
    {S10 : S128x128.Idx → Prop} {S14 : S96x10240.Idx → Prop} {SM : S20x256x256.Idx → Prop}
    (k : PUnit → Prog (TpuEff nD τ sig (Elt F) Λ₀ .tc) α) (Q : α → sProp (MT nD τ sig Unit (Elt F) ℕ (Pipeline.UC sig nD τ) ℕ)) :
    iprop(own c arg6 XV ∗ held c arg10 S10 (scFull XV z) ∗ held c arg14 S14 (cdFull XV) ∗ held c M SM (rFull XV v145 v146 J hJ))
      ⊢ iprop((iprop(own c arg6 XV ∗ held c arg10 (fun y => S10 y ∨ Win (s := S128x128) ![32 * j.val + q, 0] S1x128.size y) (scFull XV z)
            ∗ held c arg14 (fun y => S14 y ∨ Win (s := S96x10240) ![0, 128 * (q + 20 * j.val)] S96x128.size y) (cdFull XV)
            ∗ held c M (fun y => (SM y ∨ Win (s := S20x256x256) ![q, 128 * i.val, 128 * (0 : Fin 2).val] S1x128x128.size y) ∨ Win (s := S20x256x256) ![q, 128 * i.val, 128 * (1 : Fin 2).val] S1x128x128.size y)
                (rFull XV v145 v146 J hJ)) -∗ wpK c (k ⟨⟩) Q)
        -∗ wpK c (seg arg6 arg10 arg14 M v145 v146 j o3 h3 o4 h4 o5 h5 hP5 oA hA hPA oB hB hPB >>= k) Q) := by
  subst e3 e4 e5 eA eB
  unfold held seg wpK
  simp only [bind_assoc]
  iintro ⟨H6, ⟨%d10, %a10, H10⟩, ⟨%d14, %a14, H14⟩, ⟨%dM, %aM, HM⟩⟩ Hk
  iapply (wp_ld_bind Variants.none (c.tc : Thread nD τ) none) $$ H6
  iintro H6
  iapply (wp_ld_bind Variants.none (c.tc : Thread nD τ) none) $$ H10
  iintro H10
  iapply (wp_st_bind Variants.none (c.tc : Thread nD τ) none) $$ H10
  iintro H10
  iapply (wp_ld_bind Variants.none (c.tc : Thread nD τ) none) $$ H14
  iintro H14
  iapply (wp_st_bind Variants.none (c.tc : Thread nD τ) none) $$ H14
  iintro H14
  iapply (wp_ld_bind Variants.none (c.tc : Thread nD τ) none) $$ HM
  iintro HM
  iapply (wp_st_bind Variants.none (c.tc : Thread nD τ) none) $$ HM
  iintro HM
  iapply (wp_ld_bind Variants.none (c.tc : Thread nD τ) none) $$ HM
  iintro HM
  iapply (wp_st_bind Variants.none (c.tc : Thread nD τ) none) $$ HM
  iintro HM
  iapply Hk
  isplitl [H6]; · iexact H6
  isplitl [H10]
  · iexists _; isplitr; swap; · iexact H10
    ipureintro
    exact agree_put a10 (sc_win XV z hq j.isLt)
  isplitl [H14]
  · iexists _; isplitr; swap; · iexact H14
    ipureintro
    exact agree_put a14 (cd_win XV (g := q + 20 * j.val) (by omega))
  iexists _; isplitr; swap; · iexact HM
  ipureintro
  exact agree_put (agree_put aM (r_win XV v145 v146 J hJ hq i 0 j hj)) (r_win XV v145 v146 J hJ hq i 1 j hj)

/-- What is held of the quantiser's results once `n` trips are done. -/
def quantInv (n : ℕ) : sProp (MT nD τ sig Unit (Elt F) ℕ (Pipeline.UC sig nD τ) ℕ) :=
  iprop(own c arg6 XV ∗ held c arg10 (fun y => (y 0).val % 32 < n ∨ 20 ≤ (y 0).val % 32) (scFull XV z)
    ∗ held c arg14 (fun y => ((y 1).val / 128) % 20 < n) (cdFull XV)
    ∗ held c arg8 (fun y => (y 0).val < n) (rFull XV v145 v146 0 (by decide)) ∗ held c arg9 (fun y => (y 0).val < n) (rFull XV v145 v146 2 (by decide)))

theorem win_sc {n : ℕ} (hn : n < 20) (y : S128x128.Idx) (h : (y 0).val % 32 < n + 1 ∨ 20 ≤ (y 0).val % 32) :
    (((((y 0).val % 32 < n ∨ 20 ≤ (y 0).val % 32) ∨ Win (s := S128x128) ![32 * (0 : Fin 4).val + n, 0] S1x128.size y) ∨ Win (s := S128x128) ![32 * (1 : Fin 4).val + n, 0] S1x128.size y)
      ∨ Win (s := S128x128) ![32 * (2 : Fin 4).val + n, 0] S1x128.size y) ∨ Win (s := S128x128) ![32 * (3 : Fin 4).val + n, 0] S1x128.size y := by
  have h0 : (y 0).val < 128 := (y 0).isLt
  have h1 : (y 1).val < 128 := (y 1).isLt
  unfold Win
  simp only [Fin.forall_fin_two, S128x128, S1x128, Matrix.cons_val_zero, Matrix.cons_val_one]
  simp
  simp [S128x128] at h1
  omega

theorem win_cd {n : ℕ} (hn : n < 20) (y : S96x10240.Idx) (h : ((y 1).val / 128) % 20 < n + 1) :
    ((((((y 1).val / 128) % 20 < n) ∨ Win (s := S96x10240) ![0, 128 * (n + 20 * (0 : Fin 4).val)] S96x128.size y) ∨ Win (s := S96x10240) ![0, 128 * (n + 20 * (1 : Fin 4).val)] S96x128.size y)
      ∨ Win (s := S96x10240) ![0, 128 * (n + 20 * (2 : Fin 4).val)] S96x128.size y) ∨ Win (s := S96x10240) ![0, 128 * (n + 20 * (3 : Fin 4).val)] S96x128.size y := by
  have h0 : (y 0).val < 96 := (y 0).isLt
  have h1 : (y 1).val < 10240 := (y 1).isLt
  unfold Win
  simp only [Fin.forall_fin_two, S96x10240, S96x128, Matrix.cons_val_zero, Matrix.cons_val_one]
  simp
  omega

theorem win_r {n : ℕ} (y : S20x256x256.Idx) (h : (y 0).val < n + 1) :
    (((((y 0).val < n ∨ Win (s := S20x256x256) ![n, 128 * (0 : Fin 2).val, 128 * (0 : Fin 2).val] S1x128x128.size y) ∨ Win (s := S20x256x256) ![n, 128 * (0 : Fin 2).val, 128 * (1 : Fin 2).val] S1x128x128.size y)
      ∨ Win (s := S20x256x256) ![n, 128 * (1 : Fin 2).val, 128 * (0 : Fin 2).val] S1x128x128.size y) ∨ Win (s := S20x256x256) ![n, 128 * (1 : Fin 2).val, 128 * (1 : Fin 2).val] S1x128x128.size y) := by
  have h1 : (y 1).val < 256 := (y 1).isLt
  have h2 : (y 2).val < 256 := (y 2).isLt
  unfold Win
  simp [Fin.forall_fin_succ, S20x256x256, S1x128x128]
  omega

set_option maxHeartbeats 1000000 in
theorem wp_quant (k : Fin k0_t1_loop.trips) :
    quantInv XV v145 v146 arg6 arg8 arg9 arg10 arg14 c z k.val
      ⊢ wpK c (quant arg6 arg8 harg8 arg9 harg9 arg10 arg14 harg14 v145 v146 k) (fun _ => quantInv XV v145 v146 arg6 arg8 arg9 arg10 arg14 c z (k.val + 1)) := by
  have hk : k.val < 20 := by have := k.isLt; have e := trips1; omega
  unfold quantInv quant
  iintro ⟨H6, H10, H14, H8, H9⟩
  iapply (wp_seg XV v145 v146 arg6 arg10 arg14 c z arg8 0 (by decide) hk 0 0 rfl (off3 k 0) (off4 k 0) (off5 k 0) (off6 k) (off7 k)) $$ [H6 H10 H14 H8]
  · isplitl [H6]; · iexact H6
    isplitl [H10]; · iexact H10
    isplitl [H14]; · iexact H14
    iexact H8
  iintro ⟨H6, H10, H14, H8⟩
  iapply (wp_seg XV v145 v146 arg6 arg10 arg14 c z arg8 0 (by decide) hk 1 1 rfl (off3 k 1) (off4 k 1) (off5 k 1) (off8 k) (off9 k)) $$ [H6 H10 H14 H8]
  · isplitl [H6]; · iexact H6
    isplitl [H10]; · iexact H10
    isplitl [H14]; · iexact H14
    iexact H8
  iintro ⟨H6, H10, H14, H8⟩
  iapply (wp_seg XV v145 v146 arg6 arg10 arg14 c z arg9 2 (by decide) hk 0 2 rfl (off3 k 2) (off4 k 2) (off5 k 2) (off6 k) (off7 k)) $$ [H6 H10 H14 H9]
  · isplitl [H6]; · iexact H6
    isplitl [H10]; · iexact H10
    isplitl [H14]; · iexact H14
    iexact H9
  iintro ⟨H6, H10, H14, H9⟩
  iapply (wp_seg XV v145 v146 arg6 arg10 arg14 c z arg9 2 (by decide) hk 1 3 rfl (off3 k 3) (off4 k 3) (off5 k 3) (off8 k) (off9 k)) $$ [H6 H10 H14 H9]
  · isplitl [H6]; · iexact H6
    isplitl [H10]; · iexact H10
    isplitl [H14]; · iexact H14
    iexact H9
  iintro ⟨H6, H10, H14, H9⟩
  unfold wpK
  rw [wp_pure]
  imodintro
  isplitl [H6]; · iexact H6
  isplitl [H10]; · iapply (held_mono c arg10 (scFull XV z) (win_sc hk)) $$ H10
  isplitl [H14]; · iapply (held_mono c arg14 (cdFull XV) (win_cd hk)) $$ H14
  isplitl [H8]; · iapply (held_mono c arg8 (rFull XV v145 v146 0 _) win_r); iexact H8
  iapply (held_mono c arg9 (rFull XV v145 v146 2 _) win_r); iexact H9

end Cert.Proof.Kernel
-- ==== Proof.ProgramTrip.lean ====
/- The printed body of the loop over the blocks is the trip of `Program`: both are unfolded one
   memory operation at a time and compared. -/
module
public import proofs.«01_k».proof.Proof.Program
@[expose] public section

noncomputable section
namespace Cert.Proof.Kernel
open Idealize.ShloMosaic Idealize.SL.Sem Cert.Kernel Cert.Kernel.Gen
variable {F : FTy → Type} [FloatOps F]
variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)

set_option maxRecDepth 65536 in
set_option maxHeartbeats 0 in
theorem t2_body_eq (v187 v188 : Vec F S24x128 .f32) (v191 : IVec S24x128 32) :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v187 v188 v191
      = fun k _ => trip arg1 harg1 arg7 harg7 arg8 arg9 arg11 arg12 arg13 arg15 harg15 arg16 v191 k := by
  funext k _
  rw [← printedTrip_eq]
  iterate 772 (conv_lhs => whnf
               conv_rhs => whnf
               refine op_congr fun v => ?_)
  rfl
end Cert.Proof.Kernel
-- ==== Proof.ProgramTail.lean ====
/- The printed program after the loop over the blocks is `Program`'s `tail`, and the printed body ends in it. -/
module

public import proofs.«01_k».proof.Proof.Program

@[expose] public section

set_option synthInstance.maxSize 4096

noncomputable section

namespace Cert.Proof.Kernel

open Idealize.ShloMosaic Idealize.SL.Sem Cert.Kernel Cert.Kernel.Gen

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)

/-- The printed parts after the loop, up to the middle of the last block. -/
def tail1 (v191 : IVec S24x128 32) : Prog (TpuEff nD τ sig (Elt F) Λ₀ .tc) (Σ' (v1942 : BitVec 32) (v2011 : FVec F S128x128 .f32) (v2019 : FVec F S128x128 .f32) (v2035 : FVec F S128x256 .f32) (v2039 : FVec F S128x256 .f32) (v2044 : FVec F S128x128 .f32), FVec F S128x128 .f32) := do
  let ⟨v232, v238, v239, v240, v246⟩ : Σ' (v232 : BitVec 32) (v238 : FVec F S24x128 .f32) (v239 : FVec F S24x128 .f32) (v240 : FVec F S24x128 .f32), FVec F S24x128 .f32 ← k0_part116 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v191
  let ⟨v268, v269, v272, v275, v278⟩ : Σ' (v268 : FVec F S128x128 .f32) (v269 : FVec F S128x128 .f32) (v272 : FVec F S128x128 .fp8e4m3) (v275 : FVec F S128x128 .fp8e4m3), FVec F S128x128 .fp8e4m3 ← k0_part117 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v191 v232 v238 v239 v240 v246
  let ⟨v301, v309, v312, v315⟩ : Σ' (v301 : FVec F S128x128 .f32) (v309 : FVec F S128x128 .f32) (v312 : FVec F S128x128 .fp8e4m3), FVec F S128x128 .fp8e4m3 ← k0_part118 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v268 v269 v272 v275 v278
  let ⟨v341, v349⟩ : Σ' (v341 : FVec F S128x128 .f32), FVec F S128x128 .f32 ← k0_part119 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v301 v309 v312 v315
  let ⟨v381, v384⟩ : Σ' (v381 : FVec F S128x128 .f32), FVec F S128x128 .f32 ← k0_part120 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v341
  let ⟨v389, v405, v409, v414, v419⟩ : Σ' (v389 : FVec F S128x128 .f32) (v405 : FVec F S128x256 .f32) (v409 : FVec F S128x256 .f32) (v414 : FVec F S128x128 .f32), FVec F S128x128 .f32 ← k0_part121 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v349 v384
  let ⟨v421, v429, v445, v449, v454, v455⟩ : Σ' (v421 : FVec F S128x128 .f32) (v429 : FVec F S128x128 .f32) (v445 : FVec F S128x256 .f32) (v449 : FVec F S128x256 .f32) (v454 : FVec F S128x128 .f32), FVec F S128x128 .f32 ← k0_part122 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v381 v389 v405 v409 v414 v419
  let ⟨v461, v469, v485, v489, v490⟩ : Σ' (v461 : FVec F S128x128 .f32) (v469 : FVec F S128x128 .f32) (v485 : FVec F S128x256 .f32) (v489 : FVec F S128x256 .f32), FVec F S128x128 .f32 ← k0_part123 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v421 v429 v445 v449 v454 v455
  let ⟨v501, v509, v525, v526⟩ : Σ' (v501 : FVec F S128x128 .f32) (v509 : FVec F S128x128 .f32) (v525 : FVec F S128x256 .f32), FVec F S128x256 .fp8e4m3 ← k0_part124 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v461 v469 v485 v489 v490
  let ⟨v541, v549, v558, v561, v562⟩ : Σ' (v541 : FVec F S128x128 .f32) (v549 : FVec F S128x128 .f32) (v558 : FVec F S128x128 .fp8e4m3) (v561 : FVec F S128x128 .fp8e4m3), FVec F S128x256 .fp8e4m3 ← k0_part125 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v501 v509 v525 v526
  let ⟨v581, v589, v592, v595, v597⟩ : Σ' (v581 : FVec F S128x128 .f32) (v589 : FVec F S128x128 .f32) (v592 : FVec F S128x128 .fp8e4m3) (v595 : FVec F S128x128 .fp8e4m3), Vec F S1x128x128 .fp8e4m3 ← k0_part126 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v541 v549 v558 v561 v562
  let ⟨v621, v629, v632⟩ : Σ' (v621 : FVec F S128x128 .f32) (v629 : FVec F S128x128 .f32), FVec F S128x128 .fp8e4m3 ← k0_part127 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v581 v589 v592 v595 v597
  let ⟨v661, v664, v667⟩ : Σ' (v661 : FVec F S128x128 .f32) (v664 : FVec F S128x128 .f32), FVec F S128x128 .f32 ← k0_part128 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v621 v632
  let ⟨v669, v701, v702, v703⟩ : Σ' (v669 : FVec F S128x128 .f32) (v701 : FVec F S128x128 .f32) (v702 : FVec F S128x128 .f32), FVec F S128x128 .f32 ← k0_part129 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v629 v661 v664 v667
  let ⟨v709, v725, v729, v734, v735⟩ : Σ' (v709 : FVec F S128x128 .f32) (v725 : FVec F S128x256 .f32) (v729 : FVec F S128x256 .f32) (v734 : FVec F S128x128 .f32), FVec F S128x128 .f32 ← k0_part130 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v669 v702 v703
  let ⟨v741, v749, v765, v769, v770, v771⟩ : Σ' (v741 : FVec F S128x128 .f32) (v749 : FVec F S128x128 .f32) (v765 : FVec F S128x256 .f32) (v769 : FVec F S128x256 .f32) (v770 : FVec F S128x128 .f32), Vec F S1x1x1x128 .f32 ← k0_part131 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v701 v709 v725 v729 v734 v735
  let ⟨v781, v789, v805, v806, v808⟩ : Σ' (v781 : FVec F S128x128 .f32) (v789 : FVec F S128x128 .f32) (v805 : FVec F S128x256 .f32) (v806 : FVec F S128x256 .fp8e4m3), FVec F S256x256 .fp8e4m3 ← k0_part132 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v741 v749 v765 v769 v770 v771
  let ⟨v821, v829, v838, v841, v842, v844⟩ : Σ' (v821 : FVec F S128x128 .f32) (v829 : FVec F S128x128 .f32) (v838 : FVec F S128x128 .fp8e4m3) (v841 : FVec F S128x128 .fp8e4m3) (v842 : FVec F S128x256 .fp8e4m3), FVec F S256x256 .fp8e4m3 ← k0_part133 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v781 v789 v805 v806 v808
  let ⟨v861, v869, v872, v875, v878⟩ : Σ' (v861 : FVec F S128x128 .f32) (v869 : FVec F S128x128 .f32) (v872 : FVec F S128x128 .fp8e4m3) (v875 : FVec F S128x128 .fp8e4m3), FVec F S128x128 .fp8e4m3 ← k0_part134 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v821 v829 v838 v841 v842 v844
  let ⟨v901, v909, v912, v915⟩ : Σ' (v901 : FVec F S128x128 .f32) (v909 : FVec F S128x128 .f32) (v912 : FVec F S128x128 .fp8e4m3), FVec F S128x128 .fp8e4m3 ← k0_part135 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v861 v869 v872 v875 v878
  let ⟨v941, v949⟩ : Σ' (v941 : FVec F S128x128 .f32), FVec F S128x128 .f32 ← k0_part136 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v901 v909 v912 v915
  let ⟨v981, v984⟩ : Σ' (v981 : FVec F S128x128 .f32), FVec F S128x128 .f32 ← k0_part137 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v941
  let ⟨v989, v1005, v1009, v1014, v1019⟩ : Σ' (v989 : FVec F S128x128 .f32) (v1005 : FVec F S128x256 .f32) (v1009 : FVec F S128x256 .f32) (v1014 : FVec F S128x128 .f32), FVec F S128x128 .f32 ← k0_part138 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v949 v984
  let ⟨v1021, v1029, v1045, v1049, v1054, v1055⟩ : Σ' (v1021 : FVec F S128x128 .f32) (v1029 : FVec F S128x128 .f32) (v1045 : FVec F S128x256 .f32) (v1049 : FVec F S128x256 .f32) (v1054 : FVec F S128x128 .f32), FVec F S128x128 .f32 ← k0_part139 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v981 v989 v1005 v1009 v1014 v1019
  let ⟨v1087, v1092, v1093, v1094, v1095, v1097⟩ : Σ' (v1087 : BitVec 32) (v1092 : FVec F S24x128 .f32) (v1093 : FVec F S24x128 .f32) (v1094 : FVec F S24x128 .f32) (v1095 : FVec F S24x128 .f32), FVec F S24x128 .f32 ← k0_part140 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1021 v1029 v1045 v1049 v1054 v1055
  let ⟨v1123, v1124, v1127⟩ : Σ' (v1123 : FVec F S128x128 .f32) (v1124 : FVec F S128x128 .f32), FVec F S128x128 .fp8e4m3 ← k0_part141 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v191 v1087 v1092 v1093 v1094 v1095 v1097
  let ⟨v1156, v1163⟩ : Σ' (v1156 : FVec F S128x128 .f32), FVec F S128x128 .f32 ← k0_part142 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1123 v1127
  let ⟨v1164, v1196, v1199⟩ : Σ' (v1164 : FVec F S128x128 .f32) (v1196 : FVec F S128x128 .f32), FVec F S128x128 .f32 ← k0_part143 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1124 v1156 v1163
  let ⟨v1204, v1220, v1224, v1229, v1230, v1231⟩ : Σ' (v1204 : FVec F S128x128 .f32) (v1220 : FVec F S128x256 .f32) (v1224 : FVec F S128x256 .f32) (v1229 : FVec F S128x128 .f32) (v1230 : FVec F S128x128 .f32), Vec F S1x1x1x128 .f32 ← k0_part144 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1164 v1199
  let ⟨v1236, v1244, v1260, v1264, v1265, v1267⟩ : Σ' (v1236 : FVec F S128x128 .f32) (v1244 : FVec F S128x128 .f32) (v1260 : FVec F S128x256 .f32) (v1264 : FVec F S128x256 .f32) (v1265 : FVec F S128x128 .f32), FVec F S1x128 .f32 ← k0_part145 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1196 v1204 v1220 v1224 v1229 v1230 v1231
  let ⟨v1276, v1284, v1300, v1301, v1303, cst_817⟩ : Σ' (v1276 : FVec F S128x128 .f32) (v1284 : FVec F S128x128 .f32) (v1300 : FVec F S128x256 .f32) (v1301 : FVec F S128x256 .fp8e4m3) (v1303 : FVec F S256x256 .fp8e4m3), FVec F S128x256 .f32 ← k0_part146 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1236 v1244 v1260 v1264 v1265 v1267
  let ⟨v1316, v1324, v1333, v1336, v1337, v1339, cst_841⟩ : Σ' (v1316 : FVec F S128x128 .f32) (v1324 : FVec F S128x128 .f32) (v1333 : FVec F S128x128 .fp8e4m3) (v1336 : FVec F S128x128 .fp8e4m3) (v1337 : FVec F S128x256 .fp8e4m3) (v1339 : FVec F S256x256 .fp8e4m3), FVec F S128x256 .f32 ← k0_part147 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1276 v1284 v1300 v1301 v1303 cst_817
  let ⟨v1356, v1364, v1367, v1370, v1373, v1375⟩ : Σ' (v1356 : FVec F S128x128 .f32) (v1364 : FVec F S128x128 .f32) (v1367 : FVec F S128x128 .fp8e4m3) (v1370 : FVec F S128x128 .fp8e4m3) (v1373 : FVec F S128x128 .fp8e4m3), Vec F S1x128x128 .fp8e4m3 ← k0_part148 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1316 v1324 v1333 v1336 v1337 v1339 cst_841
  let ⟨v1396, v1404, v1407, v1410⟩ : Σ' (v1396 : FVec F S128x128 .f32) (v1404 : FVec F S128x128 .f32) (v1407 : FVec F S128x128 .fp8e4m3), FVec F S128x128 .fp8e4m3 ← k0_part149 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1356 v1364 v1367 v1370 v1373 v1375
  let ⟨v1436, v1444⟩ : Σ' (v1436 : FVec F S128x128 .f32), FVec F S128x128 .f32 ← k0_part150 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1396 v1404 v1407 v1410
  let ⟨v1476, v1479⟩ : Σ' (v1476 : FVec F S128x128 .f32), FVec F S128x128 .f32 ← k0_part151 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1436
  let ⟨v1484, v1500, v1504, v1515⟩ : Σ' (v1484 : FVec F S128x128 .f32) (v1500 : FVec F S128x256 .f32) (v1504 : FVec F S128x256 .f32), FVec F S128x128 .f32 ← k0_part152 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1444 v1479
  let ⟨v1516, v1524, v1540, v1544, v1549, v1550⟩ : Σ' (v1516 : FVec F S128x128 .f32) (v1524 : FVec F S128x128 .f32) (v1540 : FVec F S128x256 .f32) (v1544 : FVec F S128x256 .f32) (v1549 : FVec F S128x128 .f32), FVec F S128x128 .f32 ← k0_part153 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1476 v1484 v1500 v1504 v1515
  let ⟨v1556, v1564, v1580, v1584, v1585⟩ : Σ' (v1556 : FVec F S128x128 .f32) (v1564 : FVec F S128x128 .f32) (v1580 : FVec F S128x256 .f32) (v1584 : FVec F S128x256 .f32), FVec F S128x128 .f32 ← k0_part154 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1516 v1524 v1540 v1544 v1549 v1550
  let ⟨v1596, v1604, v1620, v1621⟩ : Σ' (v1596 : FVec F S128x128 .f32) (v1604 : FVec F S128x128 .f32) (v1620 : FVec F S128x256 .f32), FVec F S128x256 .fp8e4m3 ← k0_part155 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1556 v1564 v1580 v1584 v1585
  let ⟨v1636, v1644, v1653, v1656, v1657⟩ : Σ' (v1636 : FVec F S128x128 .f32) (v1644 : FVec F S128x128 .f32) (v1653 : FVec F S128x128 .fp8e4m3) (v1656 : FVec F S128x128 .fp8e4m3), FVec F S128x256 .fp8e4m3 ← k0_part156 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1596 v1604 v1620 v1621
  let ⟨v1676, v1684, v1687, v1690, v1693⟩ : Σ' (v1676 : FVec F S128x128 .f32) (v1684 : FVec F S128x128 .f32) (v1687 : FVec F S128x128 .fp8e4m3) (v1690 : FVec F S128x128 .fp8e4m3), FVec F S128x128 .fp8e4m3 ← k0_part157 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1636 v1644 v1653 v1656 v1657
  let ⟨v1716, v1724, v1727⟩ : Σ' (v1716 : FVec F S128x128 .f32) (v1724 : FVec F S128x128 .f32), FVec F S128x128 .fp8e4m3 ← k0_part158 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1676 v1684 v1687 v1690 v1693
  let ⟨v1756, v1763⟩ : Σ' (v1756 : FVec F S128x128 .f32), FVec F S128x128 .f32 ← k0_part159 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1716 v1727
  let ⟨v1764, v1796, v1799⟩ : Σ' (v1764 : FVec F S128x128 .f32) (v1796 : FVec F S128x128 .f32), FVec F S128x128 .f32 ← k0_part160 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1724 v1756 v1763
  let ⟨v1804, v1820, v1824, v1829, v1830, v1831⟩ : Σ' (v1804 : FVec F S128x128 .f32) (v1820 : FVec F S128x256 .f32) (v1824 : FVec F S128x256 .f32) (v1829 : FVec F S128x128 .f32) (v1830 : FVec F S128x128 .f32), Vec F S1x1x1x128 .f32 ← k0_part161 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1764 v1799
  let ⟨v1836, v1844, v1860, v1864, v1865, v1867⟩ : Σ' (v1836 : FVec F S128x128 .f32) (v1844 : FVec F S128x128 .f32) (v1860 : FVec F S128x256 .f32) (v1864 : FVec F S128x256 .f32) (v1865 : FVec F S128x128 .f32), FVec F S1x128 .f32 ← k0_part162 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1796 v1804 v1820 v1824 v1829 v1830 v1831
  let ⟨v1876, v1884, v1900, v1901, v1903, cst_1237⟩ : Σ' (v1876 : FVec F S128x128 .f32) (v1884 : FVec F S128x128 .f32) (v1900 : FVec F S128x256 .f32) (v1901 : FVec F S128x256 .fp8e4m3) (v1903 : FVec F S256x256 .fp8e4m3), FVec F S128x256 .f32 ← k0_part163 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1836 v1844 v1860 v1864 v1865 v1867
  let ⟨v1942, v1944⟩ : Σ' (v1942 : BitVec 32), FVec F S1x128 .f32 ← k0_part164 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1876 v1884 v1900 v1901 v1903 cst_1237
  k0_part165 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v191 v1944
  let ⟨v1979, v1995, v1999, v2011⟩ : Σ' (v1979 : FVec F S128x128 .f32) (v1995 : FVec F S128x256 .f32) (v1999 : FVec F S128x256 .f32), FVec F S128x128 .f32 ← k0_part166 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942
  let ⟨v2019, v2035, v2039, v2044, v2045⟩ : Σ' (v2019 : FVec F S128x128 .f32) (v2035 : FVec F S128x256 .f32) (v2039 : FVec F S128x256 .f32) (v2044 : FVec F S128x128 .f32), FVec F S128x128 .f32 ← k0_part167 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v1979 v1995 v1999
  pure ⟨v1942, v2011, v2019, v2035, v2039, v2044, v2045⟩

/-- The printed parts from the middle of the last block. -/
def tail2 (r : (Σ' (v1942 : BitVec 32) (v2011 : FVec F S128x128 .f32) (v2019 : FVec F S128x128 .f32) (v2035 : FVec F S128x256 .f32) (v2039 : FVec F S128x256 .f32) (v2044 : FVec F S128x128 .f32), FVec F S128x128 .f32)) : Prog (TpuEff nD τ sig (Elt F) Λ₀ .tc) PUnit :=
  match r with
  | ⟨v1942, v2011, v2019, v2035, v2039, v2044, v2045⟩ => do
    let ⟨v2051, v2059, v2075, v2079, v2080⟩ : Σ' (v2051 : FVec F S128x128 .f32) (v2059 : FVec F S128x128 .f32) (v2075 : FVec F S128x256 .f32) (v2079 : FVec F S128x256 .f32), FVec F S128x128 .f32 ← k0_part168 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2011 v2019 v2035 v2039 v2044 v2045
    let ⟨v2091, v2099, v2115, v2116⟩ : Σ' (v2091 : FVec F S128x128 .f32) (v2099 : FVec F S128x128 .f32) (v2115 : FVec F S128x256 .f32), FVec F S128x256 .fp8e4m3 ← k0_part169 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2051 v2059 v2075 v2079 v2080
    let ⟨v2131, v2139, v2148, v2151, v2152⟩ : Σ' (v2131 : FVec F S128x128 .f32) (v2139 : FVec F S128x128 .f32) (v2148 : FVec F S128x128 .fp8e4m3) (v2151 : FVec F S128x128 .fp8e4m3), FVec F S128x256 .fp8e4m3 ← k0_part170 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2091 v2099 v2115 v2116
    let ⟨v2171, v2179, v2182, v2185, v2188⟩ : Σ' (v2171 : FVec F S128x128 .f32) (v2179 : FVec F S128x128 .f32) (v2182 : FVec F S128x128 .fp8e4m3) (v2185 : FVec F S128x128 .fp8e4m3), FVec F S128x128 .fp8e4m3 ← k0_part171 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2131 v2139 v2148 v2151 v2152
    let ⟨v2211, v2219, v2222⟩ : Σ' (v2211 : FVec F S128x128 .f32) (v2219 : FVec F S128x128 .f32), FVec F S128x128 .fp8e4m3 ← k0_part172 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2171 v2179 v2182 v2185 v2188
    let ⟨v2251, v2259⟩ : Σ' (v2251 : FVec F S128x128 .f32), FVec F S128x128 .f32 ← k0_part173 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2211 v2219 v2222
    let ⟨v2291, v2294⟩ : Σ' (v2291 : FVec F S128x128 .f32), FVec F S128x128 .f32 ← k0_part174 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2251
    let ⟨v2299, v2315, v2319, v2324, v2325, v2327⟩ : Σ' (v2299 : FVec F S128x128 .f32) (v2315 : FVec F S128x256 .f32) (v2319 : FVec F S128x256 .f32) (v2324 : FVec F S128x128 .f32) (v2325 : FVec F S128x128 .f32), FVec F S1x128 .f32 ← k0_part175 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2259 v2294
    let ⟨v2331, v2339, v2355, v2359, v2360, v2363⟩ : Σ' (v2331 : FVec F S128x128 .f32) (v2339 : FVec F S128x128 .f32) (v2355 : FVec F S128x256 .f32) (v2359 : FVec F S128x256 .f32) (v2360 : FVec F S128x128 .f32), FVec F S128x128 .f32 ← k0_part176 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2291 v2299 v2315 v2319 v2324 v2325 v2327
    let ⟨v2371, v2379, v2395, v2399⟩ : Σ' (v2371 : FVec F S128x128 .f32) (v2379 : FVec F S128x128 .f32) (v2395 : FVec F S128x256 .f32), FVec F S128x256 .f32 ← k0_part177 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2331 v2339 v2355 v2359 v2360 v2363
    let ⟨v2411, v2419, v2428, v2431, v2435⟩ : Σ' (v2411 : FVec F S128x128 .f32) (v2419 : FVec F S128x128 .f32) (v2428 : FVec F S128x128 .fp8e4m3) (v2431 : FVec F S128x128 .fp8e4m3), FVec F S128x256 .f32 ← k0_part178 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2371 v2379 v2395 v2399
    let ⟨v2451, v2459, v2462, v2465, v2468, v2471⟩ : Σ' (v2451 : FVec F S128x128 .f32) (v2459 : FVec F S128x128 .f32) (v2462 : FVec F S128x128 .fp8e4m3) (v2465 : FVec F S128x128 .fp8e4m3) (v2468 : FVec F S128x128 .fp8e4m3), FVec F S128x128 .fp8e4m3 ← k0_part179 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2411 v2419 v2428 v2431 v2435
    let ⟨v2491, v2499, v2502, v2505⟩ : Σ' (v2491 : FVec F S128x128 .f32) (v2499 : FVec F S128x128 .f32) (v2502 : FVec F S128x128 .fp8e4m3), FVec F S128x128 .fp8e4m3 ← k0_part180 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2451 v2459 v2462 v2465 v2468 v2471
    let ⟨v2531, v2539, v2541⟩ : Σ' (v2531 : FVec F S128x128 .f32) (v2539 : FVec F S128x128 .f32), Vec F S1x128x128 .fp8e4m3 ← k0_part181 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2491 v2499 v2502 v2505
    let ⟨v2571, v2574, v2575⟩ : Σ' (v2571 : FVec F S128x128 .f32) (v2574 : FVec F S128x128 .f32), Vec F S1x1x1x128 .f32 ← k0_part182 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2531 v2541
    let ⟨v2579, v2595, v2599, v2611⟩ : Σ' (v2579 : FVec F S128x128 .f32) (v2595 : FVec F S128x256 .f32) (v2599 : FVec F S128x256 .f32), FVec F S128x128 .f32 ← k0_part183 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2539 v2571 v2574 v2575
    let ⟨v2619, v2635, v2639, v2644, v2645⟩ : Σ' (v2619 : FVec F S128x128 .f32) (v2635 : FVec F S128x256 .f32) (v2639 : FVec F S128x256 .f32) (v2644 : FVec F S128x128 .f32), FVec F S128x128 .f32 ← k0_part184 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2579 v2595 v2599
    let ⟨v2651, v2659, v2675, v2679, v2680⟩ : Σ' (v2651 : FVec F S128x128 .f32) (v2659 : FVec F S128x128 .f32) (v2675 : FVec F S128x256 .f32) (v2679 : FVec F S128x256 .f32), FVec F S128x128 .f32 ← k0_part185 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2611 v2619 v2635 v2639 v2644 v2645
    let ⟨v2691, v2699, v2715, v2716⟩ : Σ' (v2691 : FVec F S128x128 .f32) (v2699 : FVec F S128x128 .f32) (v2715 : FVec F S128x256 .f32), FVec F S128x256 .fp8e4m3 ← k0_part186 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2651 v2659 v2675 v2679 v2680
    let ⟨v2731, v2739, v2748, v2751, v2752⟩ : Σ' (v2731 : FVec F S128x128 .f32) (v2739 : FVec F S128x128 .f32) (v2748 : FVec F S128x128 .fp8e4m3) (v2751 : FVec F S128x128 .fp8e4m3), FVec F S128x256 .fp8e4m3 ← k0_part187 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2691 v2699 v2715 v2716
    let v2791 : FVec F S96x128 .bf16 ← k0_part188 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2731 v2739 v2748 v2751 v2752
    let v2794 : Vec F S96x128 .bf16 ← Prog.lift (.load arg15 (Rect.unit (s := S96x9088) ![0, 8960] S96x128.size inb_S96x9088_S96x128_0_8960).toLoadRect (View.loadsAt_vmem h_S96x128))
    Prog.lift (.store arg15 (Rect.unit (s := S96x9088) ![0, 8960] S96x128.size inb_S96x9088_S96x128_0_8960) (k0_pay1 v2791) Finset.univ (View.stores_vmem h_S96x128 (harg15.storeExact_slice rfl _ packedbf16_S96x9088_S96x128_0_8960) (fun _ => rfl)) (.inl rfl))
    Prog.lift (.enqueueDma arg15 (.here arg3) (.dma arg18.sem) harg15.wordExact harg3.wordExact ⟨Or.inl rfl, trivial⟩)
    Prog.lift (.waitDma2 arg19.sem arg14 arg4 harg14.wordExact harg4.wordExact)
    Prog.lift (.waitDma2 arg18.sem arg15 arg3 harg15.wordExact harg3.wordExact)
    pure ⟨⟩

set_option maxRecDepth 65536 in
set_option maxHeartbeats 0 in
theorem tail_eq (v191 : IVec S24x128 32) :
    (tail1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v191 >>= tail2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) = tail arg1 harg1 arg3 harg3 arg4 harg4 arg7 harg7 arg8 arg9 arg11 arg12 arg13 arg14 harg14 arg15 harg15 arg16 arg18 arg19 v191 := by
  unfold tail1 tail2 tail
  iterate 560 (conv_lhs => whnf
               conv_rhs => whnf
               refine op_congr fun v => ?_)
  rfl

end Cert.Proof.Kernel
-- ==== Proof.Between.lean ====
/- The body before the loops, between them, and as a whole. -/
module

public import proofs.«01_k».proof.Proof.Fill
public import proofs.«01_k».proof.Proof.Tail
public import proofs.«01_k».proof.Proof.QuantRun
public import proofs.«01_k».proof.Proof.ProgramTrip
public import proofs.«01_k».proof.Proof.ProgramTail

@[expose] public section

set_option synthInstance.maxSize 4096

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof

variable {F : FTy → Type} [FloatOps F]

/-! ## Values -/

/-- The activations with 32 rows of zeros below. -/
def xvFull (X : Vec F S96x10240 .bf16) : Vec F S128x10240 .bf16 := fun y =>
  if h : (y 0).val < 96 then X (Fin.cons ⟨(y 0).val, h⟩ (Fin.cons (y 1) finZeroElim))
  else k0_pay541 (Fin.cons ⟨(y 0).val - 96, by have : (y 0).val < 128 := (y 0).isLt; show (y 0).val - 96 < 32; omega⟩ (Fin.cons (y 1) finZeroElim))

/-- The weight scales, 20 groups to each 32 columns. -/
def wspFull (W2 : Vec F S71x80 .f32) : Vec F S72x128 .f32 :=
  put (put (put (put (k0_pay543 (F := F)) ![0, 0] S71x20.size inb_S72x128_S71x20_0_0 (k0_pay544 (View.ld W2 (Rect.unit (s := S71x80) ![0, 0] S71x20.size inb_S71x80_S71x20_0_0))))
    ![0, 32] S71x20.size inb_S72x128_S71x20_0_32 (k0_pay545 (View.ld W2 (Rect.unit (s := S71x80) ![0, 20] S71x20.size inb_S71x80_S71x20_0_20))))
    ![0, 64] S71x20.size inb_S72x128_S71x20_0_64 (k0_pay546 (View.ld W2 (Rect.unit (s := S71x80) ![0, 40] S71x20.size inb_S71x80_S71x20_0_40))))
    ![0, 96] S71x20.size inb_S72x128_S71x20_0_96 (k0_pay547 (View.ld W2 (Rect.unit (s := S71x80) ![0, 60] S71x20.size inb_S71x80_S71x20_0_60)))

abbrev lane : IVec S128x128 32 := iota .tc S128x128 32 [1] iota_S128x128_d1_w32
abbrev lane24 : IVec S24x128 32 := iota .tc S24x128 32 [1] iota_S24x128_d1_w32

/-- The scales' table of the activations. -/
abbrev scAll (X : Vec F S96x10240 .bf16) : Vec F S128x128 .f32 := scFull (xvFull X) (k0_pay542 (F := F))

/-- The codes. -/
abbrev cdAll (X : Vec F S96x10240 .bf16) : Vec F S96x10240 .fp8e4m3 := cdFull (xvFull X)

/-- The right-hand sides. -/
abbrev raAll (X : Vec F S96x10240 .bf16) : Vec F S20x256x256 .fp8e4m3 := rFull (xvFull X) lane (k0_pay540 (F := F)) 0 (by decide)
abbrev rbAll (X : Vec F S96x10240 .bf16) : Vec F S20x256x256 .fp8e4m3 := rFull (xvFull X) lane (k0_pay540 (F := F)) 2 (by decide)

/-- The scales, as a result. -/
def xsOut (T : Vec F S128x128 .f32) : Vec F S96x80 .f32 := fun y =>
  (if (y 1).val / 20 = 0 then k0_pay553 T else if (y 1).val / 20 = 1 then k0_pay554 T else if (y 1).val / 20 = 2 then k0_pay555 T else k0_pay556 T)
    (Fin.cons (y 0) (Fin.cons ⟨(y 1).val % 20, Nat.mod_lt _ (by decide)⟩ finZeroElim))

/-- Rows of the table. -/
abbrev rows0 (T : Vec F S128x128 .f32) : Vec F S24x128 .f32 := View.ld T (Rect.unit (s := S128x128) ![0, 0] S24x128.size inb_S128x128_S24x128_0_0)
abbrev rows1 (T : Vec F S128x128 .f32) : Vec F S24x128 .f32 := View.ld T (Rect.unit (s := S128x128) ![32, 0] S24x128.size inb_S128x128_S24x128_32_0)
abbrev rows2 (T : Vec F S128x128 .f32) : Vec F S24x128 .f32 := View.ld T (Rect.unit (s := S128x128) ![64, 0] S24x128.size inb_S128x128_S24x128_64_0)
abbrev rows3 (T : Vec F S128x128 .f32) : Vec F S24x128 .f32 := View.ld T (Rect.unit (s := S128x128) ![96, 0] S24x128.size inb_S128x128_S24x128_96_0)

/-- The scales, as the blocks read them. -/
def xsTab (T : Vec F S128x128 .f32) : Vec F S3x24x128 .f32 := fun y =>
  (if (y 0).val = 0 then k0_pay557 (rows0 T) (rows1 T) else if (y 0).val = 1 then k0_pay558 (rows2 T) (rows3 T) else k0_pay559 (rows1 T) (rows2 T))
    (Fin.cons ⟨0, by decide⟩ (Fin.cons (y 1) (Fin.cons (y 2) finZeroElim)))

theorem agree_all {s : Shape} {X : Type} {S : s.Idx → Prop} {d G : s.Idx → X} (hd : Agree S d G) (h : ∀ y, S y) : d = G := funext fun y => hd y (h y)

theorem agree_none {s : Shape} {X : Type} (d G : s.Idx → X) : Agree (fun _ => False) d G := fun _ h => h.elim

theorem xsOut_puts (T : Vec F S128x128 .f32) (d : Vec F S96x80 .f32) :
    put (put (put (put d ![0, 0] S96x20.size inb_S96x80_S96x20_0_0 (k0_pay553 T)) ![0, 20] S96x20.size inb_S96x80_S96x20_0_20 (k0_pay554 T))
      ![0, 40] S96x20.size inb_S96x80_S96x20_0_40 (k0_pay555 T)) ![0, 60] S96x20.size inb_S96x80_S96x20_0_60 (k0_pay556 T) = xsOut T := by
  refine agree_all (agree_put (agree_put (agree_put (agree_put (agree_none d (xsOut T)) ?_) ?_) ?_) ?_) ?_
  · intro y h
    have h1 := h 1
    simp [S96x20] at h1
    unfold xsOut
    rw [if_pos (by omega)]
    refine congrArg _ (funext fun a => Fin.ext ?_)
    fin_cases a
    · show (y 0).val - 0 = (y 0).val
      omega
    · show (y 1).val - 0 = (y 1).val % 20
      omega
  · intro y h
    have h1 := h 1
    simp [S96x20] at h1
    unfold xsOut
    rw [if_neg (by omega), if_pos (by omega)]
    refine congrArg _ (funext fun a => Fin.ext ?_)
    fin_cases a
    · show (y 0).val - 0 = (y 0).val
      omega
    · show (y 1).val - 20 = (y 1).val % 20
      omega
  · intro y h
    have h1 := h 1
    simp [S96x20] at h1
    unfold xsOut
    rw [if_neg (by omega), if_neg (by omega), if_pos (by omega)]
    refine congrArg _ (funext fun a => Fin.ext ?_)
    fin_cases a
    · show (y 0).val - 0 = (y 0).val
      omega
    · show (y 1).val - 40 = (y 1).val % 20
      omega
  · intro y h
    have h1 := h 1
    simp [S96x20] at h1
    unfold xsOut
    rw [if_neg (by omega), if_neg (by omega), if_neg (by omega)]
    refine congrArg _ (funext fun a => Fin.ext ?_)
    fin_cases a
    · show (y 0).val - 0 = (y 0).val
      omega
    · show (y 1).val - 60 = (y 1).val % 20
      omega
  · intro y
    have h0 : (y 0).val < 96 := (y 0).isLt
    have h1 : (y 1).val < 80 := (y 1).isLt
    unfold Win
    simp [Fin.forall_fin_succ, S96x80, S96x20]
    omega

theorem xsTab_puts (T : Vec F S128x128 .f32) (d : Vec F S3x24x128 .f32) :
    put (put (put d ![0, 0, 0] S1x24x128.size inb_S3x24x128_S1x24x128_0_0_0 (k0_pay557 (rows0 T) (rows1 T)))
      ![1, 0, 0] S1x24x128.size inb_S3x24x128_S1x24x128_1_0_0 (k0_pay558 (rows2 T) (rows3 T)))
      ![2, 0, 0] S1x24x128.size inb_S3x24x128_S1x24x128_2_0_0 (k0_pay559 (rows1 T) (rows2 T)) = xsTab T := by
  refine agree_all (agree_put (agree_put (agree_put (agree_none d (xsTab T)) ?_) ?_) ?_) ?_
  · intro y h
    have h0 := h 0
    simp [S1x24x128] at h0
    unfold xsTab
    rw [if_pos (by omega)]
    refine congrArg _ (funext fun a => Fin.ext ?_)
    fin_cases a
    · show (y 0).val - 0 = 0
      omega
    · show (y 1).val - 0 = (y 1).val
      omega
    · show (y 2).val - 0 = (y 2).val
      omega
  · intro y h
    have h0 := h 0
    simp [S1x24x128] at h0
    unfold xsTab
    rw [if_neg (by omega), if_pos (by omega)]
    refine congrArg _ (funext fun a => Fin.ext ?_)
    fin_cases a
    · show (y 0).val - 1 = 0
      omega
    · show (y 1).val - 0 = (y 1).val
      omega
    · show (y 2).val - 0 = (y 2).val
      omega
  · intro y h
    have h0 := h 0
    simp [S1x24x128] at h0
    unfold xsTab
    rw [if_neg (by omega), if_neg (by omega)]
    refine congrArg _ (funext fun a => Fin.ext ?_)
    fin_cases a
    · show (y 0).val - 2 = 0
      omega
    · show (y 1).val - 0 = (y 1).val
      omega
    · show (y 2).val - 0 = (y 2).val
      omega
  · intro y
    have h0 : (y 0).val < 3 := (y 0).isLt
    have h1 : (y 1).val < 24 := (y 1).isLt
    have h2 : (y 2).val < 128 := (y 2).isLt
    unfold Win
    simp [Fin.forall_fin_succ, S3x24x128, S1x24x128]
    omega

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD)

/-- The two parts of the activations' scratch. -/
abbrev xRect (t : Fin 2) : Rect S128x10240 :=
  match t with
  | 0 => Rect.unit (s := S128x10240) ![0, 0] S96x10240.size inb_S128x10240_S96x10240_0_0
  | 1 => Rect.unit (s := S128x10240) ![96, 0] S32x10240.size inb_S128x10240_S32x10240_96_0

theorem x_stride (t : Fin 2) (a) : (xRect t).stride a = 1 := by
  match t with
  | 0 => rfl
  | 1 => rfl

theorem x_mem0 (y : S128x10240.Idx) (h : y ∈ (Rect.unit (s := S128x10240) ![0, 0] S96x10240.size inb_S128x10240_S96x10240_0_0).set) : 0 = (y 0).val / 96 := by
  have a : 0 ≤ (y 0).val ∧ (y 0).val < 0 + 96 := (Rect.mem_set_unit ..).mp h 0
  omega

theorem x_mem1 (y : S128x10240.Idx) (h : y ∈ (Rect.unit (s := S128x10240) ![96, 0] S32x10240.size inb_S128x10240_S32x10240_96_0).set) : 1 = (y 0).val / 96 := by
  have a : 96 ≤ (y 0).val ∧ (y 0).val < 96 + 32 := (Rect.mem_set_unit ..).mp h 0
  omega

theorem x_mem : ∀ (t : Fin 2) (y : S128x10240.Idx), y ∈ (xRect t).set → t.val = (y 0).val / 96 :=
  Fin.forall_fin_two.mpr ⟨x_mem0, x_mem1⟩

theorem x_disj (t t' : Fin 2) (h : t ≠ t') : Disjoint (xRect t).set (xRect t').set := by
  rw [Finset.disjoint_left]
  intro y h1 h2
  exact h (Fin.ext ((x_mem t y h1).trans (x_mem t' y h2).symm))

theorem x_cover : (Finset.univ : Finset (Fin 2)).biUnion (fun t => (xRect t).set) = Finset.univ := by
  ext y
  simp only [Finset.mem_biUnion, Finset.mem_univ, true_and, iff_true]
  have h0 : (y 0).val < 128 := (y 0).isLt
  have h1 : (y 1).val < 10240 := (y 1).isLt
  by_cases h : (y 0).val < 96
  · refine ⟨0, (Rect.mem_set_unit ..).mpr ?_⟩
    intro a
    fin_cases a
    · simp [S96x10240]; exact h
    · simp [S96x10240]; exact h1
  · refine ⟨1, (Rect.mem_set_unit ..).mpr ?_⟩
    intro a
    fin_cases a
    · simp [S32x10240]; exact ⟨Nat.le_of_not_lt h, h0⟩
    · simp [S32x10240]; exact h1

theorem x_split (d : Vec F S128x10240 .bf16) : own c arg6 d ⊢ iprop((∃ d, own c (arg6.slice (Rect.unit (s := S128x10240) ![0, 0] S96x10240.size inb_S128x10240_S96x10240_0_0) (fun _ => rfl)) d) ∗ (∃ d, own c (arg6.slice (Rect.unit (s := S128x10240) ![96, 0] S32x10240.size inb_S128x10240_S32x10240_96_0) (fun _ => rfl)) d)) := by
  refine (owns_rects (c.tc : Thread nD τ) arg6 fullShare xRect x_stride x_disj x_cover d).trans ?_
  rw [show BI.bigSep Finset.univ (fun t : Fin 2 => owns (c.tc : Thread nD τ) (arg6.slice (xRect t) (x_stride t)) fullShare (fun j => d ((xRect t).emb j))) = iprop(_ ∗ _) from BI.bigSep_fin_two _]
  iintro ⟨H0, H1⟩
  isplitl [H0]
  · iexists _; iexact H0
  · iexists _; iexact H1

theorem x_join (X : Vec F S96x10240 .bf16) : iprop(own c (arg6.slice (Rect.unit (s := S128x10240) ![0, 0] S96x10240.size inb_S128x10240_S96x10240_0_0) (fun _ => rfl)) X ∗ own c (arg6.slice (Rect.unit (s := S128x10240) ![96, 0] S32x10240.size inb_S128x10240_S32x10240_96_0) (fun _ => rfl)) (k0_pay541 (F := F))) ⊢ own c arg6 (xvFull X) := by
  refine BI.BIBase.Entails.trans ?_ (owns_of_rects (c.tc : Thread nD τ) arg6 fullShare xRect x_stride x_disj x_cover (xvFull X))
  rw [show BI.bigSep Finset.univ (fun t : Fin 2 => owns (c.tc : Thread nD τ) (arg6.slice (xRect t) (x_stride t)) fullShare (fun j => xvFull X ((xRect t).emb j))) = iprop(_ ∗ _) from BI.bigSep_fin_two _]
  have e0 : (fun j => xvFull X ((xRect 0).emb j)) = X := by
    funext j
    have hj : (j 0).val < 96 := (j 0).isLt
    have e : (((xRect 0).emb j) 0).val = (j 0).val := by show 0 + 1 * (j 0).val = _; omega
    unfold xvFull
    rw [dif_pos (by rw [e]; exact hj)]
    refine congrArg X (funext fun a => Fin.ext ?_)
    fin_cases a
    · exact e
    · show 0 + 1 * (j 1).val = (j 1).val
      omega
  have e1 : (fun j => xvFull X ((xRect 1).emb j)) = k0_pay541 (F := F) := by
    funext j
    have e : (((xRect 1).emb j) 0).val = 96 + (j 0).val := by show 96 + 1 * (j 0).val = _; omega
    unfold xvFull
    rw [dif_neg (by rw [e]; omega)]
    refine congrArg _ (funext fun a => Fin.ext ?_)
    fin_cases a
    · show (((xRect 1).emb j) 0).val - 96 = (j 0).val
      rw [e]; omega
    · show 0 + 1 * (j 1).val = (j 1).val
      omega
  rw [e0, e1]

end Cert.Proof.Kernel
-- ==== Proof.Head.lean ====
/- The body up to the loop over the blocks. -/
module

public import proofs.«01_k».proof.Proof.Between

@[expose] public section

set_option synthInstance.maxSize 4096

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD)

theorem own_put_whole {sp : Space} {s : Shape} {e : EltTy} (M : Memref sig .tc sp s e) (d : s.Idx → Elt F e) (off : Fin s.rank → ℕ)
    (h0 : ∀ a, off a = 0) (inb : ∀ a, off a + s.size a ≤ s.size a) (w : s.Idx → Elt F e) :
    own c M (put d off s.size inb w) ⊢ own c M w := by
  rw [put_whole d off h0 inb w]

theorem own_eq {sp : Space} {s : Shape} {e : EltTy} (M : Memref sig .tc sp s e) {d d' : s.Idx → Elt F e} (h : d = d') : own c M d ⊢ own c M d' := by
  rw [h]

theorem ld_whole {s : Shape} {e : EltTy} (d : s.Idx → Elt F e) (off : Fin s.rank → ℕ) (h0 : ∀ a, off a = 0) (inb : ∀ a, off a + s.size a ≤ s.size a) :
    View.ld d (Rect.unit (s := s) off s.size inb) = d := by
  funext j
  refine congrArg d (funext fun a => Fin.ext ?_)
  show off a + 1 * (j a).val = (j a).val
  rw [h0 a]; omega

theorem sc_zero (XV : Vec F S128x10240 .bf16) (z : Vec F S128x128 .f32) :
    Agree (fun y : S128x128.Idx => (y 0).val % 32 < 0 ∨ 20 ≤ (y 0).val % 32) z (scFull XV z) := by
  intro y hy
  unfold scFull
  rw [dif_neg (by omega)]

/-- The loop over the columns of the groups. -/
theorem wp_loop1 (XV : Vec F S128x10240 .bf16) (z : Vec F S128x128 .f32) (v145 : IVec S128x128 32) (v146 : FVec F S128x128 .fp8e4m3) (v166 : FVec F S71x20 .f32)
    {α : Type} (kk : PUnit → Prog (TpuEff nD τ sig (Elt F) Λ₀ .tc) α) (Q : α → sProp (MT nD τ sig Unit (Elt F) ℕ (Pipeline.UC sig nD τ) ℕ)) :
    iprop(own c arg6 XV ∗ own c arg10 z ∗ (∃ d, own c arg14 d) ∗ (∃ d, own c arg8 d) ∗ (∃ d, own c arg9 d))
      ⊢ iprop((iprop(own c arg6 XV ∗ own c arg10 (scFull XV z) ∗ own c arg14 (cdFull XV) ∗ own c arg8 (rFull XV v145 v146 0 (by decide))
            ∗ own c arg9 (rFull XV v145 v146 2 (by decide))) -∗ wpK c (kk ⟨⟩) Q)
        -∗ wpK c (Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v145 v146 v166) >>= kk) Q) := by
  rw [t1_body_eq]
  iintro ⟨H6, H10, ⟨%d14, H14⟩, ⟨%d8, H8⟩, ⟨%d9, H9⟩⟩ Hk
  unfold wpK
  iapply (Scf.wp_for_bind frame (wpE (defs₀ (F := F)) Variants.none (c.tc : Thread nD τ) none) Set.univ _ _ _ k0_t1_ok ⟨⟩ _
      (fun n _ => quantInv XV v145 v146 arg6 arg8 arg9 arg10 arg14 c z n)
      (fun k _ => wp_quant XV v145 v146 arg6 arg8 harg8 arg9 harg9 arg10 arg14 harg14 c z k)) $$ [H6 H10 H14 H8 H9]
  · unfold quantInv held
    isplitl [H6]; · iexact H6
    isplitl [H10]
    · iexists z
      isplitr; · ipureintro; exact sc_zero XV z
      iexact H10
    isplitl [H14]
    · iexists d14
      isplitr; · ipureintro; exact fun y h => absurd h (by omega)
      iexact H14
    isplitl [H8]
    · iexists d8
      isplitr; · ipureintro; exact fun y h => absurd h (by omega)
      iexact H8
    iexists d9
    isplitr; · ipureintro; exact fun y h => absurd h (by omega)
    iexact H9
  iintro %acc HI
  rw [show Scf.trips k0_t1_loop.lb k0_t1_loop.ub k0_t1_loop.st = 20 from trips1]
  unfold quantInv held
  icases HI with ⟨H6, ⟨%e10, %h10, H10⟩, ⟨%e14, %h14, H14⟩, ⟨%e8, %h8, H8⟩, ⟨%e9, %h9, H9⟩⟩
  have h10' : e10 = scFull XV z := agree_all h10 (fun y => by omega)
  have h14' : e14 = cdFull XV := agree_all h14 (fun y => by omega)
  have h8' : e8 = rFull XV v145 v146 0 (by decide) := agree_all h8 (fun y => (y 0).isLt)
  have h9' : e9 = rFull XV v145 v146 2 (by decide) := agree_all h9 (fun y => (y 0).isLt)
  subst h10' h14' h8' h9'
  iapply Hk
  isplitl [H6]; · iexact H6
  isplitl [H10]; · iexact H10
  isplitl [H14]; · iexact H14
  isplitl [H8]; · iexact H8
  iexact H9

variable (Wt : Vec F S9088x10240 .fp8e4m3) (W2 : Vec F S71x80 .f32) (X : Vec F S96x10240 .bf16)

/-- The weight scales after their first part is in place. -/
abbrev wsp1 : Vec F S72x128 .f32 := put (k0_pay543 (F := F)) ![0, 0] S71x20.size inb_S72x128_S71x20_0_0 (k0_pay544 (View.ld W2 (Rect.unit (s := S71x80) ![0, 0] S71x20.size inb_S71x80_S71x20_0_0)))

set_option maxHeartbeats 1000000 in
theorem wp_part113 (Q : (Σ' (v145 : IVec S128x128 32) (v146 : FVec F S128x128 .fp8e4m3), FVec F S71x20 .f32) → sProp (MT nD τ sig Unit (Elt F) ℕ (Pipeline.UC sig nD τ) ℕ)) :
    iprop(filling arg1 arg7 arg16 c Wt 22 ∗ (∃ d, own c (arg6.slice (Rect.unit (s := S128x10240) ![96, 0] S32x10240.size inb_S128x10240_S32x10240_96_0) (fun _ => rfl)) d) ∗ (∃ d, own c arg10 d) ∗ (∃ d, own c arg12 d) ∗ own c arg2 W2)
      ⊢ iprop((iprop(filling arg1 arg7 arg16 c Wt 24 ∗ own c (arg6.slice (Rect.unit (s := S128x10240) ![96, 0] S32x10240.size inb_S128x10240_S32x10240_96_0) (fun _ => rfl)) (k0_pay541 (F := F)) ∗ own c arg10 (k0_pay542 (F := F)) ∗ own c arg12 (wsp1 W2) ∗ own c arg2 W2)
          -∗ Q ⟨lane, k0_pay540 (F := F), k0_pay545 (View.ld W2 (Rect.unit (s := S71x80) ![0, 20] S71x20.size inb_S71x80_S71x20_0_20))⟩)
        -∗ wpK c (k0_part113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) Q) := by
  rw [k0_part113_eq_skeleton]
  unfold k0_part113_skel wpK
  dsimp only
  iintro ⟨HF, ⟨%d6, H6⟩, ⟨%d10, H10⟩, ⟨%d12, H12⟩, H2⟩ Hk
  iapply (wp_fill arg1 arg7 arg16 c Wt (b := 22) (by omega) (off1 22) (off2 22) rfl) $$ HF
  iintro HF
  iapply (wp_fill arg1 arg7 arg16 c Wt (b := 23) (by omega) (off1 23) (off2 23) rfl) $$ HF
  iintro HF
  unfold wpK
  iapply (wp_ld_slice_bind Variants.none (c.tc : Thread nD τ) none (offS := ![0, 0]) (inbS := by decide) (by decide)) $$ H6
  iintro H6
  iapply (wp_st_slice_bind Variants.none (c.tc : Thread nD τ) none) $$ H6
  iintro H6
  iapply (wp_ld_bind Variants.none (c.tc : Thread nD τ) none) $$ H10
  iintro H10
  iapply (wp_st_bind Variants.none (c.tc : Thread nD τ) none) $$ H10
  iintro H10
  ihave G10 := (own_put_whole c arg10 _ ![0, 0] (by decide) _ _) $$ H10
  iapply (wp_ld_bind Variants.none (c.tc : Thread nD τ) none) $$ H12
  iintro H12
  iapply (wp_st_bind Variants.none (c.tc : Thread nD τ) none) $$ H12
  iintro H12
  ihave G12 := (own_put_whole c arg12 _ ![0, 0] (by decide) _ _) $$ H12
  iapply (wp_ld_bind Variants.none (c.tc : Thread nD τ) none) $$ H2
  iintro H2
  iapply (wp_ld_bind Variants.none (c.tc : Thread nD τ) none) $$ G12
  iintro G12
  iapply (wp_st_bind Variants.none (c.tc : Thread nD τ) none) $$ G12
  iintro G12
  iapply (wp_ld_bind Variants.none (c.tc : Thread nD τ) none) $$ H2
  iintro H2
  iapply (wp_ld_bind Variants.none (c.tc : Thread nD τ) none) $$ G12
  iintro G12
  rw [wp_pure]
  imodintro
  iapply Hk
  isplitl [HF]; · iexact HF
  isplitl [H6]; · iexact H6
  isplitl [G10]; · iexact G10
  isplitl [G12]; · iexact G12
  iexact H2

set_option maxHeartbeats 2000000 in
theorem wp_part114 (Q : (Σ' (v187 : Vec F S24x128 .f32), Vec F S24x128 .f32) → sProp (MT nD τ sig Unit (Elt F) ℕ (Pipeline.UC sig nD τ) ℕ)) :
    iprop(own c arg12 (wsp1 W2) ∗ own c arg2 W2 ∗ copying (c.tc : Thread nD τ) arg0 (arg6.slice (Rect.unit (s := S128x10240) ![0, 0] S96x10240.size inb_S128x10240_S96x10240_0_0) (fun _ => rfl)) arg17.sem X ∗ own c (arg6.slice (Rect.unit (s := S128x10240) ![96, 0] S32x10240.size inb_S128x10240_S32x10240_96_0) (fun _ => rfl)) (k0_pay541 (F := F))
        ∗ (∃ W, owes (c.tc : Thread nD τ) 0 W) ∗ own c arg10 (k0_pay542 (F := F)) ∗ (∃ d, own c arg14 d) ∗ (∃ d, own c arg8 d) ∗ (∃ d, own c arg9 d)
        ∗ (∃ d, own c arg4 d) ∗ semVal ((c.tc : Thread nD τ), .dma arg19.sem) 0 ∗ (∃ d, own c arg5 d))
      ⊢ iprop((iprop(own c arg12 (wspFull W2) ∗ own c arg2 W2 ∗ own c arg0 X ∗ semVal ((c.tc : Thread nD τ), .dma arg17.sem) 0 ∗ own c arg6 (xvFull X)
          ∗ (∃ W, owes (c.tc : Thread nD τ) 0 W) ∗ own c arg10 (scAll X) ∗ copying (c.tc : Thread nD τ) arg14 arg4 arg19.sem (cdAll X)
          ∗ own c arg8 (raAll X) ∗ own c arg9 (rbAll X) ∗ own c arg5 (xsOut (scAll X)))
          -∗ Q ⟨rows0 (scAll X), rows1 (scAll X)⟩)
        -∗ wpK c (k0_part114 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 lane (k0_pay540 (F := F)) (k0_pay545 (View.ld W2 (Rect.unit (s := S71x80) ![0, 20] S71x20.size inb_S71x80_S71x20_0_20)))) Q) := by
  rw [k0_part114_eq_skeleton]
  unfold k0_part114_skel wpK
  dsimp only
  iintro ⟨H12, H2, HC, H6, HO, H10, H14, H8, H9, H4, H19, ⟨%d5, H5⟩⟩ Hk
  iapply (wp_st_bind Variants.none (c.tc : Thread nD τ) none) $$ H12
  iintro H12
  iapply (wp_ld_bind Variants.none (c.tc : Thread nD τ) none) $$ H2
  iintro H2
  iapply (wp_ld_bind Variants.none (c.tc : Thread nD τ) none) $$ H12
  iintro H12
  iapply (wp_st_bind Variants.none (c.tc : Thread nD τ) none) $$ H12
  iintro H12
  iapply (wp_ld_bind Variants.none (c.tc : Thread nD τ) none) $$ H2
  iintro H2
  iapply (wp_ld_bind Variants.none (c.tc : Thread nD τ) none) $$ H12
  iintro H12
  iapply (wp_st_bind Variants.none (c.tc : Thread nD τ) none) $$ H12
  iintro H12
  iapply (wp_copy_wait Variants.none (c.tc : Thread nD τ) none) $$ [HC HO]
  · isplitl [HC]; · iexact HC
    iexact HO
  iintro ⟨H0, HT, H17, HO⟩
  ihave H6' := (x_join arg6 c X) $$ [HT H6]
  · isplitl [HT]; · iexact HT
    iexact H6
  iapply (wp_loop1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c (xvFull X) (k0_pay542 (F := F)) lane (k0_pay540 (F := F)) _) $$ [H6' H10 H14 H8 H9]
  · isplitl [H6']; · iexact H6'
    isplitl [H10]; · iexact H10
    isplitl [H14]; · iexact H14
    isplitl [H8]; · iexact H8
    iexact H9
  iintro ⟨H6, H10, H14, H8, H9⟩
  unfold wpK
  iapply (wp_copy_start Variants.none (c.tc : Thread nD τ) none (by decide)) $$ [H14 H4 H19]
  · isplitl [H14]; · iexact H14
    isplitl [H4]; · iexact H4
    iexact H19
  iintro HC
  iapply (wp_ld_bind Variants.none (c.tc : Thread nD τ) none) $$ H10
  iintro H10
  rw [show View.ld (scFull (xvFull X) (k0_pay542 (F := F))) (Rect.unit (s := S128x128) ![0, 0] S128x128.size inb_S128x128_S128x128_0_0) = scAll X from ld_whole _ _ (by decide) _]
  iapply (wp_ld_bind Variants.none (c.tc : Thread nD τ) none) $$ H5
  iintro H5
  iapply (wp_st_bind Variants.none (c.tc : Thread nD τ) none) $$ H5
  iintro H5
  iapply (wp_ld_bind Variants.none (c.tc : Thread nD τ) none) $$ H5
  iintro H5
  iapply (wp_st_bind Variants.none (c.tc : Thread nD τ) none) $$ H5
  iintro H5
  iapply (wp_ld_bind Variants.none (c.tc : Thread nD τ) none) $$ H5
  iintro H5
  iapply (wp_st_bind Variants.none (c.tc : Thread nD τ) none) $$ H5
  iintro H5
  iapply (wp_ld_bind Variants.none (c.tc : Thread nD τ) none) $$ H5
  iintro H5
  iapply (wp_st_bind Variants.none (c.tc : Thread nD τ) none) $$ H5
  iintro H5
  ihave G5 := (own_eq c arg5 (xsOut_puts (scAll X) d5)) $$ H5
  iapply (wp_ld_bind Variants.none (c.tc : Thread nD τ) none) $$ H10
  iintro H10
  iapply (wp_ld_bind Variants.none (c.tc : Thread nD τ) none) $$ H10
  iintro H10
  rw [wp_pure]
  imodintro
  iapply Hk
  isplitl [H12]; · iexact H12
  isplitl [H2]; · iexact H2
  isplitl [H0]; · iexact H0
  isplitl [H17]; · iexact H17
  isplitl [H6]; · iexact H6
  isplitl [HO]; · iexact HO
  isplitl [H10]; · iexact H10
  isplitl [HC]; · iexact HC
  isplitl [H8]; · iexact H8
  isplitl [H9]; · iexact H9
  iexact G5

end Cert.Proof.Kernel
-- ==== Proof.Body.lean ====
/- The whole body. -/
module

public import proofs.«01_k».proof.Proof.Head

@[expose] public section

set_option synthInstance.maxSize 4096

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD) (Wt : Vec F S9088x10240 .fp8e4m3) (W2 : Vec F S71x80 .f32) (X : Vec F S96x10240 .bf16)

/-- The loop over the blocks. -/
theorem wp_loop2 (v187 v188 : Vec F S24x128 .f32) (v191 : IVec S24x128 32) (RA RB : Vec F S20x256x256 .fp8e4m3) (XS : Vec F S3x24x128 .f32) (WS : Vec F S72x128 .f32)
    {α : Type} (kk : PUnit → Prog (TpuEff nD τ sig (Elt F) Λ₀ .tc) α) (Q : α → sProp (MT nD τ sig Unit (Elt F) ℕ (Pipeline.UC sig nD τ) ℕ)) :
    ringInv arg1 arg7 arg8 arg9 arg11 arg12 arg13 arg15 arg16 c Wt v191 RA RB XS WS 0
      ⊢ iprop((ringInv arg1 arg7 arg8 arg9 arg11 arg12 arg13 arg15 arg16 c Wt v191 RA RB XS WS 68 -∗ wpK c (kk ⟨⟩) Q)
        -∗ wpK c (Scf.Loop.for k0_t2_loop k0_t2_ok ⟨⟩ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v187 v188 v191) >>= kk) Q) := by
  rw [t2_body_eq]
  iintro HI Hk
  unfold wpK
  iapply (Scf.wp_for_bind frame (wpE (defs₀ (F := F)) Variants.none (c.tc : Thread nD τ) none) Set.univ _ _ _ k0_t2_ok ⟨⟩ _
      (fun n _ => ringInv arg1 arg7 arg8 arg9 arg11 arg12 arg13 arg15 arg16 c Wt v191 RA RB XS WS (4 * n))
      (fun k _ => by apply wp_trip)) $$ HI
  iintro %acc HI
  rw [show Scf.trips k0_t2_loop.lb k0_t2_loop.ub k0_t2_loop.st = 17 from trips2]
  iapply Hk
  iexact HI

set_option maxHeartbeats 1000000 in
theorem wp_part115 (Q : IVec S24x128 32 → sProp (MT nD τ sig Unit (Elt F) ℕ (Pipeline.UC sig nD τ) ℕ)) :
    iprop(ring arg1 arg7 arg16 c Wt 0 ∗ own c arg10 (scAll X) ∗ (∃ d, own c arg11 d) ∗ own c arg8 (raAll X) ∗ own c arg9 (rbAll X) ∗ own c arg12 (wspFull W2)
        ∗ (∃ d, own c arg13 d) ∗ (∃ d, own c arg15 d) ∗ (∃ W, owes (c.tc : Thread nD τ) 0 W))
      ⊢ iprop((iprop(ringInv arg1 arg7 arg8 arg9 arg11 arg12 arg13 arg15 arg16 c Wt lane24 (raAll X) (rbAll X) (xsTab (scAll X)) (wspFull W2) 68 ∗ own c arg10 (scAll X)) -∗ Q lane24)
        -∗ wpK c (k0_part115 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (rows0 (scAll X)) (rows1 (scAll X))) Q) := by
  rw [k0_part115_eq_skeleton]
  unfold k0_part115_skel wpK
  dsimp only
  iintro ⟨HR, H10, ⟨%d11, H11⟩, H8, H9, H12, H13, ⟨%d15, H15⟩, HO⟩ Hk
  iapply (wp_ld_bind Variants.none (c.tc : Thread nD τ) none) $$ H10
  iintro H10
  iapply (wp_ld_bind Variants.none (c.tc : Thread nD τ) none) $$ H10
  iintro H10
  iapply (wp_ld_bind Variants.none (c.tc : Thread nD τ) none) $$ H11
  iintro H11
  iapply (wp_st_bind Variants.none (c.tc : Thread nD τ) none) $$ H11
  iintro H11
  iapply (wp_ld_bind Variants.none (c.tc : Thread nD τ) none) $$ H11
  iintro H11
  iapply (wp_st_bind Variants.none (c.tc : Thread nD τ) none) $$ H11
  iintro H11
  iapply (wp_ld_bind Variants.none (c.tc : Thread nD τ) none) $$ H11
  iintro H11
  iapply (wp_st_bind Variants.none (c.tc : Thread nD τ) none) $$ H11
  iintro H11
  ihave G11 := (own_eq c arg11 (xsTab_puts (scAll X) d11)) $$ H11
  iapply (wp_loop2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt _ _ lane24 (raAll X) (rbAll X) (xsTab (scAll X)) (wspFull W2)) $$ [HR H8 H9 G11 H12 H13 H15 HO]
  · unfold ringInv work
    isplitl [HR]; · iexact HR
    isplitr [HO]
    · isplitl [H8]; · iexact H8
      isplitl [H9]; · iexact H9
      isplitl [G11]; · iexact G11
      isplitl [H12]; · iexact H12
      isplitl [H13]; · iexact H13
      iexists d15
      isplitr; · ipureintro; exact fun i h => absurd h (by omega)
      iexact H15
    iexact HO
  iintro HI
  unfold wpK
  rw [wp_pure]
  imodintro
  iapply Hk
  isplitl [HI]; · iexact HI
  iexact H10

/-- What the body starts from. -/
def bodyStart : sProp (MT nD τ sig Unit (Elt F) ℕ (Pipeline.UC sig nD τ) ℕ) :=
  iprop(filling arg1 arg7 arg16 c Wt 0 ∗ own c arg0 X ∗ own c arg2 W2 ∗ (∃ d, own c arg3 d) ∗ (∃ d, own c arg4 d) ∗ (∃ d, own c arg5 d) ∗ (∃ d, own c arg6 d)
    ∗ (∃ d, own c arg8 d) ∗ (∃ d, own c arg9 d) ∗ (∃ d, own c arg10 d) ∗ (∃ d, own c arg11 d) ∗ (∃ d, own c arg12 d) ∗ (∃ d, own c arg13 d)
    ∗ (∃ d, own c arg14 d) ∗ (∃ d, own c arg15 d)
    ∗ semVal ((c.tc : Thread nD τ), .dma arg17.sem) 0 ∗ semVal ((c.tc : Thread nD τ), .dma arg18.sem) 0 ∗ semVal ((c.tc : Thread nD τ), .dma arg19.sem) 0
    ∗ (∃ W, owes (c.tc : Thread nD τ) 0 W))

/-- The result of the products. -/
abbrev yOut : Vec F S96x9088 .bf16 := yFull Wt lane24 (raAll X) (rbAll X) (xsTab (scAll X)) (wspFull W2)

/-- What it ends with. -/
def bodyEnd : sProp (MT nD τ sig Unit (Elt F) ℕ (Pipeline.UC sig nD τ) ℕ) :=
  iprop(ringEnd arg1 arg7 arg16 c Wt ∗ own c arg0 X ∗ own c arg2 W2 ∗ own c arg3 (yOut Wt W2 X) ∗ own c arg4 (cdAll X) ∗ own c arg5 (xsOut (scAll X)) ∗ (∃ d, own c arg6 d)
    ∗ (∃ d, own c arg8 d) ∗ (∃ d, own c arg9 d) ∗ (∃ d, own c arg10 d) ∗ (∃ d, own c arg11 d) ∗ (∃ d, own c arg12 d) ∗ (∃ d, own c arg13 d)
    ∗ (∃ d, own c arg14 d) ∗ (∃ d, own c arg15 d)
    ∗ semVal ((c.tc : Thread nD τ), .dma arg17.sem) 0 ∗ semVal ((c.tc : Thread nD τ), .dma arg18.sem) 0 ∗ semVal ((c.tc : Thread nD τ), .dma arg19.sem) 0
    ∗ (∃ W, owes (c.tc : Thread nD τ) 0 W))

theorem wp_rest (Q : PUnit → sProp (MT nD τ sig Unit (Elt F) ℕ (Pipeline.UC sig nD τ) ℕ)) :
    tailPre arg1 arg3 arg4 arg7 arg8 arg9 arg11 arg12 arg13 arg14 arg15 arg16 arg18 arg19 c Wt lane24 (raAll X) (rbAll X) (xsTab (scAll X)) (wspFull W2) (cdAll X) ⊢ iprop((tailPost arg1 arg3 arg4 arg7 arg8 arg9 arg11 arg12 arg13 arg14 arg15 arg16 arg18 arg19 c Wt lane24 (raAll X) (rbAll X) (xsTab (scAll X)) (wspFull W2) (cdAll X) -∗ Q ⟨⟩) -∗ wp frame (wpE (defs₀ (F := F)) Variants.none (c.tc : Thread nD τ) none) Set.univ (tail1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 lane24)
      (fun r => wp frame (wpE (defs₀ (F := F)) Variants.none (c.tc : Thread nD τ) none) Set.univ (tail2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 r) Q)) := by
  rw [← wp_bind, tail_eq]
  iintro H Hk
  iapply (wp_wand frame (wpE (defs₀ (F := F)) Variants.none (c.tc : Thread nD τ) none) Set.univ) $$ [H]
  · iapply (wp_tail arg1 harg1 arg3 harg3 arg4 harg4 arg7 harg7 arg8 arg9 arg11 arg12 arg13 arg14 harg14 arg15 harg15 arg16 arg18 arg19 c Wt) $$ H
  iintro %a H
  iapply Hk
  iexact H

set_option maxRecDepth 100000 in
set_option maxHeartbeats 4000000 in
theorem wp_body : bodyStart arg0 arg1 arg2 arg3 arg4 arg5 arg6 arg7 arg8 arg9 arg10 arg11 arg12 arg13 arg14 arg15 arg16 arg17 arg18 arg19 c Wt W2 X ⊢ wpK c (cc0__body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) (fun _ => bodyEnd arg0 arg1 arg2 arg3 arg4 arg5 arg6 arg7 arg8 arg9 arg10 arg11 arg12 arg13 arg14 arg15 arg16 arg17 arg18 arg19 c Wt W2 X) := by
  rw [cc0__body_eq_skeleton]
  unfold cc0__body_skel wpK
  rw [wp_bind, k0_part189_eq_skeleton]
  unfold k0_part189_skel bodyStart
  iintro ⟨HF, H0, H2, H3, H4, H5, ⟨%d6, H6⟩, H8, H9, H10, H11, H12, H13, H14, H15, H17, H18, H19, HO⟩
  ihave H6' := (x_split arg6 c d6) $$ H6
  icases H6' with ⟨HT, HB⟩
  rw [wp_bind]
  iapply (wp_part108 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt X) $$ [HF H0 HT H17]
  · isplitl [HF]; · iexact HF
    isplitl [H0]; · iexact H0
    isplitl [HT]; · iexact HT
    iexact H17
  iintro ⟨HF, HC⟩
  rw [wp_bind]
  iapply (wp_part109 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt) $$ HF
  iintro HF
  rw [wp_bind]
  iapply (wp_part110 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt) $$ HF
  iintro HF
  rw [wp_bind]
  iapply (wp_part111 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt) $$ HF
  iintro HF
  dsimp only
  rw [wp_bind]
  iapply (wp_part112 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt) $$ HF
  iintro HF
  rw [wp_bind]
  iapply (wp_part113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt W2) $$ [HF HB H10 H12 H2]
  · isplitl [HF]; · iexact HF
    isplitl [HB]; · iexact HB
    isplitl [H10]; · iexact H10
    isplitl [H12]; · iexact H12
    iexact H2
  iintro ⟨HF, HB, H10, H12, H2⟩
  dsimp only
  rw [wp_bind]
  iapply (wp_part114 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c W2 X) $$ [H12 H2 HC HB HO H10 H14 H8 H9 H4 H19 H5]
  · isplitl [H12]; · iexact H12
    isplitl [H2]; · iexact H2
    isplitl [HC]; · iexact HC
    isplitl [HB]; · iexact HB
    isplitl [HO]; · iexact HO
    isplitl [H10]; · iexact H10
    isplitl [H14]; · iexact H14
    isplitl [H8]; · iexact H8
    isplitl [H9]; · iexact H9
    isplitl [H4]; · iexact H4
    isplitl [H19]; · iexact H19
    iexact H5
  iintro ⟨H12, H2, H0, H17, H6, HO, H10, HC, H8, H9, H5⟩
  dsimp only
  rw [wp_bind]
  ihave HR := (filled arg1 arg7 arg16 c Wt) $$ HF
  iapply (wp_part115 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt W2 X) $$ [HR H10 H11 H8 H9 H12 H13 H15 HO]
  · isplitl [HR]; · iexact HR
    isplitl [H10]; · iexact H10
    isplitl [H11]; · iexact H11
    isplitl [H8]; · iexact H8
    isplitl [H9]; · iexact H9
    isplitl [H12]; · iexact H12
    isplitl [H13]; · iexact H13
    isplitl [H15]; · iexact H15
    iexact HO
  iintro ⟨HI, H10⟩
  iapply (wp_rest arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt W2 X (fun _ => bodyEnd arg0 arg1 arg2 arg3 arg4 arg5 arg6 arg7 arg8 arg9 arg10 arg11 arg12 arg13 arg14 arg15 arg16 arg17 arg18 arg19 c Wt W2 X)) $$ [HI HC H3 H18]
  · unfold tailPre
    isplitl [HI]; · iexact HI
    isplitl [HC]; · iexact HC
    isplitl [H3]; · iexact H3
    iexact H18
  unfold tailPost bodyEnd
  iintro ⟨HE, ⟨H8, H9, H11, H12, H13⟩, H15, H3, H14, H4, H18, H19, HO⟩
  isplitl [HE]; · iexact HE
  isplitl [H0]; · iexact H0
  isplitl [H2]; · iexact H2
  isplitl [H3]; · iexact H3
  isplitl [H4]; · iexact H4
  isplitl [H5]; · iexact H5
  isplitl [H6]; · iexists _; iexact H6
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [H14]; · iexists _; iexact H14
  isplitl [H15]; · iexists _; iexact H15
  isplitl [H17]; · iexact H17
  isplitl [H18]; · iexact H18
  isplitl [H19]; · iexact H19
  iexact HO

end Cert.Proof.Kernel
-- ==== Proof.Whole.lean ====
/- The weights and the ring as whole buffers and as their parts. -/
module

public import proofs.«01_k».proof.Proof.Ring

public import Idealize.ShloMosaic.Lib.Ring

@[expose] public section

set_option synthInstance.maxSize 4096

noncomputable section

namespace Cert.Proof.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof

variable {F : FTy → Type} [FloatOps F]

theorem bigSep_choose {I A : Type} [Nonempty A] (s : Finset I) (Φ : I → A → sProp (MT nD τ sig Unit (Elt F) ℕ (Pipeline.UC sig nD τ) ℕ)) :
    BI.bigSep s (fun i => iprop(∃ x, Φ i x)) ⊢ iprop(∃ f : I → A, BI.bigSep s (fun i => Φ i (f i))) := by
  classical
  induction s using Finset.induction_on with
  | empty =>
    rw [BI.bigSep_congr (s := (∅ : Finset I)) (Ψ := fun i => Φ i ((fun _ => Classical.arbitrary A) i)) (fun i h => absurd h (by simp))]
    iintro H
    iexists (fun _ => Classical.arbitrary A)
    iexact H
  | insert i s hi ih =>
    rw [show BI.bigSep (insert i s) (fun i => iprop(∃ x, Φ i x)) = iprop((∃ x, Φ i x) ∗ BI.bigSep s (fun i => iprop(∃ x, Φ i x))) from BI.bigSep_insert hi]
    iintro ⟨⟨%x, H⟩, HS⟩
    ihave HS' := ih $$ HS
    icases HS' with ⟨%f, HF⟩
    have e : BI.bigSep s (fun j => Φ j (f j)) = BI.bigSep s (fun j => Φ j (Function.update f i x j)) :=
      BI.bigSep_congr (fun j hj => by rw [Function.update_of_ne (fun h => hi (by rw [← h]; exact hj))])
    have e' : iprop(Φ i x ∗ BI.bigSep s (fun j => Φ j (f j))) ⊢ BI.bigSep (insert i s) (fun j => Φ j (Function.update f i x j)) := by
      rw [show BI.bigSep (insert i s) (fun j => Φ j (Function.update f i x j)) = iprop(Φ i (Function.update f i x i) ∗ BI.bigSep s (fun j => Φ j (Function.update f i x j))) from BI.bigSep_insert hi, Function.update_self, e]
    iexists (Function.update f i x)
    iapply e'
    isplitl [H]; · iexact H
    iexact HF

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD) (Wt : Vec F S9088x10240 .fp8e4m3)

/-! ## The weights -/

abbrev wRect (b : Fin 71) : Rect S9088x10240 := Rect.unit (s := S9088x10240) ![128 * b.val, 0] S128x10240.size (src_inb b.isLt)

theorem w_mem (b : Fin 71) (y : S9088x10240.Idx) : y ∈ (wRect b).set ↔ b.val = (y 0).val / 128 := by
  have h1 : (y 1).val < 10240 := (y 1).isLt
  unfold wRect
  rw [Rect.mem_set_unit]
  constructor
  · intro h
    have a : 128 * b.val ≤ (y 0).val ∧ (y 0).val < 128 * b.val + 128 := h 0
    omega
  · intro h a
    fin_cases a
    · show 128 * b.val ≤ (y 0).val ∧ (y 0).val < 128 * b.val + 128
      omega
    · show 0 ≤ (y 1).val ∧ (y 1).val < 0 + 10240
      omega

theorem w_disj (b b' : Fin 71) (h : b ≠ b') : Disjoint (wRect b).set (wRect b').set := by
  rw [Finset.disjoint_left]
  intro y h1 h2
  exact h (Fin.ext (((w_mem b y).mp h1).trans ((w_mem b' y).mp h2).symm))

theorem w_cover : (Finset.univ : Finset (Fin 71)).biUnion (fun b => (wRect b).set) = Finset.univ := by
  ext y
  simp only [Finset.mem_biUnion, Finset.mem_univ, true_and, iff_true]
  have h0 : (y 0).val < 9088 := (y 0).isLt
  exact ⟨⟨(y 0).val / 128, by omega⟩, (w_mem _ y).mpr rfl⟩

theorem w_range : BI.bigSep Finset.univ (fun b : Fin 71 => own c (arg1.slice (wRect b) (fun _ => rfl)) (fun j => Wt ((wRect b).emb j)))
    = BI.bigSep (Finset.Ico 0 71) (home arg1 c Wt) := by
  rw [Ring.bigSep_fin_eq_range 71 _ (home arg1 c Wt) (fun t h => by unfold home; rw [dif_pos h]; rfl), Finset.range_eq_Ico]

theorem w_split : own c arg1 Wt ⊢ BI.bigSep (Finset.Ico 0 95) (home arg1 c Wt) := by
  have e : BI.bigSep (Finset.Ico 0 95) (home arg1 c Wt) = iprop(BI.bigSep (Finset.Ico 0 71) (home arg1 c Wt) ∗ BI.bigSep (Finset.Ico 71 95) (home arg1 c Wt)) := by
    rw [← Finset.Ico_union_Ico_eq_Ico (show 0 ≤ 71 by omega) (show 71 ≤ 95 by omega)]
    exact BI.bigSep_union (Finset.Ico_disjoint_Ico_consecutive 0 71 95)
  have e2 : BI.bigSep (Finset.Ico 71 95) (home arg1 c Wt) = BI.bigSep (Finset.Ico 71 95) (fun _ => (BI.emp : sProp (MT nD τ sig Unit (Elt F) ℕ (Pipeline.UC sig nD τ) ℕ))) :=
    BI.bigSep_congr (fun b hb => by unfold home; rw [dif_neg (by have := (Finset.mem_Ico.mp hb).1; omega)]; rfl)
  rw [e, e2, BI.bigSep_emp_const, ← w_range]
  iintro H
  isplitl [H]
  · iapply (owns_rects (c.tc : Thread nD τ) arg1 fullShare wRect (fun _ _ => rfl) w_disj w_cover Wt) $$ H
  iempintro

theorem w_join : BI.bigSep (Finset.Ico 0 71) (home arg1 c Wt) ⊢ own c arg1 Wt := by
  rw [← w_range]
  exact owns_of_rects (c.tc : Thread nD τ) arg1 fullShare wRect (fun _ _ => rfl) w_disj w_cover Wt

/-! ## The ring -/

abbrev sRect (s : Fin 24) : Rect S24x128x10240 := Rect.unit (s := S24x128x10240) ![s.val, 0, 0] S1x128x10240.size (slot_inb s.isLt)

theorem s_mem (s : Fin 24) (y : S24x128x10240.Idx) : y ∈ (sRect s).set ↔ s.val = (y 0).val := by
  have h1 : (y 1).val < 128 := (y 1).isLt
  have h2 : (y 2).val < 10240 := (y 2).isLt
  unfold sRect
  rw [Rect.mem_set_unit]
  constructor
  · intro h
    have a : s.val ≤ (y 0).val ∧ (y 0).val < s.val + 1 := h 0
    omega
  · intro h a
    fin_cases a
    · show s.val ≤ (y 0).val ∧ (y 0).val < s.val + 1
      omega
    · show 0 ≤ (y 1).val ∧ (y 1).val < 0 + 128
      omega
    · show 0 ≤ (y 2).val ∧ (y 2).val < 0 + 10240
      omega

theorem s_disj (b b' : Fin 24) (h : b ≠ b') : Disjoint (sRect b).set (sRect b').set := by
  rw [Finset.disjoint_left]
  intro y h1 h2
  exact h (Fin.ext (((s_mem b y).mp h1).trans ((s_mem b' y).mp h2).symm))

theorem s_cover : (Finset.univ : Finset (Fin 24)).biUnion (fun b => (sRect b).set) = Finset.univ := by
  ext y
  simp only [Finset.mem_biUnion, Finset.mem_univ, true_and, iff_true]
  exact ⟨⟨(y 0).val, (y 0).isLt⟩, (s_mem _ y).mpr rfl⟩

/-- The ring's slots, each at some contents. -/
def slotAt (s : ℕ) : sProp (MT nD τ sig Unit (Elt F) ℕ (Pipeline.UC sig nD τ) ℕ) := if h : s < 24 then iprop(∃ d, own c (wDst arg7 ![s, 0, 0] (slot_inb h)) d) else iprop(emp)

/-- The ring's counters at zero. -/
def semAt (s : ℕ) : sProp (MT nD τ sig Unit (Elt F) ℕ (Pipeline.UC sig nD τ) ℕ) := if h : s < 24 then semVal ((c.tc : Thread nD τ), .dma (wSem arg16 ![s] (sem_inb h)).sem) 0 else iprop(emp)

theorem slots_eq : BI.bigSep (Finset.range 24) (freeSlot arg7 arg16 (F := F) c)
    = iprop(BI.bigSep (Finset.range 24) (slotAt arg7 (F := F) c) ∗ BI.bigSep (Finset.range 24) (semAt arg16 (F := F) c)) := by
  rw [BI.bigSep_congr (s := Finset.range 24) (Φ := freeSlot arg7 arg16 (F := F) c) (Ψ := fun s => iprop(slotAt arg7 (F := F) c s ∗ semAt arg16 (F := F) c s))
    (fun s hs => by unfold freeSlot slotAt semAt; rw [dif_pos (Finset.mem_range.mp hs), dif_pos (Finset.mem_range.mp hs), dif_pos (Finset.mem_range.mp hs)])]
  exact BI.bigSep_sep _ _ _

theorem s_split (d : Vec F S24x128x10240 .fp8e4m3) : own c arg7 d ⊢ BI.bigSep (Finset.range 24) (slotAt arg7 (F := F) c) := by
  rw [← Ring.bigSep_fin_eq_range 24 (fun s : Fin 24 => iprop(∃ d, own c (wDst arg7 ![s.val, 0, 0] (slot_inb s.isLt)) d)) (slotAt arg7 (F := F) c)
    (fun t h => by unfold slotAt; rw [dif_pos h])]
  refine (owns_rects (c.tc : Thread nD τ) arg7 fullShare sRect (fun _ _ => rfl) s_disj s_cover d).trans (BI.bigSep_mono fun s _ => ?_)
  show own c (arg7.slice (sRect s) (fun _ => rfl)) _ ⊢ iprop(∃ d, own c (wDst arg7 ![s.val, 0, 0] (slot_inb s.isLt)) d)
  iintro H
  iexists _
  unfold wDst
  iapply (owns_squeeze (c.tc : Thread nD τ) (arg7.slice (sRect s) (fun _ => rfl)) squeezes_S1x128x10240_S128x10240 (by decide : S1x128x10240.ShapeCasts S128x10240) fullShare _) $$ H

theorem s_join : BI.bigSep (Finset.range 24) (slotAt arg7 (F := F) c) ⊢ iprop(∃ d, own c arg7 d) := by
  rw [← Ring.bigSep_fin_eq_range 24 (fun s : Fin 24 => iprop(∃ d, own c (wDst arg7 ![s.val, 0, 0] (slot_inb s.isLt)) d)) (slotAt arg7 (F := F) c)
    (fun t h => by unfold slotAt; rw [dif_pos h])]
  have e : BI.bigSep (Finset.univ : Finset (Fin 24)) (fun s : Fin 24 => iprop(∃ d, own c (wDst arg7 ![s.val, 0, 0] (slot_inb s.isLt)) d))
      ⊢ BI.bigSep (Finset.univ : Finset (Fin 24)) (fun s : Fin 24 => iprop(∃ d : S1x128x10240.Idx → Elt F .fp8e4m3, own c (arg7.slice (sRect s) (fun _ => rfl)) d)) :=
    BI.bigSep_mono fun s _ => by
      show iprop(∃ d, own c (wDst arg7 ![s.val, 0, 0] (slot_inb s.isLt)) d) ⊢ iprop(∃ d : S1x128x10240.Idx → Elt F .fp8e4m3, own c (arg7.slice (sRect s) (fun _ => rfl)) d)
      iintro ⟨%d, H⟩
      iexists _
      unfold wDst
      iapply (owns_unsqueeze (c.tc : Thread nD τ) (arg7.slice (sRect s) (fun _ => rfl)) squeezes_S1x128x10240_S128x10240 (by decide : S128x10240.ShapeCasts S1x128x10240) fullShare d) $$ H
  haveI : Nonempty (S1x128x10240.Idx → Elt F .fp8e4m3) := ⟨fun _ => Classical.choice ((inferInstance : ∀ e, Nonempty (Elt F e)) .fp8e4m3)⟩
  refine e.trans ((bigSep_choose _ _).trans ?_)
  have hj : ∀ f : Fin 24 → S1x128x10240.Idx → Elt F .fp8e4m3, BI.bigSep (Finset.univ : Finset (Fin 24)) (fun s : Fin 24 => own c (arg7.slice (sRect s) (fun _ => rfl)) (f s))
      ⊢ own c arg7 (fun y : S24x128x10240.Idx => f ⟨(y 0).val, (y 0).isLt⟩ (Fin.cons ⟨0, by decide⟩ (Fin.cons (y 1) (Fin.cons (y 2) finZeroElim)))) := fun f => by
    refine BI.BIBase.Entails.trans ?_ (owns_of_rects (c.tc : Thread nD τ) arg7 fullShare sRect (fun _ _ => rfl) s_disj s_cover _)
    rw [BI.bigSep_congr (s := Finset.univ) (Φ := fun s : Fin 24 => own c (arg7.slice (sRect s) (fun _ => rfl)) (f s)) (fun s _ => ?_)]
    refine congrArg (own c (arg7.slice (sRect s) (fun _ => rfl))) ?_
    funext j
    have j0 : (j 0).val < 1 := (j 0).isLt
    have e0 : (⟨(((sRect s).emb j) 0).val, (((sRect s).emb j) 0).isLt⟩ : Fin 24) = s := Fin.ext (by show s.val + 1 * (j 0).val = s.val; omega)
    show _ = f ⟨(((sRect s).emb j) 0).val, _⟩ _
    rw [e0]
    refine congrArg (f s) (funext fun a => Fin.ext ?_)
    fin_cases a
    · show (j 0).val = 0
      omega
    · show (j 1).val = 0 + 1 * (j 1).val
      omega
    · show (j 2).val = 0 + 1 * (j 2).val
      omega
  iintro ⟨%f, H⟩
  iexists _
  iapply (hj f) $$ H

end Cert.Proof.Kernel
-- ==== Proof.Launch.lean ====
/- The kernel's run: the body in its one-point pipeline, its buffers routed through it. -/
module

public import proofs.«01_k».proof.Proof.Body
public import proofs.«01_k».proof.Proof.Whole

public import proofs.«01_k».proof.Proof.Gen.Kernel.Frame
public import Idealize.ShloMosaic.Lib.Pipeline.Routed

@[expose] public section

set_option synthInstance.maxSize 4096

noncomputable section

namespace Cert.Proof.Kernel

open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem
open Cert.Kernel Cert.Kernel.Gen Cert.Proof

variable {F : FTy → Type} [FloatOps F]

variable (m : (ℓ : Loc nD τ sig) → Buf (Elt F) ℓ) (ρ : Dev nD → PrngReg)

/-- The buffers the body reaches itself: the activations, the weights, and the two results left in HBM. -/
def R0 : Finset (Ref sig .tc) := {main_v0, main_arg1, main_v1_0, main_v1_1}

theorem R0_sub : R0 ⊆ Pipeline.restRefs sig spec0 := by decide

theorem routed_eq (c : Dev nD) (W : (b : Ref sig .tc) → Buf (Elt F) ((c.tc : Thread nD τ).loc b)) :
    (Pipeline.routed R0 c W : sProp (MT nD τ sig Unit (Elt F) ℕ (Pipeline.UC sig nD τ) ℕ))
      = iprop((((c : Thread nD τ).loc main_v0) ↦{fullShare} W main_v0) ∗ (((c : Thread nD τ).loc main_arg1) ↦{fullShare} W main_arg1)
          ∗ (((c : Thread nD τ).loc main_v1_0) ↦{fullShare} W main_v1_0) ∗ (((c : Thread nD τ).loc main_v1_1) ↦{fullShare} W main_v1_1)) := by
  unfold Pipeline.routed
  rw [BI.bigSep_eq_bigSepL_of_eq [main_v0, main_arg1, main_v1_0, main_v1_1] (by decide) (by decide)]; rfl

/-- The kernel's own counters: the ring's, then those of the three single transfers. -/
def osem0 (k : Fin 27) : SemLoc sig := SemLoc.dma ⟨k.val + 2, by have := k.isLt; show k.val + 2 < 29; omega⟩

theorem ownSemFacts0 : Pipeline.OwnSemFacts spec0 osem0 := by decide

theorem sem_locs : ∀ s : Fin 24, osem0 ⟨s.val, Nat.lt_trans s.isLt (by decide)⟩ = SemLoc.dma (wSem cc0_scratch10 ![s.val] (sem_inb s.isLt)).sem := by decide

theorem sem_loc (s : ℕ) (h : s < 24) : osem0 ⟨s, Nat.lt_trans h (by decide)⟩ = SemLoc.dma (wSem cc0_scratch10 ![s] (sem_inb h)).sem :=
  sem_locs ⟨s, h⟩

theorem ownSems_eq (c : Dev nD) : (Pipeline.ownSems0 (Ix := Unit) (Name := ℕ) (U := Pipeline.UC sig nD τ) (Lvl := ℕ) (Val := Elt F) (τ := τ) osem0 c : sProp (MT nD τ sig Unit (Elt F) ℕ (Pipeline.UC sig nD τ) ℕ))
    = iprop(semVal ((c.tc : Thread nD τ), .dma cc0_scratch13.sem) 0 ∗ semVal ((c.tc : Thread nD τ), .dma cc0_scratch12.sem) 0
        ∗ semVal ((c.tc : Thread nD τ), .dma cc0_scratch11.sem) 0 ∗ BI.bigSep (Finset.range 24) (semAt cc0_scratch10 (F := F) c)) := by
  unfold Pipeline.ownSems0
  rw [Ring.bigSep_fin_eq_range 27 _ (fun k => if h : k < 27 then semVal ((c.tc : Thread nD τ), osem0 ⟨k, h⟩) 0 else iprop(emp)) (fun t h => by rw [dif_pos h])]
  rw [Finset.range_add_one, show BI.bigSep (insert 26 (Finset.range 26)) (fun k => if h : k < 27 then semVal ((c.tc : Thread nD τ), osem0 ⟨k, h⟩) 0 else iprop(emp)) = iprop((_ : sProp (MT nD τ sig Unit (Elt F) ℕ (Pipeline.UC sig nD τ) ℕ)) ∗ _) from BI.bigSep_insert (by simp)]
  rw [Finset.range_add_one, show BI.bigSep (insert 25 (Finset.range 25)) (fun k => if h : k < 27 then semVal ((c.tc : Thread nD τ), osem0 ⟨k, h⟩) 0 else iprop(emp)) = iprop((_ : sProp (MT nD τ sig Unit (Elt F) ℕ (Pipeline.UC sig nD τ) ℕ)) ∗ _) from BI.bigSep_insert (by simp)]
  rw [Finset.range_add_one, show BI.bigSep (insert 24 (Finset.range 24)) (fun k => if h : k < 27 then semVal ((c.tc : Thread nD τ), osem0 ⟨k, h⟩) 0 else iprop(emp)) = iprop((_ : sProp (MT nD τ sig Unit (Elt F) ℕ (Pipeline.UC sig nD τ) ℕ)) ∗ _) from BI.bigSep_insert (by simp)]
  rw [BI.bigSep_congr (s := Finset.range 24) (Ψ := semAt cc0_scratch10 (F := F) c) (fun s hs => by
    have h : s < 24 := Finset.mem_range.mp hs
    unfold semAt
    rw [dif_pos h, dif_pos (by omega)]
    exact congrArg (fun l => (semVal ((c.tc : Thread nD τ), l) 0 : sProp (MT nD τ sig Unit (Elt F) ℕ (Pipeline.UC sig nD τ) ℕ))) (sem_loc s h))]
  rfl

/-! ## The region's entry -/

theorem hmain (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

theorem before0 {c : Dev nD} (dat : Dat τ (Elt F) Unit ℕ (Pipeline.UC sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the run leaves -/

/-- The activations, the weights and the weights' scales as the body finds them. -/
abbrev xIn (c : Dev nD) : Vec F S96x10240 .bf16 := V m c main_v0
abbrev wIn (c : Dev nD) : Vec F S9088x10240 .fp8e4m3 := V m c main_arg1
abbrev sIn (c : Dev nD) : Vec F S71x80 .f32 := iblk m c 0 t0_0

/-- The buffers after the run. -/
def Y (c : Dev nD) (b : Ref sig .tc) : Buf (Elt F) ((c.tc : Thread nD τ).loc b) :=
  Function.update (Function.update (V m c) main_v1_0 (yOut (wIn m c) (sIn m c) (xIn m c))) main_v1_1 (cdAll (xIn m c)) b

theorem Y_x (c : Dev nD) : Y m c main_v0 = V m c main_v0 := by
  unfold Y; rw [Function.update_of_ne (by decide), Function.update_of_ne (by decide)]
theorem Y_w (c : Dev nD) : Y m c main_arg1 = V m c main_arg1 := by
  unfold Y; rw [Function.update_of_ne (by decide), Function.update_of_ne (by decide)]
theorem Y_y (c : Dev nD) : Y m c main_v1_0 = yOut (wIn m c) (sIn m c) (xIn m c) := by
  unfold Y; rw [Function.update_of_ne (by decide), Function.update_self]
theorem Y_c (c : Dev nD) : Y m c main_v1_1 = cdAll (xIn m c) := by
  unfold Y; rw [Function.update_self]

/-- The proof data. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => xsOut (scAll (xIn m c))
  Φ t := Pipeline.Ends spec0 osem0 R0 c (if t = 0 then V m c else Y m c)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = xsOut (scAll (xIn m c)) := by dsimp only [dats]

abbrev ms0_0 (t : Fin cfg0.N) : Memref sig .tc .vmem S71x80 .f32 := win0_0.stage (cfg0.slots t 0)
abbrev ms0_1 (t : Fin cfg0.N) : Memref sig .tc .vmem S96x80 .f32 := win0_1.stage (cfg0.slots t 1)

def bodyPre (c : Dev nD) (t : Fin cfg0.N) : sProp (MT nD τ sig Unit (Elt F) ℕ (Pipeline.UC sig nD τ) ℕ) :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)))
def bodyPost (c : Dev nD) (t : Fin cfg0.N) : sProp (MT nD τ sig Unit (Elt F) ℕ (Pipeline.UC sig nD τ) ℕ) :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t))

/-- The buffers as the body's memrefs hold them, at the start. -/
theorem enter (c : Dev nD) (t : Fin cfg0.N) :
    iprop(Pipeline.Ends spec0 osem0 R0 c (V m c) ∗ own c (ms0_0 t) (sIn m c) ∗ (∃ d, own c (ms0_1 t) d) ∗ (∃ W, owes (c.tc : Thread nD τ) 0 W))
      ⊢ iprop(bodyStart (Memref.whole main_v0) (Memref.whole main_arg1) (ms0_0 t) (Memref.whole main_v1_0) (Memref.whole main_v1_1) (ms0_1 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) cc0_scratch10 cc0_scratch11 cc0_scratch12 cc0_scratch13 c (wIn m c) (sIn m c) (xIn m c) ∗ ∃ r, prngReg c r) := by
  unfold Pipeline.Ends bodyStart filling
  rw [routed_eq, ownSems_eq, scopedRest0_eq, Finset.Ico_self, ← Finset.range_eq_Ico, slots_eq]
  simp only [← owns_whole]
  iintro ⟨⟨⟨HX, HW, HY, HC⟩, ⟨H13, H12, H11, HQ⟩, ⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, HP⟩, H2, H5, HO⟩
  isplitr [HP]
  · isplitl [HW HQ S1]
    · isplitr; · rw [BI.bigSep_empty]; iempintro
      isplitl [HQ S1]
      · isplitl [S1]
        · iapply (s_split (Memref.whole cc0_scratch1) c f1) $$ S1
        iexact HQ
      iapply (w_split (Memref.whole main_arg1) c (wIn m c)) $$ HW
    isplitl [HX]; · iexact HX
    isplitl [H2]; · iexact H2
    isplitl [HY]; · iexists _; iexact HY
    isplitl [HC]; · iexists _; iexact HC
    isplitl [H5]; · iexact H5
    isplitl [S0]; · iexists _; iexact S0
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [H11]; · iexact H11
    isplitl [H12]; · iexact H12
    isplitl [H13]; · iexact H13
    iexact HO
  iexact HP

/-- And at the end. -/
theorem leave (c : Dev nD) (t : Fin cfg0.N) :
    iprop(bodyEnd (Memref.whole main_v0) (Memref.whole main_arg1) (ms0_0 t) (Memref.whole main_v1_0) (Memref.whole main_v1_1) (ms0_1 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) cc0_scratch10 cc0_scratch11 cc0_scratch12 cc0_scratch13 c (wIn m c) (sIn m c) (xIn m c) ∗ ∃ r, prngReg c r)
      ⊢ iprop(Pipeline.Ends spec0 osem0 R0 c (Y m c) ∗ own c (ms0_0 t) (sIn m c) ∗ own c (ms0_1 t) (xsOut (scAll (xIn m c))) ∗ (∃ W, owes (c.tc : Thread nD τ) 0 W)) := by
  unfold Pipeline.Ends bodyEnd ringEnd
  rw [routed_eq, ownSems_eq, scopedRest0_eq, slots_eq, Y_x, Y_w, Y_y, Y_c]
  simp only [← owns_whole]
  iintro ⟨⟨⟨HW, HS1, HQ⟩, HX, H2, HY, HC, H5, ⟨%f0, S0⟩, ⟨%f2, S2⟩, ⟨%f3, S3⟩, ⟨%f4, S4⟩, ⟨%f5, S5⟩, ⟨%f6, S6⟩, ⟨%f7, S7⟩, ⟨%f8, S8⟩, ⟨%f9, S9⟩, H11, H12, H13, HO⟩, HP⟩
  ihave HS := (s_join (Memref.whole cc0_scratch1) c) $$ HS1
  icases HS with ⟨%f1, S1⟩
  ihave HW' := (w_join (Memref.whole main_arg1) c (wIn m c)) $$ HW
  isplitr [H2 H5 HO]
  · isplitl [HX HW' HY HC]
    · isplitl [HX]; · iexact HX
      isplitl [HW']; · iexact HW'
      isplitl [HY]; · iexact HY
      iexact HC
    isplitl [H11 H12 H13 HQ]
    · isplitl [H13]; · iexact H13
      isplitl [H12]; · iexact H12
      isplitl [H11]; · iexact H11
      iexact HQ
    isplitr [HP]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    iexact HP
  isplitl [H2]; · iexact H2
  isplitl [H5]; · iexact H5
  iexact HO

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [after0_0, after0_1]
  rw [show (dats m 0 c).Φ t0_0.castSucc = Pipeline.Ends spec0 osem0 R0 c (V m c) from by dsimp only [dats]; rw [if_pos (by decide)],
    show (dats m 0 c).Φ t0_0.succ = Pipeline.Ends spec0 osem0 R0 c (Y m c) from by dsimp only [dats]; rw [if_neg (by decide)]]
  unfold Dat.owesAt Pipeline.owesWithin
  rw [show (dats m 0 c).owed t0_0.castSucc = 0 from rfl, show (dats m 0 c).owed t0_0.succ = 0 from rfl]
  simp only [before0 m (dats m 0 c) (A_eq m c 0) (after0_0 m c)]
  iintro ⟨HE, ⟨%W, -, HW⟩, ⟨%d0, H0⟩, ⟨%d1, H1⟩⟩
  ihave HB := (enter m c t0_0) $$ [HE HW H0 H1]
  · isplitl [HE]; · iexact HE
    isplitl [H0]; · iexact H0
    isplitl [H1]; · iexists _; iexact H1
    iexists W; iexact HW
  icases HB with ⟨HB, HP⟩
  ihave HR := (wp_body _ (Memref.isWhole_whole _) _ (Memref.isWhole_whole _) _ (hstage0_0 0) _ (Memref.isWhole_whole _) _ (Memref.isWhole_whole _) _ (hstage0_1 0) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _)  _ _ _ _ c (wIn m c) (sIn m c) (xIn m c)) $$ HB
  iapply (wp_wand frame (wpE (defs₀ (F := F)) Variants.none (c.tc : Thread nD τ) none) Set.univ) $$ HR
  iintro %a HB
  ihave HL := (leave m c t0_0) $$ [HB HP]
  · isplitl [HB]; · iexact HB
    iexact HP
  icases HL with ⟨HE, H0, H1, ⟨%W', HW⟩⟩
  isplitl [HE]; · iexact HE
  isplitl [HW]
  · iexists W'; isplitr; · ipureintro; exact fun _ _ => Or.inl trivial
    iexact HW
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.RoutedPost cfgs (dats m) 0 R0 (V m) (Y m) r ∧ r.2.sem = fun _ => 0) :=
  Pipeline.θ_run_frame_routed (Q' := _) cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmain m Variants.none) (hA := A_eq m) (R := R0) (hR := R0_sub) (Y := Y m)
    (hin := fun c => by
      rw [show (dats m 0 c).Φ 0 = Pipeline.Ends spec0 osem0 R0 c (V m c) from by dsimp only [dats]; rw [if_pos rfl]])
    (hout := fun c => by
      rw [show (dats m 0 c).Φ (Fin.last cfg0.N) = Pipeline.Ends spec0 osem0 R0 c (Y m c) from by dsimp only [dats]; rw [if_neg (by decide)]])

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).2.2 main_arg0 (by decide)).trans (V_main_arg0 m c),
      ((h.1 c).2.1 main_arg1 (by decide)).trans ((Y_w m c).trans (V_main_arg1 m c)),
      ((h.1 c).1 0).trans (((dats m 0 c).arrAt_in 0 rfl _).trans ((A_eq m c 0).trans (V_main_arg2 m c)))⟩, h.2⟩) (run_main m ρ)

end Cert.Proof.Kernel
-- ==== Proof.IdealProgram.lean ====
/- The kernel's block of 128 weight rows as ONE program text over symbolic offsets, and the
   printed loop body and tail as that text at each of its places. The printed program spells the
   20 contraction steps of every block one after another; here one step is written once and run
   along the list of the 20 step numbers. -/
module

public import proofs.«01_k».proof.Proof.Gen.KernelIdeal.Skeleton

@[expose] public section

set_option synthInstance.maxSize 4096

noncomputable section

namespace Cert.Proof.KernelIdeal

open Idealize.ShloMosaic Idealize.SL.Sem Cert.KernelIdeal Cert.KernelIdeal.Gen

variable {F : FTy → Type} [FloatOps F]

/-! ## The values of a block -/

/-- Two 128-column tiles of the weights side by side times one 256 x 256 right-hand side. -/
def tileDot (a b : Vec F S1x128x128 .fp8e4m3) (r : Vec F S1x256x256 .fp8e4m3) : FVec F S128x256 .f32 :=
  matmul dot_S128x256_S256x256_S128x256_1_0_0_1_n_n none
    (concatenate S128x256 1 [⟨S128x128, shapeCast S128x128 a shapeCasts_S1x128x128_S128x128⟩,
      ⟨S128x128, shapeCast S128x128 b shapeCasts_S1x128x128_S128x128⟩] concatenates_S128x128_S128x128_S128x256_d1)
    (shapeCast S256x256 r shapeCasts_S1x256x256_S256x256) (constant S128x256 .f32 0x00000000#32)

/-- A row of scales repeated down 128 rows. -/
def rowScale (s : Vec F S1x1x1x128 .f32) : FVec F S128x128 .f32 :=
  broadcastTo S128x128 (shapeCast S1x128 s shapeCasts_S1x1x1x128_S1x128) broadcasts_S1x128_S128x128

/-- One step's addition to the first accumulator: the left halves of both products, scaled. -/
def acc0Step (acc : FVec F S128x128 .f32) (pa pb : FVec F S128x256 .f32) (s0 s1 : Vec F S1x1x1x128 .f32) : FVec F S128x128 .f32 :=
  addf acc (addf (mulf (extractStridedSlice S128x128 ![0, 0] pa slices_S128x256_o0_0_S128x128) (rowScale s0))
    (mulf (extractStridedSlice S128x128 ![0, 0] pb slices_S128x256_o0_0_S128x128) (rowScale s1)))

/-- One step's addition to the second accumulator: the right halves of both products, added, scaled. -/
def acc1Step (acc : FVec F S128x128 .f32) (pa pb : FVec F S128x256 .f32) (s2 : Vec F S1x1x1x128 .f32) : FVec F S128x128 .f32 :=
  addf acc (mulf (addf (extractStridedSlice S128x128 ![0, 128] pa slices_S128x256_o0_128_S128x128)
    (extractStridedSlice S128x128 ![0, 128] pb slices_S128x256_o0_128_S128x128)) (rowScale s2))

/-- Both accumulators at zero. -/
def accZero : FVec F S128x128 .f32 × FVec F S128x128 .f32 :=
  (broadcast S128x128 (Scalar.ofBits .f32 0x00000000#32), broadcast S128x128 (Scalar.ofBits .f32 0x00000000#32))

/-! ## The program of a block -/

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)

/-- Where a block's tile `(q, j)` lies in slot `s` of the ring. -/
abbrev tileOff (s : ℕ) (q : Fin 20) (j : Fin 4) : Fin 3 → ℕ := ![s, 0, (q.val + 20 * j.val) * 128]

theorem tileOff_inb {s : ℕ} (hs : s < 24) (q : Fin 20) (j : Fin 4) (a : Fin 3) :
    tileOff s q j a + S1x128x128.size a ≤ S24x128x10240.size a := by
  have := q.isLt; have := j.isLt
  fin_cases a <;> simp [tileOff, S1x128x128, S24x128x10240] <;> omega

abbrev rhsOff (q : Fin 20) : Fin 3 → ℕ := ![q.val, 0, 0]

theorem rhsOff_inb (q : Fin 20) (a : Fin 3) : rhsOff q a + S1x256x256.size a ≤ S20x256x256.size a := by
  have := q.isLt
  fin_cases a <;> simp [rhsOff, S1x256x256, S20x256x256] <;> omega

abbrev sOff (u : Fin 4) (v : Fin 3) (q : Fin 20) : Fin 4 → ℕ := ![u.val, v.val, q.val, 0]

theorem sOff_inb (u : Fin 4) (v : Fin 3) (q : Fin 20) (a : Fin 4) : sOff u v q a + S1x1x1x128.size a ≤ S4x3x24x128.size a := by
  have := q.isLt; have := u.isLt; have := v.isLt
  fin_cases a <;> simp [sOff, S1x1x1x128, S4x3x24x128] <;> omega

abbrev stOff (u : Fin 4) (v : Fin 3) : Fin 4 → ℕ := ![u.val, v.val, 0, 0]

theorem stOff_inb (u : Fin 4) (v : Fin 3) (a : Fin 4) : stOff u v a + S1x1x24x128.size a ≤ S4x3x24x128.size a := by
  have := u.isLt; have := v.isLt
  fin_cases a <;> simp [stOff, S1x1x24x128, S4x3x24x128] <;> omega

/-- One step of a block: four tiles, the two right-hand sides, three rows of scales; both accumulators. -/
def qStep (s : ℕ) (hs : s < 24) (u : Fin 4) (q : Fin 20) (A : FVec F S128x128 .f32 × FVec F S128x128 .f32) :
    Prog (TpuEff nD τ sig (Elt F) Λ₀ .tc) (FVec F S128x128 .f32 × FVec F S128x128 .f32) := do
  let la : Vec F S1x128x128 .fp8e4m3 ← Prog.lift (.load arg7 (Rect.unit (s := S24x128x10240) (tileOff s q 0) S1x128x128.size (tileOff_inb hs q 0)).toLoadRect (View.loadsAt_vmem h_S1x128x128))
  let lb : Vec F S1x128x128 .fp8e4m3 ← Prog.lift (.load arg7 (Rect.unit (s := S24x128x10240) (tileOff s q 1) S1x128x128.size (tileOff_inb hs q 1)).toLoadRect (View.loadsAt_vmem h_S1x128x128))
  let lc : Vec F S1x128x128 .fp8e4m3 ← Prog.lift (.load arg7 (Rect.unit (s := S24x128x10240) (tileOff s q 2) S1x128x128.size (tileOff_inb hs q 2)).toLoadRect (View.loadsAt_vmem h_S1x128x128))
  let ld : Vec F S1x128x128 .fp8e4m3 ← Prog.lift (.load arg7 (Rect.unit (s := S24x128x10240) (tileOff s q 3) S1x128x128.size (tileOff_inb hs q 3)).toLoadRect (View.loadsAt_vmem h_S1x128x128))
  let ra : Vec F S1x256x256 .fp8e4m3 ← Prog.lift (.load arg8 (Rect.unit (s := S20x256x256) (rhsOff q) S1x256x256.size (rhsOff_inb q)).toLoadRect (View.loadsAt_vmem h_S1x256x256))
  let rb : Vec F S1x256x256 .fp8e4m3 ← Prog.lift (.load arg9 (Rect.unit (s := S20x256x256) (rhsOff q) S1x256x256.size (rhsOff_inb q)).toLoadRect (View.loadsAt_vmem h_S1x256x256))
  let s0 : Vec F S1x1x1x128 .f32 ← Prog.lift (.load arg13 (Rect.unit (s := S4x3x24x128) (sOff u 0 q) S1x1x1x128.size (sOff_inb u 0 q)).toLoadRect (View.loadsAt_vmem h_S1x1x1x128))
  let s1 : Vec F S1x1x1x128 .f32 ← Prog.lift (.load arg13 (Rect.unit (s := S4x3x24x128) (sOff u 1 q) S1x1x1x128.size (sOff_inb u 1 q)).toLoadRect (View.loadsAt_vmem h_S1x1x1x128))
  let s2 : Vec F S1x1x1x128 .f32 ← Prog.lift (.load arg13 (Rect.unit (s := S4x3x24x128) (sOff u 2 q) S1x1x1x128.size (sOff_inb u 2 q)).toLoadRect (View.loadsAt_vmem h_S1x1x1x128))
  pure (acc0Step A.1 (tileDot la lb ra) (tileDot lc ld rb) s0 s1, acc1Step A.2 (tileDot la lb ra) (tileDot lc ld rb) s2)

/-- The steps of a list in order. -/
def qLoop (s : ℕ) (hs : s < 24) (u : Fin 4) : List (Fin 20) → FVec F S128x128 .f32 × FVec F S128x128 .f32 →
    Prog (TpuEff nD τ sig (Elt F) Λ₀ .tc) (FVec F S128x128 .f32 × FVec F S128x128 .f32)
  | [], A => pure A
  | q :: l, A => qStep arg7 arg8 arg9 arg13 s hs u q A >>= qLoop s hs u l

/-- The 20 step numbers. -/
abbrev steps : List (Fin 20) := [0, 1, 2, 3, 4, 5, 6, 7, 8, 9, 10, 11, 12, 13, 14, 15, 16, 17, 18, 19]

/-- A block's output tile of its two accumulators: transposed, its row pieces added. -/
def outTile (A : FVec F S128x128 .f32 × FVec F S128x128 .f32) : FVec F S96x128 .bf16 :=
  have t0 : FVec F S128x128 .f32 := transpose S128x128 [1, 0] A.1 transposes_S128x128_p1_0_S128x128
  have t1 : FVec F S128x128 .f32 := transpose S128x128 [1, 0] A.2 transposes_S128x128_p1_0_S128x128
  have hi : FVec F S64x128 .f32 := addf (addf (extractStridedSlice S64x128 ![0, 0] t0 slices_S128x128_o0_0_S64x128)
    (extractStridedSlice S64x128 ![0, 0] t1 slices_S128x128_o0_0_S64x128)) (extractStridedSlice S64x128 ![64, 0] t1 slices_S128x128_o64_0_S64x128)
  have lo : FVec F S32x128 .f32 := addf (extractStridedSlice S32x128 ![64, 0] t0 slices_S128x128_o64_0_S32x128)
    (extractStridedSlice S32x128 ![96, 0] t0 slices_S128x128_o96_0_S32x128)
  shapeCast S96x128 (truncf .bf16 (concatenate S96x128 0 [⟨S64x128, hi⟩, ⟨S32x128, lo⟩] concatenates_S64x128_S32x128_S96x128_d0) bitsLt_bf16_f32) shapeCasts_S96x128_S96x128

/-- A block of 128 weight rows in slot `s`, its weight scales in row `oR` of the repacked scales, its
    scale rows in part `u` of the scratch, its tile stored at `oY` of the result buffer. -/
def blockProg (v191 : IVec S24x128 32) (s : ℕ) (hs : s < 24) (u : Fin 4) (oR : Fin 2 → ℕ) (hR : ∀ a, oR a + S1x128.size a ≤ S72x128.size a)
    (oY : Fin 2 → ℕ) (hY : ∀ a, oY a + S96x128.size a ≤ S96x9088.size a)
    (hP : (arg15.access (Rect.unit (s := S96x9088) oY S96x128.size hY)).Stores Finset.univ) :
    Prog (TpuEff nD τ sig (Elt F) Λ₀ .tc) PUnit := do
  let wr : Vec F S1x128 .f32 ← Prog.lift (.load arg12 (Rect.unit (s := S72x128) oR S1x128.size hR).toLoadRect (View.loadsAt_vmem h_S1x128))
  let x0 : Vec F S1x24x128 .f32 ← Prog.lift (.load arg11 (Rect.unit (s := S3x24x128) ![0, 0, 0] S1x24x128.size inb_S3x24x128_S1x24x128_0_0_0).toLoadRect (View.loadsAt_vmem h_S1x24x128))
  let d0 : Vec F S1x1x24x128 .f32 ← Prog.lift (.load arg13 (Rect.unit (s := S4x3x24x128) (stOff u 0) S1x1x24x128.size (stOff_inb u 0)).toLoadRect (View.loadsAt_vmem h_S1x1x24x128))
  Prog.lift (.store arg13 (Rect.unit (s := S4x3x24x128) (stOff u 0) S1x1x24x128.size (stOff_inb u 0)) (k0_pay35 v191 wr x0) Finset.univ (View.stores_vmem_bits_univ h_S1x1x24x128 rfl) (.inl rfl))
  let x1 : Vec F S1x24x128 .f32 ← Prog.lift (.load arg11 (Rect.unit (s := S3x24x128) ![1, 0, 0] S1x24x128.size inb_S3x24x128_S1x24x128_1_0_0).toLoadRect (View.loadsAt_vmem h_S1x24x128))
  let d1 : Vec F S1x1x24x128 .f32 ← Prog.lift (.load arg13 (Rect.unit (s := S4x3x24x128) (stOff u 1) S1x1x24x128.size (stOff_inb u 1)).toLoadRect (View.loadsAt_vmem h_S1x1x24x128))
  Prog.lift (.store arg13 (Rect.unit (s := S4x3x24x128) (stOff u 1) S1x1x24x128.size (stOff_inb u 1)) (k0_pay36 v191 wr x1) Finset.univ (View.stores_vmem_bits_univ h_S1x1x24x128 rfl) (.inl rfl))
  let x2 : Vec F S1x24x128 .f32 ← Prog.lift (.load arg11 (Rect.unit (s := S3x24x128) ![2, 0, 0] S1x24x128.size inb_S3x24x128_S1x24x128_2_0_0).toLoadRect (View.loadsAt_vmem h_S1x24x128))
  let d2 : Vec F S1x1x24x128 .f32 ← Prog.lift (.load arg13 (Rect.unit (s := S4x3x24x128) (stOff u 2) S1x1x24x128.size (stOff_inb u 2)).toLoadRect (View.loadsAt_vmem h_S1x1x24x128))
  Prog.lift (.store arg13 (Rect.unit (s := S4x3x24x128) (stOff u 2) S1x1x24x128.size (stOff_inb u 2)) (k0_pay37 v191 (k0_pay33 wr) (k0_pay34 wr) x2) Finset.univ (View.stores_vmem_bits_univ h_S1x1x24x128 rfl) (.inl rfl))
  let A ← qLoop arg7 arg8 arg9 arg13 s hs u steps accZero
  let dy : Vec F S96x128 .bf16 ← Prog.lift (.load arg15 (Rect.unit (s := S96x9088) oY S96x128.size hY).toLoadRect (View.loadsAt_vmem h_S96x128))
  Prog.lift (.store arg15 (Rect.unit (s := S96x9088) oY S96x128.size hY) (outTile A) Finset.univ hP (.inl rfl))

/-! ## Starting and awaiting a block's copy -/

abbrev wSrc (o : Fin 2 → ℕ) (h : ∀ a, o a + S128x10240.size a ≤ S9088x10240.size a) : Memref sig .tc .hbm S128x10240 .fp8e4m3 :=
  arg1.slice (Rect.unit (s := S9088x10240) o S128x10240.size h) (fun _ => rfl)

abbrev wDst (o : Fin 3 → ℕ) (h : ∀ a, o a + S1x128x10240.size a ≤ S24x128x10240.size a) : Memref sig .tc .vmem S128x10240 .fp8e4m3 :=
  (arg7.slice (Rect.unit (s := S24x128x10240) o S1x128x10240.size h) (fun _ => rfl)).squeeze S128x10240 squeezes_S1x128x10240_S128x10240

abbrev wSem (o : Fin 1 → ℕ) (h : ∀ a, o a + S1.size a ≤ S24.size a) : DmaSems sig S_ :=
  (arg16.slice (Rect.unit (s := S24) o S1.size h)).squeeze S_ squeezes_S1_S_

universe uE

/-- Two programs beginning with one effect are equal when what follows is. -/

theorem op_congr {E : Type → Type uE} {A B : Type} {e : E A} {k k' : A → Prog E B} (h : ∀ v, k v = k' v) :
    Prog.op e k = Prog.op e k' := by rw [funext h]

/-! ## A trip of the loop over the blocks -/

abbrev tripNb (k : Fin k0_t2_loop.trips) (u : BitVec 32) : BitVec 32 := Scalar.addi (Scalar.muli (Scf.iv 0#32 1#32 k) 4#32) u

abbrev tripSlot (k : Fin k0_t2_loop.trips) (u : BitVec 32) : ℕ := (Scalar.indexCast (Scalar.remsi (tripNb k u) 24#32)).toNat

theorem tripSlot_lt (k : Fin k0_t2_loop.trips) (u : Fin 4) : tripSlot k (BitVec.ofNat 32 u.val) < 24 := by
  have h := k0_off14_inb k u 0
  change tripSlot k (BitVec.ofNat 32 u.val) + 1 ≤ 24 at h
  omega

abbrev loopBlock (v191 : IVec S24x128 32) (k : Fin k0_t2_loop.trips) (u : Fin 4) : Prog (TpuEff nD τ sig (Elt F) Λ₀ .tc) PUnit :=
  blockProg arg7 arg8 arg9 arg11 arg12 arg13 arg15 v191 (tripSlot k (BitVec.ofNat 32 u.val)) (tripSlot_lt k u) u
    (k0_off13 k (BitVec.ofNat 32 u.val)) (k0_off13_inb k u) (k0_off94 k (BitVec.ofNat 32 u.val)) (k0_off94_inb k u)
    (View.stores_vmem h_S96x128 (harg15.storeExact_slice rfl _ (k0_off94_packedbf16 k u)) (fun _ => rfl))

abbrev loopWait (k : Fin k0_t2_loop.trips) (u : Fin 4) : Prog (TpuEff nD τ sig (Elt F) Λ₀ .tc) PUnit :=
  Prog.lift (.waitDma2 (wSem arg16 (k0_off10 k (BitVec.ofNat 32 u.val)) (k0_off10_inb k u)).sem
    (wSrc arg1 (k0_off12 k (BitVec.ofNat 32 u.val)) (k0_off12_inb k u)) (wDst arg7 (k0_off11 k (BitVec.ofNat 32 u.val)) (k0_off11_inb k u))
    (harg1.wordExact_slice rfl _ (k0_off12_wordsfp8e4m3 k u)) ((harg7.wordExact_slice rfl _ (k0_off11_wordsfp8e4m3 k u)).reshape _ _))

/-- The start of the block that follows in slot `0` of the trip's four. -/
def refill1 (k : Fin k0_t2_loop.trips) : Prog (TpuEff nD τ sig (Elt F) Λ₀ .tc) PUnit := do
  if h : k0_cond1 k = 1#1 then do
    Prog.lift (.enqueueDma (wSrc arg1 (k0_off97 k) (k0_off97_inb k h)) (.here (wDst arg7 (k0_off96 k) (k0_off96_inb k h))) (.dma (wSem arg16 (k0_off95 k) (k0_off95_inb k h)).sem) (harg1.wordExact_slice rfl _ (k0_off97_wordsfp8e4m3 k h)) ((harg7.wordExact_slice rfl _ (k0_off96_wordsfp8e4m3 k h)).reshape _ _) ⟨Or.inl rfl, trivial⟩)
    pure ⟨⟩
  else do
    pure ⟨⟩

/-- The start of the block that follows in slot `1` of the trip's four. -/
def refill2 (k : Fin k0_t2_loop.trips) : Prog (TpuEff nD τ sig (Elt F) Λ₀ .tc) PUnit := do
  if h : k0_cond2 k = 1#1 then do
    Prog.lift (.enqueueDma (wSrc arg1 (k0_off100 k) (k0_off100_inb k h)) (.here (wDst arg7 (k0_off99 k) (k0_off99_inb k h))) (.dma (wSem arg16 (k0_off98 k) (k0_off98_inb k h)).sem) (harg1.wordExact_slice rfl _ (k0_off100_wordsfp8e4m3 k h)) ((harg7.wordExact_slice rfl _ (k0_off99_wordsfp8e4m3 k h)).reshape _ _) ⟨Or.inl rfl, trivial⟩)
    pure ⟨⟩
  else do
    pure ⟨⟩

/-- The start of the block that follows in slot `2` of the trip's four. -/
def refill3 (k : Fin k0_t2_loop.trips) : Prog (TpuEff nD τ sig (Elt F) Λ₀ .tc) PUnit := do
  if h : k0_cond3 k = 1#1 then do
    Prog.lift (.enqueueDma (wSrc arg1 (k0_off103 k) (k0_off103_inb k h)) (.here (wDst arg7 (k0_off102 k) (k0_off102_inb k h))) (.dma (wSem arg16 (k0_off101 k) (k0_off101_inb k h)).sem) (harg1.wordExact_slice rfl _ (k0_off103_wordsfp8e4m3 k h)) ((harg7.wordExact_slice rfl _ (k0_off102_wordsfp8e4m3 k h)).reshape _ _) ⟨Or.inl rfl, trivial⟩)
    pure ⟨⟩
  else do
    pure ⟨⟩

/-- The start of the block that follows in slot `3` of the trip's four. -/
def refill4 (k : Fin k0_t2_loop.trips) : Prog (TpuEff nD τ sig (Elt F) Λ₀ .tc) PUnit := do
  if h : k0_cond4 k = 1#1 then do
    Prog.lift (.enqueueDma (wSrc arg1 (k0_off106 k) (k0_off106_inb k h)) (.here (wDst arg7 (k0_off105 k) (k0_off105_inb k h))) (.dma (wSem arg16 (k0_off104 k) (k0_off104_inb k h)).sem) (harg1.wordExact_slice rfl _ (k0_off106_wordsfp8e4m3 k h)) ((harg7.wordExact_slice rfl _ (k0_off105_wordsfp8e4m3 k h)).reshape _ _) ⟨Or.inl rfl, trivial⟩)
    pure ⟨⟩
  else do
    pure ⟨⟩

/-- The waits, the four blocks and the first start of a trip. -/
def tripA (v191 : IVec S24x128 32) (k : Fin k0_t2_loop.trips) : Prog (TpuEff nD τ sig (Elt F) Λ₀ .tc) (BitVec 32) := do
  loopWait arg1 harg1 arg7 harg7 arg16 k 0
  loopWait arg1 harg1 arg7 harg7 arg16 k 1
  loopWait arg1 harg1 arg7 harg7 arg16 k 2
  loopWait arg1 harg1 arg7 harg7 arg16 k 3
  loopBlock arg7 arg8 arg9 arg11 arg12 arg13 arg15 harg15 v191 k 0
  loopBlock arg7 arg8 arg9 arg11 arg12 arg13 arg15 harg15 v191 k 1
  loopBlock arg7 arg8 arg9 arg11 arg12 arg13 arg15 harg15 v191 k 2
  loopBlock arg7 arg8 arg9 arg11 arg12 arg13 arg15 harg15 v191 k 3
  refill1 arg1 harg1 arg7 harg7 arg16 k
  pure 4#32

/-- A trip: the waits, the four blocks, the four starts. -/
def trip (v191 : IVec S24x128 32) (k : Fin k0_t2_loop.trips) : Prog (TpuEff nD τ sig (Elt F) Λ₀ .tc) PUnit := do
  let _ ← tripA arg1 harg1 arg7 harg7 arg8 arg9 arg11 arg12 arg13 arg15 harg15 arg16 v191 k
  refill2 arg1 harg1 arg7 harg7 arg16 k
  refill3 arg1 harg1 arg7 harg7 arg16 k
  refill4 arg1 harg1 arg7 harg7 arg16 k
  pure ⟨⟩

/-- The same, each start written in place. -/
def printedTripA (v191 : IVec S24x128 32) (k : Fin k0_t2_loop.trips) : Prog (TpuEff nD τ sig (Elt F) Λ₀ .tc) (BitVec 32) := do
  loopWait arg1 harg1 arg7 harg7 arg16 k 0
  loopWait arg1 harg1 arg7 harg7 arg16 k 1
  loopWait arg1 harg1 arg7 harg7 arg16 k 2
  loopWait arg1 harg1 arg7 harg7 arg16 k 3
  loopBlock arg7 arg8 arg9 arg11 arg12 arg13 arg15 harg15 v191 k 0
  loopBlock arg7 arg8 arg9 arg11 arg12 arg13 arg15 harg15 v191 k 1
  loopBlock arg7 arg8 arg9 arg11 arg12 arg13 arg15 harg15 v191 k 2
  loopBlock arg7 arg8 arg9 arg11 arg12 arg13 arg15 harg15 v191 k 3
  if h : k0_cond1 k = 1#1 then do
    Prog.lift (.enqueueDma (wSrc arg1 (k0_off97 k) (k0_off97_inb k h)) (.here (wDst arg7 (k0_off96 k) (k0_off96_inb k h))) (.dma (wSem arg16 (k0_off95 k) (k0_off95_inb k h)).sem) (harg1.wordExact_slice rfl _ (k0_off97_wordsfp8e4m3 k h)) ((harg7.wordExact_slice rfl _ (k0_off96_wordsfp8e4m3 k h)).reshape _ _) ⟨Or.inl rfl, trivial⟩)
    pure ⟨⟩
  else do
    pure ⟨⟩
  pure 4#32

/-- A trip, each start written in place. -/
def printedTrip (v191 : IVec S24x128 32) (k : Fin k0_t2_loop.trips) : Prog (TpuEff nD τ sig (Elt F) Λ₀ .tc) PUnit := do
  let _ ← printedTripA arg1 harg1 arg7 harg7 arg8 arg9 arg11 arg12 arg13 arg15 harg15 arg16 v191 k
  if h : k0_cond2 k = 1#1 then do
    Prog.lift (.enqueueDma (wSrc arg1 (k0_off100 k) (k0_off100_inb k h)) (.here (wDst arg7 (k0_off99 k) (k0_off99_inb k h))) (.dma (wSem arg16 (k0_off98 k) (k0_off98_inb k h)).sem) (harg1.wordExact_slice rfl _ (k0_off100_wordsfp8e4m3 k h)) ((harg7.wordExact_slice rfl _ (k0_off99_wordsfp8e4m3 k h)).reshape _ _) ⟨Or.inl rfl, trivial⟩)
    pure ⟨⟩
  else do
    pure ⟨⟩
  if h : k0_cond3 k = 1#1 then do
    Prog.lift (.enqueueDma (wSrc arg1 (k0_off103 k) (k0_off103_inb k h)) (.here (wDst arg7 (k0_off102 k) (k0_off102_inb k h))) (.dma (wSem arg16 (k0_off101 k) (k0_off101_inb k h)).sem) (harg1.wordExact_slice rfl _ (k0_off103_wordsfp8e4m3 k h)) ((harg7.wordExact_slice rfl _ (k0_off102_wordsfp8e4m3 k h)).reshape _ _) ⟨Or.inl rfl, trivial⟩)
    pure ⟨⟩
  else do
    pure ⟨⟩
  if h : k0_cond4 k = 1#1 then do
    Prog.lift (.enqueueDma (wSrc arg1 (k0_off106 k) (k0_off106_inb k h)) (.here (wDst arg7 (k0_off105 k) (k0_off105_inb k h))) (.dma (wSem arg16 (k0_off104 k) (k0_off104_inb k h)).sem) (harg1.wordExact_slice rfl _ (k0_off106_wordsfp8e4m3 k h)) ((harg7.wordExact_slice rfl _ (k0_off105_wordsfp8e4m3 k h)).reshape _ _) ⟨Or.inl rfl, trivial⟩)
    pure ⟨⟩
  else do
    pure ⟨⟩
  pure ⟨⟩

theorem printedTrip_eq (v191 : IVec S24x128 32) (k : Fin k0_t2_loop.trips) :
    printedTrip (F := F) arg1 harg1 arg7 harg7 arg8 arg9 arg11 arg12 arg13 arg15 harg15 arg16 v191 k = trip arg1 harg1 arg7 harg7 arg8 arg9 arg11 arg12 arg13 arg15 harg15 arg16 v191 k := by
  unfold printedTrip printedTripA trip tripA refill1 refill2 refill3 refill4
  by_cases h1 : k0_cond1 k = 1#1 <;> by_cases h2 : k0_cond2 k = 1#1 <;> by_cases h3 : k0_cond3 k = 1#1 <;> by_cases h4 : k0_cond4 k = 1#1
  all_goals (simp only [h1, h2, h3, h4, dite_true, dite_false, bind_assoc, pure_bind, not_false_eq_true, not_true_eq_false, reduceDIte])
  all_goals rfl

/-! ## After the loop -/

/-- The ring slot of a block given by its number. -/
abbrev tailSlot (nb : BitVec 32) : ℕ := (Scalar.indexCast (Scalar.remsi nb 24#32)).toNat

/-- The last three blocks awaited and computed, then the results' copies: `y` started, both awaited. -/
def tail (v191 : IVec S24x128 32) : Prog (TpuEff nD τ sig (Elt F) Λ₀ .tc) PUnit := do
  Prog.lift (.waitDma2 (wSem arg16 (k0_off1 68#32) (k0_off1_inb 24)).sem (wSrc arg1 ![8704, 0] inb_S9088x10240_S128x10240_8704_0)
    (wDst arg7 (k0_off2 68#32) (k0_off2_inb 24)) (harg1.wordExact_slice rfl _ wordsfp8e4m3_S9088x10240_S128x10240_8704_0)
    ((harg7.wordExact_slice rfl _ (k0_off2_wordsfp8e4m3 24)).reshape _ _))
  Prog.lift (.waitDma2 (wSem arg16 (k0_off1 69#32) (k0_off1_inb 25)).sem (wSrc arg1 ![8832, 0] inb_S9088x10240_S128x10240_8832_0)
    (wDst arg7 (k0_off2 69#32) (k0_off2_inb 25)) (harg1.wordExact_slice rfl _ wordsfp8e4m3_S9088x10240_S128x10240_8832_0)
    ((harg7.wordExact_slice rfl _ (k0_off2_wordsfp8e4m3 25)).reshape _ _))
  Prog.lift (.waitDma2 (wSem arg16 (k0_off1 70#32) (k0_off1_inb 26)).sem (wSrc arg1 ![8960, 0] inb_S9088x10240_S128x10240_8960_0)
    (wDst arg7 (k0_off2 70#32) (k0_off2_inb 26)) (harg1.wordExact_slice rfl _ wordsfp8e4m3_S9088x10240_S128x10240_8960_0)
    ((harg7.wordExact_slice rfl _ (k0_off2_wordsfp8e4m3 26)).reshape _ _))
  blockProg arg7 arg8 arg9 arg11 arg12 arg13 arg15 v191 (tailSlot 68#32) (by decide) 0 ![68, 0] inb_S72x128_S1x128_68_0
    ![0, 8704] inb_S96x9088_S96x128_0_8704 (View.stores_vmem h_S96x128 (harg15.storeExact_slice rfl _ packedbf16_S96x9088_S96x128_0_8704) (fun _ => rfl))
  blockProg arg7 arg8 arg9 arg11 arg12 arg13 arg15 v191 (tailSlot 69#32) (by decide) 1 ![69, 0] inb_S72x128_S1x128_69_0
    ![0, 8832] inb_S96x9088_S96x128_0_8832 (View.stores_vmem h_S96x128 (harg15.storeExact_slice rfl _ packedbf16_S96x9088_S96x128_0_8832) (fun _ => rfl))
  blockProg arg7 arg8 arg9 arg11 arg12 arg13 arg15 v191 (tailSlot 70#32) (by decide) 2 ![70, 0] inb_S72x128_S1x128_70_0
    ![0, 8960] inb_S96x9088_S96x128_0_8960 (View.stores_vmem h_S96x128 (harg15.storeExact_slice rfl _ packedbf16_S96x9088_S96x128_0_8960) (fun _ => rfl))
  Prog.lift (.enqueueDma arg15 (.here arg3) (.dma arg18.sem) harg15.wordExact harg3.wordExact ⟨Or.inl rfl, trivial⟩)
  Prog.lift (.waitDma2 arg19.sem arg14 arg4 harg14.wordExact harg4.wordExact)
  Prog.lift (.waitDma2 arg18.sem arg15 arg3 harg15.wordExact harg3.wordExact)
  pure ⟨⟩

end Cert.Proof.KernelIdeal
-- ==== Proof.IdealBlock.lean ====
/- What a block of 128 weight rows computes: the values of its twenty steps folded, and its run. -/
module

public import proofs.«01_k».proof.Proof.IdealProgram
public import proofs.«01_k».proof.Proof.Held
public import Idealize.ShloMosaic.Lib.Pipeline.Routed

@[expose] public section

set_option synthInstance.maxSize 4096

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

/-! ## The values -/

theorem wTile_inb (q : Fin 20) (j : Fin 4) (a : Fin 3) :
    (![0, 0, (q.val + 20 * j.val) * 128] : Fin 3 → ℕ) a + S1x128x128.size a ≤ S1x128x10240.size a := by
  have := q.isLt; have := j.isLt
  fin_cases a <;> simp [S1x128x128, S1x128x10240] <;> omega

/-- A block's weight tile of group `q + 20 j`. -/
def wTile (L : Vec F S1x128x10240 .fp8e4m3) (q : Fin 20) (j : Fin 4) : Vec F S1x128x128 .fp8e4m3 :=
  View.ld L (Rect.unit (s := S1x128x10240) ![0, 0, (q.val + 20 * j.val) * 128] S1x128x128.size (wTile_inb q j))

/-- The right-hand side of step `q`. -/
def rhsTile (R : Vec F S20x256x256 .fp8e4m3) (q : Fin 20) : Vec F S1x256x256 .fp8e4m3 :=
  View.ld R (Rect.unit (s := S20x256x256) (rhsOff q) S1x256x256.size (rhsOff_inb q))

/-- The scale row of step `q` out of a block's 24 rows. -/
def scaleRow (p : FVec F S1x1x24x128 .f32) (q : Fin 20) : Vec F S1x1x1x128 .f32 :=
  View.ld p (Rect.unit (s := S1x1x24x128) ![0, 0, q.val, 0] S1x1x1x128.size (by
    intro a; have := q.isLt; fin_cases a <;> simp [S1x1x24x128, S1x1x1x128] <;> omega))

/-- The accumulators after one step. -/
def qVal (L : Vec F S1x128x10240 .fp8e4m3) (RA RB : Vec F S20x256x256 .fp8e4m3) (p0 p1 p2 : FVec F S1x1x24x128 .f32)
    (A : FVec F S128x128 .f32 × FVec F S128x128 .f32) (q : Fin 20) : FVec F S128x128 .f32 × FVec F S128x128 .f32 :=
  (acc0Step A.1 (tileDot (wTile L q 0) (wTile L q 1) (rhsTile RA q)) (tileDot (wTile L q 2) (wTile L q 3) (rhsTile RB q)) (scaleRow p0 q) (scaleRow p1 q),
    acc1Step A.2 (tileDot (wTile L q 0) (wTile L q 1) (rhsTile RA q)) (tileDot (wTile L q 2) (wTile L q 3) (rhsTile RB q)) (scaleRow p2 q))

/-- Plane `v` of the activation scales. -/
def xsPlane (XS : Vec F S3x24x128 .f32) (v : Fin 3) : Vec F S1x24x128 .f32 :=
  View.ld XS (Rect.unit (s := S3x24x128) ![v.val, 0, 0] S1x24x128.size (by
    intro a; have := v.isLt; fin_cases a <;> simp [S3x24x128, S1x24x128] <;> omega))

/-- A block's tile of the result. -/
def blockVal (v191 : IVec S24x128 32) (L : Vec F S1x128x10240 .fp8e4m3) (RA RB : Vec F S20x256x256 .fp8e4m3)
    (XS : Vec F S3x24x128 .f32) (wr : Vec F S1x128 .f32) : FVec F S96x128 .bf16 :=
  outTile (steps.foldl (qVal L RA RB (k0_pay35 v191 wr (xsPlane XS 0)) (k0_pay36 v191 wr (xsPlane XS 1))
    (k0_pay37 v191 (k0_pay33 wr) (k0_pay34 wr) (xsPlane XS 2))) accZero)

/-- The scale scratch after a block's three stores. -/
def scratchPut (d : Vec F S4x3x24x128 .f32) (u : Fin 4) (p0 p1 p2 : FVec F S1x1x24x128 .f32) : Vec F S4x3x24x128 .f32 :=
  put (put (put d (stOff u 0) S1x1x24x128.size (stOff_inb u 0) p0) (stOff u 1) S1x1x24x128.size (stOff_inb u 1) p1)
    (stOff u 2) S1x1x24x128.size (stOff_inb u 2) p2

theorem put_hit {s : Shape} {X : Type} (d : s.Idx → X) (off size : Fin s.rank → ℕ) (inb : ∀ a, off a + size a ≤ s.size a)
    (w : (Rect.unit off size inb).shape.Idx → X) (y : s.Idx) (x : (Rect.unit off size inb).shape.Idx) (h : ∀ a, (y a).val = off a + (x a).val) :
    put d off size inb w y = w x := by
  have hx : ∀ a, (x a).val < size a := fun a => (x a).isLt
  have hc : ∀ a, off a ≤ (y a).val ∧ (y a).val < off a + size a := fun a => by have := h a; have := hx a; omega
  unfold put
  rw [dif_pos hc]
  refine congrArg w (funext fun a => Fin.ext ?_)
  show (y a).val - off a = (x a).val
  have := h a; omega

theorem put_miss {s : Shape} {X : Type} (d : s.Idx → X) (off size : Fin s.rank → ℕ) (inb : ∀ a, off a + size a ≤ s.size a)
    (w : (Rect.unit off size inb).shape.Idx → X) (y : s.Idx) (a : Fin s.rank) (h : (y a).val < off a ∨ off a + size a ≤ (y a).val) :
    put d off size inb w y = d y := by
  unfold put
  rw [dif_neg]
  intro hc
  have := hc a; omega

theorem row_of_put (d : Vec F S4x3x24x128 .f32) (u : Fin 4) (v v' : Fin 3) (p : FVec F S1x1x24x128 .f32) (q : Fin 20) :
    View.ld (put d (stOff u v') S1x1x24x128.size (stOff_inb u v') p) (Rect.unit (s := S4x3x24x128) (sOff u v q) S1x1x1x128.size (sOff_inb u v q))
      = if v = v' then scaleRow p q else View.ld d (Rect.unit (s := S4x3x24x128) (sOff u v q) S1x1x1x128.size (sOff_inb u v q)) := by
  have hy : ∀ (x : S1x1x1x128.Idx) (a : Fin 4), (((Rect.unit (s := S4x3x24x128) (sOff u v q) S1x1x1x128.size (sOff_inb u v q)).idx x) a).val
      = sOff u v q a + (x a).val := fun x a => by show sOff u v q a + 1 * _ = _; rw [Nat.one_mul]
  split
  · rename_i h; subst h
    funext x
    refine (put_hit _ _ _ _ _ _ ((Rect.unit (s := S1x1x24x128) ![0, 0, q.val, 0] S1x1x1x128.size (by
      intro a; have := q.isLt; fin_cases a <;> simp [S1x1x24x128, S1x1x1x128] <;> omega)).idx x) fun a => ?_).trans rfl
    rw [hy]
    show _ = stOff u v a + (![0, 0, q.val, 0] a + 1 * (x a).val)
    fin_cases a <;> simp [sOff, stOff]
  · rename_i h
    funext x
    refine put_miss _ _ _ _ _ _ (1 : Fin 4) ?_
    rw [hy]
    have h0 : (x 1).val = 0 := by have : (x 1).val < 1 := (x 1).isLt; omega
    rw [h0]
    have hne : v.val ≠ v'.val := fun e => h (Fin.ext e)
    show v.val + 0 < v'.val ∨ v'.val + 1 ≤ v.val + 0
    omega

theorem scratch_row (d : Vec F S4x3x24x128 .f32) (u : Fin 4) (p0 p1 p2 : FVec F S1x1x24x128 .f32) (q : Fin 20) :
    View.ld (scratchPut d u p0 p1 p2) (Rect.unit (s := S4x3x24x128) (sOff u 0 q) S1x1x1x128.size (sOff_inb u 0 q)) = scaleRow p0 q
    ∧ View.ld (scratchPut d u p0 p1 p2) (Rect.unit (s := S4x3x24x128) (sOff u 1 q) S1x1x1x128.size (sOff_inb u 1 q)) = scaleRow p1 q
    ∧ View.ld (scratchPut d u p0 p1 p2) (Rect.unit (s := S4x3x24x128) (sOff u 2 q) S1x1x1x128.size (sOff_inb u 2 q)) = scaleRow p2 q := by
  unfold scratchPut
  refine ⟨?_, ?_, ?_⟩
  · rw [row_of_put, if_neg (by decide), row_of_put, if_neg (by decide), row_of_put, if_pos rfl]
  · rw [row_of_put, if_neg (by decide), row_of_put, if_pos rfl]
  · rw [row_of_put, if_pos rfl]

/-! ## The run -/

local notation "𝕄" => MT nD τ sig Unit (Elt F) ℕ (Pipeline.UC sig nD τ) ℕ

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)

/-- Core `c`'s memref at contents `d`. -/
abbrev own (c : Dev nD) {sp : Space} {s : Shape} {e : EltTy} (M : Memref sig .tc sp s e) (d : s.Idx → Elt F e) :
    sProp (MT nD τ sig Unit (Elt F) ℕ (Pipeline.UC sig nD τ) ℕ) := owns (c.tc : Thread nD τ) M fullShare d

/-- Slot `s` of the ring, as the planes of the ring's memref. -/
abbrev slotM (o : Fin 3 → ℕ) (h : ∀ a, o a + S1x128x10240.size a ≤ S24x128x10240.size a) : Memref sig .tc .vmem S1x128x10240 .fp8e4m3 :=
  arg7.slice (Rect.unit (s := S24x128x10240) o S1x128x10240.size h) (fun _ => rfl)

theorem slot_inb {s : ℕ} (hs : s < 24) (a : Fin 3) : (![s, 0, 0] : Fin 3 → ℕ) a + S1x128x10240.size a ≤ S24x128x10240.size a := by
  fin_cases a <;> simp [S1x128x10240, S24x128x10240]; omega

variable (c : Dev nD)

abbrev wpK {α : Type} (p : Prog (TpuEff nD τ sig (Elt F) Λ₀ .tc) α) (Q : α → sProp (MT nD τ sig Unit (Elt F) ℕ (Pipeline.UC sig nD τ) ℕ)) :
    sProp (MT nD τ sig Unit (Elt F) ℕ (Pipeline.UC sig nD τ) ℕ) :=
  wp frame (wpE (defs₀ (F := F)) Variants.none (c.tc : Thread nD τ) none) Set.univ p Q

theorem wp_qStep {s : ℕ} (hs : s < 24) (u : Fin 4) (q : Fin 20) (A : FVec F S128x128 .f32 × FVec F S128x128 .f32)
    (L : Vec F S1x128x10240 .fp8e4m3) (RA RB : Vec F S20x256x256 .fp8e4m3) (d : Vec F S4x3x24x128 .f32) (p0 p1 p2 : FVec F S1x1x24x128 .f32)
    (Q : FVec F S128x128 .f32 × FVec F S128x128 .f32 → sProp (MT nD τ sig Unit (Elt F) ℕ (Pipeline.UC sig nD τ) ℕ)) :
    iprop(own c (slotM arg7 ![s, 0, 0] (slot_inb hs)) L ∗ own c arg8 RA ∗ own c arg9 RB ∗ own c arg13 (scratchPut d u p0 p1 p2))
      ⊢ iprop((iprop(own c (slotM arg7 ![s, 0, 0] (slot_inb hs)) L ∗ own c arg8 RA ∗ own c arg9 RB ∗ own c arg13 (scratchPut d u p0 p1 p2))
          -∗ Q (qVal L RA RB p0 p1 p2 A q))
        -∗ wpK c (qStep arg7 arg8 arg9 arg13 s hs u q A) Q) := by
  iintro ⟨HL, HA, HB, HS⟩ Hk
  unfold qStep wpK qVal wTile rhsTile
  have ho : ∀ (j : Fin 4) (a : Fin 3), tileOff s q j a = (![s, 0, 0] : Fin 3 → ℕ) a + (![0, 0, (q.val + 20 * j.val) * 128] : Fin 3 → ℕ) a := by
    intro j a; fin_cases a <;> simp [tileOff]
  iapply (wp_ld_slice_bind Variants.none (c.tc : Thread nD τ) none (m := arg7) (inb' := slot_inb hs) (inbS := wTile_inb q 0) (ho 0)) $$ HL
  iintro HL
  iapply (wp_ld_slice_bind Variants.none (c.tc : Thread nD τ) none (m := arg7) (inb' := slot_inb hs) (inbS := wTile_inb q 1) (ho 1)) $$ HL
  iintro HL
  iapply (wp_ld_slice_bind Variants.none (c.tc : Thread nD τ) none (m := arg7) (inb' := slot_inb hs) (inbS := wTile_inb q 2) (ho 2)) $$ HL
  iintro HL
  iapply (wp_ld_slice_bind Variants.none (c.tc : Thread nD τ) none (m := arg7) (inb' := slot_inb hs) (inbS := wTile_inb q 3) (ho 3)) $$ HL
  iintro HL
  iapply (wp_ld_bind Variants.none (c.tc : Thread nD τ) none) $$ HA
  iintro HA
  iapply (wp_ld_bind Variants.none (c.tc : Thread nD τ) none) $$ HB
  iintro HB
  iapply (wp_ld_bind Variants.none (c.tc : Thread nD τ) none) $$ HS
  iintro HS
  iapply (wp_ld_bind Variants.none (c.tc : Thread nD τ) none) $$ HS
  iintro HS
  iapply (wp_ld_bind Variants.none (c.tc : Thread nD τ) none) $$ HS
  iintro HS
  rw [wp_pure, (scratch_row d u p0 p1 p2 q).1, (scratch_row d u p0 p1 p2 q).2.1, (scratch_row d u p0 p1 p2 q).2.2]
  imodintro
  iapply Hk
  isplitl [HL]; · iexact HL
  isplitl [HA]; · iexact HA
  isplitl [HB]; · iexact HB
  iexact HS

theorem wp_qLoop {s : ℕ} (hs : s < 24) (u : Fin 4) (l : List (Fin 20)) (A : FVec F S128x128 .f32 × FVec F S128x128 .f32)
    (L : Vec F S1x128x10240 .fp8e4m3) (RA RB : Vec F S20x256x256 .fp8e4m3) (d : Vec F S4x3x24x128 .f32) (p0 p1 p2 : FVec F S1x1x24x128 .f32)
    (Q : FVec F S128x128 .f32 × FVec F S128x128 .f32 → sProp (MT nD τ sig Unit (Elt F) ℕ (Pipeline.UC sig nD τ) ℕ)) :
    iprop(own c (slotM arg7 ![s, 0, 0] (slot_inb hs)) L ∗ own c arg8 RA ∗ own c arg9 RB ∗ own c arg13 (scratchPut d u p0 p1 p2))
      ⊢ iprop((iprop(own c (slotM arg7 ![s, 0, 0] (slot_inb hs)) L ∗ own c arg8 RA ∗ own c arg9 RB ∗ own c arg13 (scratchPut d u p0 p1 p2))
          -∗ Q (l.foldl (qVal L RA RB p0 p1 p2) A))
        -∗ wpK c (qLoop arg7 arg8 arg9 arg13 s hs u l A) Q) := by
  induction l generalizing A with
  | nil =>
    iintro H Hk
    unfold qLoop wpK
    rw [wp_pure, List.foldl_nil]
    imodintro
    iapply Hk $$ H
  | cons q l ih =>
    iintro H Hk
    unfold qLoop wpK
    rw [wp_bind, List.foldl_cons]
    iapply (wp_qStep arg7 arg8 arg9 arg13 c hs u q A L RA RB d p0 p1 p2 _) $$ H
    iintro H
    iapply (ih (qVal L RA RB p0 p1 p2 A q)) $$ H Hk

/-- A block's run: its slot, right-hand sides and scales read, its tile put into the result. -/
theorem wp_block (v191 : IVec S24x128 32) {s : ℕ} (hs : s < 24) (u : Fin 4) (oR : Fin 2 → ℕ) (hR : ∀ a, oR a + S1x128.size a ≤ S72x128.size a)
    (oY : Fin 2 → ℕ) (hY : ∀ a, oY a + S96x128.size a ≤ S96x9088.size a)
    (hP : (arg15.access (Rect.unit (s := S96x9088) oY S96x128.size hY)).Stores Finset.univ)
    (L : Vec F S1x128x10240 .fp8e4m3) (RA RB : Vec F S20x256x256 .fp8e4m3) (XS : Vec F S3x24x128 .f32) (WS : Vec F S72x128 .f32)
    (d13 : Vec F S4x3x24x128 .f32) (d15 : Vec F S96x9088 .bf16)
    (Q : PUnit → sProp (MT nD τ sig Unit (Elt F) ℕ (Pipeline.UC sig nD τ) ℕ)) :
    iprop(own c (slotM arg7 ![s, 0, 0] (slot_inb hs)) L ∗ own c arg8 RA ∗ own c arg9 RB ∗ own c arg11 XS ∗ own c arg12 WS ∗ own c arg13 d13 ∗ own c arg15 d15)
      ⊢ iprop((iprop(own c (slotM arg7 ![s, 0, 0] (slot_inb hs)) L ∗ own c arg8 RA ∗ own c arg9 RB ∗ own c arg11 XS ∗ own c arg12 WS ∗ (∃ d, own c arg13 d)
            ∗ own c arg15 (put d15 oY S96x128.size hY (blockVal v191 L RA RB XS (View.ld WS (Rect.unit (s := S72x128) oR S1x128.size hR)))))
          -∗ Q ⟨⟩)
        -∗ wpK c (blockProg arg7 arg8 arg9 arg11 arg12 arg13 arg15 v191 s hs u oR hR oY hY hP) Q) := by
  iintro ⟨HL, HA, HB, HX, HW, HS, HY⟩ Hk
  unfold blockProg wpK
  iapply (wp_ld_bind Variants.none (c.tc : Thread nD τ) none) $$ HW
  iintro HW
  iapply (wp_ld_bind Variants.none (c.tc : Thread nD τ) none) $$ HX
  iintro HX
  iapply (wp_ld_bind Variants.none (c.tc : Thread nD τ) none) $$ HS
  iintro HS
  iapply (wp_st_bind Variants.none (c.tc : Thread nD τ) none) $$ HS
  iintro HS
  iapply (wp_ld_bind Variants.none (c.tc : Thread nD τ) none) $$ HX
  iintro HX
  iapply (wp_ld_bind Variants.none (c.tc : Thread nD τ) none) $$ HS
  iintro HS
  iapply (wp_st_bind Variants.none (c.tc : Thread nD τ) none) $$ HS
  iintro HS
  iapply (wp_ld_bind Variants.none (c.tc : Thread nD τ) none) $$ HX
  iintro HX
  iapply (wp_ld_bind Variants.none (c.tc : Thread nD τ) none) $$ HS
  iintro HS
  iapply (wp_st_bind Variants.none (c.tc : Thread nD τ) none) $$ HS
  iintro HS
  rw [wp_bind]
  iapply (wp_qLoop arg7 arg8 arg9 arg13 c hs u steps accZero L RA RB d13 _ _ _ _) $$ [HL HA HB HS]
  · isplitl [HL]; · iexact HL
    isplitl [HA]; · iexact HA
    isplitl [HB]; · iexact HB
    iexact HS
  iintro ⟨HL, HA, HB, HS⟩
  iapply (wp_ld_bind Variants.none (c.tc : Thread nD τ) none) $$ HY
  iintro HY
  iapply (wp_st_last Variants.none (c.tc : Thread nD τ) none) $$ HY
  iintro HY
  iapply Hk
  isplitl [HL]; · iexact HL
  isplitl [HA]; · iexact HA
  isplitl [HB]; · iexact HB
  isplitl [HX]; · iexact HX
  isplitl [HW]; · iexact HW
  isplitl [HS]; · iexists _; iexact HS
  iexact HY

end Cert.Proof.KernelIdeal
-- ==== Proof.IdealOffs.lean ====
/- The offsets of the loop over the blocks, as numbers. -/
module

public import proofs.«01_k».proof.Proof.IdealBlock

@[expose] public section

namespace Cert.Proof.KernelIdeal

open Idealize.ShloMosaic
open Cert.KernelIdeal Cert.KernelIdeal.Gen Cert.Proof

theorem trips1 : k0_t1_loop.trips = 20 := by decide
theorem trips2 : k0_t2_loop.trips = 17 := by decide

theorem off_slot (k : Fin k0_t2_loop.trips) (u : Fin 4) : tripSlot k (BitVec.ofNat 32 u.val) = (4 * k.val + u.val) % 24 := by
  revert k u; decide +kernel
theorem off10 (k : Fin k0_t2_loop.trips) (u : Fin 4) : k0_off10 k (BitVec.ofNat 32 u.val) = ![(4 * k.val + u.val) % 24] := by
  revert k u; decide +kernel
theorem off11 (k : Fin k0_t2_loop.trips) (u : Fin 4) : k0_off11 k (BitVec.ofNat 32 u.val) = ![(4 * k.val + u.val) % 24, 0, 0] := by
  revert k u; decide +kernel
theorem off12 (k : Fin k0_t2_loop.trips) (u : Fin 4) : k0_off12 k (BitVec.ofNat 32 u.val) = ![128 * (4 * k.val + u.val), 0] := by
  revert k u; decide +kernel
theorem off13 (k : Fin k0_t2_loop.trips) (u : Fin 4) : k0_off13 k (BitVec.ofNat 32 u.val) = ![4 * k.val + u.val, 0] := by
  revert k u; decide +kernel
theorem off94 (k : Fin k0_t2_loop.trips) (u : Fin 4) : k0_off94 k (BitVec.ofNat 32 u.val) = ![0, 128 * (4 * k.val + u.val)] := by
  revert k u; decide +kernel

theorem off_next1 (k : Fin k0_t2_loop.trips) : (k0_cond1 k = 1#1 ↔ 4 * k.val + 24 < 71) ∧ k0_off95 k = ![(4 * k.val + 24) % 24]
    ∧ k0_off96 k = ![(4 * k.val + 24) % 24, 0, 0] ∧ k0_off97 k = ![128 * (4 * k.val + 24), 0] := by
  revert k; decide +kernel
theorem off_next2 (k : Fin k0_t2_loop.trips) : (k0_cond2 k = 1#1 ↔ 4 * k.val + 25 < 71) ∧ k0_off98 k = ![(4 * k.val + 25) % 24]
    ∧ k0_off99 k = ![(4 * k.val + 25) % 24, 0, 0] ∧ k0_off100 k = ![128 * (4 * k.val + 25), 0] := by
  revert k; decide +kernel
theorem off_next3 (k : Fin k0_t2_loop.trips) : (k0_cond3 k = 1#1 ↔ 4 * k.val + 26 < 71) ∧ k0_off101 k = ![(4 * k.val + 26) % 24]
    ∧ k0_off102 k = ![(4 * k.val + 26) % 24, 0, 0] ∧ k0_off103 k = ![128 * (4 * k.val + 26), 0] := by
  revert k; decide +kernel
theorem off_next4 (k : Fin k0_t2_loop.trips) : (k0_cond4 k = 1#1 ↔ 4 * k.val + 27 < 71) ∧ k0_off104 k = ![(4 * k.val + 27) % 24]
    ∧ k0_off105 k = ![(4 * k.val + 27) % 24, 0, 0] ∧ k0_off106 k = ![128 * (4 * k.val + 27), 0] := by
  revert k; decide +kernel

theorem off1 (b : Fin 71) : k0_off1 (BitVec.ofNat 32 b.val) = ![b.val % 24] := by
  revert b; decide +kernel
theorem off2 (b : Fin 71) : k0_off2 (BitVec.ofNat 32 b.val) = ![b.val % 24, 0, 0] := by
  revert b; decide +kernel

theorem off3 (k : Fin k0_t1_loop.trips) (j : Fin 4) : k0_off3 k (BitVec.ofNat 32 (20 * j.val)) = ![0, 128 * (k.val + 20 * j.val)] := by
  revert k j; decide +kernel
theorem off4 (k : Fin k0_t1_loop.trips) (j : Fin 4) : k0_off4 k (BitVec.ofNat 32 (32 * j.val)) = ![32 * j.val + k.val, 0] := by
  revert k j; decide +kernel
theorem off5 (k : Fin k0_t1_loop.trips) (j : Fin 4) : k0_off5 k (BitVec.ofNat 32 (20 * j.val)) = ![0, 128 * (k.val + 20 * j.val)] := by
  revert k j; decide +kernel
theorem off6 (k : Fin k0_t1_loop.trips) : k0_off6 k = ![k.val, 0, 0] := by revert k; decide +kernel
theorem off7 (k : Fin k0_t1_loop.trips) : k0_off7 k = ![k.val, 0, 128] := by revert k; decide +kernel
theorem off8 (k : Fin k0_t1_loop.trips) : k0_off8 k = ![k.val, 128, 0] := by revert k; decide +kernel
theorem off9 (k : Fin k0_t1_loop.trips) : k0_off9 k = ![k.val, 128, 128] := by revert k; decide +kernel

end Cert.Proof.KernelIdeal
-- ==== Proof.IdealRing.lean ====
/- The ring of weight blocks: what is held of block and slot at each moment, and the trip that awaits four blocks, computes them
   and starts four more. -/
module

public import proofs.«01_k».proof.Proof.IdealBlock
public import proofs.«01_k».proof.Proof.Copy
public import proofs.«01_k».proof.Proof.IdealOffs

@[expose] public section

set_option synthInstance.maxSize 4096

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

theorem bigSep_Ico_head {M : Type} [URA M] {a b : ℕ} (h : a < b) (Φ : ℕ → sProp M) :
    BI.bigSep (Finset.Ico a b) Φ = iprop(Φ a ∗ BI.bigSep (Finset.Ico (a + 1) b) Φ) := by
  have e : Finset.Ico a b = insert a (Finset.Ico (a + 1) b) := by ext x; simp; omega
  rw [e]; exact BI.bigSep_insert (by simp)

theorem bigSep_Ico_last {M : Type} [URA M] {a b : ℕ} (h : a ≤ b) (Φ : ℕ → sProp M) :
    BI.bigSep (Finset.Ico a (b + 1)) Φ = iprop(Φ b ∗ BI.bigSep (Finset.Ico a b) Φ) := by
  have e : Finset.Ico a (b + 1) = insert b (Finset.Ico a b) := by ext x; simp; omega
  rw [e]; exact BI.bigSep_insert (by simp)

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)

/-! ## Offsets -/

theorem src_inb {b : ℕ} (h : b < 71) (a : Fin 2) : (![128 * b, 0] : Fin 2 → ℕ) a + S128x10240.size a ≤ S9088x10240.size a := by
  fin_cases a <;> simp [S128x10240, S9088x10240]; omega
theorem sem_inb {s : ℕ} (h : s < 24) (a : Fin 1) : (![s] : Fin 1 → ℕ) a + S1.size a ≤ S24.size a := by
  fin_cases a; simp [S1, S24]; omega
theorem row_inb {b : ℕ} (h : b < 71) (a : Fin 2) : (![b, 0] : Fin 2 → ℕ) a + S1x128.size a ≤ S72x128.size a := by
  fin_cases a <;> simp [S1x128, S72x128]; omega
theorem mod_lt (b : ℕ) : b % 24 < 24 := Nat.mod_lt _ (by decide)

/-! ## The blocks -/

variable (c : Dev nD) (Wt : Vec F S9088x10240 .fp8e4m3)

/-- Block `b` of 128 weight rows. -/
def wBlk (b : ℕ) (h : b < 71) : Vec F S128x10240 .fp8e4m3 := View.ld Wt (Rect.unit (s := S9088x10240) ![128 * b, 0] S128x10240.size (src_inb h))

/-- The block as a slot of the ring holds it. -/
def wL (b : ℕ) (h : b < 71) : Vec F S1x128x10240 .fp8e4m3 := shapeCast S1x128x10240 (wBlk Wt b h) (by decide)

/-- The rows of block `b`, where there are such. -/
def home (b : ℕ) : sProp (MT nD τ sig Unit (Elt F) ℕ (Pipeline.UC sig nD τ) ℕ) :=
  if h : b < 71 then own c (wSrc arg1 ![128 * b, 0] (src_inb h)) (wBlk Wt b h) else iprop(emp)

/-- Block `b` on its way. -/
def flight (b : ℕ) (h : b < 71) : sProp (MT nD τ sig Unit (Elt F) ℕ (Pipeline.UC sig nD τ) ℕ) :=
  copying (c.tc : Thread nD τ) (wSrc arg1 ![128 * b, 0] (src_inb h)) (wDst arg7 ![b % 24, 0, 0] (slot_inb (mod_lt b)))
    (wSem arg16 ![b % 24] (sem_inb (mod_lt b))).sem (wBlk Wt b h)

/-- Slot `s` at rest. -/
def freeSlot (s : ℕ) : sProp (MT nD τ sig Unit (Elt F) ℕ (Pipeline.UC sig nD τ) ℕ) :=
  if h : s < 24 then iprop((∃ d, own c (wDst arg7 ![s, 0, 0] (slot_inb h)) d)
    ∗ semVal ((c.tc : Thread nD τ), .dma (wSem arg16 ![s] (sem_inb h)).sem) 0) else iprop(emp)

/-- Slot `b % 24` once block `b` has been sent for. -/
def sent (b : ℕ) : sProp (MT nD τ sig Unit (Elt F) ℕ (Pipeline.UC sig nD τ) ℕ) :=
  if h : b < 71 then flight arg1 arg7 arg16 c Wt b h else freeSlot arg7 arg16 c (b % 24)

/-- The ring with `n` blocks done. -/
def ring (n : ℕ) : sProp (MT nD τ sig Unit (Elt F) ℕ (Pipeline.UC sig nD τ) ℕ) :=
  iprop(BI.bigSep (Finset.Ico 0 n) (home arg1 c Wt) ∗ BI.bigSep (Finset.Ico n (n + 24)) (sent arg1 arg7 arg16 c Wt)
    ∗ BI.bigSep (Finset.Ico (n + 24) 95) (home arg1 c Wt))

theorem wp_wStart {α : Type} {b : ℕ} (hb : b < 71) {oS : Fin 1 → ℕ} {hS : ∀ a, oS a + S1.size a ≤ S24.size a} {oD : Fin 3 → ℕ}
    {hD : ∀ a, oD a + S1x128x10240.size a ≤ S24x128x10240.size a} {oW : Fin 2 → ℕ} {hW : ∀ a, oW a + S128x10240.size a ≤ S9088x10240.size a}
    (eS : oS = ![b % 24]) (eD : oD = ![b % 24, 0, 0]) (eW : oW = ![128 * b, 0])
    {h1 : (wSrc arg1 oW hW).view.WordExact} {h2 : (wDst arg7 oD hD).view.WordExact}
    {h3 : DmaTarget.Typed (nD := nD) (τ := τ) (p := Proc.tc) .hbm (.dma (wSem arg16 oS hS).sem) (.here (wDst arg7 oD hD))}
    (k : PUnit → Prog (TpuEff nD τ sig (Elt F) Λ₀ .tc) α) (Q : α → sProp (MT nD τ sig Unit (Elt F) ℕ (Pipeline.UC sig nD τ) ℕ)) :
    iprop(home arg1 c Wt b ∗ freeSlot arg7 arg16 c (b % 24))
      ⊢ iprop((sent arg1 arg7 arg16 c Wt b -∗ wpK c (k ⟨⟩) Q)
        -∗ wpK c (Prog.lift (.enqueueDma (wSrc arg1 oW hW) (.here (wDst arg7 oD hD)) (.dma (wSem arg16 oS hS).sem) h1 h2 h3) >>= k) Q) := by
  subst eS eD eW
  unfold home freeSlot sent
  rw [dif_pos hb, dif_pos (mod_lt b), dif_pos hb]
  unfold flight
  iintro ⟨Hs, Hd, Hv⟩ Hk
  iapply (wp_copy_start Variants.none (c.tc : Thread nD τ) none (by decide)) $$ [Hs Hd Hv]
  · isplitl [Hs]; · iexact Hs
    isplitl [Hd]; · iexact Hd
    iexact Hv
  iexact Hk

/-- A start made under its condition. -/
theorem wp_wRefill {α : Type} {b : ℕ} {cond : BitVec 1} (hc : cond = 1#1 ↔ b < 71) {oS : Fin 1 → ℕ}
    {hS : cond = 1#1 → ∀ a, oS a + S1.size a ≤ S24.size a} {oD : Fin 3 → ℕ}
    {hD : cond = 1#1 → ∀ a, oD a + S1x128x10240.size a ≤ S24x128x10240.size a} {oW : Fin 2 → ℕ}
    {hW : cond = 1#1 → ∀ a, oW a + S128x10240.size a ≤ S9088x10240.size a}
    (eS : oS = ![b % 24]) (eD : oD = ![b % 24, 0, 0]) (eW : oW = ![128 * b, 0])
    {h1 : ∀ h, (wSrc arg1 oW (hW h)).view.WordExact} {h2 : ∀ h, (wDst arg7 oD (hD h)).view.WordExact}
    {h3 : ∀ h, DmaTarget.Typed (nD := nD) (τ := τ) (p := Proc.tc) .hbm (.dma (wSem arg16 oS (hS h)).sem) (.here (wDst arg7 oD (hD h)))}
    (k : PUnit → Prog (TpuEff nD τ sig (Elt F) Λ₀ .tc) α) (Q : α → sProp (MT nD τ sig Unit (Elt F) ℕ (Pipeline.UC sig nD τ) ℕ)) :
    iprop(home arg1 c Wt b ∗ freeSlot arg7 arg16 c (b % 24))
      ⊢ iprop((sent arg1 arg7 arg16 c Wt b -∗ wpK c (k ⟨⟩) Q)
        -∗ wpK c ((if h : cond = 1#1 then (do
            Prog.lift (.enqueueDma (wSrc arg1 oW (hW h)) (.here (wDst arg7 oD (hD h))) (.dma (wSem arg16 oS (hS h)).sem) (h1 h) (h2 h) (h3 h))
            pure ⟨⟩)
          else (do
            pure ⟨⟩ : Prog (TpuEff nD τ sig (Elt F) Λ₀ .tc) PUnit)) >>= k) Q) := by
  by_cases h : cond = 1#1
  · rw [dif_pos h, bind_assoc]
    simp only [pure_bind]
    exact wp_wStart arg1 arg7 arg16 c Wt (hc.mp h) eS eD eW k Q
  · rw [dif_neg h]
    have hb : ¬ b < 71 := fun hb => h (hc.mpr hb)
    unfold home sent
    rw [dif_neg hb, dif_neg hb, pure_bind]
    iintro ⟨He, Hf⟩ Hk
    iapply Hk
    iexact Hf

theorem wp_wWait {α : Type} {b : ℕ} (hb : b < 71) {oS : Fin 1 → ℕ} {hS : ∀ a, oS a + S1.size a ≤ S24.size a} {oD : Fin 3 → ℕ}
    {hD : ∀ a, oD a + S1x128x10240.size a ≤ S24x128x10240.size a} {oW : Fin 2 → ℕ} {hW : ∀ a, oW a + S128x10240.size a ≤ S9088x10240.size a}
    (eS : oS = ![b % 24]) (eD : oD = ![b % 24, 0, 0])
    {h1 : (wSrc arg1 oW hW).view.WordExact} {h2 : (wDst arg7 oD hD).view.WordExact}
    (k : PUnit → Prog (TpuEff nD τ sig (Elt F) Λ₀ .tc) α) (Q : α → sProp (MT nD τ sig Unit (Elt F) ℕ (Pipeline.UC sig nD τ) ℕ)) :
    iprop(sent arg1 arg7 arg16 c Wt b ∗ (∃ W, owes (c.tc : Thread nD τ) 0 W))
      ⊢ iprop((iprop(home arg1 c Wt b ∗ own c (slotM arg7 ![b % 24, 0, 0] (slot_inb (mod_lt b))) (wL Wt b hb)
          ∗ semVal ((c.tc : Thread nD τ), .dma (wSem arg16 ![b % 24] (sem_inb (mod_lt b))).sem) 0
          ∗ (∃ W, owes (c.tc : Thread nD τ) 0 W)) -∗ wpK c (k ⟨⟩) Q)
        -∗ wpK c (Prog.lift (.waitDma2 (wSem arg16 oS hS).sem (wSrc arg1 oW hW) (wDst arg7 oD hD) h1 h2) >>= k) Q) := by
  subst eS eD
  unfold home sent
  rw [dif_pos hb, dif_pos hb]
  unfold flight
  iintro H Hk
  iapply (wp_copy_wait Variants.none (c.tc : Thread nD τ) none) $$ H
  iintro ⟨Hs, Hd, Hv, Ho⟩
  iapply Hk
  isplitl [Hs]; · iexact Hs
  isplitl [Hd]
  · iapply (owns_unsqueeze (c.tc : Thread nD τ) (slotM arg7 ![b % 24, 0, 0] (slot_inb (mod_lt b))) squeezes_S1x128x10240_S128x10240 (by decide)) $$ Hd
  isplitl [Hv]; · iexact Hv
  iexact Ho

/-! ## The result -/

variable (v191 : IVec S24x128 32) (RA RB : Vec F S20x256x256 .fp8e4m3) (XS : Vec F S3x24x128 .f32) (WS : Vec F S72x128 .f32)

/-- The result's columns of block `b`. -/
def yTile (b : ℕ) (h : b < 71) : FVec F S96x128 .bf16 :=
  blockVal v191 (wL Wt b h) RA RB XS (View.ld WS (Rect.unit (s := S72x128) ![b, 0] S1x128.size (row_inb h)))

theorem col_lt (i : S96x9088.Idx) : (i 1).val / 128 < 71 := by
  have : (i 1).val < 9088 := (i 1).isLt
  omega

/-- The whole result. -/
def yFull : Vec F S96x9088 .bf16 := fun i =>
  yTile Wt v191 RA RB XS WS ((i 1).val / 128) (col_lt i)
    (Fin.cons (i 0) (Fin.cons ⟨(i 1).val % 128, Nat.mod_lt _ (by decide)⟩ finZeroElim))

/-- The columns of `n` blocks are there. -/
def yDone (n : ℕ) (d : Vec F S96x9088 .bf16) : Prop := ∀ i : S96x9088.Idx, (i 1).val < 128 * n → d i = yFull Wt v191 RA RB XS WS i

theorem y_inb {b : ℕ} (h : b < 71) (a : Fin 2) : (![0, 128 * b] : Fin 2 → ℕ) a + S96x128.size a ≤ S96x9088.size a := by
  fin_cases a <;> simp [S96x128, S96x9088]; omega

theorem yDone_put {b : ℕ} (h : b < 71) (d : Vec F S96x9088 .bf16) (hd : yDone Wt v191 RA RB XS WS b d) :
    yDone Wt v191 RA RB XS WS (b + 1) (put d ![0, 128 * b] S96x128.size (y_inb h) (yTile Wt v191 RA RB XS WS b h)) := by
  intro i hi
  unfold put
  split
  · rename_i hw
    have h1 := hw 1
    simp [S96x128] at h1
    have hb : (i 1).val / 128 = b := by omega
    unfold yFull
    subst hb
    congr 1
    funext a
    apply Fin.ext
    fin_cases a
    · simp [Rect.unitLocal]
      rfl
    · show (i 1).val - 128 * ((i 1).val / 128) = (i 1).val % 128
      omega
  · rename_i hw
    refine hd i ?_
    by_contra hlt
    apply hw
    intro a
    fin_cases a
    · have : (i 0).val < 96 := (i 0).isLt
      simp [S96x128]; exact this
    · simp [S96x128]; omega

/-- What the blocks read, and what they write to. -/
def work (n : ℕ) : sProp (MT nD τ sig Unit (Elt F) ℕ (Pipeline.UC sig nD τ) ℕ) :=
  iprop(own c arg8 RA ∗ own c arg9 RB ∗ own c arg11 XS ∗ own c arg12 WS ∗ (∃ d, own c arg13 d)
    ∗ ∃ d, ⌜yDone Wt v191 RA RB XS WS n d⌝ ∗ own c arg15 d)

theorem wp_blockAt {α : Type} {b : ℕ} (hb : b < 71) {s : ℕ} (es : s = b % 24) (hs : s < 24) (u : Fin 4)
    {oR : Fin 2 → ℕ} (eR : oR = ![b, 0]) (hR : ∀ a, oR a + S1x128.size a ≤ S72x128.size a)
    {oY : Fin 2 → ℕ} (eY : oY = ![0, 128 * b]) (hY : ∀ a, oY a + S96x128.size a ≤ S96x9088.size a)
    (hP : (arg15.access (Rect.unit (s := S96x9088) oY S96x128.size hY)).Stores Finset.univ)
    (k : PUnit → Prog (TpuEff nD τ sig (Elt F) Λ₀ .tc) α) (Q : α → sProp (MT nD τ sig Unit (Elt F) ℕ (Pipeline.UC sig nD τ) ℕ)) :
    iprop(own c (slotM arg7 ![b % 24, 0, 0] (slot_inb (mod_lt b))) (wL Wt b hb)
        ∗ semVal ((c.tc : Thread nD τ), .dma (wSem arg16 ![b % 24] (sem_inb (mod_lt b))).sem) 0
        ∗ work arg8 arg9 arg11 arg12 arg13 arg15 c Wt v191 RA RB XS WS b)
      ⊢ iprop((iprop(freeSlot arg7 arg16 c (b % 24) ∗ work arg8 arg9 arg11 arg12 arg13 arg15 c Wt v191 RA RB XS WS (b + 1)) -∗ wpK c (k ⟨⟩) Q)
        -∗ wpK c (blockProg arg7 arg8 arg9 arg11 arg12 arg13 arg15 v191 s hs u oR hR oY hY hP >>= k) Q) := by
  subst es eR eY
  unfold work freeSlot
  rw [dif_pos (mod_lt b)]
  iintro ⟨HL, Hv, HA, HB, HX, HW, ⟨%d13, H13⟩, ⟨%d15, %hd, H15⟩⟩ Hk
  unfold wpK
  rw [wp_bind]
  iapply (wp_block arg7 arg8 arg9 arg11 arg12 arg13 arg15 c v191 hs u ![b, 0] hR ![0, 128 * b] hY hP (wL Wt b hb) RA RB XS WS d13 d15) $$ [HL HA HB HX HW H13 H15]
  · isplitl [HL]; · iexact HL
    isplitl [HA]; · iexact HA
    isplitl [HB]; · iexact HB
    isplitl [HX]; · iexact HX
    isplitl [HW]; · iexact HW
    isplitl [H13]; · iexact H13
    iexact H15
  iintro ⟨HL, HA, HB, HX, HW, H13, H15⟩
  iapply Hk
  isplitl [HL Hv]
  · isplitl [HL]
    · iexists _
      iapply (owns_squeeze (c.tc : Thread nD τ) (slotM arg7 ![b % 24, 0, 0] (slot_inb (mod_lt b))) squeezes_S1x128x10240_S128x10240 (by decide)) $$ HL
    iexact Hv
  isplitl [HA]; · iexact HA
  isplitl [HB]; · iexact HB
  isplitl [HX]; · iexact HX
  isplitl [HW]; · iexact HW
  isplitl [H13]; · iexact H13
  iexists _
  isplitr; swap; · iexact H15
  ipureintro
  exact yDone_put Wt v191 RA RB XS WS hb d15 hd

end Cert.Proof.KernelIdeal
-- ==== Proof.IdealRingTrip.lean ====
/- A trip of the ring, and what follows the last. -/
module

public import proofs.«01_k».proof.Proof.IdealRing

@[expose] public section

set_option synthInstance.maxSize 4096

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD) (Wt : Vec F S9088x10240 .fp8e4m3)
variable (v191 : IVec S24x128 32) (RA RB : Vec F S20x256x256 .fp8e4m3) (XS : Vec F S3x24x128 .f32) (WS : Vec F S72x128 .f32)

theorem ring_open (n : ℕ) (hn : n ≤ 67) : ring arg1 arg7 arg16 c Wt n = iprop(BI.bigSep (Finset.Ico 0 n) (home arg1 c Wt)
    ∗ (sent arg1 arg7 arg16 c Wt n ∗ sent arg1 arg7 arg16 c Wt (n + 1) ∗ sent arg1 arg7 arg16 c Wt (n + 2) ∗ sent arg1 arg7 arg16 c Wt (n + 3)
      ∗ BI.bigSep (Finset.Ico (n + 4) (n + 24)) (sent arg1 arg7 arg16 c Wt))
    ∗ (home arg1 c Wt (n + 24) ∗ home arg1 c Wt (n + 25) ∗ home arg1 c Wt (n + 26) ∗ home arg1 c Wt (n + 27)
      ∗ BI.bigSep (Finset.Ico (n + 28) 95) (home arg1 c Wt))) := by
  unfold ring
  rw [bigSep_Ico_head (show n < n + 24 by omega), bigSep_Ico_head (show n + 1 < n + 24 by omega), bigSep_Ico_head (show n + 1 + 1 < n + 24 by omega),
    bigSep_Ico_head (show n + 1 + 1 + 1 < n + 24 by omega), bigSep_Ico_head (show n + 24 < 95 by omega), bigSep_Ico_head (show n + 24 + 1 < 95 by omega),
    bigSep_Ico_head (show n + 24 + 1 + 1 < 95 by omega), bigSep_Ico_head (show n + 24 + 1 + 1 + 1 < 95 by omega)]

theorem ring_close (n : ℕ) : ring arg1 arg7 arg16 c Wt (n + 4) = iprop((home arg1 c Wt (n + 3) ∗ home arg1 c Wt (n + 2) ∗ home arg1 c Wt (n + 1)
      ∗ home arg1 c Wt n ∗ BI.bigSep (Finset.Ico 0 n) (home arg1 c Wt))
    ∗ (sent arg1 arg7 arg16 c Wt (n + 27) ∗ sent arg1 arg7 arg16 c Wt (n + 26) ∗ sent arg1 arg7 arg16 c Wt (n + 25) ∗ sent arg1 arg7 arg16 c Wt (n + 24)
      ∗ BI.bigSep (Finset.Ico (n + 4) (n + 24)) (sent arg1 arg7 arg16 c Wt))
    ∗ BI.bigSep (Finset.Ico (n + 28) 95) (home arg1 c Wt)) := by
  unfold ring
  rw [show n + 4 + 24 = n + 27 + 1 by omega, bigSep_Ico_last (show n + 4 ≤ n + 27 by omega), show n + 27 = n + 26 + 1 by omega,
    bigSep_Ico_last (show n + 4 ≤ n + 26 by omega), show n + 26 = n + 25 + 1 by omega, bigSep_Ico_last (show n + 4 ≤ n + 25 by omega),
    show n + 25 = n + 24 + 1 by omega, bigSep_Ico_last (show n + 4 ≤ n + 24 by omega)]
  rw [bigSep_Ico_last (show 0 ≤ n + 3 by omega), bigSep_Ico_last (show 0 ≤ n + 2 by omega), bigSep_Ico_last (show 0 ≤ n + 1 by omega), bigSep_Ico_last (show 0 ≤ n by omega)]

/-- What is held before block `n`. -/
def ringInv (n : ℕ) : sProp (MT nD τ sig Unit (Elt F) ℕ (Pipeline.UC sig nD τ) ℕ) :=
  iprop(ring arg1 arg7 arg16 c Wt n ∗ work arg8 arg9 arg11 arg12 arg13 arg15 c Wt v191 RA RB XS WS n ∗ ∃ W, owes (c.tc : Thread nD τ) 0 W)

theorem free_next (n m : ℕ) (h : m = n + 24) : freeSlot arg7 arg16 (F := F) c (n % 24) ⊢ freeSlot arg7 arg16 c (m % 24) := by
  subst h; rw [Nat.add_mod_right]

theorem wp_loopWait {α : Type} (k : Fin k0_t2_loop.trips) (u : Fin 4) {b : ℕ} (eb : b = 4 * k.val + u.val) (hb : b < 71)
    (kk : PUnit → Prog (TpuEff nD τ sig (Elt F) Λ₀ .tc) α) (Q : α → sProp (MT nD τ sig Unit (Elt F) ℕ (Pipeline.UC sig nD τ) ℕ)) :
    iprop(sent arg1 arg7 arg16 c Wt b ∗ (∃ W, owes (c.tc : Thread nD τ) 0 W))
      ⊢ iprop((iprop(home arg1 c Wt b ∗ own c (slotM arg7 ![b % 24, 0, 0] (slot_inb (mod_lt b))) (wL Wt b hb)
          ∗ semVal ((c.tc : Thread nD τ), .dma (wSem arg16 ![b % 24] (sem_inb (mod_lt b))).sem) 0
          ∗ (∃ W, owes (c.tc : Thread nD τ) 0 W)) -∗ wpK c (kk ⟨⟩) Q)
        -∗ wpK c (loopWait arg1 harg1 arg7 harg7 arg16 k u >>= kk) Q) := by
  subst eb
  exact wp_wWait arg1 arg7 arg16 c Wt hb (off10 k u) (off11 k u) kk Q

theorem wp_loopBlock {α : Type} (k : Fin k0_t2_loop.trips) (u : Fin 4) {b : ℕ} (eb : b = 4 * k.val + u.val) (hb : b < 71)
    (kk : PUnit → Prog (TpuEff nD τ sig (Elt F) Λ₀ .tc) α) (Q : α → sProp (MT nD τ sig Unit (Elt F) ℕ (Pipeline.UC sig nD τ) ℕ)) :
    iprop(own c (slotM arg7 ![b % 24, 0, 0] (slot_inb (mod_lt b))) (wL Wt b hb)
        ∗ semVal ((c.tc : Thread nD τ), .dma (wSem arg16 ![b % 24] (sem_inb (mod_lt b))).sem) 0
        ∗ work arg8 arg9 arg11 arg12 arg13 arg15 c Wt v191 RA RB XS WS b)
      ⊢ iprop((iprop(freeSlot arg7 arg16 c (b % 24) ∗ work arg8 arg9 arg11 arg12 arg13 arg15 c Wt v191 RA RB XS WS (b + 1)) -∗ wpK c (kk ⟨⟩) Q)
        -∗ wpK c (loopBlock arg7 arg8 arg9 arg11 arg12 arg13 arg15 harg15 v191 k u >>= kk) Q) := by
  subst eb
  exact wp_blockAt arg7 arg8 arg9 arg11 arg12 arg13 arg15 arg16 c Wt v191 RA RB XS WS hb (off_slot k u) (tripSlot_lt k u) u
    (off13 k u) (k0_off13_inb k u) (off94 k u) (k0_off94_inb k u) _ kk Q

theorem wp_refill1 {α : Type} (k : Fin k0_t2_loop.trips)
    (kk : PUnit → Prog (TpuEff nD τ sig (Elt F) Λ₀ .tc) α) (Q : α → sProp (MT nD τ sig Unit (Elt F) ℕ (Pipeline.UC sig nD τ) ℕ)) :
    iprop(home arg1 c Wt (4 * k.val + 24) ∗ freeSlot arg7 arg16 c ((4 * k.val + 24) % 24))
      ⊢ iprop((sent arg1 arg7 arg16 c Wt (4 * k.val + 24) -∗ wpK c (kk ⟨⟩) Q)
        -∗ wpK c (refill1 arg1 harg1 arg7 harg7 arg16 k >>= kk) Q) := by
  obtain ⟨hc, eS, eD, eW⟩ := off_next1 k
  unfold refill1
  by_cases h : k0_cond1 k = 1#1
  · rw [dif_pos h, bind_assoc]
    simp only [pure_bind]
    exact wp_wStart arg1 arg7 arg16 c Wt (hc.mp h) eS eD eW kk Q
  · rw [dif_neg h]
    have hb : ¬ 4 * k.val + 24 < 71 := fun hb => h (hc.mpr hb)
    unfold home sent
    rw [dif_neg hb, dif_neg hb, pure_bind]
    iintro ⟨He, Hf⟩ Hk
    iapply Hk
    iexact Hf

theorem wp_refill2 {α : Type} (k : Fin k0_t2_loop.trips)
    (kk : PUnit → Prog (TpuEff nD τ sig (Elt F) Λ₀ .tc) α) (Q : α → sProp (MT nD τ sig Unit (Elt F) ℕ (Pipeline.UC sig nD τ) ℕ)) :
    iprop(home arg1 c Wt (4 * k.val + 25) ∗ freeSlot arg7 arg16 c ((4 * k.val + 25) % 24))
      ⊢ iprop((sent arg1 arg7 arg16 c Wt (4 * k.val + 25) -∗ wpK c (kk ⟨⟩) Q)
        -∗ wpK c (refill2 arg1 harg1 arg7 harg7 arg16 k >>= kk) Q) := by
  obtain ⟨hc, eS, eD, eW⟩ := off_next2 k
  unfold refill2
  by_cases h : k0_cond2 k = 1#1
  · rw [dif_pos h, bind_assoc]
    simp only [pure_bind]
    exact wp_wStart arg1 arg7 arg16 c Wt (hc.mp h) eS eD eW kk Q
  · rw [dif_neg h]
    have hb : ¬ 4 * k.val + 25 < 71 := fun hb => h (hc.mpr hb)
    unfold home sent
    rw [dif_neg hb, dif_neg hb, pure_bind]
    iintro ⟨He, Hf⟩ Hk
    iapply Hk
    iexact Hf

theorem wp_refill3 {α : Type} (k : Fin k0_t2_loop.trips)
    (kk : PUnit → Prog (TpuEff nD τ sig (Elt F) Λ₀ .tc) α) (Q : α → sProp (MT nD τ sig Unit (Elt F) ℕ (Pipeline.UC sig nD τ) ℕ)) :
    iprop(home arg1 c Wt (4 * k.val + 26) ∗ freeSlot arg7 arg16 c ((4 * k.val + 26) % 24))
      ⊢ iprop((sent arg1 arg7 arg16 c Wt (4 * k.val + 26) -∗ wpK c (kk ⟨⟩) Q)
        -∗ wpK c (refill3 arg1 harg1 arg7 harg7 arg16 k >>= kk) Q) := by
  obtain ⟨hc, eS, eD, eW⟩ := off_next3 k
  unfold refill3
  by_cases h : k0_cond3 k = 1#1
  · rw [dif_pos h, bind_assoc]
    simp only [pure_bind]
    exact wp_wStart arg1 arg7 arg16 c Wt (hc.mp h) eS eD eW kk Q
  · rw [dif_neg h]
    have hb : ¬ 4 * k.val + 26 < 71 := fun hb => h (hc.mpr hb)
    unfold home sent
    rw [dif_neg hb, dif_neg hb, pure_bind]
    iintro ⟨He, Hf⟩ Hk
    iapply Hk
    iexact Hf

theorem wp_refill4 {α : Type} (k : Fin k0_t2_loop.trips)
    (kk : PUnit → Prog (TpuEff nD τ sig (Elt F) Λ₀ .tc) α) (Q : α → sProp (MT nD τ sig Unit (Elt F) ℕ (Pipeline.UC sig nD τ) ℕ)) :
    iprop(home arg1 c Wt (4 * k.val + 27) ∗ freeSlot arg7 arg16 c ((4 * k.val + 27) % 24))
      ⊢ iprop((sent arg1 arg7 arg16 c Wt (4 * k.val + 27) -∗ wpK c (kk ⟨⟩) Q)
        -∗ wpK c (refill4 arg1 harg1 arg7 harg7 arg16 k >>= kk) Q) := by
  obtain ⟨hc, eS, eD, eW⟩ := off_next4 k
  unfold refill4
  by_cases h : k0_cond4 k = 1#1
  · rw [dif_pos h, bind_assoc]
    simp only [pure_bind]
    exact wp_wStart arg1 arg7 arg16 c Wt (hc.mp h) eS eD eW kk Q
  · rw [dif_neg h]
    have hb : ¬ 4 * k.val + 27 < 71 := fun hb => h (hc.mpr hb)
    unfold home sent
    rw [dif_neg hb, dif_neg hb, pure_bind]
    iintro ⟨He, Hf⟩ Hk
    iapply Hk
    iexact Hf

set_option maxHeartbeats 4000000 in
theorem wp_trip (k : Fin k0_t2_loop.trips) :
    ringInv arg1 arg7 arg8 arg9 arg11 arg12 arg13 arg15 arg16 c Wt v191 RA RB XS WS (4 * k.val)
      ⊢ wpK c (trip arg1 harg1 arg7 harg7 arg8 arg9 arg11 arg12 arg13 arg15 harg15 arg16 v191 k)
          (fun _ => ringInv arg1 arg7 arg8 arg9 arg11 arg12 arg13 arg15 arg16 c Wt v191 RA RB XS WS (4 * (k.val + 1))) := by
  have hk : k.val < 17 := by have := k.isLt; have e := trips2; omega
  unfold ringInv
  rw [show 4 * (k.val + 1) = 4 * k.val + 4 by omega, ring_open _ _ _ _ _ (4 * k.val) (by omega), ring_close]
  unfold trip tripA
  simp only [bind_assoc]
  iintro ⟨⟨HD, ⟨S0, S1, S2, S3, HS⟩, ⟨N0, N1, N2, N3, HN⟩⟩, HW, HO⟩
  iapply (wp_loopWait arg1 harg1 arg7 harg7 arg16 c Wt k 0 (b := (4 * k.val)) rfl (by omega)) $$ [S0 HO]
  · isplitl [S0]; · iexact S0
    iexact HO
  iintro ⟨D0, L0, V0, HO⟩
  iapply (wp_loopWait arg1 harg1 arg7 harg7 arg16 c Wt k 1 (b := (4 * k.val + 1)) rfl (by omega)) $$ [S1 HO]
  · isplitl [S1]; · iexact S1
    iexact HO
  iintro ⟨D1, L1, V1, HO⟩
  iapply (wp_loopWait arg1 harg1 arg7 harg7 arg16 c Wt k 2 (b := (4 * k.val + 2)) rfl (by omega)) $$ [S2 HO]
  · isplitl [S2]; · iexact S2
    iexact HO
  iintro ⟨D2, L2, V2, HO⟩
  iapply (wp_loopWait arg1 harg1 arg7 harg7 arg16 c Wt k 3 (b := (4 * k.val + 3)) rfl (by omega)) $$ [S3 HO]
  · isplitl [S3]; · iexact S3
    iexact HO
  iintro ⟨D3, L3, V3, HO⟩
  iapply (wp_loopBlock arg7 arg8 arg9 arg11 arg12 arg13 arg15 harg15 arg16 c Wt v191 RA RB XS WS k 0 (b := (4 * k.val)) rfl (by omega)) $$ [L0 V0 HW]
  · isplitl [L0]; · iexact L0
    isplitl [V0]; · iexact V0
    iexact HW
  iintro ⟨F0, HW⟩
  iapply (wp_loopBlock arg7 arg8 arg9 arg11 arg12 arg13 arg15 harg15 arg16 c Wt v191 RA RB XS WS k 1 (b := (4 * k.val + 1)) rfl (by omega)) $$ [L1 V1 HW]
  · isplitl [L1]; · iexact L1
    isplitl [V1]; · iexact V1
    iexact HW
  iintro ⟨F1, HW⟩
  iapply (wp_loopBlock arg7 arg8 arg9 arg11 arg12 arg13 arg15 harg15 arg16 c Wt v191 RA RB XS WS k 2 (b := (4 * k.val + 2)) rfl (by omega)) $$ [L2 V2 HW]
  · isplitl [L2]; · iexact L2
    isplitl [V2]; · iexact V2
    iexact HW
  iintro ⟨F2, HW⟩
  iapply (wp_loopBlock arg7 arg8 arg9 arg11 arg12 arg13 arg15 harg15 arg16 c Wt v191 RA RB XS WS k 3 (b := (4 * k.val + 3)) rfl (by omega)) $$ [L3 V3 HW]
  · isplitl [L3]; · iexact L3
    isplitl [V3]; · iexact V3
    iexact HW
  iintro ⟨F3, HW⟩
  ihave F0' := (free_next arg7 arg16 c (4 * k.val) (4 * k.val + 24) (by omega)) $$ F0
  iapply (wp_refill1 arg1 harg1 arg7 harg7 arg16 c Wt k) $$ [N0 F0']
  · isplitl [N0]; · iexact N0
    iexact F0'
  iintro X0
  simp only [pure_bind]
  ihave F1' := (free_next arg7 arg16 c (4 * k.val + 1) (4 * k.val + 25) (by omega)) $$ F1
  iapply (wp_refill2 arg1 harg1 arg7 harg7 arg16 c Wt k) $$ [N1 F1']
  · isplitl [N1]; · iexact N1
    iexact F1'
  iintro X1
  ihave F2' := (free_next arg7 arg16 c (4 * k.val + 2) (4 * k.val + 26) (by omega)) $$ F2
  iapply (wp_refill3 arg1 harg1 arg7 harg7 arg16 c Wt k) $$ [N2 F2']
  · isplitl [N2]; · iexact N2
    iexact F2'
  iintro X2
  ihave F3' := (free_next arg7 arg16 c (4 * k.val + 3) (4 * k.val + 27) (by omega)) $$ F3
  iapply (wp_refill4 arg1 harg1 arg7 harg7 arg16 c Wt k) $$ [N3 F3']
  · isplitl [N3]; · iexact N3
    iexact F3'
  iintro X3
  unfold wpK
  rw [wp_pure]
  imodintro
  isplitl [D0 D1 D2 D3 HD X0 X1 X2 X3 HS HN]
  · isplitl [D0 D1 D2 D3 HD]
    · isplitl [D3]; · iexact D3
      isplitl [D2]; · iexact D2
      isplitl [D1]; · iexact D1
      isplitl [D0]; · iexact D0
      iexact HD
    isplitl [X0 X1 X2 X3 HS]
    · isplitl [X3]; · iexact X3
      isplitl [X2]; · iexact X2
      isplitl [X1]; · iexact X1
      isplitl [X0]; · iexact X0
      iexact HS
    iexact HN
  isplitl [HW]; · iexact HW
  iexact HO

end Cert.Proof.KernelIdeal
-- ==== Proof.IdealFill.lean ====
/- The ring filled: the first 24 blocks sent for. -/
module

public import proofs.«01_k».proof.Proof.IdealRingTrip

@[expose] public section

set_option synthInstance.maxSize 4096

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD) (Wt : Vec F S9088x10240 .fp8e4m3)

/-- The ring with its first `n` blocks sent for. -/
def filling (n : ℕ) : sProp (MT nD τ sig Unit (Elt F) ℕ (Pipeline.UC sig nD τ) ℕ) :=
  iprop(BI.bigSep (Finset.Ico 0 n) (sent arg1 arg7 arg16 c Wt) ∗ BI.bigSep (Finset.Ico n 24) (freeSlot arg7 arg16 (F := F) c)
    ∗ BI.bigSep (Finset.Ico n 95) (home arg1 c Wt))

theorem wp_fill {α : Type} {b : ℕ} (hb : b < 24) {oS : Fin 1 → ℕ} {hS : ∀ a, oS a + S1.size a ≤ S24.size a} {oD : Fin 3 → ℕ}
    {hD : ∀ a, oD a + S1x128x10240.size a ≤ S24x128x10240.size a} {oW : Fin 2 → ℕ} {hW : ∀ a, oW a + S128x10240.size a ≤ S9088x10240.size a}
    (eS : oS = ![b % 24]) (eD : oD = ![b % 24, 0, 0]) (eW : oW = ![128 * b, 0])
    {h1 : (wSrc arg1 oW hW).view.WordExact} {h2 : (wDst arg7 oD hD).view.WordExact}
    {h3 : DmaTarget.Typed (nD := nD) (τ := τ) (p := Proc.tc) .hbm (.dma (wSem arg16 oS hS).sem) (.here (wDst arg7 oD hD))}
    (k : PUnit → Prog (TpuEff nD τ sig (Elt F) Λ₀ .tc) α) (Q : α → sProp (MT nD τ sig Unit (Elt F) ℕ (Pipeline.UC sig nD τ) ℕ)) :
    filling arg1 arg7 arg16 c Wt b
      ⊢ iprop((filling arg1 arg7 arg16 c Wt (b + 1) -∗ wpK c (k ⟨⟩) Q)
        -∗ wpK c (Prog.lift (.enqueueDma (wSrc arg1 oW hW) (.here (wDst arg7 oD hD)) (.dma (wSem arg16 oS hS).sem) h1 h2 h3) >>= k) Q) := by
  unfold filling
  rw [bigSep_Ico_head (show b < 24 by omega), bigSep_Ico_head (show b < 95 by omega), bigSep_Ico_last (show 0 ≤ b by omega)]
  iintro ⟨HS, ⟨F, HF⟩, ⟨N, HN⟩⟩ Hk
  iapply (wp_wStart arg1 arg7 arg16 c Wt (b := b) (by omega) eS eD eW) $$ [F N]
  · isplitl [N]; · iexact N
    rw [Nat.mod_eq_of_lt hb]
    iexact F
  iintro S
  iapply Hk
  isplitl [S HS]
  · isplitl [S]; · iexact S
    iexact HS
  isplitl [HF]; · iexact HF
  iexact HN

theorem filled : filling arg1 arg7 arg16 c Wt 24 ⊢ ring arg1 arg7 arg16 c Wt 0 := by
  unfold filling ring
  iintro ⟨HS, HF, HN⟩
  isplitr
  · rw [Finset.Ico_self, BI.bigSep_empty]
    iempintro
  isplitl [HS]; · iexact HS
  iexact HN

set_option maxHeartbeats 1000000 in
theorem wp_part108 (X : Vec F S96x10240 .bf16) (Q : PUnit → sProp (MT nD τ sig Unit (Elt F) ℕ (Pipeline.UC sig nD τ) ℕ)) :
    iprop(filling arg1 arg7 arg16 c Wt 0 ∗ own c arg0 X ∗ (∃ d, own c (arg6.slice (Rect.unit (s := S128x10240) ![0, 0] S96x10240.size inb_S128x10240_S96x10240_0_0) (fun _ => rfl)) d) ∗ semVal ((c.tc : Thread nD τ), .dma arg17.sem) 0)
      ⊢ iprop((iprop(filling arg1 arg7 arg16 c Wt 4 ∗ copying (c.tc : Thread nD τ) arg0 (arg6.slice (Rect.unit (s := S128x10240) ![0, 0] S96x10240.size inb_S128x10240_S96x10240_0_0) (fun _ => rfl)) arg17.sem X) -∗ Q ⟨⟩)
        -∗ wpK c (k0_part108 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) Q) := by
  rw [k0_part108_eq_skeleton]
  unfold k0_part108_skel wpK
  dsimp only
  iintro ⟨HF, HX, HT, HV⟩ Hk
  iapply (wp_copy_start Variants.none (c.tc : Thread nD τ) none (by decide)) $$ [HX HT HV]
  · isplitl [HX]; · iexact HX
    isplitl [HT]; · iexact HT
    iexact HV
  iintro HC
  iapply (wp_fill arg1 arg7 arg16 c Wt (b := 0) (by omega) (off1 0) (off2 0) rfl) $$ HF
  iintro HF
  iapply (wp_fill arg1 arg7 arg16 c Wt (b := 1) (by omega) (off1 1) (off2 1) rfl) $$ HF
  iintro HF
  iapply (wp_fill arg1 arg7 arg16 c Wt (b := 2) (by omega) (off1 2) (off2 2) rfl) $$ HF
  iintro HF
  iapply (wp_fill arg1 arg7 arg16 c Wt (b := 3) (by omega) (off1 3) (off2 3) rfl) $$ HF
  iintro HF
  unfold wpK
  rw [wp_pure]
  imodintro
  iapply Hk
  isplitl [HF]; · iexact HF
  iexact HC

set_option maxHeartbeats 1000000 in
theorem wp_part109 (Q : PUnit → sProp (MT nD τ sig Unit (Elt F) ℕ (Pipeline.UC sig nD τ) ℕ)) :
    filling arg1 arg7 arg16 c Wt 4
      ⊢ iprop((filling arg1 arg7 arg16 c Wt 8 -∗ Q ⟨⟩) -∗ wpK c (k0_part109 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) Q) := by
  rw [k0_part109_eq_skeleton]
  unfold k0_part109_skel wpK
  dsimp only
  iintro HF Hk
  iapply (wp_fill arg1 arg7 arg16 c Wt (b := 4) (by omega) (off1 4) (off2 4) rfl) $$ HF
  iintro HF
  iapply (wp_fill arg1 arg7 arg16 c Wt (b := 5) (by omega) (off1 5) (off2 5) rfl) $$ HF
  iintro HF
  iapply (wp_fill arg1 arg7 arg16 c Wt (b := 6) (by omega) (off1 6) (off2 6) rfl) $$ HF
  iintro HF
  iapply (wp_fill arg1 arg7 arg16 c Wt (b := 7) (by omega) (off1 7) (off2 7) rfl) $$ HF
  iintro HF
  unfold wpK
  rw [wp_pure]
  imodintro
  iapply Hk
  iexact HF

set_option maxHeartbeats 1000000 in
theorem wp_part110 (Q : PUnit → sProp (MT nD τ sig Unit (Elt F) ℕ (Pipeline.UC sig nD τ) ℕ)) :
    filling arg1 arg7 arg16 c Wt 8
      ⊢ iprop((filling arg1 arg7 arg16 c Wt 13 -∗ Q ⟨⟩) -∗ wpK c (k0_part110 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) Q) := by
  rw [k0_part110_eq_skeleton]
  unfold k0_part110_skel wpK
  dsimp only
  iintro HF Hk
  iapply (wp_fill arg1 arg7 arg16 c Wt (b := 8) (by omega) (off1 8) (off2 8) rfl) $$ HF
  iintro HF
  iapply (wp_fill arg1 arg7 arg16 c Wt (b := 9) (by omega) (off1 9) (off2 9) rfl) $$ HF
  iintro HF
  iapply (wp_fill arg1 arg7 arg16 c Wt (b := 10) (by omega) (off1 10) (off2 10) rfl) $$ HF
  iintro HF
  iapply (wp_fill arg1 arg7 arg16 c Wt (b := 11) (by omega) (off1 11) (off2 11) rfl) $$ HF
  iintro HF
  iapply (wp_fill arg1 arg7 arg16 c Wt (b := 12) (by omega) (off1 12) (off2 12) rfl) $$ HF
  iintro HF
  unfold wpK
  rw [wp_pure]
  imodintro
  iapply Hk
  iexact HF

set_option maxHeartbeats 1000000 in
theorem wp_part111 (Q : (Σ' (c18_i32 : BitVec 32), BitVec 32) → sProp (MT nD τ sig Unit (Elt F) ℕ (Pipeline.UC sig nD τ) ℕ)) :
    filling arg1 arg7 arg16 c Wt 13
      ⊢ iprop((filling arg1 arg7 arg16 c Wt 18 -∗ Q ⟨18#32, 24#32⟩) -∗ wpK c (k0_part111 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) Q) := by
  rw [k0_part111_eq_skeleton]
  unfold k0_part111_skel wpK
  dsimp only
  iintro HF Hk
  iapply (wp_fill arg1 arg7 arg16 c Wt (b := 13) (by omega) (off1 13) (off2 13) rfl) $$ HF
  iintro HF
  iapply (wp_fill arg1 arg7 arg16 c Wt (b := 14) (by omega) (off1 14) (off2 14) rfl) $$ HF
  iintro HF
  iapply (wp_fill arg1 arg7 arg16 c Wt (b := 15) (by omega) (off1 15) (off2 15) rfl) $$ HF
  iintro HF
  iapply (wp_fill arg1 arg7 arg16 c Wt (b := 16) (by omega) (off1 16) (off2 16) rfl) $$ HF
  iintro HF
  iapply (wp_fill arg1 arg7 arg16 c Wt (b := 17) (by omega) (off1 17) (off2 17) rfl) $$ HF
  iintro HF
  unfold wpK
  rw [wp_pure]
  imodintro
  iapply Hk
  iexact HF

set_option maxHeartbeats 1000000 in
theorem wp_part112 (Q : PUnit → sProp (MT nD τ sig Unit (Elt F) ℕ (Pipeline.UC sig nD τ) ℕ)) :
    filling arg1 arg7 arg16 c Wt 18
      ⊢ iprop((filling arg1 arg7 arg16 c Wt 22 -∗ Q ⟨⟩) -∗ wpK c (k0_part112 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 18#32 24#32) Q) := by
  rw [k0_part112_eq_skeleton]
  unfold k0_part112_skel wpK
  dsimp only
  iintro HF Hk
  iapply (wp_fill arg1 arg7 arg16 c Wt (b := 18) (by omega) (off1 18) (off2 18) rfl) $$ HF
  iintro HF
  iapply (wp_fill arg1 arg7 arg16 c Wt (b := 19) (by omega) (off1 19) (off2 19) rfl) $$ HF
  iintro HF
  iapply (wp_fill arg1 arg7 arg16 c Wt (b := 20) (by omega) (off1 20) (off2 20) rfl) $$ HF
  iintro HF
  iapply (wp_fill arg1 arg7 arg16 c Wt (b := 21) (by omega) (off1 21) (off2 21) rfl) $$ HF
  iintro HF
  unfold wpK
  rw [wp_pure]
  imodintro
  iapply Hk
  iexact HF

end Cert.Proof.KernelIdeal
-- ==== Proof.IdealTail.lean ====
/- What follows the loop over the blocks: the last three blocks, and the results' copies. -/
module

public import proofs.«01_k».proof.Proof.IdealRingTrip

@[expose] public section

set_option synthInstance.maxSize 4096

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD) (Wt : Vec F S9088x10240 .fp8e4m3)
variable (v191 : IVec S24x128 32) (RA RB : Vec F S20x256x256 .fp8e4m3) (XS : Vec F S3x24x128 .f32) (WS : Vec F S72x128 .f32)

/-- The ring after its last block. -/
def ringEnd : sProp (MT nD τ sig Unit (Elt F) ℕ (Pipeline.UC sig nD τ) ℕ) :=
  iprop(BI.bigSep (Finset.Ico 0 71) (home arg1 c Wt) ∗ BI.bigSep (Finset.range 24) (freeSlot arg7 arg16 (F := F) c))

theorem sent_free {b : ℕ} (h : 71 ≤ b) : sent arg1 arg7 arg16 c Wt b = freeSlot arg7 arg16 c (b % 24) := by
  unfold sent; rw [dif_neg (by omega)]

theorem ring_end : iprop((home arg1 c Wt 70 ∗ home arg1 c Wt 69 ∗ home arg1 c Wt 68 ∗ BI.bigSep (Finset.Ico 0 68) (home arg1 c Wt))
    ∗ (freeSlot arg7 arg16 c (68 % 24) ∗ freeSlot arg7 arg16 c (69 % 24) ∗ freeSlot arg7 arg16 c (70 % 24)
      ∗ BI.bigSep (Finset.Ico 71 92) (sent arg1 arg7 arg16 c Wt))) ⊢ ringEnd arg1 arg7 arg16 c Wt := by
  unfold ringEnd
  have e : Finset.range 24 = (Finset.Ico 68 92).image (· % 24) := by decide
  have hinj : Set.InjOn (· % 24) ((Finset.Ico 68 92 : Finset ℕ) : Set ℕ) := by
    intro a ha b hb hab
    simp at ha hb hab; omega
  rw [e, BI.bigSep_image_of_injOn hinj, bigSep_Ico_last (show 0 ≤ 70 by omega), bigSep_Ico_last (show 0 ≤ 69 by omega), bigSep_Ico_last (show 0 ≤ 68 by omega),
    bigSep_Ico_head (show 68 < 92 by omega), bigSep_Ico_head (show 68 + 1 < 92 by omega), bigSep_Ico_head (show 68 + 1 + 1 < 92 by omega)]
  rw [BI.bigSep_congr (Ψ := fun b => freeSlot arg7 arg16 (F := F) c (b % 24)) (fun b hb => sent_free arg1 arg7 arg16 c Wt (by simp at hb; omega))]

theorem ring_last : ring arg1 arg7 arg16 c Wt 68 ⊢ iprop(BI.bigSep (Finset.Ico 0 68) (home arg1 c Wt)
    ∗ (sent arg1 arg7 arg16 c Wt 68 ∗ sent arg1 arg7 arg16 c Wt 69 ∗ sent arg1 arg7 arg16 c Wt 70
      ∗ BI.bigSep (Finset.Ico 71 92) (sent arg1 arg7 arg16 c Wt))) := by
  unfold ring
  rw [bigSep_Ico_head (show 68 < 68 + 24 by omega), bigSep_Ico_head (show 68 + 1 < 68 + 24 by omega), bigSep_Ico_head (show 68 + 1 + 1 < 68 + 24 by omega)]
  iintro ⟨HD, HS, He⟩
  isplitl [HD]; · iexact HD
  iexact HS

theorem yDone_all {d : Vec F S96x9088 .bf16} (h : yDone Wt v191 RA RB XS WS 71 d) : d = yFull Wt v191 RA RB XS WS := by
  funext i
  refine h i ?_
  have := (i 1).isLt
  change (i 1).val < 9088 at this
  omega

theorem off_tail (b : Fin 71) : tailSlot (BitVec.ofNat 32 b.val) = b.val % 24 := by
  revert b; decide +kernel

/-- What is held before the last three blocks: the codes' copy is on its way. -/
def tailPre (CD : Vec F S96x10240 .fp8e4m3) : sProp (MT nD τ sig Unit (Elt F) ℕ (Pipeline.UC sig nD τ) ℕ) :=
  iprop(ringInv arg1 arg7 arg8 arg9 arg11 arg12 arg13 arg15 arg16 c Wt v191 RA RB XS WS 68
    ∗ copying (c.tc : Thread nD τ) arg14 arg4 arg19.sem CD ∗ (∃ d, own c arg3 d) ∗ semVal ((c.tc : Thread nD τ), .dma arg18.sem) 0)

/-- What is held at the end. -/
def tailPost (CD : Vec F S96x10240 .fp8e4m3) : sProp (MT nD τ sig Unit (Elt F) ℕ (Pipeline.UC sig nD τ) ℕ) :=
  iprop(ringEnd arg1 arg7 arg16 c Wt ∗ (own c arg8 RA ∗ own c arg9 RB ∗ own c arg11 XS ∗ own c arg12 WS ∗ (∃ d, own c arg13 d))
    ∗ own c arg15 (yFull Wt v191 RA RB XS WS) ∗ own c arg3 (yFull Wt v191 RA RB XS WS) ∗ own c arg14 CD ∗ own c arg4 CD
    ∗ semVal ((c.tc : Thread nD τ), .dma arg18.sem) 0 ∗ semVal ((c.tc : Thread nD τ), .dma arg19.sem) 0
    ∗ ∃ W, owes (c.tc : Thread nD τ) 0 W)

set_option maxHeartbeats 4000000 in
theorem wp_tail (CD : Vec F S96x10240 .fp8e4m3) :
    tailPre arg1 arg3 arg4 arg7 arg8 arg9 arg11 arg12 arg13 arg14 arg15 arg16 arg18 arg19 c Wt v191 RA RB XS WS CD
      ⊢ wpK c (tail arg1 harg1 arg3 harg3 arg4 harg4 arg7 harg7 arg8 arg9 arg11 arg12 arg13 arg14 harg14 arg15 harg15 arg16 arg18 arg19 v191)
          (fun _ => tailPost arg1 arg3 arg4 arg7 arg8 arg9 arg11 arg12 arg13 arg14 arg15 arg16 arg18 arg19 c Wt v191 RA RB XS WS CD) := by
  unfold tailPre ringInv tail
  iintro ⟨⟨HR, HW, HO⟩, HC, H3, H18⟩
  ihave HR' := (ring_last arg1 arg7 arg16 c Wt) $$ HR
  icases HR' with ⟨HD, S0, S1, S2, HS⟩
  iapply (wp_wWait arg1 arg7 arg16 c Wt (b := 68) (by omega) (off1 68) (off2 68)) $$ [S0 HO]
  · isplitl [S0]; · iexact S0
    iexact HO
  iintro ⟨D0, L0, V0, HO⟩
  iapply (wp_wWait arg1 arg7 arg16 c Wt (b := 69) (by omega) (off1 69) (off2 69)) $$ [S1 HO]
  · isplitl [S1]; · iexact S1
    iexact HO
  iintro ⟨D1, L1, V1, HO⟩
  iapply (wp_wWait arg1 arg7 arg16 c Wt (b := 70) (by omega) (off1 70) (off2 70)) $$ [S2 HO]
  · isplitl [S2]; · iexact S2
    iexact HO
  iintro ⟨D2, L2, V2, HO⟩
  iapply (wp_blockAt arg7 arg8 arg9 arg11 arg12 arg13 arg15 arg16 c Wt v191 RA RB XS WS (b := 68) (by omega) (off_tail 68) (by decide) 0
    rfl inb_S72x128_S1x128_68_0 rfl inb_S96x9088_S96x128_0_8704) $$ [L0 V0 HW]
  · isplitl [L0]; · iexact L0
    isplitl [V0]; · iexact V0
    iexact HW
  iintro ⟨F0, HW⟩
  iapply (wp_blockAt arg7 arg8 arg9 arg11 arg12 arg13 arg15 arg16 c Wt v191 RA RB XS WS (b := 69) (by omega) (off_tail 69) (by decide) 1
    rfl inb_S72x128_S1x128_69_0 rfl inb_S96x9088_S96x128_0_8832) $$ [L1 V1 HW]
  · isplitl [L1]; · iexact L1
    isplitl [V1]; · iexact V1
    iexact HW
  iintro ⟨F1, HW⟩
  iapply (wp_blockAt arg7 arg8 arg9 arg11 arg12 arg13 arg15 arg16 c Wt v191 RA RB XS WS (b := 70) (by omega) (off_tail 70) (by decide) 2
    rfl inb_S72x128_S1x128_70_0 rfl inb_S96x9088_S96x128_0_8960) $$ [L2 V2 HW]
  · isplitl [L2]; · iexact L2
    isplitl [V2]; · iexact V2
    iexact HW
  iintro ⟨F2, HW⟩
  unfold work
  icases HW with ⟨HA, HB, HX, H12, H13, ⟨%d, %hd, H15⟩⟩
  obtain rfl := yDone_all Wt v191 RA RB XS WS hd
  unfold wpK
  iapply (wp_copy_start Variants.none (c.tc : Thread nD τ) none (by decide)) $$ [H15 H3 H18]
  · isplitl [H15]; · iexact H15
    isplitl [H3]; · iexact H3
    iexact H18
  iintro HY
  iapply (wp_copy_wait Variants.none (c.tc : Thread nD τ) none) $$ [HC HO]
  · isplitl [HC]; · iexact HC
    iexact HO
  iintro ⟨H14, H4, H19, HO⟩
  iapply (wp_copy_wait Variants.none (c.tc : Thread nD τ) none) $$ [HY HO]
  · isplitl [HY]; · iexact HY
    iexact HO
  iintro ⟨H15, H3, H18, HO⟩
  rw [wp_pure]
  imodintro
  unfold tailPost
  isplitl [D0 D1 D2 HD F0 F1 F2 HS]
  · iapply (ring_end arg1 arg7 arg16 c Wt)
    isplitl [D0 D1 D2 HD]
    · isplitl [D2]; · iexact D2
      isplitl [D1]; · iexact D1
      isplitl [D0]; · iexact D0
      iexact HD
    isplitl [F0]; · iexact F0
    isplitl [F1]; · iexact F1
    isplitl [F2]; · iexact F2
    iexact HS
  isplitl [HA HB HX H12 H13]
  · isplitl [HA]; · iexact HA
    isplitl [HB]; · iexact HB
    isplitl [HX]; · iexact HX
    isplitl [H12]; · iexact H12
    iexact H13
  isplitl [H15]; · iexact H15
  isplitl [H3]; · iexact H3
  isplitl [H14]; · iexact H14
  isplitl [H4]; · iexact H4
  isplitl [H18]; · iexact H18
  isplitl [H19]; · iexact H19
  iexact HO

end Cert.Proof.KernelIdeal
-- ==== Proof.IdealQuant.lean ====
/- The program of a trip of the quantiser's loop: four groups, each scaled, its codes stored, and its two halves laid out for the
   products. -/
module

public import proofs.«01_k».proof.Proof.IdealBlock

@[expose] public section

set_option synthInstance.maxSize 4096

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)

/-- The scales of a group, of its columns `v`. -/
def scRow (v : Vec F S128x128 .bf16) : FVec F S1x128 .f32 := k0_pay4 v

/-- The codes of a group. -/
def codeTile (v : Vec F S128x128 .bf16) : FVec F S96x128 .fp8e4m3 := k0_pay6 (k0_pay2 v) (k0_pay3 v)

/-- The two tiles a group `j` of a step gives the right-hand sides. -/
def quadTile (v145 : IVec S128x128 32) (v146 : FVec F S128x128 .fp8e4m3) (j : Fin 4) (t : Fin 2) (v : Vec F S128x128 .bf16) : FVec F S1x128x128 .fp8e4m3 :=
  match j, t with
  | 0, 0 => k0_pay7 (k0_pay2 v) (k0_pay3 v)
  | 0, 1 => k0_pay8 v146
  | 1, 0 => k0_pay17 v145 (k0_pay13 (k0_pay9 v) (k0_pay10 v))
  | 1, 1 => k0_pay18 v145 (k0_pay13 (k0_pay9 v) (k0_pay10 v))
  | 2, 0 => k0_pay27 v145 (k0_pay19 v) (k0_pay22 v) 23#32
  | 2, 1 => k0_pay28 (k0_pay26 v145 (k0_pay19 v) (k0_pay22 v) 23#32)
  | 3, 0 => k0_pay550 (k0_pay29 v) (k0_pay30 v)
  | 3, 1 => k0_pay551 v146

/-- One group: its columns loaded, its scale row, its codes and its two tiles stored. -/
def seg (M : Memref sig .tc .vmem S20x256x256 .fp8e4m3) (v145 : IVec S128x128 32) (v146 : FVec F S128x128 .fp8e4m3) (j : Fin 4)
    (o3 : Fin 2 → ℕ) (h3 : ∀ a, o3 a + S128x128.size a ≤ S128x10240.size a)
    (o4 : Fin 2 → ℕ) (h4 : ∀ a, o4 a + S1x128.size a ≤ S128x128.size a)
    (o5 : Fin 2 → ℕ) (h5 : ∀ a, o5 a + S96x128.size a ≤ S96x10240.size a)
    (hP5 : (arg14.access (Rect.unit (s := S96x10240) o5 S96x128.size h5)).Stores Finset.univ)
    (oA : Fin 3 → ℕ) (hA : ∀ a, oA a + S1x128x128.size a ≤ S20x256x256.size a)
    (hPA : (M.access (Rect.unit (s := S20x256x256) oA S1x128x128.size hA)).Stores Finset.univ)
    (oB : Fin 3 → ℕ) (hB : ∀ a, oB a + S1x128x128.size a ≤ S20x256x256.size a)
    (hPB : (M.access (Rect.unit (s := S20x256x256) oB S1x128x128.size hB)).Stores Finset.univ) :
    Prog (TpuEff nD τ sig (Elt F) Λ₀ .tc) PUnit := do
  let v : Vec F S128x128 .bf16 ← Prog.lift (.load arg6 (Rect.unit (s := S128x10240) o3 S128x128.size h3).toLoadRect (View.loadsAt_vmem h_S128x128))
  let _ : Vec F S1x128 .f32 ← Prog.lift (.load arg10 (Rect.unit (s := S128x128) o4 S1x128.size h4).toLoadRect (View.loadsAt_vmem h_S1x128))
  Prog.lift (.store arg10 (Rect.unit (s := S128x128) o4 S1x128.size h4) (scRow v) Finset.univ (View.stores_vmem_bits_univ h_S1x128 rfl) (.inl rfl))
  let _ : Vec F S96x128 .fp8e4m3 ← Prog.lift (.load arg14 (Rect.unit (s := S96x10240) o5 S96x128.size h5).toLoadRect (View.loadsAt_vmem h_S96x128))
  Prog.lift (.store arg14 (Rect.unit (s := S96x10240) o5 S96x128.size h5) (codeTile v) Finset.univ hP5 (.inl rfl))
  let _ : Vec F S1x128x128 .fp8e4m3 ← Prog.lift (.load M (Rect.unit (s := S20x256x256) oA S1x128x128.size hA).toLoadRect (View.loadsAt_vmem h_S1x128x128))
  Prog.lift (.store M (Rect.unit (s := S20x256x256) oA S1x128x128.size hA) (quadTile v145 v146 j 0 v) Finset.univ hPA (.inl rfl))
  let _ : Vec F S1x128x128 .fp8e4m3 ← Prog.lift (.load M (Rect.unit (s := S20x256x256) oB S1x128x128.size hB).toLoadRect (View.loadsAt_vmem h_S1x128x128))
  Prog.lift (.store M (Rect.unit (s := S20x256x256) oB S1x128x128.size hB) (quadTile v145 v146 j 1 v) Finset.univ hPB (.inl rfl))

/-- The four groups of a trip. -/
def quant (v145 : IVec S128x128 32) (v146 : FVec F S128x128 .fp8e4m3) (k : Fin k0_t1_loop.trips) : Prog (TpuEff nD τ sig (Elt F) Λ₀ .tc) PUnit := do
  seg arg6 arg10 arg14 arg8 v145 v146 0 (k0_off3 k 0#32) (k0_off3_inb k 0) (k0_off4 k 0#32) (k0_off4_inb k 0) (k0_off5 k 0#32) (k0_off5_inb k 0)
    (View.stores_vmem h_S96x128 (harg14.storeExact_slice rfl _ (k0_off5_packedfp8e4m3 k 0)) (fun _ => rfl))
    (k0_off6 k) (k0_off6_inb k) (View.stores_vmem h_S1x128x128 (harg8.storeExact_slice rfl _ (k0_off6_packedfp8e4m3 k)) (fun _ => rfl))
    (k0_off7 k) (k0_off7_inb k) (View.stores_vmem h_S1x128x128 (harg8.storeExact_slice rfl _ (k0_off7_packedfp8e4m3 k)) (fun _ => rfl))
  seg arg6 arg10 arg14 arg8 v145 v146 1 (k0_off3 k 20#32) (k0_off3_inb k 1) (k0_off4 k 32#32) (k0_off4_inb k 1) (k0_off5 k 20#32) (k0_off5_inb k 1)
    (View.stores_vmem h_S96x128 (harg14.storeExact_slice rfl _ (k0_off5_packedfp8e4m3 k 1)) (fun _ => rfl))
    (k0_off8 k) (k0_off8_inb k) (View.stores_vmem h_S1x128x128 (harg8.storeExact_slice rfl _ (k0_off8_packedfp8e4m3 k)) (fun _ => rfl))
    (k0_off9 k) (k0_off9_inb k) (View.stores_vmem h_S1x128x128 (harg8.storeExact_slice rfl _ (k0_off9_packedfp8e4m3 k)) (fun _ => rfl))
  seg arg6 arg10 arg14 arg9 v145 v146 2 (k0_off3 k 40#32) (k0_off3_inb k 2) (k0_off4 k 64#32) (k0_off4_inb k 2) (k0_off5 k 40#32) (k0_off5_inb k 2)
    (View.stores_vmem h_S96x128 (harg14.storeExact_slice rfl _ (k0_off5_packedfp8e4m3 k 2)) (fun _ => rfl))
    (k0_off6 k) (k0_off6_inb k) (View.stores_vmem h_S1x128x128 (harg9.storeExact_slice rfl _ (k0_off6_packedfp8e4m3 k)) (fun _ => rfl))
    (k0_off7 k) (k0_off7_inb k) (View.stores_vmem h_S1x128x128 (harg9.storeExact_slice rfl _ (k0_off7_packedfp8e4m3 k)) (fun _ => rfl))
  seg arg6 arg10 arg14 arg9 v145 v146 3 (k0_off3 k 60#32) (k0_off3_inb k 3) (k0_off4 k 96#32) (k0_off4_inb k 3) (k0_off5 k 60#32) (k0_off5_inb k 3)
    (View.stores_vmem h_S96x128 (harg14.storeExact_slice rfl _ (k0_off5_packedfp8e4m3 k 3)) (fun _ => rfl))
    (k0_off8 k) (k0_off8_inb k) (View.stores_vmem h_S1x128x128 (harg9.storeExact_slice rfl _ (k0_off8_packedfp8e4m3 k)) (fun _ => rfl))
    (k0_off9 k) (k0_off9_inb k) (View.stores_vmem h_S1x128x128 (harg9.storeExact_slice rfl _ (k0_off9_packedfp8e4m3 k)) (fun _ => rfl))
  pure ⟨⟩

set_option maxRecDepth 65536 in
set_option maxHeartbeats 0 in
theorem t1_body_eq (v145 : IVec S128x128 32) (v146 : FVec F S128x128 .fp8e4m3) (v166 : FVec F S71x20 .f32) :
    k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v145 v146 v166 = fun k _ => quant arg6 arg8 harg8 arg9 harg9 arg10 arg14 harg14 v145 v146 k := by
  funext k _
  unfold k0_t1_body quant
  iterate 36 (conv_lhs => whnf
              conv_rhs => whnf
              refine op_congr fun v => ?_)
  rfl

end Cert.Proof.KernelIdeal
-- ==== Proof.IdealQuantRun.lean ====
/- The quantiser's loop: what the scales, the codes and the two right-hand sides hold once its groups are done. -/
module

public import proofs.«01_k».proof.Proof.IdealQuant
public import proofs.«01_k».proof.Proof.IdealOffs

@[expose] public section

set_option synthInstance.maxSize 4096

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

/-- `d` is `G` on `S`. -/
def Agree {s : Shape} {X : Type} (S : s.Idx → Prop) (d G : s.Idx → X) : Prop := ∀ y, S y → d y = G y

/-- The elements of a window. -/
def Win {s : Shape} (off size : Fin s.rank → ℕ) (y : s.Idx) : Prop := ∀ a, off a ≤ (y a).val ∧ (y a).val < off a + size a

theorem agree_put {s : Shape} {X : Type} {S : s.Idx → Prop} {d G : s.Idx → X} {off size : Fin s.rank → ℕ} {inb : ∀ a, off a + size a ≤ s.size a}
    {w : (Rect.unit off size inb).shape.Idx → X} (hd : Agree S d G)
    (hw : ∀ y (h : Win off size y), w (Rect.unitLocal (s := s) (off := off) (size := size) y h) = G y) :
    Agree (fun y => S y ∨ Win off size y) (put d off size inb w) G := by
  intro y hy
  unfold put
  split
  · rename_i h; exact hw y h
  · rename_i h; exact hd y (hy.resolve_right h)

theorem agree_mono {s : Shape} {X : Type} {S S' : s.Idx → Prop} {d G : s.Idx → X} (hd : Agree S d G) (h : ∀ y, S' y → S y) : Agree S' d G :=
  fun y hy => hd y (h y hy)

/-! ## The values -/

theorem xt_inb {g : ℕ} (h : g < 80) (a : Fin 2) : (![0, 128 * g] : Fin 2 → ℕ) a + S128x128.size a ≤ S128x10240.size a := by
  fin_cases a <;> simp [S128x128, S128x10240]; omega

variable (XV : Vec F S128x10240 .bf16)

/-- The columns of group `g`. -/
def xtile (g : ℕ) (h : g < 80) : Vec F S128x128 .bf16 := View.ld XV (Rect.unit (s := S128x10240) ![0, 128 * g] S128x128.size (xt_inb h))

theorem xtile_congr {g g' : ℕ} (e : g = g') (h : g < 80) (h' : g' < 80) : xtile XV g h = xtile XV g' h' := by subst e; rfl

variable (v145 : IVec S128x128 32) (v146 : FVec F S128x128 .fp8e4m3)

/-- The scales' table: row `32 j + q` holds group `q + 20 j`, the rows between hold `z`. -/
def scFull (z : Vec F S128x128 .f32) : Vec F S128x128 .f32 := fun y =>
  if h : (y 0).val % 32 < 20 then
    scRow (xtile XV ((y 0).val % 32 + 20 * ((y 0).val / 32)) (by have : (y 0).val < 128 := (y 0).isLt; omega))
      (Fin.cons ⟨0, by decide⟩ (Fin.cons (y 1) finZeroElim))
  else z y

/-- The codes. -/
def cdFull : Vec F S96x10240 .fp8e4m3 := fun y =>
  codeTile (xtile XV ((y 1).val / 128) (by have : (y 1).val < 10240 := (y 1).isLt; omega))
    (Fin.cons (y 0) (Fin.cons ⟨(y 1).val % 128, Nat.mod_lt _ (by decide)⟩ finZeroElim))

/-- The right-hand sides of the groups `q + 20 J` and `q + 20 (J + 1)`. -/
def rFull (J : ℕ) (hJ : J ≤ 2) : Vec F S20x256x256 .fp8e4m3 := fun y =>
  quadTile v145 v146 ⟨J + (y 1).val / 128, by have : (y 1).val < 256 := (y 1).isLt; omega⟩ ⟨(y 2).val / 128, by have : (y 2).val < 256 := (y 2).isLt; omega⟩
    (xtile XV ((y 0).val + 20 * (J + (y 1).val / 128)) (by have : (y 0).val < 20 := (y 0).isLt; have : (y 1).val < 256 := (y 1).isLt; omega))
    (Fin.cons ⟨0, by decide⟩ (Fin.cons ⟨(y 1).val % 128, Nat.mod_lt _ (by decide)⟩ (Fin.cons ⟨(y 2).val % 128, Nat.mod_lt _ (by decide)⟩ finZeroElim)))

theorem sc_win (z : Vec F S128x128 .f32) {q j : ℕ} (hq : q < 20) (hj : j < 4) (y : S128x128.Idx) (h : Win (s := S128x128) ![32 * j + q, 0] S1x128.size y) :
    scRow (xtile XV (q + 20 * j) (by omega)) (Rect.unitLocal (s := S128x128) (off := ![32 * j + q, 0]) (size := S1x128.size) y h) = scFull XV z y := by
  have h0 := h 0
  simp [S1x128] at h0
  have e0 : (y 0).val = 32 * j + q := by omega
  unfold scFull
  rw [dif_pos (by omega)]
  rw [xtile_congr XV (show (y 0).val % 32 + 20 * ((y 0).val / 32) = q + 20 * j by omega) _ (by omega)]
  congr 1
  funext a
  apply Fin.ext
  fin_cases a
  · show (y 0).val - (32 * j + q) = 0
    omega
  · show (y 1).val - 0 = (y 1).val
    omega

theorem cd_win {g : ℕ} (hg : g < 80) (y : S96x10240.Idx) (h : Win (s := S96x10240) ![0, 128 * g] S96x128.size y) :
    codeTile (xtile XV g hg) (Rect.unitLocal (s := S96x10240) (off := ![0, 128 * g]) (size := S96x128.size) y h) = cdFull XV y := by
  have h1 := h 1
  simp [S96x128] at h1
  unfold cdFull
  rw [xtile_congr XV (show (y 1).val / 128 = g by omega) _ hg]
  congr 1
  funext a
  apply Fin.ext
  fin_cases a
  · show (y 0).val - 0 = (y 0).val
    omega
  · show (y 1).val - 128 * g = (y 1).val % 128
    omega

theorem r_win (J : ℕ) (hJ : J ≤ 2) {q : ℕ} (hq : q < 20) (i t : Fin 2) (j : Fin 4) (hj : j.val = J + i.val) (y : S20x256x256.Idx)
    (h : Win (s := S20x256x256) ![q, 128 * i.val, 128 * t.val] S1x128x128.size y) :
    quadTile v145 v146 j t (xtile XV (q + 20 * j.val) (by omega))
      (Rect.unitLocal (s := S20x256x256) (off := ![q, 128 * i.val, 128 * t.val]) (size := S1x128x128.size) y h) = rFull XV v145 v146 J hJ y := by
  have h0 := h 0
  have h1 := h 1
  have h2 := h 2
  simp [S1x128x128] at h0 h1 h2
  have e0 : (y 0).val = q := by omega
  have e1 : (y 1).val / 128 = i.val := by omega
  have e2 : (y 2).val / 128 = t.val := by omega
  unfold rFull
  rw [xtile_congr XV (show (y 0).val + 20 * (J + (y 1).val / 128) = q + 20 * j.val by omega) _ (by omega)]
  rw [show (⟨J + (y 1).val / 128, by have : (y 1).val < 256 := (y 1).isLt; omega⟩ : Fin 4) = j from Fin.ext (by simp; omega),
    show (⟨(y 2).val / 128, by have : (y 2).val < 256 := (y 2).isLt; omega⟩ : Fin 2) = t from Fin.ext e2]
  congr 1
  funext a
  apply Fin.ext
  fin_cases a
  · show (y 0).val - q = 0
    omega
  · show (y 1).val - 128 * i.val = (y 1).val % 128
    omega
  · show (y 2).val - 128 * t.val = (y 2).val % 128
    omega

/-! ## The run -/

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD) (z : Vec F S128x128 .f32)

/-- A memref whose contents are `G` on `S`. -/
def held {sp : Space} {s : Shape} {e : EltTy} (M : Memref sig .tc sp s e) (S : s.Idx → Prop) (G : s.Idx → Elt F e) :
    sProp (MT nD τ sig Unit (Elt F) ℕ (Pipeline.UC sig nD τ) ℕ) :=
  iprop(∃ d, ⌜Agree S d G⌝ ∗ own c M d)

theorem held_mono {sp : Space} {s : Shape} {e : EltTy} (M : Memref sig .tc sp s e) {S S' : s.Idx → Prop} (G : s.Idx → Elt F e) (h : ∀ y, S' y → S y) :
    held c M S G ⊢ held c M S' G := by
  unfold held
  iintro ⟨%d, %hd, H⟩
  iexists d
  isplitr; · ipureintro; exact agree_mono hd h
  iexact H

theorem wp_seg {α : Type} (M : Memref sig .tc .vmem S20x256x256 .fp8e4m3) (J : ℕ) (hJ : J ≤ 2) {q : ℕ} (hq : q < 20) (i : Fin 2) (j : Fin 4) (hj : j.val = J + i.val)
    {o3 : Fin 2 → ℕ} {h3 : ∀ a, o3 a + S128x128.size a ≤ S128x10240.size a}
    {o4 : Fin 2 → ℕ} {h4 : ∀ a, o4 a + S1x128.size a ≤ S128x128.size a}
    {o5 : Fin 2 → ℕ} {h5 : ∀ a, o5 a + S96x128.size a ≤ S96x10240.size a}
    {hP5 : (arg14.access (Rect.unit (s := S96x10240) o5 S96x128.size h5)).Stores Finset.univ}
    {oA : Fin 3 → ℕ} {hA : ∀ a, oA a + S1x128x128.size a ≤ S20x256x256.size a}
    {hPA : (M.access (Rect.unit (s := S20x256x256) oA S1x128x128.size hA)).Stores Finset.univ}
    {oB : Fin 3 → ℕ} {hB : ∀ a, oB a + S1x128x128.size a ≤ S20x256x256.size a}
    {hPB : (M.access (Rect.unit (s := S20x256x256) oB S1x128x128.size hB)).Stores Finset.univ}
    (e3 : o3 = ![0, 128 * (q + 20 * j.val)]) (e4 : o4 = ![32 * j.val + q, 0]) (e5 : o5 = ![0, 128 * (q + 20 * j.val)])
    (eA : oA = ![q, 128 * i.val, 128 * (0 : Fin 2).val]) (eB : oB = ![q, 128 * i.val, 128 * (1 : Fin 2).val])
    {S10 : S128x128.Idx → Prop} {S14 : S96x10240.Idx → Prop} {SM : S20x256x256.Idx → Prop}
    (k : PUnit → Prog (TpuEff nD τ sig (Elt F) Λ₀ .tc) α) (Q : α → sProp (MT nD τ sig Unit (Elt F) ℕ (Pipeline.UC sig nD τ) ℕ)) :
    iprop(own c arg6 XV ∗ held c arg10 S10 (scFull XV z) ∗ held c arg14 S14 (cdFull XV) ∗ held c M SM (rFull XV v145 v146 J hJ))
      ⊢ iprop((iprop(own c arg6 XV ∗ held c arg10 (fun y => S10 y ∨ Win (s := S128x128) ![32 * j.val + q, 0] S1x128.size y) (scFull XV z)
            ∗ held c arg14 (fun y => S14 y ∨ Win (s := S96x10240) ![0, 128 * (q + 20 * j.val)] S96x128.size y) (cdFull XV)
            ∗ held c M (fun y => (SM y ∨ Win (s := S20x256x256) ![q, 128 * i.val, 128 * (0 : Fin 2).val] S1x128x128.size y) ∨ Win (s := S20x256x256) ![q, 128 * i.val, 128 * (1 : Fin 2).val] S1x128x128.size y)
                (rFull XV v145 v146 J hJ)) -∗ wpK c (k ⟨⟩) Q)
        -∗ wpK c (seg arg6 arg10 arg14 M v145 v146 j o3 h3 o4 h4 o5 h5 hP5 oA hA hPA oB hB hPB >>= k) Q) := by
  subst e3 e4 e5 eA eB
  unfold held seg wpK
  simp only [bind_assoc]
  iintro ⟨H6, ⟨%d10, %a10, H10⟩, ⟨%d14, %a14, H14⟩, ⟨%dM, %aM, HM⟩⟩ Hk
  iapply (wp_ld_bind Variants.none (c.tc : Thread nD τ) none) $$ H6
  iintro H6
  iapply (wp_ld_bind Variants.none (c.tc : Thread nD τ) none) $$ H10
  iintro H10
  iapply (wp_st_bind Variants.none (c.tc : Thread nD τ) none) $$ H10
  iintro H10
  iapply (wp_ld_bind Variants.none (c.tc : Thread nD τ) none) $$ H14
  iintro H14
  iapply (wp_st_bind Variants.none (c.tc : Thread nD τ) none) $$ H14
  iintro H14
  iapply (wp_ld_bind Variants.none (c.tc : Thread nD τ) none) $$ HM
  iintro HM
  iapply (wp_st_bind Variants.none (c.tc : Thread nD τ) none) $$ HM
  iintro HM
  iapply (wp_ld_bind Variants.none (c.tc : Thread nD τ) none) $$ HM
  iintro HM
  iapply (wp_st_bind Variants.none (c.tc : Thread nD τ) none) $$ HM
  iintro HM
  iapply Hk
  isplitl [H6]; · iexact H6
  isplitl [H10]
  · iexists _; isplitr; swap; · iexact H10
    ipureintro
    exact agree_put a10 (sc_win XV z hq j.isLt)
  isplitl [H14]
  · iexists _; isplitr; swap; · iexact H14
    ipureintro
    exact agree_put a14 (cd_win XV (g := q + 20 * j.val) (by omega))
  iexists _; isplitr; swap; · iexact HM
  ipureintro
  exact agree_put (agree_put aM (r_win XV v145 v146 J hJ hq i 0 j hj)) (r_win XV v145 v146 J hJ hq i 1 j hj)

/-- What is held of the quantiser's results once `n` trips are done. -/
def quantInv (n : ℕ) : sProp (MT nD τ sig Unit (Elt F) ℕ (Pipeline.UC sig nD τ) ℕ) :=
  iprop(own c arg6 XV ∗ held c arg10 (fun y => (y 0).val % 32 < n ∨ 20 ≤ (y 0).val % 32) (scFull XV z)
    ∗ held c arg14 (fun y => ((y 1).val / 128) % 20 < n) (cdFull XV)
    ∗ held c arg8 (fun y => (y 0).val < n) (rFull XV v145 v146 0 (by decide)) ∗ held c arg9 (fun y => (y 0).val < n) (rFull XV v145 v146 2 (by decide)))

theorem win_sc {n : ℕ} (hn : n < 20) (y : S128x128.Idx) (h : (y 0).val % 32 < n + 1 ∨ 20 ≤ (y 0).val % 32) :
    (((((y 0).val % 32 < n ∨ 20 ≤ (y 0).val % 32) ∨ Win (s := S128x128) ![32 * (0 : Fin 4).val + n, 0] S1x128.size y) ∨ Win (s := S128x128) ![32 * (1 : Fin 4).val + n, 0] S1x128.size y)
      ∨ Win (s := S128x128) ![32 * (2 : Fin 4).val + n, 0] S1x128.size y) ∨ Win (s := S128x128) ![32 * (3 : Fin 4).val + n, 0] S1x128.size y := by
  have h0 : (y 0).val < 128 := (y 0).isLt
  have h1 : (y 1).val < 128 := (y 1).isLt
  unfold Win
  simp only [Fin.forall_fin_two, S128x128, S1x128, Matrix.cons_val_zero, Matrix.cons_val_one]
  simp
  simp [S128x128] at h1
  omega

theorem win_cd {n : ℕ} (hn : n < 20) (y : S96x10240.Idx) (h : ((y 1).val / 128) % 20 < n + 1) :
    ((((((y 1).val / 128) % 20 < n) ∨ Win (s := S96x10240) ![0, 128 * (n + 20 * (0 : Fin 4).val)] S96x128.size y) ∨ Win (s := S96x10240) ![0, 128 * (n + 20 * (1 : Fin 4).val)] S96x128.size y)
      ∨ Win (s := S96x10240) ![0, 128 * (n + 20 * (2 : Fin 4).val)] S96x128.size y) ∨ Win (s := S96x10240) ![0, 128 * (n + 20 * (3 : Fin 4).val)] S96x128.size y := by
  have h0 : (y 0).val < 96 := (y 0).isLt
  have h1 : (y 1).val < 10240 := (y 1).isLt
  unfold Win
  simp only [Fin.forall_fin_two, S96x10240, S96x128, Matrix.cons_val_zero, Matrix.cons_val_one]
  simp
  omega

theorem win_r {n : ℕ} (y : S20x256x256.Idx) (h : (y 0).val < n + 1) :
    (((((y 0).val < n ∨ Win (s := S20x256x256) ![n, 128 * (0 : Fin 2).val, 128 * (0 : Fin 2).val] S1x128x128.size y) ∨ Win (s := S20x256x256) ![n, 128 * (0 : Fin 2).val, 128 * (1 : Fin 2).val] S1x128x128.size y)
      ∨ Win (s := S20x256x256) ![n, 128 * (1 : Fin 2).val, 128 * (0 : Fin 2).val] S1x128x128.size y) ∨ Win (s := S20x256x256) ![n, 128 * (1 : Fin 2).val, 128 * (1 : Fin 2).val] S1x128x128.size y) := by
  have h1 : (y 1).val < 256 := (y 1).isLt
  have h2 : (y 2).val < 256 := (y 2).isLt
  unfold Win
  simp [Fin.forall_fin_succ, S20x256x256, S1x128x128]
  omega

set_option maxHeartbeats 1000000 in
theorem wp_quant (k : Fin k0_t1_loop.trips) :
    quantInv XV v145 v146 arg6 arg8 arg9 arg10 arg14 c z k.val
      ⊢ wpK c (quant arg6 arg8 harg8 arg9 harg9 arg10 arg14 harg14 v145 v146 k) (fun _ => quantInv XV v145 v146 arg6 arg8 arg9 arg10 arg14 c z (k.val + 1)) := by
  have hk : k.val < 20 := by have := k.isLt; have e := trips1; omega
  unfold quantInv quant
  iintro ⟨H6, H10, H14, H8, H9⟩
  iapply (wp_seg XV v145 v146 arg6 arg10 arg14 c z arg8 0 (by decide) hk 0 0 rfl (off3 k 0) (off4 k 0) (off5 k 0) (off6 k) (off7 k)) $$ [H6 H10 H14 H8]
  · isplitl [H6]; · iexact H6
    isplitl [H10]; · iexact H10
    isplitl [H14]; · iexact H14
    iexact H8
  iintro ⟨H6, H10, H14, H8⟩
  iapply (wp_seg XV v145 v146 arg6 arg10 arg14 c z arg8 0 (by decide) hk 1 1 rfl (off3 k 1) (off4 k 1) (off5 k 1) (off8 k) (off9 k)) $$ [H6 H10 H14 H8]
  · isplitl [H6]; · iexact H6
    isplitl [H10]; · iexact H10
    isplitl [H14]; · iexact H14
    iexact H8
  iintro ⟨H6, H10, H14, H8⟩
  iapply (wp_seg XV v145 v146 arg6 arg10 arg14 c z arg9 2 (by decide) hk 0 2 rfl (off3 k 2) (off4 k 2) (off5 k 2) (off6 k) (off7 k)) $$ [H6 H10 H14 H9]
  · isplitl [H6]; · iexact H6
    isplitl [H10]; · iexact H10
    isplitl [H14]; · iexact H14
    iexact H9
  iintro ⟨H6, H10, H14, H9⟩
  iapply (wp_seg XV v145 v146 arg6 arg10 arg14 c z arg9 2 (by decide) hk 1 3 rfl (off3 k 3) (off4 k 3) (off5 k 3) (off8 k) (off9 k)) $$ [H6 H10 H14 H9]
  · isplitl [H6]; · iexact H6
    isplitl [H10]; · iexact H10
    isplitl [H14]; · iexact H14
    iexact H9
  iintro ⟨H6, H10, H14, H9⟩
  unfold wpK
  rw [wp_pure]
  imodintro
  isplitl [H6]; · iexact H6
  isplitl [H10]; · iapply (held_mono c arg10 (scFull XV z) (win_sc hk)) $$ H10
  isplitl [H14]; · iapply (held_mono c arg14 (cdFull XV) (win_cd hk)) $$ H14
  isplitl [H8]; · iapply (held_mono c arg8 (rFull XV v145 v146 0 _) win_r); iexact H8
  iapply (held_mono c arg9 (rFull XV v145 v146 2 _) win_r); iexact H9

end Cert.Proof.KernelIdeal
-- ==== Proof.IdealProgramTrip.lean ====
/- The printed body of the loop over the blocks is the trip of `Program`: both are unfolded one
   memory operation at a time and compared. -/
module
public import proofs.«01_k».proof.Proof.IdealProgram
@[expose] public section

noncomputable section
namespace Cert.Proof.KernelIdeal
open Idealize.ShloMosaic Idealize.SL.Sem Cert.KernelIdeal Cert.KernelIdeal.Gen
variable {F : FTy → Type} [FloatOps F]
variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)

set_option maxRecDepth 65536 in
set_option maxHeartbeats 0 in
theorem t2_body_eq (v187 v188 : Vec F S24x128 .f32) (v191 : IVec S24x128 32) :
    k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v187 v188 v191
      = fun k _ => trip arg1 harg1 arg7 harg7 arg8 arg9 arg11 arg12 arg13 arg15 harg15 arg16 v191 k := by
  funext k _
  rw [← printedTrip_eq]
  iterate 772 (conv_lhs => whnf
               conv_rhs => whnf
               refine op_congr fun v => ?_)
  rfl
end Cert.Proof.KernelIdeal
-- ==== Proof.IdealProgramTail.lean ====
/- The printed program after the loop over the blocks is `Program`'s `tail`, and the printed body ends in it. -/
module

public import proofs.«01_k».proof.Proof.IdealProgram

@[expose] public section

set_option synthInstance.maxSize 4096

noncomputable section

namespace Cert.Proof.KernelIdeal

open Idealize.ShloMosaic Idealize.SL.Sem Cert.KernelIdeal Cert.KernelIdeal.Gen

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)

/-- The printed parts after the loop, up to the middle of the last block. -/
def tail1 (v191 : IVec S24x128 32) : Prog (TpuEff nD τ sig (Elt F) Λ₀ .tc) (Σ' (v1942 : BitVec 32) (v2011 : FVec F S128x128 .f32) (v2019 : FVec F S128x128 .f32) (v2035 : FVec F S128x256 .f32) (v2039 : FVec F S128x256 .f32) (v2044 : FVec F S128x128 .f32), FVec F S128x128 .f32) := do
  let ⟨v232, v238, v239, v240, v246⟩ : Σ' (v232 : BitVec 32) (v238 : FVec F S24x128 .f32) (v239 : FVec F S24x128 .f32) (v240 : FVec F S24x128 .f32), FVec F S24x128 .f32 ← k0_part116 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v191
  let ⟨v268, v269, v272, v275, v278⟩ : Σ' (v268 : FVec F S128x128 .f32) (v269 : FVec F S128x128 .f32) (v272 : FVec F S128x128 .fp8e4m3) (v275 : FVec F S128x128 .fp8e4m3), FVec F S128x128 .fp8e4m3 ← k0_part117 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v191 v232 v238 v239 v240 v246
  let ⟨v301, v309, v312, v315⟩ : Σ' (v301 : FVec F S128x128 .f32) (v309 : FVec F S128x128 .f32) (v312 : FVec F S128x128 .fp8e4m3), FVec F S128x128 .fp8e4m3 ← k0_part118 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v268 v269 v272 v275 v278
  let ⟨v341, v349⟩ : Σ' (v341 : FVec F S128x128 .f32), FVec F S128x128 .f32 ← k0_part119 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v301 v309 v312 v315
  let ⟨v381, v384⟩ : Σ' (v381 : FVec F S128x128 .f32), FVec F S128x128 .f32 ← k0_part120 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v341
  let ⟨v389, v405, v409, v414, v419⟩ : Σ' (v389 : FVec F S128x128 .f32) (v405 : FVec F S128x256 .f32) (v409 : FVec F S128x256 .f32) (v414 : FVec F S128x128 .f32), FVec F S128x128 .f32 ← k0_part121 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v349 v384
  let ⟨v421, v429, v445, v449, v454, v455⟩ : Σ' (v421 : FVec F S128x128 .f32) (v429 : FVec F S128x128 .f32) (v445 : FVec F S128x256 .f32) (v449 : FVec F S128x256 .f32) (v454 : FVec F S128x128 .f32), FVec F S128x128 .f32 ← k0_part122 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v381 v389 v405 v409 v414 v419
  let ⟨v461, v469, v485, v489, v490⟩ : Σ' (v461 : FVec F S128x128 .f32) (v469 : FVec F S128x128 .f32) (v485 : FVec F S128x256 .f32) (v489 : FVec F S128x256 .f32), FVec F S128x128 .f32 ← k0_part123 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v421 v429 v445 v449 v454 v455
  let ⟨v501, v509, v525, v526⟩ : Σ' (v501 : FVec F S128x128 .f32) (v509 : FVec F S128x128 .f32) (v525 : FVec F S128x256 .f32), FVec F S128x256 .fp8e4m3 ← k0_part124 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v461 v469 v485 v489 v490
  let ⟨v541, v549, v558, v561, v562⟩ : Σ' (v541 : FVec F S128x128 .f32) (v549 : FVec F S128x128 .f32) (v558 : FVec F S128x128 .fp8e4m3) (v561 : FVec F S128x128 .fp8e4m3), FVec F S128x256 .fp8e4m3 ← k0_part125 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v501 v509 v525 v526
  let ⟨v581, v589, v592, v595, v597⟩ : Σ' (v581 : FVec F S128x128 .f32) (v589 : FVec F S128x128 .f32) (v592 : FVec F S128x128 .fp8e4m3) (v595 : FVec F S128x128 .fp8e4m3), Vec F S1x128x128 .fp8e4m3 ← k0_part126 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v541 v549 v558 v561 v562
  let ⟨v621, v629, v632⟩ : Σ' (v621 : FVec F S128x128 .f32) (v629 : FVec F S128x128 .f32), FVec F S128x128 .fp8e4m3 ← k0_part127 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v581 v589 v592 v595 v597
  let ⟨v661, v664, v667⟩ : Σ' (v661 : FVec F S128x128 .f32) (v664 : FVec F S128x128 .f32), FVec F S128x128 .f32 ← k0_part128 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v621 v632
  let ⟨v669, v701, v702, v703⟩ : Σ' (v669 : FVec F S128x128 .f32) (v701 : FVec F S128x128 .f32) (v702 : FVec F S128x128 .f32), FVec F S128x128 .f32 ← k0_part129 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v629 v661 v664 v667
  let ⟨v709, v725, v729, v734, v735⟩ : Σ' (v709 : FVec F S128x128 .f32) (v725 : FVec F S128x256 .f32) (v729 : FVec F S128x256 .f32) (v734 : FVec F S128x128 .f32), FVec F S128x128 .f32 ← k0_part130 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v669 v702 v703
  let ⟨v741, v749, v765, v769, v770, v771⟩ : Σ' (v741 : FVec F S128x128 .f32) (v749 : FVec F S128x128 .f32) (v765 : FVec F S128x256 .f32) (v769 : FVec F S128x256 .f32) (v770 : FVec F S128x128 .f32), Vec F S1x1x1x128 .f32 ← k0_part131 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v701 v709 v725 v729 v734 v735
  let ⟨v781, v789, v805, v806, v808⟩ : Σ' (v781 : FVec F S128x128 .f32) (v789 : FVec F S128x128 .f32) (v805 : FVec F S128x256 .f32) (v806 : FVec F S128x256 .fp8e4m3), FVec F S256x256 .fp8e4m3 ← k0_part132 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v741 v749 v765 v769 v770 v771
  let ⟨v821, v829, v838, v841, v842, v844⟩ : Σ' (v821 : FVec F S128x128 .f32) (v829 : FVec F S128x128 .f32) (v838 : FVec F S128x128 .fp8e4m3) (v841 : FVec F S128x128 .fp8e4m3) (v842 : FVec F S128x256 .fp8e4m3), FVec F S256x256 .fp8e4m3 ← k0_part133 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v781 v789 v805 v806 v808
  let ⟨v861, v869, v872, v875, v878⟩ : Σ' (v861 : FVec F S128x128 .f32) (v869 : FVec F S128x128 .f32) (v872 : FVec F S128x128 .fp8e4m3) (v875 : FVec F S128x128 .fp8e4m3), FVec F S128x128 .fp8e4m3 ← k0_part134 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v821 v829 v838 v841 v842 v844
  let ⟨v901, v909, v912, v915⟩ : Σ' (v901 : FVec F S128x128 .f32) (v909 : FVec F S128x128 .f32) (v912 : FVec F S128x128 .fp8e4m3), FVec F S128x128 .fp8e4m3 ← k0_part135 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v861 v869 v872 v875 v878
  let ⟨v941, v949⟩ : Σ' (v941 : FVec F S128x128 .f32), FVec F S128x128 .f32 ← k0_part136 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v901 v909 v912 v915
  let ⟨v981, v984⟩ : Σ' (v981 : FVec F S128x128 .f32), FVec F S128x128 .f32 ← k0_part137 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v941
  let ⟨v989, v1005, v1009, v1014, v1019⟩ : Σ' (v989 : FVec F S128x128 .f32) (v1005 : FVec F S128x256 .f32) (v1009 : FVec F S128x256 .f32) (v1014 : FVec F S128x128 .f32), FVec F S128x128 .f32 ← k0_part138 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v949 v984
  let ⟨v1021, v1029, v1045, v1049, v1054, v1055⟩ : Σ' (v1021 : FVec F S128x128 .f32) (v1029 : FVec F S128x128 .f32) (v1045 : FVec F S128x256 .f32) (v1049 : FVec F S128x256 .f32) (v1054 : FVec F S128x128 .f32), FVec F S128x128 .f32 ← k0_part139 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v232 v981 v989 v1005 v1009 v1014 v1019
  let ⟨v1087, v1092, v1093, v1094, v1095, v1097⟩ : Σ' (v1087 : BitVec 32) (v1092 : FVec F S24x128 .f32) (v1093 : FVec F S24x128 .f32) (v1094 : FVec F S24x128 .f32) (v1095 : FVec F S24x128 .f32), FVec F S24x128 .f32 ← k0_part140 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1021 v1029 v1045 v1049 v1054 v1055
  let ⟨v1123, v1124, v1127⟩ : Σ' (v1123 : FVec F S128x128 .f32) (v1124 : FVec F S128x128 .f32), FVec F S128x128 .fp8e4m3 ← k0_part141 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v191 v1087 v1092 v1093 v1094 v1095 v1097
  let ⟨v1156, v1163⟩ : Σ' (v1156 : FVec F S128x128 .f32), FVec F S128x128 .f32 ← k0_part142 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1123 v1127
  let ⟨v1164, v1196, v1199⟩ : Σ' (v1164 : FVec F S128x128 .f32) (v1196 : FVec F S128x128 .f32), FVec F S128x128 .f32 ← k0_part143 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1124 v1156 v1163
  let ⟨v1204, v1220, v1224, v1229, v1230, v1231⟩ : Σ' (v1204 : FVec F S128x128 .f32) (v1220 : FVec F S128x256 .f32) (v1224 : FVec F S128x256 .f32) (v1229 : FVec F S128x128 .f32) (v1230 : FVec F S128x128 .f32), Vec F S1x1x1x128 .f32 ← k0_part144 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1164 v1199
  let ⟨v1236, v1244, v1260, v1264, v1265, v1267⟩ : Σ' (v1236 : FVec F S128x128 .f32) (v1244 : FVec F S128x128 .f32) (v1260 : FVec F S128x256 .f32) (v1264 : FVec F S128x256 .f32) (v1265 : FVec F S128x128 .f32), FVec F S1x128 .f32 ← k0_part145 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1196 v1204 v1220 v1224 v1229 v1230 v1231
  let ⟨v1276, v1284, v1300, v1301, v1303, cst_817⟩ : Σ' (v1276 : FVec F S128x128 .f32) (v1284 : FVec F S128x128 .f32) (v1300 : FVec F S128x256 .f32) (v1301 : FVec F S128x256 .fp8e4m3) (v1303 : FVec F S256x256 .fp8e4m3), FVec F S128x256 .f32 ← k0_part146 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1236 v1244 v1260 v1264 v1265 v1267
  let ⟨v1316, v1324, v1333, v1336, v1337, v1339, cst_841⟩ : Σ' (v1316 : FVec F S128x128 .f32) (v1324 : FVec F S128x128 .f32) (v1333 : FVec F S128x128 .fp8e4m3) (v1336 : FVec F S128x128 .fp8e4m3) (v1337 : FVec F S128x256 .fp8e4m3) (v1339 : FVec F S256x256 .fp8e4m3), FVec F S128x256 .f32 ← k0_part147 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1276 v1284 v1300 v1301 v1303 cst_817
  let ⟨v1356, v1364, v1367, v1370, v1373, v1375⟩ : Σ' (v1356 : FVec F S128x128 .f32) (v1364 : FVec F S128x128 .f32) (v1367 : FVec F S128x128 .fp8e4m3) (v1370 : FVec F S128x128 .fp8e4m3) (v1373 : FVec F S128x128 .fp8e4m3), Vec F S1x128x128 .fp8e4m3 ← k0_part148 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1316 v1324 v1333 v1336 v1337 v1339 cst_841
  let ⟨v1396, v1404, v1407, v1410⟩ : Σ' (v1396 : FVec F S128x128 .f32) (v1404 : FVec F S128x128 .f32) (v1407 : FVec F S128x128 .fp8e4m3), FVec F S128x128 .fp8e4m3 ← k0_part149 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1356 v1364 v1367 v1370 v1373 v1375
  let ⟨v1436, v1444⟩ : Σ' (v1436 : FVec F S128x128 .f32), FVec F S128x128 .f32 ← k0_part150 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1396 v1404 v1407 v1410
  let ⟨v1476, v1479⟩ : Σ' (v1476 : FVec F S128x128 .f32), FVec F S128x128 .f32 ← k0_part151 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1436
  let ⟨v1484, v1500, v1504, v1515⟩ : Σ' (v1484 : FVec F S128x128 .f32) (v1500 : FVec F S128x256 .f32) (v1504 : FVec F S128x256 .f32), FVec F S128x128 .f32 ← k0_part152 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1444 v1479
  let ⟨v1516, v1524, v1540, v1544, v1549, v1550⟩ : Σ' (v1516 : FVec F S128x128 .f32) (v1524 : FVec F S128x128 .f32) (v1540 : FVec F S128x256 .f32) (v1544 : FVec F S128x256 .f32) (v1549 : FVec F S128x128 .f32), FVec F S128x128 .f32 ← k0_part153 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1476 v1484 v1500 v1504 v1515
  let ⟨v1556, v1564, v1580, v1584, v1585⟩ : Σ' (v1556 : FVec F S128x128 .f32) (v1564 : FVec F S128x128 .f32) (v1580 : FVec F S128x256 .f32) (v1584 : FVec F S128x256 .f32), FVec F S128x128 .f32 ← k0_part154 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1516 v1524 v1540 v1544 v1549 v1550
  let ⟨v1596, v1604, v1620, v1621⟩ : Σ' (v1596 : FVec F S128x128 .f32) (v1604 : FVec F S128x128 .f32) (v1620 : FVec F S128x256 .f32), FVec F S128x256 .fp8e4m3 ← k0_part155 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1556 v1564 v1580 v1584 v1585
  let ⟨v1636, v1644, v1653, v1656, v1657⟩ : Σ' (v1636 : FVec F S128x128 .f32) (v1644 : FVec F S128x128 .f32) (v1653 : FVec F S128x128 .fp8e4m3) (v1656 : FVec F S128x128 .fp8e4m3), FVec F S128x256 .fp8e4m3 ← k0_part156 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1596 v1604 v1620 v1621
  let ⟨v1676, v1684, v1687, v1690, v1693⟩ : Σ' (v1676 : FVec F S128x128 .f32) (v1684 : FVec F S128x128 .f32) (v1687 : FVec F S128x128 .fp8e4m3) (v1690 : FVec F S128x128 .fp8e4m3), FVec F S128x128 .fp8e4m3 ← k0_part157 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1636 v1644 v1653 v1656 v1657
  let ⟨v1716, v1724, v1727⟩ : Σ' (v1716 : FVec F S128x128 .f32) (v1724 : FVec F S128x128 .f32), FVec F S128x128 .fp8e4m3 ← k0_part158 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1676 v1684 v1687 v1690 v1693
  let ⟨v1756, v1763⟩ : Σ' (v1756 : FVec F S128x128 .f32), FVec F S128x128 .f32 ← k0_part159 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1716 v1727
  let ⟨v1764, v1796, v1799⟩ : Σ' (v1764 : FVec F S128x128 .f32) (v1796 : FVec F S128x128 .f32), FVec F S128x128 .f32 ← k0_part160 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1724 v1756 v1763
  let ⟨v1804, v1820, v1824, v1829, v1830, v1831⟩ : Σ' (v1804 : FVec F S128x128 .f32) (v1820 : FVec F S128x256 .f32) (v1824 : FVec F S128x256 .f32) (v1829 : FVec F S128x128 .f32) (v1830 : FVec F S128x128 .f32), Vec F S1x1x1x128 .f32 ← k0_part161 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1764 v1799
  let ⟨v1836, v1844, v1860, v1864, v1865, v1867⟩ : Σ' (v1836 : FVec F S128x128 .f32) (v1844 : FVec F S128x128 .f32) (v1860 : FVec F S128x256 .f32) (v1864 : FVec F S128x256 .f32) (v1865 : FVec F S128x128 .f32), FVec F S1x128 .f32 ← k0_part162 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1796 v1804 v1820 v1824 v1829 v1830 v1831
  let ⟨v1876, v1884, v1900, v1901, v1903, cst_1237⟩ : Σ' (v1876 : FVec F S128x128 .f32) (v1884 : FVec F S128x128 .f32) (v1900 : FVec F S128x256 .f32) (v1901 : FVec F S128x256 .fp8e4m3) (v1903 : FVec F S256x256 .fp8e4m3), FVec F S128x256 .f32 ← k0_part163 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1087 v1836 v1844 v1860 v1864 v1865 v1867
  let ⟨v1942, v1944⟩ : Σ' (v1942 : BitVec 32), FVec F S1x128 .f32 ← k0_part164 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1876 v1884 v1900 v1901 v1903 cst_1237
  k0_part165 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v191 v1944
  let ⟨v1979, v1995, v1999, v2011⟩ : Σ' (v1979 : FVec F S128x128 .f32) (v1995 : FVec F S128x256 .f32) (v1999 : FVec F S128x256 .f32), FVec F S128x128 .f32 ← k0_part166 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942
  let ⟨v2019, v2035, v2039, v2044, v2045⟩ : Σ' (v2019 : FVec F S128x128 .f32) (v2035 : FVec F S128x256 .f32) (v2039 : FVec F S128x256 .f32) (v2044 : FVec F S128x128 .f32), FVec F S128x128 .f32 ← k0_part167 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v1979 v1995 v1999
  pure ⟨v1942, v2011, v2019, v2035, v2039, v2044, v2045⟩

/-- The printed parts from the middle of the last block. -/
def tail2 (r : (Σ' (v1942 : BitVec 32) (v2011 : FVec F S128x128 .f32) (v2019 : FVec F S128x128 .f32) (v2035 : FVec F S128x256 .f32) (v2039 : FVec F S128x256 .f32) (v2044 : FVec F S128x128 .f32), FVec F S128x128 .f32)) : Prog (TpuEff nD τ sig (Elt F) Λ₀ .tc) PUnit :=
  match r with
  | ⟨v1942, v2011, v2019, v2035, v2039, v2044, v2045⟩ => do
    let ⟨v2051, v2059, v2075, v2079, v2080⟩ : Σ' (v2051 : FVec F S128x128 .f32) (v2059 : FVec F S128x128 .f32) (v2075 : FVec F S128x256 .f32) (v2079 : FVec F S128x256 .f32), FVec F S128x128 .f32 ← k0_part168 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2011 v2019 v2035 v2039 v2044 v2045
    let ⟨v2091, v2099, v2115, v2116⟩ : Σ' (v2091 : FVec F S128x128 .f32) (v2099 : FVec F S128x128 .f32) (v2115 : FVec F S128x256 .f32), FVec F S128x256 .fp8e4m3 ← k0_part169 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2051 v2059 v2075 v2079 v2080
    let ⟨v2131, v2139, v2148, v2151, v2152⟩ : Σ' (v2131 : FVec F S128x128 .f32) (v2139 : FVec F S128x128 .f32) (v2148 : FVec F S128x128 .fp8e4m3) (v2151 : FVec F S128x128 .fp8e4m3), FVec F S128x256 .fp8e4m3 ← k0_part170 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2091 v2099 v2115 v2116
    let ⟨v2171, v2179, v2182, v2185, v2188⟩ : Σ' (v2171 : FVec F S128x128 .f32) (v2179 : FVec F S128x128 .f32) (v2182 : FVec F S128x128 .fp8e4m3) (v2185 : FVec F S128x128 .fp8e4m3), FVec F S128x128 .fp8e4m3 ← k0_part171 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2131 v2139 v2148 v2151 v2152
    let ⟨v2211, v2219, v2222⟩ : Σ' (v2211 : FVec F S128x128 .f32) (v2219 : FVec F S128x128 .f32), FVec F S128x128 .fp8e4m3 ← k0_part172 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2171 v2179 v2182 v2185 v2188
    let ⟨v2251, v2259⟩ : Σ' (v2251 : FVec F S128x128 .f32), FVec F S128x128 .f32 ← k0_part173 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2211 v2219 v2222
    let ⟨v2291, v2294⟩ : Σ' (v2291 : FVec F S128x128 .f32), FVec F S128x128 .f32 ← k0_part174 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2251
    let ⟨v2299, v2315, v2319, v2324, v2325, v2327⟩ : Σ' (v2299 : FVec F S128x128 .f32) (v2315 : FVec F S128x256 .f32) (v2319 : FVec F S128x256 .f32) (v2324 : FVec F S128x128 .f32) (v2325 : FVec F S128x128 .f32), FVec F S1x128 .f32 ← k0_part175 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2259 v2294
    let ⟨v2331, v2339, v2355, v2359, v2360, v2363⟩ : Σ' (v2331 : FVec F S128x128 .f32) (v2339 : FVec F S128x128 .f32) (v2355 : FVec F S128x256 .f32) (v2359 : FVec F S128x256 .f32) (v2360 : FVec F S128x128 .f32), FVec F S128x128 .f32 ← k0_part176 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2291 v2299 v2315 v2319 v2324 v2325 v2327
    let ⟨v2371, v2379, v2395, v2399⟩ : Σ' (v2371 : FVec F S128x128 .f32) (v2379 : FVec F S128x128 .f32) (v2395 : FVec F S128x256 .f32), FVec F S128x256 .f32 ← k0_part177 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2331 v2339 v2355 v2359 v2360 v2363
    let ⟨v2411, v2419, v2428, v2431, v2435⟩ : Σ' (v2411 : FVec F S128x128 .f32) (v2419 : FVec F S128x128 .f32) (v2428 : FVec F S128x128 .fp8e4m3) (v2431 : FVec F S128x128 .fp8e4m3), FVec F S128x256 .f32 ← k0_part178 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2371 v2379 v2395 v2399
    let ⟨v2451, v2459, v2462, v2465, v2468, v2471⟩ : Σ' (v2451 : FVec F S128x128 .f32) (v2459 : FVec F S128x128 .f32) (v2462 : FVec F S128x128 .fp8e4m3) (v2465 : FVec F S128x128 .fp8e4m3) (v2468 : FVec F S128x128 .fp8e4m3), FVec F S128x128 .fp8e4m3 ← k0_part179 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2411 v2419 v2428 v2431 v2435
    let ⟨v2491, v2499, v2502, v2505⟩ : Σ' (v2491 : FVec F S128x128 .f32) (v2499 : FVec F S128x128 .f32) (v2502 : FVec F S128x128 .fp8e4m3), FVec F S128x128 .fp8e4m3 ← k0_part180 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2451 v2459 v2462 v2465 v2468 v2471
    let ⟨v2531, v2539, v2541⟩ : Σ' (v2531 : FVec F S128x128 .f32) (v2539 : FVec F S128x128 .f32), Vec F S1x128x128 .fp8e4m3 ← k0_part181 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2491 v2499 v2502 v2505
    let ⟨v2571, v2574, v2575⟩ : Σ' (v2571 : FVec F S128x128 .f32) (v2574 : FVec F S128x128 .f32), Vec F S1x1x1x128 .f32 ← k0_part182 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2531 v2541
    let ⟨v2579, v2595, v2599, v2611⟩ : Σ' (v2579 : FVec F S128x128 .f32) (v2595 : FVec F S128x256 .f32) (v2599 : FVec F S128x256 .f32), FVec F S128x128 .f32 ← k0_part183 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2539 v2571 v2574 v2575
    let ⟨v2619, v2635, v2639, v2644, v2645⟩ : Σ' (v2619 : FVec F S128x128 .f32) (v2635 : FVec F S128x256 .f32) (v2639 : FVec F S128x256 .f32) (v2644 : FVec F S128x128 .f32), FVec F S128x128 .f32 ← k0_part184 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2579 v2595 v2599
    let ⟨v2651, v2659, v2675, v2679, v2680⟩ : Σ' (v2651 : FVec F S128x128 .f32) (v2659 : FVec F S128x128 .f32) (v2675 : FVec F S128x256 .f32) (v2679 : FVec F S128x256 .f32), FVec F S128x128 .f32 ← k0_part185 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2611 v2619 v2635 v2639 v2644 v2645
    let ⟨v2691, v2699, v2715, v2716⟩ : Σ' (v2691 : FVec F S128x128 .f32) (v2699 : FVec F S128x128 .f32) (v2715 : FVec F S128x256 .f32), FVec F S128x256 .fp8e4m3 ← k0_part186 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2651 v2659 v2675 v2679 v2680
    let ⟨v2731, v2739, v2748, v2751, v2752⟩ : Σ' (v2731 : FVec F S128x128 .f32) (v2739 : FVec F S128x128 .f32) (v2748 : FVec F S128x128 .fp8e4m3) (v2751 : FVec F S128x128 .fp8e4m3), FVec F S128x256 .fp8e4m3 ← k0_part187 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v1942 v2691 v2699 v2715 v2716
    let v2791 : FVec F S96x128 .bf16 ← k0_part188 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2731 v2739 v2748 v2751 v2752
    let v2794 : Vec F S96x128 .bf16 ← Prog.lift (.load arg15 (Rect.unit (s := S96x9088) ![0, 8960] S96x128.size inb_S96x9088_S96x128_0_8960).toLoadRect (View.loadsAt_vmem h_S96x128))
    Prog.lift (.store arg15 (Rect.unit (s := S96x9088) ![0, 8960] S96x128.size inb_S96x9088_S96x128_0_8960) (k0_pay1 v2791) Finset.univ (View.stores_vmem h_S96x128 (harg15.storeExact_slice rfl _ packedbf16_S96x9088_S96x128_0_8960) (fun _ => rfl)) (.inl rfl))
    Prog.lift (.enqueueDma arg15 (.here arg3) (.dma arg18.sem) harg15.wordExact harg3.wordExact ⟨Or.inl rfl, trivial⟩)
    Prog.lift (.waitDma2 arg19.sem arg14 arg4 harg14.wordExact harg4.wordExact)
    Prog.lift (.waitDma2 arg18.sem arg15 arg3 harg15.wordExact harg3.wordExact)
    pure ⟨⟩

set_option maxRecDepth 65536 in
set_option maxHeartbeats 0 in
theorem tail_eq (v191 : IVec S24x128 32) :
    (tail1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v191 >>= tail2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) = tail arg1 harg1 arg3 harg3 arg4 harg4 arg7 harg7 arg8 arg9 arg11 arg12 arg13 arg14 harg14 arg15 harg15 arg16 arg18 arg19 v191 := by
  unfold tail1 tail2 tail
  iterate 560 (conv_lhs => whnf
               conv_rhs => whnf
               refine op_congr fun v => ?_)
  rfl

end Cert.Proof.KernelIdeal
-- ==== Proof.IdealBetween.lean ====
/- The body before the loops, between them, and as a whole. -/
module

public import proofs.«01_k».proof.Proof.IdealFill
public import proofs.«01_k».proof.Proof.IdealTail
public import proofs.«01_k».proof.Proof.IdealQuantRun
public import proofs.«01_k».proof.Proof.IdealProgramTrip
public import proofs.«01_k».proof.Proof.IdealProgramTail

@[expose] public section

set_option synthInstance.maxSize 4096

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

/-! ## Values -/

/-- The activations with 32 rows of zeros below. -/
def xvFull (X : Vec F S96x10240 .bf16) : Vec F S128x10240 .bf16 := fun y =>
  if h : (y 0).val < 96 then X (Fin.cons ⟨(y 0).val, h⟩ (Fin.cons (y 1) finZeroElim))
  else k0_pay541 (Fin.cons ⟨(y 0).val - 96, by have : (y 0).val < 128 := (y 0).isLt; show (y 0).val - 96 < 32; omega⟩ (Fin.cons (y 1) finZeroElim))

/-- The weight scales, 20 groups to each 32 columns. -/
def wspFull (W2 : Vec F S71x80 .f32) : Vec F S72x128 .f32 :=
  put (put (put (put (k0_pay543 (F := F)) ![0, 0] S71x20.size inb_S72x128_S71x20_0_0 (k0_pay544 (View.ld W2 (Rect.unit (s := S71x80) ![0, 0] S71x20.size inb_S71x80_S71x20_0_0))))
    ![0, 32] S71x20.size inb_S72x128_S71x20_0_32 (k0_pay545 (View.ld W2 (Rect.unit (s := S71x80) ![0, 20] S71x20.size inb_S71x80_S71x20_0_20))))
    ![0, 64] S71x20.size inb_S72x128_S71x20_0_64 (k0_pay546 (View.ld W2 (Rect.unit (s := S71x80) ![0, 40] S71x20.size inb_S71x80_S71x20_0_40))))
    ![0, 96] S71x20.size inb_S72x128_S71x20_0_96 (k0_pay547 (View.ld W2 (Rect.unit (s := S71x80) ![0, 60] S71x20.size inb_S71x80_S71x20_0_60)))

abbrev lane : IVec S128x128 32 := iota .tc S128x128 32 [1] iota_S128x128_d1_w32
abbrev lane24 : IVec S24x128 32 := iota .tc S24x128 32 [1] iota_S24x128_d1_w32

/-- The scales' table of the activations. -/
abbrev scAll (X : Vec F S96x10240 .bf16) : Vec F S128x128 .f32 := scFull (xvFull X) (k0_pay542 (F := F))

/-- The codes. -/
abbrev cdAll (X : Vec F S96x10240 .bf16) : Vec F S96x10240 .fp8e4m3 := cdFull (xvFull X)

/-- The right-hand sides. -/
abbrev raAll (X : Vec F S96x10240 .bf16) : Vec F S20x256x256 .fp8e4m3 := rFull (xvFull X) lane (k0_pay540 (F := F)) 0 (by decide)
abbrev rbAll (X : Vec F S96x10240 .bf16) : Vec F S20x256x256 .fp8e4m3 := rFull (xvFull X) lane (k0_pay540 (F := F)) 2 (by decide)

/-- The scales, as a result. -/
def xsOut (T : Vec F S128x128 .f32) : Vec F S96x80 .f32 := fun y =>
  (if (y 1).val / 20 = 0 then k0_pay553 T else if (y 1).val / 20 = 1 then k0_pay554 T else if (y 1).val / 20 = 2 then k0_pay555 T else k0_pay556 T)
    (Fin.cons (y 0) (Fin.cons ⟨(y 1).val % 20, Nat.mod_lt _ (by decide)⟩ finZeroElim))

/-- Rows of the table. -/
abbrev rows0 (T : Vec F S128x128 .f32) : Vec F S24x128 .f32 := View.ld T (Rect.unit (s := S128x128) ![0, 0] S24x128.size inb_S128x128_S24x128_0_0)
abbrev rows1 (T : Vec F S128x128 .f32) : Vec F S24x128 .f32 := View.ld T (Rect.unit (s := S128x128) ![32, 0] S24x128.size inb_S128x128_S24x128_32_0)
abbrev rows2 (T : Vec F S128x128 .f32) : Vec F S24x128 .f32 := View.ld T (Rect.unit (s := S128x128) ![64, 0] S24x128.size inb_S128x128_S24x128_64_0)
abbrev rows3 (T : Vec F S128x128 .f32) : Vec F S24x128 .f32 := View.ld T (Rect.unit (s := S128x128) ![96, 0] S24x128.size inb_S128x128_S24x128_96_0)

/-- The scales, as the blocks read them. -/
def xsTab (T : Vec F S128x128 .f32) : Vec F S3x24x128 .f32 := fun y =>
  (if (y 0).val = 0 then k0_pay557 (rows0 T) (rows1 T) else if (y 0).val = 1 then k0_pay558 (rows2 T) (rows3 T) else k0_pay559 (rows1 T) (rows2 T))
    (Fin.cons ⟨0, by decide⟩ (Fin.cons (y 1) (Fin.cons (y 2) finZeroElim)))

theorem agree_all {s : Shape} {X : Type} {S : s.Idx → Prop} {d G : s.Idx → X} (hd : Agree S d G) (h : ∀ y, S y) : d = G := funext fun y => hd y (h y)

theorem agree_none {s : Shape} {X : Type} (d G : s.Idx → X) : Agree (fun _ => False) d G := fun _ h => h.elim

theorem xsOut_puts (T : Vec F S128x128 .f32) (d : Vec F S96x80 .f32) :
    put (put (put (put d ![0, 0] S96x20.size inb_S96x80_S96x20_0_0 (k0_pay553 T)) ![0, 20] S96x20.size inb_S96x80_S96x20_0_20 (k0_pay554 T))
      ![0, 40] S96x20.size inb_S96x80_S96x20_0_40 (k0_pay555 T)) ![0, 60] S96x20.size inb_S96x80_S96x20_0_60 (k0_pay556 T) = xsOut T := by
  refine agree_all (agree_put (agree_put (agree_put (agree_put (agree_none d (xsOut T)) ?_) ?_) ?_) ?_) ?_
  · intro y h
    have h1 := h 1
    simp [S96x20] at h1
    unfold xsOut
    rw [if_pos (by omega)]
    refine congrArg _ (funext fun a => Fin.ext ?_)
    fin_cases a
    · show (y 0).val - 0 = (y 0).val
      omega
    · show (y 1).val - 0 = (y 1).val % 20
      omega
  · intro y h
    have h1 := h 1
    simp [S96x20] at h1
    unfold xsOut
    rw [if_neg (by omega), if_pos (by omega)]
    refine congrArg _ (funext fun a => Fin.ext ?_)
    fin_cases a
    · show (y 0).val - 0 = (y 0).val
      omega
    · show (y 1).val - 20 = (y 1).val % 20
      omega
  · intro y h
    have h1 := h 1
    simp [S96x20] at h1
    unfold xsOut
    rw [if_neg (by omega), if_neg (by omega), if_pos (by omega)]
    refine congrArg _ (funext fun a => Fin.ext ?_)
    fin_cases a
    · show (y 0).val - 0 = (y 0).val
      omega
    · show (y 1).val - 40 = (y 1).val % 20
      omega
  · intro y h
    have h1 := h 1
    simp [S96x20] at h1
    unfold xsOut
    rw [if_neg (by omega), if_neg (by omega), if_neg (by omega)]
    refine congrArg _ (funext fun a => Fin.ext ?_)
    fin_cases a
    · show (y 0).val - 0 = (y 0).val
      omega
    · show (y 1).val - 60 = (y 1).val % 20
      omega
  · intro y
    have h0 : (y 0).val < 96 := (y 0).isLt
    have h1 : (y 1).val < 80 := (y 1).isLt
    unfold Win
    simp [Fin.forall_fin_succ, S96x80, S96x20]
    omega

theorem xsTab_puts (T : Vec F S128x128 .f32) (d : Vec F S3x24x128 .f32) :
    put (put (put d ![0, 0, 0] S1x24x128.size inb_S3x24x128_S1x24x128_0_0_0 (k0_pay557 (rows0 T) (rows1 T)))
      ![1, 0, 0] S1x24x128.size inb_S3x24x128_S1x24x128_1_0_0 (k0_pay558 (rows2 T) (rows3 T)))
      ![2, 0, 0] S1x24x128.size inb_S3x24x128_S1x24x128_2_0_0 (k0_pay559 (rows1 T) (rows2 T)) = xsTab T := by
  refine agree_all (agree_put (agree_put (agree_put (agree_none d (xsTab T)) ?_) ?_) ?_) ?_
  · intro y h
    have h0 := h 0
    simp [S1x24x128] at h0
    unfold xsTab
    rw [if_pos (by omega)]
    refine congrArg _ (funext fun a => Fin.ext ?_)
    fin_cases a
    · show (y 0).val - 0 = 0
      omega
    · show (y 1).val - 0 = (y 1).val
      omega
    · show (y 2).val - 0 = (y 2).val
      omega
  · intro y h
    have h0 := h 0
    simp [S1x24x128] at h0
    unfold xsTab
    rw [if_neg (by omega), if_pos (by omega)]
    refine congrArg _ (funext fun a => Fin.ext ?_)
    fin_cases a
    · show (y 0).val - 1 = 0
      omega
    · show (y 1).val - 0 = (y 1).val
      omega
    · show (y 2).val - 0 = (y 2).val
      omega
  · intro y h
    have h0 := h 0
    simp [S1x24x128] at h0
    unfold xsTab
    rw [if_neg (by omega), if_neg (by omega)]
    refine congrArg _ (funext fun a => Fin.ext ?_)
    fin_cases a
    · show (y 0).val - 2 = 0
      omega
    · show (y 1).val - 0 = (y 1).val
      omega
    · show (y 2).val - 0 = (y 2).val
      omega
  · intro y
    have h0 : (y 0).val < 3 := (y 0).isLt
    have h1 : (y 1).val < 24 := (y 1).isLt
    have h2 : (y 2).val < 128 := (y 2).isLt
    unfold Win
    simp [Fin.forall_fin_succ, S3x24x128, S1x24x128]
    omega

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD)

/-- The two parts of the activations' scratch. -/
abbrev xRect (t : Fin 2) : Rect S128x10240 :=
  match t with
  | 0 => Rect.unit (s := S128x10240) ![0, 0] S96x10240.size inb_S128x10240_S96x10240_0_0
  | 1 => Rect.unit (s := S128x10240) ![96, 0] S32x10240.size inb_S128x10240_S32x10240_96_0

theorem x_stride (t : Fin 2) (a) : (xRect t).stride a = 1 := by
  match t with
  | 0 => rfl
  | 1 => rfl

theorem x_mem0 (y : S128x10240.Idx) (h : y ∈ (Rect.unit (s := S128x10240) ![0, 0] S96x10240.size inb_S128x10240_S96x10240_0_0).set) : 0 = (y 0).val / 96 := by
  have a : 0 ≤ (y 0).val ∧ (y 0).val < 0 + 96 := (Rect.mem_set_unit ..).mp h 0
  omega

theorem x_mem1 (y : S128x10240.Idx) (h : y ∈ (Rect.unit (s := S128x10240) ![96, 0] S32x10240.size inb_S128x10240_S32x10240_96_0).set) : 1 = (y 0).val / 96 := by
  have a : 96 ≤ (y 0).val ∧ (y 0).val < 96 + 32 := (Rect.mem_set_unit ..).mp h 0
  omega

theorem x_mem : ∀ (t : Fin 2) (y : S128x10240.Idx), y ∈ (xRect t).set → t.val = (y 0).val / 96 :=
  Fin.forall_fin_two.mpr ⟨x_mem0, x_mem1⟩

theorem x_disj (t t' : Fin 2) (h : t ≠ t') : Disjoint (xRect t).set (xRect t').set := by
  rw [Finset.disjoint_left]
  intro y h1 h2
  exact h (Fin.ext ((x_mem t y h1).trans (x_mem t' y h2).symm))

theorem x_cover : (Finset.univ : Finset (Fin 2)).biUnion (fun t => (xRect t).set) = Finset.univ := by
  ext y
  simp only [Finset.mem_biUnion, Finset.mem_univ, true_and, iff_true]
  have h0 : (y 0).val < 128 := (y 0).isLt
  have h1 : (y 1).val < 10240 := (y 1).isLt
  by_cases h : (y 0).val < 96
  · refine ⟨0, (Rect.mem_set_unit ..).mpr ?_⟩
    intro a
    fin_cases a
    · simp [S96x10240]; exact h
    · simp [S96x10240]; exact h1
  · refine ⟨1, (Rect.mem_set_unit ..).mpr ?_⟩
    intro a
    fin_cases a
    · simp [S32x10240]; exact ⟨Nat.le_of_not_lt h, h0⟩
    · simp [S32x10240]; exact h1

theorem x_split (d : Vec F S128x10240 .bf16) : own c arg6 d ⊢ iprop((∃ d, own c (arg6.slice (Rect.unit (s := S128x10240) ![0, 0] S96x10240.size inb_S128x10240_S96x10240_0_0) (fun _ => rfl)) d) ∗ (∃ d, own c (arg6.slice (Rect.unit (s := S128x10240) ![96, 0] S32x10240.size inb_S128x10240_S32x10240_96_0) (fun _ => rfl)) d)) := by
  refine (owns_rects (c.tc : Thread nD τ) arg6 fullShare xRect x_stride x_disj x_cover d).trans ?_
  rw [show BI.bigSep Finset.univ (fun t : Fin 2 => owns (c.tc : Thread nD τ) (arg6.slice (xRect t) (x_stride t)) fullShare (fun j => d ((xRect t).emb j))) = iprop(_ ∗ _) from BI.bigSep_fin_two _]
  iintro ⟨H0, H1⟩
  isplitl [H0]
  · iexists _; iexact H0
  · iexists _; iexact H1

theorem x_join (X : Vec F S96x10240 .bf16) : iprop(own c (arg6.slice (Rect.unit (s := S128x10240) ![0, 0] S96x10240.size inb_S128x10240_S96x10240_0_0) (fun _ => rfl)) X ∗ own c (arg6.slice (Rect.unit (s := S128x10240) ![96, 0] S32x10240.size inb_S128x10240_S32x10240_96_0) (fun _ => rfl)) (k0_pay541 (F := F))) ⊢ own c arg6 (xvFull X) := by
  refine BI.BIBase.Entails.trans ?_ (owns_of_rects (c.tc : Thread nD τ) arg6 fullShare xRect x_stride x_disj x_cover (xvFull X))
  rw [show BI.bigSep Finset.univ (fun t : Fin 2 => owns (c.tc : Thread nD τ) (arg6.slice (xRect t) (x_stride t)) fullShare (fun j => xvFull X ((xRect t).emb j))) = iprop(_ ∗ _) from BI.bigSep_fin_two _]
  have e0 : (fun j => xvFull X ((xRect 0).emb j)) = X := by
    funext j
    have hj : (j 0).val < 96 := (j 0).isLt
    have e : (((xRect 0).emb j) 0).val = (j 0).val := by show 0 + 1 * (j 0).val = _; omega
    unfold xvFull
    rw [dif_pos (by rw [e]; exact hj)]
    refine congrArg X (funext fun a => Fin.ext ?_)
    fin_cases a
    · exact e
    · show 0 + 1 * (j 1).val = (j 1).val
      omega
  have e1 : (fun j => xvFull X ((xRect 1).emb j)) = k0_pay541 (F := F) := by
    funext j
    have e : (((xRect 1).emb j) 0).val = 96 + (j 0).val := by show 96 + 1 * (j 0).val = _; omega
    unfold xvFull
    rw [dif_neg (by rw [e]; omega)]
    refine congrArg _ (funext fun a => Fin.ext ?_)
    fin_cases a
    · show (((xRect 1).emb j) 0).val - 96 = (j 0).val
      rw [e]; omega
    · show 0 + 1 * (j 1).val = (j 1).val
      omega
  rw [e0, e1]

end Cert.Proof.KernelIdeal
-- ==== Proof.IdealHead.lean ====
/- The body up to the loop over the blocks. -/
module

public import proofs.«01_k».proof.Proof.IdealBetween

@[expose] public section

set_option synthInstance.maxSize 4096

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD)

theorem own_put_whole {sp : Space} {s : Shape} {e : EltTy} (M : Memref sig .tc sp s e) (d : s.Idx → Elt F e) (off : Fin s.rank → ℕ)
    (h0 : ∀ a, off a = 0) (inb : ∀ a, off a + s.size a ≤ s.size a) (w : s.Idx → Elt F e) :
    own c M (put d off s.size inb w) ⊢ own c M w := by
  rw [put_whole d off h0 inb w]

theorem own_eq {sp : Space} {s : Shape} {e : EltTy} (M : Memref sig .tc sp s e) {d d' : s.Idx → Elt F e} (h : d = d') : own c M d ⊢ own c M d' := by
  rw [h]

theorem ld_whole {s : Shape} {e : EltTy} (d : s.Idx → Elt F e) (off : Fin s.rank → ℕ) (h0 : ∀ a, off a = 0) (inb : ∀ a, off a + s.size a ≤ s.size a) :
    View.ld d (Rect.unit (s := s) off s.size inb) = d := by
  funext j
  refine congrArg d (funext fun a => Fin.ext ?_)
  show off a + 1 * (j a).val = (j a).val
  rw [h0 a]; omega

theorem sc_zero (XV : Vec F S128x10240 .bf16) (z : Vec F S128x128 .f32) :
    Agree (fun y : S128x128.Idx => (y 0).val % 32 < 0 ∨ 20 ≤ (y 0).val % 32) z (scFull XV z) := by
  intro y hy
  unfold scFull
  rw [dif_neg (by omega)]

/-- The loop over the columns of the groups. -/
theorem wp_loop1 (XV : Vec F S128x10240 .bf16) (z : Vec F S128x128 .f32) (v145 : IVec S128x128 32) (v146 : FVec F S128x128 .fp8e4m3) (v166 : FVec F S71x20 .f32)
    {α : Type} (kk : PUnit → Prog (TpuEff nD τ sig (Elt F) Λ₀ .tc) α) (Q : α → sProp (MT nD τ sig Unit (Elt F) ℕ (Pipeline.UC sig nD τ) ℕ)) :
    iprop(own c arg6 XV ∗ own c arg10 z ∗ (∃ d, own c arg14 d) ∗ (∃ d, own c arg8 d) ∗ (∃ d, own c arg9 d))
      ⊢ iprop((iprop(own c arg6 XV ∗ own c arg10 (scFull XV z) ∗ own c arg14 (cdFull XV) ∗ own c arg8 (rFull XV v145 v146 0 (by decide))
            ∗ own c arg9 (rFull XV v145 v146 2 (by decide))) -∗ wpK c (kk ⟨⟩) Q)
        -∗ wpK c (Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v145 v146 v166) >>= kk) Q) := by
  rw [t1_body_eq]
  iintro ⟨H6, H10, ⟨%d14, H14⟩, ⟨%d8, H8⟩, ⟨%d9, H9⟩⟩ Hk
  unfold wpK
  iapply (Scf.wp_for_bind frame (wpE (defs₀ (F := F)) Variants.none (c.tc : Thread nD τ) none) Set.univ _ _ _ k0_t1_ok ⟨⟩ _
      (fun n _ => quantInv XV v145 v146 arg6 arg8 arg9 arg10 arg14 c z n)
      (fun k _ => wp_quant XV v145 v146 arg6 arg8 harg8 arg9 harg9 arg10 arg14 harg14 c z k)) $$ [H6 H10 H14 H8 H9]
  · unfold quantInv held
    isplitl [H6]; · iexact H6
    isplitl [H10]
    · iexists z
      isplitr; · ipureintro; exact sc_zero XV z
      iexact H10
    isplitl [H14]
    · iexists d14
      isplitr; · ipureintro; exact fun y h => absurd h (by omega)
      iexact H14
    isplitl [H8]
    · iexists d8
      isplitr; · ipureintro; exact fun y h => absurd h (by omega)
      iexact H8
    iexists d9
    isplitr; · ipureintro; exact fun y h => absurd h (by omega)
    iexact H9
  iintro %acc HI
  rw [show Scf.trips k0_t1_loop.lb k0_t1_loop.ub k0_t1_loop.st = 20 from trips1]
  unfold quantInv held
  icases HI with ⟨H6, ⟨%e10, %h10, H10⟩, ⟨%e14, %h14, H14⟩, ⟨%e8, %h8, H8⟩, ⟨%e9, %h9, H9⟩⟩
  have h10' : e10 = scFull XV z := agree_all h10 (fun y => by omega)
  have h14' : e14 = cdFull XV := agree_all h14 (fun y => by omega)
  have h8' : e8 = rFull XV v145 v146 0 (by decide) := agree_all h8 (fun y => (y 0).isLt)
  have h9' : e9 = rFull XV v145 v146 2 (by decide) := agree_all h9 (fun y => (y 0).isLt)
  subst h10' h14' h8' h9'
  iapply Hk
  isplitl [H6]; · iexact H6
  isplitl [H10]; · iexact H10
  isplitl [H14]; · iexact H14
  isplitl [H8]; · iexact H8
  iexact H9

variable (Wt : Vec F S9088x10240 .fp8e4m3) (W2 : Vec F S71x80 .f32) (X : Vec F S96x10240 .bf16)

/-- The weight scales after their first part is in place. -/
abbrev wsp1 : Vec F S72x128 .f32 := put (k0_pay543 (F := F)) ![0, 0] S71x20.size inb_S72x128_S71x20_0_0 (k0_pay544 (View.ld W2 (Rect.unit (s := S71x80) ![0, 0] S71x20.size inb_S71x80_S71x20_0_0)))

set_option maxHeartbeats 1000000 in
theorem wp_part113 (Q : (Σ' (v145 : IVec S128x128 32) (v146 : FVec F S128x128 .fp8e4m3), FVec F S71x20 .f32) → sProp (MT nD τ sig Unit (Elt F) ℕ (Pipeline.UC sig nD τ) ℕ)) :
    iprop(filling arg1 arg7 arg16 c Wt 22 ∗ (∃ d, own c (arg6.slice (Rect.unit (s := S128x10240) ![96, 0] S32x10240.size inb_S128x10240_S32x10240_96_0) (fun _ => rfl)) d) ∗ (∃ d, own c arg10 d) ∗ (∃ d, own c arg12 d) ∗ own c arg2 W2)
      ⊢ iprop((iprop(filling arg1 arg7 arg16 c Wt 24 ∗ own c (arg6.slice (Rect.unit (s := S128x10240) ![96, 0] S32x10240.size inb_S128x10240_S32x10240_96_0) (fun _ => rfl)) (k0_pay541 (F := F)) ∗ own c arg10 (k0_pay542 (F := F)) ∗ own c arg12 (wsp1 W2) ∗ own c arg2 W2)
          -∗ Q ⟨lane, k0_pay540 (F := F), k0_pay545 (View.ld W2 (Rect.unit (s := S71x80) ![0, 20] S71x20.size inb_S71x80_S71x20_0_20))⟩)
        -∗ wpK c (k0_part113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) Q) := by
  rw [k0_part113_eq_skeleton]
  unfold k0_part113_skel wpK
  dsimp only
  iintro ⟨HF, ⟨%d6, H6⟩, ⟨%d10, H10⟩, ⟨%d12, H12⟩, H2⟩ Hk
  iapply (wp_fill arg1 arg7 arg16 c Wt (b := 22) (by omega) (off1 22) (off2 22) rfl) $$ HF
  iintro HF
  iapply (wp_fill arg1 arg7 arg16 c Wt (b := 23) (by omega) (off1 23) (off2 23) rfl) $$ HF
  iintro HF
  unfold wpK
  iapply (wp_ld_slice_bind Variants.none (c.tc : Thread nD τ) none (offS := ![0, 0]) (inbS := by decide) (by decide)) $$ H6
  iintro H6
  iapply (wp_st_slice_bind Variants.none (c.tc : Thread nD τ) none) $$ H6
  iintro H6
  iapply (wp_ld_bind Variants.none (c.tc : Thread nD τ) none) $$ H10
  iintro H10
  iapply (wp_st_bind Variants.none (c.tc : Thread nD τ) none) $$ H10
  iintro H10
  ihave G10 := (own_put_whole c arg10 _ ![0, 0] (by decide) _ _) $$ H10
  iapply (wp_ld_bind Variants.none (c.tc : Thread nD τ) none) $$ H12
  iintro H12
  iapply (wp_st_bind Variants.none (c.tc : Thread nD τ) none) $$ H12
  iintro H12
  ihave G12 := (own_put_whole c arg12 _ ![0, 0] (by decide) _ _) $$ H12
  iapply (wp_ld_bind Variants.none (c.tc : Thread nD τ) none) $$ H2
  iintro H2
  iapply (wp_ld_bind Variants.none (c.tc : Thread nD τ) none) $$ G12
  iintro G12
  iapply (wp_st_bind Variants.none (c.tc : Thread nD τ) none) $$ G12
  iintro G12
  iapply (wp_ld_bind Variants.none (c.tc : Thread nD τ) none) $$ H2
  iintro H2
  iapply (wp_ld_bind Variants.none (c.tc : Thread nD τ) none) $$ G12
  iintro G12
  rw [wp_pure]
  imodintro
  iapply Hk
  isplitl [HF]; · iexact HF
  isplitl [H6]; · iexact H6
  isplitl [G10]; · iexact G10
  isplitl [G12]; · iexact G12
  iexact H2

set_option maxHeartbeats 2000000 in
theorem wp_part114 (Q : (Σ' (v187 : Vec F S24x128 .f32), Vec F S24x128 .f32) → sProp (MT nD τ sig Unit (Elt F) ℕ (Pipeline.UC sig nD τ) ℕ)) :
    iprop(own c arg12 (wsp1 W2) ∗ own c arg2 W2 ∗ copying (c.tc : Thread nD τ) arg0 (arg6.slice (Rect.unit (s := S128x10240) ![0, 0] S96x10240.size inb_S128x10240_S96x10240_0_0) (fun _ => rfl)) arg17.sem X ∗ own c (arg6.slice (Rect.unit (s := S128x10240) ![96, 0] S32x10240.size inb_S128x10240_S32x10240_96_0) (fun _ => rfl)) (k0_pay541 (F := F))
        ∗ (∃ W, owes (c.tc : Thread nD τ) 0 W) ∗ own c arg10 (k0_pay542 (F := F)) ∗ (∃ d, own c arg14 d) ∗ (∃ d, own c arg8 d) ∗ (∃ d, own c arg9 d)
        ∗ (∃ d, own c arg4 d) ∗ semVal ((c.tc : Thread nD τ), .dma arg19.sem) 0 ∗ (∃ d, own c arg5 d))
      ⊢ iprop((iprop(own c arg12 (wspFull W2) ∗ own c arg2 W2 ∗ own c arg0 X ∗ semVal ((c.tc : Thread nD τ), .dma arg17.sem) 0 ∗ own c arg6 (xvFull X)
          ∗ (∃ W, owes (c.tc : Thread nD τ) 0 W) ∗ own c arg10 (scAll X) ∗ copying (c.tc : Thread nD τ) arg14 arg4 arg19.sem (cdAll X)
          ∗ own c arg8 (raAll X) ∗ own c arg9 (rbAll X) ∗ own c arg5 (xsOut (scAll X)))
          -∗ Q ⟨rows0 (scAll X), rows1 (scAll X)⟩)
        -∗ wpK c (k0_part114 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 lane (k0_pay540 (F := F)) (k0_pay545 (View.ld W2 (Rect.unit (s := S71x80) ![0, 20] S71x20.size inb_S71x80_S71x20_0_20)))) Q) := by
  rw [k0_part114_eq_skeleton]
  unfold k0_part114_skel wpK
  dsimp only
  iintro ⟨H12, H2, HC, H6, HO, H10, H14, H8, H9, H4, H19, ⟨%d5, H5⟩⟩ Hk
  iapply (wp_st_bind Variants.none (c.tc : Thread nD τ) none) $$ H12
  iintro H12
  iapply (wp_ld_bind Variants.none (c.tc : Thread nD τ) none) $$ H2
  iintro H2
  iapply (wp_ld_bind Variants.none (c.tc : Thread nD τ) none) $$ H12
  iintro H12
  iapply (wp_st_bind Variants.none (c.tc : Thread nD τ) none) $$ H12
  iintro H12
  iapply (wp_ld_bind Variants.none (c.tc : Thread nD τ) none) $$ H2
  iintro H2
  iapply (wp_ld_bind Variants.none (c.tc : Thread nD τ) none) $$ H12
  iintro H12
  iapply (wp_st_bind Variants.none (c.tc : Thread nD τ) none) $$ H12
  iintro H12
  iapply (wp_copy_wait Variants.none (c.tc : Thread nD τ) none) $$ [HC HO]
  · isplitl [HC]; · iexact HC
    iexact HO
  iintro ⟨H0, HT, H17, HO⟩
  ihave H6' := (x_join arg6 c X) $$ [HT H6]
  · isplitl [HT]; · iexact HT
    iexact H6
  iapply (wp_loop1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c (xvFull X) (k0_pay542 (F := F)) lane (k0_pay540 (F := F)) _) $$ [H6' H10 H14 H8 H9]
  · isplitl [H6']; · iexact H6'
    isplitl [H10]; · iexact H10
    isplitl [H14]; · iexact H14
    isplitl [H8]; · iexact H8
    iexact H9
  iintro ⟨H6, H10, H14, H8, H9⟩
  unfold wpK
  iapply (wp_copy_start Variants.none (c.tc : Thread nD τ) none (by decide)) $$ [H14 H4 H19]
  · isplitl [H14]; · iexact H14
    isplitl [H4]; · iexact H4
    iexact H19
  iintro HC
  iapply (wp_ld_bind Variants.none (c.tc : Thread nD τ) none) $$ H10
  iintro H10
  rw [show View.ld (scFull (xvFull X) (k0_pay542 (F := F))) (Rect.unit (s := S128x128) ![0, 0] S128x128.size inb_S128x128_S128x128_0_0) = scAll X from ld_whole _ _ (by decide) _]
  iapply (wp_ld_bind Variants.none (c.tc : Thread nD τ) none) $$ H5
  iintro H5
  iapply (wp_st_bind Variants.none (c.tc : Thread nD τ) none) $$ H5
  iintro H5
  iapply (wp_ld_bind Variants.none (c.tc : Thread nD τ) none) $$ H5
  iintro H5
  iapply (wp_st_bind Variants.none (c.tc : Thread nD τ) none) $$ H5
  iintro H5
  iapply (wp_ld_bind Variants.none (c.tc : Thread nD τ) none) $$ H5
  iintro H5
  iapply (wp_st_bind Variants.none (c.tc : Thread nD τ) none) $$ H5
  iintro H5
  iapply (wp_ld_bind Variants.none (c.tc : Thread nD τ) none) $$ H5
  iintro H5
  iapply (wp_st_bind Variants.none (c.tc : Thread nD τ) none) $$ H5
  iintro H5
  ihave G5 := (own_eq c arg5 (xsOut_puts (scAll X) d5)) $$ H5
  iapply (wp_ld_bind Variants.none (c.tc : Thread nD τ) none) $$ H10
  iintro H10
  iapply (wp_ld_bind Variants.none (c.tc : Thread nD τ) none) $$ H10
  iintro H10
  rw [wp_pure]
  imodintro
  iapply Hk
  isplitl [H12]; · iexact H12
  isplitl [H2]; · iexact H2
  isplitl [H0]; · iexact H0
  isplitl [H17]; · iexact H17
  isplitl [H6]; · iexact H6
  isplitl [HO]; · iexact HO
  isplitl [H10]; · iexact H10
  isplitl [HC]; · iexact HC
  isplitl [H8]; · iexact H8
  isplitl [H9]; · iexact H9
  iexact G5

end Cert.Proof.KernelIdeal
-- ==== Proof.IdealBody.lean ====
/- The whole body. -/
module

public import proofs.«01_k».proof.Proof.IdealHead

@[expose] public section

set_option synthInstance.maxSize 4096

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD) (Wt : Vec F S9088x10240 .fp8e4m3) (W2 : Vec F S71x80 .f32) (X : Vec F S96x10240 .bf16)

/-- The loop over the blocks. -/
theorem wp_loop2 (v187 v188 : Vec F S24x128 .f32) (v191 : IVec S24x128 32) (RA RB : Vec F S20x256x256 .fp8e4m3) (XS : Vec F S3x24x128 .f32) (WS : Vec F S72x128 .f32)
    {α : Type} (kk : PUnit → Prog (TpuEff nD τ sig (Elt F) Λ₀ .tc) α) (Q : α → sProp (MT nD τ sig Unit (Elt F) ℕ (Pipeline.UC sig nD τ) ℕ)) :
    ringInv arg1 arg7 arg8 arg9 arg11 arg12 arg13 arg15 arg16 c Wt v191 RA RB XS WS 0
      ⊢ iprop((ringInv arg1 arg7 arg8 arg9 arg11 arg12 arg13 arg15 arg16 c Wt v191 RA RB XS WS 68 -∗ wpK c (kk ⟨⟩) Q)
        -∗ wpK c (Scf.Loop.for k0_t2_loop k0_t2_ok ⟨⟩ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v187 v188 v191) >>= kk) Q) := by
  rw [t2_body_eq]
  iintro HI Hk
  unfold wpK
  iapply (Scf.wp_for_bind frame (wpE (defs₀ (F := F)) Variants.none (c.tc : Thread nD τ) none) Set.univ _ _ _ k0_t2_ok ⟨⟩ _
      (fun n _ => ringInv arg1 arg7 arg8 arg9 arg11 arg12 arg13 arg15 arg16 c Wt v191 RA RB XS WS (4 * n))
      (fun k _ => by apply wp_trip)) $$ HI
  iintro %acc HI
  rw [show Scf.trips k0_t2_loop.lb k0_t2_loop.ub k0_t2_loop.st = 17 from trips2]
  iapply Hk
  iexact HI

set_option maxHeartbeats 1000000 in
theorem wp_part115 (Q : IVec S24x128 32 → sProp (MT nD τ sig Unit (Elt F) ℕ (Pipeline.UC sig nD τ) ℕ)) :
    iprop(ring arg1 arg7 arg16 c Wt 0 ∗ own c arg10 (scAll X) ∗ (∃ d, own c arg11 d) ∗ own c arg8 (raAll X) ∗ own c arg9 (rbAll X) ∗ own c arg12 (wspFull W2)
        ∗ (∃ d, own c arg13 d) ∗ (∃ d, own c arg15 d) ∗ (∃ W, owes (c.tc : Thread nD τ) 0 W))
      ⊢ iprop((iprop(ringInv arg1 arg7 arg8 arg9 arg11 arg12 arg13 arg15 arg16 c Wt lane24 (raAll X) (rbAll X) (xsTab (scAll X)) (wspFull W2) 68 ∗ own c arg10 (scAll X)) -∗ Q lane24)
        -∗ wpK c (k0_part115 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 (rows0 (scAll X)) (rows1 (scAll X))) Q) := by
  rw [k0_part115_eq_skeleton]
  unfold k0_part115_skel wpK
  dsimp only
  iintro ⟨HR, H10, ⟨%d11, H11⟩, H8, H9, H12, H13, ⟨%d15, H15⟩, HO⟩ Hk
  iapply (wp_ld_bind Variants.none (c.tc : Thread nD τ) none) $$ H10
  iintro H10
  iapply (wp_ld_bind Variants.none (c.tc : Thread nD τ) none) $$ H10
  iintro H10
  iapply (wp_ld_bind Variants.none (c.tc : Thread nD τ) none) $$ H11
  iintro H11
  iapply (wp_st_bind Variants.none (c.tc : Thread nD τ) none) $$ H11
  iintro H11
  iapply (wp_ld_bind Variants.none (c.tc : Thread nD τ) none) $$ H11
  iintro H11
  iapply (wp_st_bind Variants.none (c.tc : Thread nD τ) none) $$ H11
  iintro H11
  iapply (wp_ld_bind Variants.none (c.tc : Thread nD τ) none) $$ H11
  iintro H11
  iapply (wp_st_bind Variants.none (c.tc : Thread nD τ) none) $$ H11
  iintro H11
  ihave G11 := (own_eq c arg11 (xsTab_puts (scAll X) d11)) $$ H11
  iapply (wp_loop2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt _ _ lane24 (raAll X) (rbAll X) (xsTab (scAll X)) (wspFull W2)) $$ [HR H8 H9 G11 H12 H13 H15 HO]
  · unfold ringInv work
    isplitl [HR]; · iexact HR
    isplitr [HO]
    · isplitl [H8]; · iexact H8
      isplitl [H9]; · iexact H9
      isplitl [G11]; · iexact G11
      isplitl [H12]; · iexact H12
      isplitl [H13]; · iexact H13
      iexists d15
      isplitr; · ipureintro; exact fun i h => absurd h (by omega)
      iexact H15
    iexact HO
  iintro HI
  unfold wpK
  rw [wp_pure]
  imodintro
  iapply Hk
  isplitl [HI]; · iexact HI
  iexact H10

/-- What the body starts from. -/
def bodyStart : sProp (MT nD τ sig Unit (Elt F) ℕ (Pipeline.UC sig nD τ) ℕ) :=
  iprop(filling arg1 arg7 arg16 c Wt 0 ∗ own c arg0 X ∗ own c arg2 W2 ∗ (∃ d, own c arg3 d) ∗ (∃ d, own c arg4 d) ∗ (∃ d, own c arg5 d) ∗ (∃ d, own c arg6 d)
    ∗ (∃ d, own c arg8 d) ∗ (∃ d, own c arg9 d) ∗ (∃ d, own c arg10 d) ∗ (∃ d, own c arg11 d) ∗ (∃ d, own c arg12 d) ∗ (∃ d, own c arg13 d)
    ∗ (∃ d, own c arg14 d) ∗ (∃ d, own c arg15 d)
    ∗ semVal ((c.tc : Thread nD τ), .dma arg17.sem) 0 ∗ semVal ((c.tc : Thread nD τ), .dma arg18.sem) 0 ∗ semVal ((c.tc : Thread nD τ), .dma arg19.sem) 0
    ∗ (∃ W, owes (c.tc : Thread nD τ) 0 W))

/-- The result of the products. -/
abbrev yOut : Vec F S96x9088 .bf16 := yFull Wt lane24 (raAll X) (rbAll X) (xsTab (scAll X)) (wspFull W2)

/-- What it ends with. -/
def bodyEnd : sProp (MT nD τ sig Unit (Elt F) ℕ (Pipeline.UC sig nD τ) ℕ) :=
  iprop(ringEnd arg1 arg7 arg16 c Wt ∗ own c arg0 X ∗ own c arg2 W2 ∗ own c arg3 (yOut Wt W2 X) ∗ own c arg4 (cdAll X) ∗ own c arg5 (xsOut (scAll X)) ∗ (∃ d, own c arg6 d)
    ∗ (∃ d, own c arg8 d) ∗ (∃ d, own c arg9 d) ∗ (∃ d, own c arg10 d) ∗ (∃ d, own c arg11 d) ∗ (∃ d, own c arg12 d) ∗ (∃ d, own c arg13 d)
    ∗ (∃ d, own c arg14 d) ∗ (∃ d, own c arg15 d)
    ∗ semVal ((c.tc : Thread nD τ), .dma arg17.sem) 0 ∗ semVal ((c.tc : Thread nD τ), .dma arg18.sem) 0 ∗ semVal ((c.tc : Thread nD τ), .dma arg19.sem) 0
    ∗ (∃ W, owes (c.tc : Thread nD τ) 0 W))

theorem wp_rest (Q : PUnit → sProp (MT nD τ sig Unit (Elt F) ℕ (Pipeline.UC sig nD τ) ℕ)) :
    tailPre arg1 arg3 arg4 arg7 arg8 arg9 arg11 arg12 arg13 arg14 arg15 arg16 arg18 arg19 c Wt lane24 (raAll X) (rbAll X) (xsTab (scAll X)) (wspFull W2) (cdAll X) ⊢ iprop((tailPost arg1 arg3 arg4 arg7 arg8 arg9 arg11 arg12 arg13 arg14 arg15 arg16 arg18 arg19 c Wt lane24 (raAll X) (rbAll X) (xsTab (scAll X)) (wspFull W2) (cdAll X) -∗ Q ⟨⟩) -∗ wp frame (wpE (defs₀ (F := F)) Variants.none (c.tc : Thread nD τ) none) Set.univ (tail1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 lane24)
      (fun r => wp frame (wpE (defs₀ (F := F)) Variants.none (c.tc : Thread nD τ) none) Set.univ (tail2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 r) Q)) := by
  rw [← wp_bind, tail_eq]
  iintro H Hk
  iapply (wp_wand frame (wpE (defs₀ (F := F)) Variants.none (c.tc : Thread nD τ) none) Set.univ) $$ [H]
  · iapply (wp_tail arg1 harg1 arg3 harg3 arg4 harg4 arg7 harg7 arg8 arg9 arg11 arg12 arg13 arg14 harg14 arg15 harg15 arg16 arg18 arg19 c Wt) $$ H
  iintro %a H
  iapply Hk
  iexact H

set_option maxRecDepth 100000 in
set_option maxHeartbeats 4000000 in
theorem wp_body : bodyStart arg0 arg1 arg2 arg3 arg4 arg5 arg6 arg7 arg8 arg9 arg10 arg11 arg12 arg13 arg14 arg15 arg16 arg17 arg18 arg19 c Wt W2 X ⊢ wpK c (cc0__body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19) (fun _ => bodyEnd arg0 arg1 arg2 arg3 arg4 arg5 arg6 arg7 arg8 arg9 arg10 arg11 arg12 arg13 arg14 arg15 arg16 arg17 arg18 arg19 c Wt W2 X) := by
  rw [cc0__body_eq_skeleton]
  unfold cc0__body_skel wpK
  rw [wp_bind, k0_part189_eq_skeleton]
  unfold k0_part189_skel bodyStart
  iintro ⟨HF, H0, H2, H3, H4, H5, ⟨%d6, H6⟩, H8, H9, H10, H11, H12, H13, H14, H15, H17, H18, H19, HO⟩
  ihave H6' := (x_split arg6 c d6) $$ H6
  icases H6' with ⟨HT, HB⟩
  rw [wp_bind]
  iapply (wp_part108 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt X) $$ [HF H0 HT H17]
  · isplitl [HF]; · iexact HF
    isplitl [H0]; · iexact H0
    isplitl [HT]; · iexact HT
    iexact H17
  iintro ⟨HF, HC⟩
  rw [wp_bind]
  iapply (wp_part109 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt) $$ HF
  iintro HF
  rw [wp_bind]
  iapply (wp_part110 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt) $$ HF
  iintro HF
  rw [wp_bind]
  iapply (wp_part111 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt) $$ HF
  iintro HF
  dsimp only
  rw [wp_bind]
  iapply (wp_part112 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt) $$ HF
  iintro HF
  rw [wp_bind]
  iapply (wp_part113 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt W2) $$ [HF HB H10 H12 H2]
  · isplitl [HF]; · iexact HF
    isplitl [HB]; · iexact HB
    isplitl [H10]; · iexact H10
    isplitl [H12]; · iexact H12
    iexact H2
  iintro ⟨HF, HB, H10, H12, H2⟩
  dsimp only
  rw [wp_bind]
  iapply (wp_part114 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c W2 X) $$ [H12 H2 HC HB HO H10 H14 H8 H9 H4 H19 H5]
  · isplitl [H12]; · iexact H12
    isplitl [H2]; · iexact H2
    isplitl [HC]; · iexact HC
    isplitl [HB]; · iexact HB
    isplitl [HO]; · iexact HO
    isplitl [H10]; · iexact H10
    isplitl [H14]; · iexact H14
    isplitl [H8]; · iexact H8
    isplitl [H9]; · iexact H9
    isplitl [H4]; · iexact H4
    isplitl [H19]; · iexact H19
    iexact H5
  iintro ⟨H12, H2, H0, H17, H6, HO, H10, HC, H8, H9, H5⟩
  dsimp only
  rw [wp_bind]
  ihave HR := (filled arg1 arg7 arg16 c Wt) $$ HF
  iapply (wp_part115 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt W2 X) $$ [HR H10 H11 H8 H9 H12 H13 H15 HO]
  · isplitl [HR]; · iexact HR
    isplitl [H10]; · iexact H10
    isplitl [H11]; · iexact H11
    isplitl [H8]; · iexact H8
    isplitl [H9]; · iexact H9
    isplitl [H12]; · iexact H12
    isplitl [H13]; · iexact H13
    isplitl [H15]; · iexact H15
    iexact HO
  iintro ⟨HI, H10⟩
  iapply (wp_rest arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 c Wt W2 X (fun _ => bodyEnd arg0 arg1 arg2 arg3 arg4 arg5 arg6 arg7 arg8 arg9 arg10 arg11 arg12 arg13 arg14 arg15 arg16 arg17 arg18 arg19 c Wt W2 X)) $$ [HI HC H3 H18]
  · unfold tailPre
    isplitl [HI]; · iexact HI
    isplitl [HC]; · iexact HC
    isplitl [H3]; · iexact H3
    iexact H18
  unfold tailPost bodyEnd
  iintro ⟨HE, ⟨H8, H9, H11, H12, H13⟩, H15, H3, H14, H4, H18, H19, HO⟩
  isplitl [HE]; · iexact HE
  isplitl [H0]; · iexact H0
  isplitl [H2]; · iexact H2
  isplitl [H3]; · iexact H3
  isplitl [H4]; · iexact H4
  isplitl [H5]; · iexact H5
  isplitl [H6]; · iexists _; iexact H6
  isplitl [H8]; · iexists _; iexact H8
  isplitl [H9]; · iexists _; iexact H9
  isplitl [H10]; · iexists _; iexact H10
  isplitl [H11]; · iexists _; iexact H11
  isplitl [H12]; · iexists _; iexact H12
  isplitl [H13]; · iexact H13
  isplitl [H14]; · iexists _; iexact H14
  isplitl [H15]; · iexists _; iexact H15
  isplitl [H17]; · iexact H17
  isplitl [H18]; · iexact H18
  isplitl [H19]; · iexact H19
  iexact HO

end Cert.Proof.KernelIdeal
-- ==== Proof.IdealWhole.lean ====
/- The weights and the ring as whole buffers and as their parts. -/
module

public import proofs.«01_k».proof.Proof.IdealRing

public import Idealize.ShloMosaic.Lib.Ring

@[expose] public section

set_option synthInstance.maxSize 4096

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof

variable {F : FTy → Type} [FloatOps F]

theorem bigSep_choose {I A : Type} [Nonempty A] (s : Finset I) (Φ : I → A → sProp (MT nD τ sig Unit (Elt F) ℕ (Pipeline.UC sig nD τ) ℕ)) :
    BI.bigSep s (fun i => iprop(∃ x, Φ i x)) ⊢ iprop(∃ f : I → A, BI.bigSep s (fun i => Φ i (f i))) := by
  classical
  induction s using Finset.induction_on with
  | empty =>
    rw [BI.bigSep_congr (s := (∅ : Finset I)) (Ψ := fun i => Φ i ((fun _ => Classical.arbitrary A) i)) (fun i h => absurd h (by simp))]
    iintro H
    iexists (fun _ => Classical.arbitrary A)
    iexact H
  | insert i s hi ih =>
    rw [show BI.bigSep (insert i s) (fun i => iprop(∃ x, Φ i x)) = iprop((∃ x, Φ i x) ∗ BI.bigSep s (fun i => iprop(∃ x, Φ i x))) from BI.bigSep_insert hi]
    iintro ⟨⟨%x, H⟩, HS⟩
    ihave HS' := ih $$ HS
    icases HS' with ⟨%f, HF⟩
    have e : BI.bigSep s (fun j => Φ j (f j)) = BI.bigSep s (fun j => Φ j (Function.update f i x j)) :=
      BI.bigSep_congr (fun j hj => by rw [Function.update_of_ne (fun h => hi (by rw [← h]; exact hj))])
    have e' : iprop(Φ i x ∗ BI.bigSep s (fun j => Φ j (f j))) ⊢ BI.bigSep (insert i s) (fun j => Φ j (Function.update f i x j)) := by
      rw [show BI.bigSep (insert i s) (fun j => Φ j (Function.update f i x j)) = iprop(Φ i (Function.update f i x i) ∗ BI.bigSep s (fun j => Φ j (Function.update f i x j))) from BI.bigSep_insert hi, Function.update_self, e]
    iexists (Function.update f i x)
    iapply e'
    isplitl [H]; · iexact H
    iexact HF

variable (arg0 : Memref sig .tc .hbm S96x10240 .bf16) (harg0 : arg0.IsWhole) (arg1 : Memref sig .tc .hbm S9088x10240 .fp8e4m3) (harg1 : arg1.IsWhole) (arg2 : Memref sig .tc .vmem S71x80 .f32) (harg2 : arg2.IsWhole) (arg3 : Memref sig .tc .hbm S96x9088 .bf16) (harg3 : arg3.IsWhole) (arg4 : Memref sig .tc .hbm S96x10240 .fp8e4m3) (harg4 : arg4.IsWhole) (arg5 : Memref sig .tc .vmem S96x80 .f32) (harg5 : arg5.IsWhole) (arg6 : Memref sig .tc .vmem S128x10240 .bf16) (harg6 : arg6.IsWhole) (arg7 : Memref sig .tc .vmem S24x128x10240 .fp8e4m3) (harg7 : arg7.IsWhole) (arg8 : Memref sig .tc .vmem S20x256x256 .fp8e4m3) (harg8 : arg8.IsWhole) (arg9 : Memref sig .tc .vmem S20x256x256 .fp8e4m3) (harg9 : arg9.IsWhole) (arg10 : Memref sig .tc .vmem S128x128 .f32) (harg10 : arg10.IsWhole) (arg11 : Memref sig .tc .vmem S3x24x128 .f32) (harg11 : arg11.IsWhole) (arg12 : Memref sig .tc .vmem S72x128 .f32) (harg12 : arg12.IsWhole) (arg13 : Memref sig .tc .vmem S4x3x24x128 .f32) (harg13 : arg13.IsWhole) (arg14 : Memref sig .tc .vmem S96x10240 .fp8e4m3) (harg14 : arg14.IsWhole) (arg15 : Memref sig .tc .vmem S96x9088 .bf16) (harg15 : arg15.IsWhole) (arg16 : DmaSems sig S24) (arg17 : DmaSems sig S_) (arg18 : DmaSems sig S_) (arg19 : DmaSems sig S_)
variable (c : Dev nD) (Wt : Vec F S9088x10240 .fp8e4m3)

/-! ## The weights -/

abbrev wRect (b : Fin 71) : Rect S9088x10240 := Rect.unit (s := S9088x10240) ![128 * b.val, 0] S128x10240.size (src_inb b.isLt)

theorem w_mem (b : Fin 71) (y : S9088x10240.Idx) : y ∈ (wRect b).set ↔ b.val = (y 0).val / 128 := by
  have h1 : (y 1).val < 10240 := (y 1).isLt
  unfold wRect
  rw [Rect.mem_set_unit]
  constructor
  · intro h
    have a : 128 * b.val ≤ (y 0).val ∧ (y 0).val < 128 * b.val + 128 := h 0
    omega
  · intro h a
    fin_cases a
    · show 128 * b.val ≤ (y 0).val ∧ (y 0).val < 128 * b.val + 128
      omega
    · show 0 ≤ (y 1).val ∧ (y 1).val < 0 + 10240
      omega

theorem w_disj (b b' : Fin 71) (h : b ≠ b') : Disjoint (wRect b).set (wRect b').set := by
  rw [Finset.disjoint_left]
  intro y h1 h2
  exact h (Fin.ext (((w_mem b y).mp h1).trans ((w_mem b' y).mp h2).symm))

theorem w_cover : (Finset.univ : Finset (Fin 71)).biUnion (fun b => (wRect b).set) = Finset.univ := by
  ext y
  simp only [Finset.mem_biUnion, Finset.mem_univ, true_and, iff_true]
  have h0 : (y 0).val < 9088 := (y 0).isLt
  exact ⟨⟨(y 0).val / 128, by omega⟩, (w_mem _ y).mpr rfl⟩

theorem w_range : BI.bigSep Finset.univ (fun b : Fin 71 => own c (arg1.slice (wRect b) (fun _ => rfl)) (fun j => Wt ((wRect b).emb j)))
    = BI.bigSep (Finset.Ico 0 71) (home arg1 c Wt) := by
  rw [Ring.bigSep_fin_eq_range 71 _ (home arg1 c Wt) (fun t h => by unfold home; rw [dif_pos h]; rfl), Finset.range_eq_Ico]

theorem w_split : own c arg1 Wt ⊢ BI.bigSep (Finset.Ico 0 95) (home arg1 c Wt) := by
  have e : BI.bigSep (Finset.Ico 0 95) (home arg1 c Wt) = iprop(BI.bigSep (Finset.Ico 0 71) (home arg1 c Wt) ∗ BI.bigSep (Finset.Ico 71 95) (home arg1 c Wt)) := by
    rw [← Finset.Ico_union_Ico_eq_Ico (show 0 ≤ 71 by omega) (show 71 ≤ 95 by omega)]
    exact BI.bigSep_union (Finset.Ico_disjoint_Ico_consecutive 0 71 95)
  have e2 : BI.bigSep (Finset.Ico 71 95) (home arg1 c Wt) = BI.bigSep (Finset.Ico 71 95) (fun _ => (BI.emp : sProp (MT nD τ sig Unit (Elt F) ℕ (Pipeline.UC sig nD τ) ℕ))) :=
    BI.bigSep_congr (fun b hb => by unfold home; rw [dif_neg (by have := (Finset.mem_Ico.mp hb).1; omega)]; rfl)
  rw [e, e2, BI.bigSep_emp_const, ← w_range]
  iintro H
  isplitl [H]
  · iapply (owns_rects (c.tc : Thread nD τ) arg1 fullShare wRect (fun _ _ => rfl) w_disj w_cover Wt) $$ H
  iempintro

theorem w_join : BI.bigSep (Finset.Ico 0 71) (home arg1 c Wt) ⊢ own c arg1 Wt := by
  rw [← w_range]
  exact owns_of_rects (c.tc : Thread nD τ) arg1 fullShare wRect (fun _ _ => rfl) w_disj w_cover Wt

/-! ## The ring -/

abbrev sRect (s : Fin 24) : Rect S24x128x10240 := Rect.unit (s := S24x128x10240) ![s.val, 0, 0] S1x128x10240.size (slot_inb s.isLt)

theorem s_mem (s : Fin 24) (y : S24x128x10240.Idx) : y ∈ (sRect s).set ↔ s.val = (y 0).val := by
  have h1 : (y 1).val < 128 := (y 1).isLt
  have h2 : (y 2).val < 10240 := (y 2).isLt
  unfold sRect
  rw [Rect.mem_set_unit]
  constructor
  · intro h
    have a : s.val ≤ (y 0).val ∧ (y 0).val < s.val + 1 := h 0
    omega
  · intro h a
    fin_cases a
    · show s.val ≤ (y 0).val ∧ (y 0).val < s.val + 1
      omega
    · show 0 ≤ (y 1).val ∧ (y 1).val < 0 + 128
      omega
    · show 0 ≤ (y 2).val ∧ (y 2).val < 0 + 10240
      omega

theorem s_disj (b b' : Fin 24) (h : b ≠ b') : Disjoint (sRect b).set (sRect b').set := by
  rw [Finset.disjoint_left]
  intro y h1 h2
  exact h (Fin.ext (((s_mem b y).mp h1).trans ((s_mem b' y).mp h2).symm))

theorem s_cover : (Finset.univ : Finset (Fin 24)).biUnion (fun b => (sRect b).set) = Finset.univ := by
  ext y
  simp only [Finset.mem_biUnion, Finset.mem_univ, true_and, iff_true]
  exact ⟨⟨(y 0).val, (y 0).isLt⟩, (s_mem _ y).mpr rfl⟩

/-- The ring's slots, each at some contents. -/
def slotAt (s : ℕ) : sProp (MT nD τ sig Unit (Elt F) ℕ (Pipeline.UC sig nD τ) ℕ) := if h : s < 24 then iprop(∃ d, own c (wDst arg7 ![s, 0, 0] (slot_inb h)) d) else iprop(emp)

/-- The ring's counters at zero. -/
def semAt (s : ℕ) : sProp (MT nD τ sig Unit (Elt F) ℕ (Pipeline.UC sig nD τ) ℕ) := if h : s < 24 then semVal ((c.tc : Thread nD τ), .dma (wSem arg16 ![s] (sem_inb h)).sem) 0 else iprop(emp)

theorem slots_eq : BI.bigSep (Finset.range 24) (freeSlot arg7 arg16 (F := F) c)
    = iprop(BI.bigSep (Finset.range 24) (slotAt arg7 (F := F) c) ∗ BI.bigSep (Finset.range 24) (semAt arg16 (F := F) c)) := by
  rw [BI.bigSep_congr (s := Finset.range 24) (Φ := freeSlot arg7 arg16 (F := F) c) (Ψ := fun s => iprop(slotAt arg7 (F := F) c s ∗ semAt arg16 (F := F) c s))
    (fun s hs => by unfold freeSlot slotAt semAt; rw [dif_pos (Finset.mem_range.mp hs), dif_pos (Finset.mem_range.mp hs), dif_pos (Finset.mem_range.mp hs)])]
  exact BI.bigSep_sep _ _ _

theorem s_split (d : Vec F S24x128x10240 .fp8e4m3) : own c arg7 d ⊢ BI.bigSep (Finset.range 24) (slotAt arg7 (F := F) c) := by
  rw [← Ring.bigSep_fin_eq_range 24 (fun s : Fin 24 => iprop(∃ d, own c (wDst arg7 ![s.val, 0, 0] (slot_inb s.isLt)) d)) (slotAt arg7 (F := F) c)
    (fun t h => by unfold slotAt; rw [dif_pos h])]
  refine (owns_rects (c.tc : Thread nD τ) arg7 fullShare sRect (fun _ _ => rfl) s_disj s_cover d).trans (BI.bigSep_mono fun s _ => ?_)
  show own c (arg7.slice (sRect s) (fun _ => rfl)) _ ⊢ iprop(∃ d, own c (wDst arg7 ![s.val, 0, 0] (slot_inb s.isLt)) d)
  iintro H
  iexists _
  unfold wDst
  iapply (owns_squeeze (c.tc : Thread nD τ) (arg7.slice (sRect s) (fun _ => rfl)) squeezes_S1x128x10240_S128x10240 (by decide : S1x128x10240.ShapeCasts S128x10240) fullShare _) $$ H

theorem s_join : BI.bigSep (Finset.range 24) (slotAt arg7 (F := F) c) ⊢ iprop(∃ d, own c arg7 d) := by
  rw [← Ring.bigSep_fin_eq_range 24 (fun s : Fin 24 => iprop(∃ d, own c (wDst arg7 ![s.val, 0, 0] (slot_inb s.isLt)) d)) (slotAt arg7 (F := F) c)
    (fun t h => by unfold slotAt; rw [dif_pos h])]
  have e : BI.bigSep (Finset.univ : Finset (Fin 24)) (fun s : Fin 24 => iprop(∃ d, own c (wDst arg7 ![s.val, 0, 0] (slot_inb s.isLt)) d))
      ⊢ BI.bigSep (Finset.univ : Finset (Fin 24)) (fun s : Fin 24 => iprop(∃ d : S1x128x10240.Idx → Elt F .fp8e4m3, own c (arg7.slice (sRect s) (fun _ => rfl)) d)) :=
    BI.bigSep_mono fun s _ => by
      show iprop(∃ d, own c (wDst arg7 ![s.val, 0, 0] (slot_inb s.isLt)) d) ⊢ iprop(∃ d : S1x128x10240.Idx → Elt F .fp8e4m3, own c (arg7.slice (sRect s) (fun _ => rfl)) d)
      iintro ⟨%d, H⟩
      iexists _
      unfold wDst
      iapply (owns_unsqueeze (c.tc : Thread nD τ) (arg7.slice (sRect s) (fun _ => rfl)) squeezes_S1x128x10240_S128x10240 (by decide : S128x10240.ShapeCasts S1x128x10240) fullShare d) $$ H
  haveI : Nonempty (S1x128x10240.Idx → Elt F .fp8e4m3) := ⟨fun _ => Classical.choice ((inferInstance : ∀ e, Nonempty (Elt F e)) .fp8e4m3)⟩
  refine e.trans ((bigSep_choose _ _).trans ?_)
  have hj : ∀ f : Fin 24 → S1x128x10240.Idx → Elt F .fp8e4m3, BI.bigSep (Finset.univ : Finset (Fin 24)) (fun s : Fin 24 => own c (arg7.slice (sRect s) (fun _ => rfl)) (f s))
      ⊢ own c arg7 (fun y : S24x128x10240.Idx => f ⟨(y 0).val, (y 0).isLt⟩ (Fin.cons ⟨0, by decide⟩ (Fin.cons (y 1) (Fin.cons (y 2) finZeroElim)))) := fun f => by
    refine BI.BIBase.Entails.trans ?_ (owns_of_rects (c.tc : Thread nD τ) arg7 fullShare sRect (fun _ _ => rfl) s_disj s_cover _)
    rw [BI.bigSep_congr (s := Finset.univ) (Φ := fun s : Fin 24 => own c (arg7.slice (sRect s) (fun _ => rfl)) (f s)) (fun s _ => ?_)]
    refine congrArg (own c (arg7.slice (sRect s) (fun _ => rfl))) ?_
    funext j
    have j0 : (j 0).val < 1 := (j 0).isLt
    have e0 : (⟨(((sRect s).emb j) 0).val, (((sRect s).emb j) 0).isLt⟩ : Fin 24) = s := Fin.ext (by show s.val + 1 * (j 0).val = s.val; omega)
    show _ = f ⟨(((sRect s).emb j) 0).val, _⟩ _
    rw [e0]
    refine congrArg (f s) (funext fun a => Fin.ext ?_)
    fin_cases a
    · show (j 0).val = 0
      omega
    · show (j 1).val = 0 + 1 * (j 1).val
      omega
    · show (j 2).val = 0 + 1 * (j 2).val
      omega
  iintro ⟨%f, H⟩
  iexists _
  iapply (hj f) $$ H

end Cert.Proof.KernelIdeal
-- ==== Proof.IdealLaunch.lean ====
/- The kernel's run: the body in its one-point pipeline, its buffers routed through it. -/
module

public import proofs.«01_k».proof.Proof.IdealBody
public import proofs.«01_k».proof.Proof.IdealWhole

public import proofs.«01_k».proof.Proof.Gen.KernelIdeal.Frame
public import Idealize.ShloMosaic.Lib.Pipeline.Routed

@[expose] public section

set_option synthInstance.maxSize 4096

noncomputable section

namespace Cert.Proof.KernelIdeal

open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem
open Cert.KernelIdeal Cert.KernelIdeal.Gen Cert.Proof

variable {F : FTy → Type} [FloatOps F]

variable (m : (ℓ : Loc nD τ sig) → Buf (Elt F) ℓ) (ρ : Dev nD → PrngReg)

/-- The buffers the body reaches itself: the activations, the weights, and the two results left in HBM. -/
def R0 : Finset (Ref sig .tc) := {main_v0, main_arg1, main_v1_0, main_v1_1}

theorem R0_sub : R0 ⊆ Pipeline.restRefs sig spec0 := by decide

theorem routed_eq (c : Dev nD) (W : (b : Ref sig .tc) → Buf (Elt F) ((c.tc : Thread nD τ).loc b)) :
    (Pipeline.routed R0 c W : sProp (MT nD τ sig Unit (Elt F) ℕ (Pipeline.UC sig nD τ) ℕ))
      = iprop((((c : Thread nD τ).loc main_v0) ↦{fullShare} W main_v0) ∗ (((c : Thread nD τ).loc main_arg1) ↦{fullShare} W main_arg1)
          ∗ (((c : Thread nD τ).loc main_v1_0) ↦{fullShare} W main_v1_0) ∗ (((c : Thread nD τ).loc main_v1_1) ↦{fullShare} W main_v1_1)) := by
  unfold Pipeline.routed
  rw [BI.bigSep_eq_bigSepL_of_eq [main_v0, main_arg1, main_v1_0, main_v1_1] (by decide) (by decide)]; rfl

/-- The kernel's own counters: the ring's, then those of the three single transfers. -/
def osem0 (k : Fin 27) : SemLoc sig := SemLoc.dma ⟨k.val + 2, by have := k.isLt; show k.val + 2 < 29; omega⟩

theorem ownSemFacts0 : Pipeline.OwnSemFacts spec0 osem0 := by decide

theorem sem_locs : ∀ s : Fin 24, osem0 ⟨s.val, Nat.lt_trans s.isLt (by decide)⟩ = SemLoc.dma (wSem cc0_scratch10 ![s.val] (sem_inb s.isLt)).sem := by decide

theorem sem_loc (s : ℕ) (h : s < 24) : osem0 ⟨s, Nat.lt_trans h (by decide)⟩ = SemLoc.dma (wSem cc0_scratch10 ![s] (sem_inb h)).sem :=
  sem_locs ⟨s, h⟩

theorem ownSems_eq (c : Dev nD) : (Pipeline.ownSems0 (Ix := Unit) (Name := ℕ) (U := Pipeline.UC sig nD τ) (Lvl := ℕ) (Val := Elt F) (τ := τ) osem0 c : sProp (MT nD τ sig Unit (Elt F) ℕ (Pipeline.UC sig nD τ) ℕ))
    = iprop(semVal ((c.tc : Thread nD τ), .dma cc0_scratch13.sem) 0 ∗ semVal ((c.tc : Thread nD τ), .dma cc0_scratch12.sem) 0
        ∗ semVal ((c.tc : Thread nD τ), .dma cc0_scratch11.sem) 0 ∗ BI.bigSep (Finset.range 24) (semAt cc0_scratch10 (F := F) c)) := by
  unfold Pipeline.ownSems0
  rw [Ring.bigSep_fin_eq_range 27 _ (fun k => if h : k < 27 then semVal ((c.tc : Thread nD τ), osem0 ⟨k, h⟩) 0 else iprop(emp)) (fun t h => by rw [dif_pos h])]
  rw [Finset.range_add_one, show BI.bigSep (insert 26 (Finset.range 26)) (fun k => if h : k < 27 then semVal ((c.tc : Thread nD τ), osem0 ⟨k, h⟩) 0 else iprop(emp)) = iprop((_ : sProp (MT nD τ sig Unit (Elt F) ℕ (Pipeline.UC sig nD τ) ℕ)) ∗ _) from BI.bigSep_insert (by simp)]
  rw [Finset.range_add_one, show BI.bigSep (insert 25 (Finset.range 25)) (fun k => if h : k < 27 then semVal ((c.tc : Thread nD τ), osem0 ⟨k, h⟩) 0 else iprop(emp)) = iprop((_ : sProp (MT nD τ sig Unit (Elt F) ℕ (Pipeline.UC sig nD τ) ℕ)) ∗ _) from BI.bigSep_insert (by simp)]
  rw [Finset.range_add_one, show BI.bigSep (insert 24 (Finset.range 24)) (fun k => if h : k < 27 then semVal ((c.tc : Thread nD τ), osem0 ⟨k, h⟩) 0 else iprop(emp)) = iprop((_ : sProp (MT nD τ sig Unit (Elt F) ℕ (Pipeline.UC sig nD τ) ℕ)) ∗ _) from BI.bigSep_insert (by simp)]
  rw [BI.bigSep_congr (s := Finset.range 24) (Ψ := semAt cc0_scratch10 (F := F) c) (fun s hs => by
    have h : s < 24 := Finset.mem_range.mp hs
    unfold semAt
    rw [dif_pos h, dif_pos (by omega)]
    exact congrArg (fun l => (semVal ((c.tc : Thread nD τ), l) 0 : sProp (MT nD τ sig Unit (Elt F) ℕ (Pipeline.UC sig nD τ) ℕ))) (sem_loc s h))]
  rfl

/-! ## The region's entry -/

theorem hmain (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

theorem before0 {c : Dev nD} (dat : Dat τ (Elt F) Unit ℕ (Pipeline.UC sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the run leaves -/

/-- The activations, the weights and the weights' scales as the body finds them. -/
abbrev xIn (c : Dev nD) : Vec F S96x10240 .bf16 := V m c main_v0
abbrev wIn (c : Dev nD) : Vec F S9088x10240 .fp8e4m3 := V m c main_arg1
abbrev sIn (c : Dev nD) : Vec F S71x80 .f32 := iblk m c 0 t0_0

/-- The buffers after the run. -/
def Y (c : Dev nD) (b : Ref sig .tc) : Buf (Elt F) ((c.tc : Thread nD τ).loc b) :=
  Function.update (Function.update (V m c) main_v1_0 (yOut (wIn m c) (sIn m c) (xIn m c))) main_v1_1 (cdAll (xIn m c)) b

theorem Y_x (c : Dev nD) : Y m c main_v0 = V m c main_v0 := by
  unfold Y; rw [Function.update_of_ne (by decide), Function.update_of_ne (by decide)]
theorem Y_w (c : Dev nD) : Y m c main_arg1 = V m c main_arg1 := by
  unfold Y; rw [Function.update_of_ne (by decide), Function.update_of_ne (by decide)]
theorem Y_y (c : Dev nD) : Y m c main_v1_0 = yOut (wIn m c) (sIn m c) (xIn m c) := by
  unfold Y; rw [Function.update_of_ne (by decide), Function.update_self]
theorem Y_c (c : Dev nD) : Y m c main_v1_1 = cdAll (xIn m c) := by
  unfold Y; rw [Function.update_self]

/-- The proof data. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => xsOut (scAll (xIn m c))
  Φ t := Pipeline.Ends spec0 osem0 R0 c (if t = 0 then V m c else Y m c)
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = xsOut (scAll (xIn m c)) := by dsimp only [dats]

abbrev ms0_0 (t : Fin cfg0.N) : Memref sig .tc .vmem S71x80 .f32 := win0_0.stage (cfg0.slots t 0)
abbrev ms0_1 (t : Fin cfg0.N) : Memref sig .tc .vmem S96x80 .f32 := win0_1.stage (cfg0.slots t 1)

def bodyPre (c : Dev nD) (t : Fin cfg0.N) : sProp (MT nD τ sig Unit (Elt F) ℕ (Pipeline.UC sig nD τ) ℕ) :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)))
def bodyPost (c : Dev nD) (t : Fin cfg0.N) : sProp (MT nD τ sig Unit (Elt F) ℕ (Pipeline.UC sig nD τ) ℕ) :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t))

/-- The buffers as the body's memrefs hold them, at the start. -/
theorem enter (c : Dev nD) (t : Fin cfg0.N) :
    iprop(Pipeline.Ends spec0 osem0 R0 c (V m c) ∗ own c (ms0_0 t) (sIn m c) ∗ (∃ d, own c (ms0_1 t) d) ∗ (∃ W, owes (c.tc : Thread nD τ) 0 W))
      ⊢ iprop(bodyStart (Memref.whole main_v0) (Memref.whole main_arg1) (ms0_0 t) (Memref.whole main_v1_0) (Memref.whole main_v1_1) (ms0_1 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) cc0_scratch10 cc0_scratch11 cc0_scratch12 cc0_scratch13 c (wIn m c) (sIn m c) (xIn m c) ∗ ∃ r, prngReg c r) := by
  unfold Pipeline.Ends bodyStart filling
  rw [routed_eq, ownSems_eq, scopedRest0_eq, Finset.Ico_self, ← Finset.range_eq_Ico, slots_eq]
  simp only [← owns_whole]
  iintro ⟨⟨⟨HX, HW, HY, HC⟩, ⟨H13, H12, H11, HQ⟩, ⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, HP⟩, H2, H5, HO⟩
  isplitr [HP]
  · isplitl [HW HQ S1]
    · isplitr; · rw [BI.bigSep_empty]; iempintro
      isplitl [HQ S1]
      · isplitl [S1]
        · iapply (s_split (Memref.whole cc0_scratch1) c f1) $$ S1
        iexact HQ
      iapply (w_split (Memref.whole main_arg1) c (wIn m c)) $$ HW
    isplitl [HX]; · iexact HX
    isplitl [H2]; · iexact H2
    isplitl [HY]; · iexists _; iexact HY
    isplitl [HC]; · iexists _; iexact HC
    isplitl [H5]; · iexact H5
    isplitl [S0]; · iexists _; iexact S0
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [H11]; · iexact H11
    isplitl [H12]; · iexact H12
    isplitl [H13]; · iexact H13
    iexact HO
  iexact HP

/-- And at the end. -/
theorem leave (c : Dev nD) (t : Fin cfg0.N) :
    iprop(bodyEnd (Memref.whole main_v0) (Memref.whole main_arg1) (ms0_0 t) (Memref.whole main_v1_0) (Memref.whole main_v1_1) (ms0_1 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) cc0_scratch10 cc0_scratch11 cc0_scratch12 cc0_scratch13 c (wIn m c) (sIn m c) (xIn m c) ∗ ∃ r, prngReg c r)
      ⊢ iprop(Pipeline.Ends spec0 osem0 R0 c (Y m c) ∗ own c (ms0_0 t) (sIn m c) ∗ own c (ms0_1 t) (xsOut (scAll (xIn m c))) ∗ (∃ W, owes (c.tc : Thread nD τ) 0 W)) := by
  unfold Pipeline.Ends bodyEnd ringEnd
  rw [routed_eq, ownSems_eq, scopedRest0_eq, slots_eq, Y_x, Y_w, Y_y, Y_c]
  simp only [← owns_whole]
  iintro ⟨⟨⟨HW, HS1, HQ⟩, HX, H2, HY, HC, H5, ⟨%f0, S0⟩, ⟨%f2, S2⟩, ⟨%f3, S3⟩, ⟨%f4, S4⟩, ⟨%f5, S5⟩, ⟨%f6, S6⟩, ⟨%f7, S7⟩, ⟨%f8, S8⟩, ⟨%f9, S9⟩, H11, H12, H13, HO⟩, HP⟩
  ihave HS := (s_join (Memref.whole cc0_scratch1) c) $$ HS1
  icases HS with ⟨%f1, S1⟩
  ihave HW' := (w_join (Memref.whole main_arg1) c (wIn m c)) $$ HW
  isplitr [H2 H5 HO]
  · isplitl [HX HW' HY HC]
    · isplitl [HX]; · iexact HX
      isplitl [HW']; · iexact HW'
      isplitl [HY]; · iexact HY
      iexact HC
    isplitl [H11 H12 H13 HQ]
    · isplitl [H13]; · iexact H13
      isplitl [H12]; · iexact H12
      isplitl [H11]; · iexact H11
      iexact HQ
    isplitr [HP]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    iexact HP
  isplitl [H2]; · iexact H2
  isplitl [H5]; · iexact H5
  iexact HO

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [after0_0, after0_1]
  rw [show (dats m 0 c).Φ t0_0.castSucc = Pipeline.Ends spec0 osem0 R0 c (V m c) from by dsimp only [dats]; rw [if_pos (by decide)],
    show (dats m 0 c).Φ t0_0.succ = Pipeline.Ends spec0 osem0 R0 c (Y m c) from by dsimp only [dats]; rw [if_neg (by decide)]]
  unfold Dat.owesAt Pipeline.owesWithin
  rw [show (dats m 0 c).owed t0_0.castSucc = 0 from rfl, show (dats m 0 c).owed t0_0.succ = 0 from rfl]
  simp only [before0 m (dats m 0 c) (A_eq m c 0) (after0_0 m c)]
  iintro ⟨HE, ⟨%W, -, HW⟩, ⟨%d0, H0⟩, ⟨%d1, H1⟩⟩
  ihave HB := (enter m c t0_0) $$ [HE HW H0 H1]
  · isplitl [HE]; · iexact HE
    isplitl [H0]; · iexact H0
    isplitl [H1]; · iexists _; iexact H1
    iexists W; iexact HW
  icases HB with ⟨HB, HP⟩
  ihave HR := (wp_body _ (Memref.isWhole_whole _) _ (Memref.isWhole_whole _) _ (hstage0_0 0) _ (Memref.isWhole_whole _) _ (Memref.isWhole_whole _) _ (hstage0_1 0) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _)  _ _ _ _ c (wIn m c) (sIn m c) (xIn m c)) $$ HB
  iapply (wp_wand frame (wpE (defs₀ (F := F)) Variants.none (c.tc : Thread nD τ) none) Set.univ) $$ HR
  iintro %a HB
  ihave HL := (leave m c t0_0) $$ [HB HP]
  · isplitl [HB]; · iexact HB
    iexact HP
  icases HL with ⟨HE, H0, H1, ⟨%W', HW⟩⟩
  isplitl [HE]; · iexact HE
  isplitl [HW]
  · iexists W'; isplitr; · ipureintro; exact fun _ _ => Or.inl trivial
    iexact HW
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.RoutedPost cfgs (dats m) 0 R0 (V m) (Y m) r ∧ r.2.sem = fun _ => 0) :=
  Pipeline.θ_run_frame_routed (Q' := _) cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmain m Variants.none) (hA := A_eq m) (R := R0) (hR := R0_sub) (Y := Y m)
    (hin := fun c => by
      rw [show (dats m 0 c).Φ 0 = Pipeline.Ends spec0 osem0 R0 c (V m c) from by dsimp only [dats]; rw [if_pos rfl]])
    (hout := fun c => by
      rw [show (dats m 0 c).Φ (Fin.last cfg0.N) = Pipeline.Ends spec0 osem0 R0 c (Y m c) from by dsimp only [dats]; rw [if_neg (by decide)]])

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).2.2 main_arg0 (by decide)).trans (V_main_arg0 m c),
      ((h.1 c).2.1 main_arg1 (by decide)).trans ((Y_w m c).trans (V_main_arg1 m c)),
      ((h.1 c).1 0).trans (((dats m 0 c).arrAt_in 0 rfl _).trans ((A_eq m c 0).trans (V_main_arg2 m c)))⟩, h.2⟩) (run_main m ρ)

end Cert.Proof.KernelIdeal
-- ==== Proof.KernelRun.lean ====
/- The kernel's run with the values of its three results. -/
module

public import proofs.«01_k».proof.Proof.IdealLaunch
public import Idealize.ShloMosaic.Lib.Claim
public import Idealize.ShloMosaic.Lib.Pointwise
public import Idealize.ShloMosaic.Lib.Pipeline.ValueKit

@[expose] public section

set_option maxRecDepth 16384

noncomputable section

namespace Cert.Proof.KernelIdeal

open Idealize.ShloMosaic Idealize.ShloMosaic.TcCoe Cert.KernelIdeal Cert.KernelIdeal.Gen

variable (m : (ℓ : Loc nD τ sig) → Buf (Elt Ideal) ℓ) (ρ : Dev nD → PrngReg)

theorem xIn_at (c : Dev nD) (t : Fin 96) (y : Fin 10240) :
    (show EReal from xIn m c (ix2 t y)) = (show Vec Ideal S96x1x10240 .bf16 from m (c, Proc.tc.devRef main_arg0)) (ix3 t 0 y) := by
  unfold xIn
  entry_read
  pointwise

theorem wIn_eq (c : Dev nD) : wIn m c = m (c, Proc.tc.devRef main_arg1) := V_main_arg1 m c

theorem read0 (x : FVec Ideal S71x80 .f32) : ((cfg0.win 0).blk t0_0).view.read (Elt Ideal) x = x := by
  funext j
  show x (((cfg0.win 0).blk t0_0).view.emb j) = x j
  refine congrArg x (funext fun a => Fin.ext ?_)
  fin_cases a
  · show _ = (j 0).val
    blk_simp
    refine (congrArg (· * _ + _) (show win0_0.index t0_0 0 = 0 by decide +kernel)).trans ?_
    show 0 * _ + _ = _
    rw [Nat.zero_mul, Nat.zero_add]
    rfl
  · show _ = (j 1).val
    blk_simp
    refine (congrArg (· * _ + _) (show win0_0.index t0_0 1 = 0 by decide +kernel)).trans ?_
    show 0 * _ + _ = _
    rw [Nat.zero_mul, Nat.zero_add]
    rfl

theorem sIn_eq (c : Dev nD) : sIn m c = m (c, Proc.tc.devRef main_arg2) := (read0 (V m c main_arg2)).trans (V_main_arg2 m c)

theorem arr1 (c : Dev nD) (T : FVec Ideal S96x80 .f32) (hT : xsOut (scAll (xIn m c)) = T) : (dats m 0 c).arrAt 1 (cfgs 0).N = T := by
  refine (dats m 0 c).arrAt_eq_of_after_last 1 t0_0 (by decide +kernel) _ fun j => ?_
  blk_simp
  rw [after0_1, hT]

theorem run_values : θ_run (defs (F := Ideal)) (onTc (τ := τ) (main (F := Ideal))) ⟨m, fun _ => 0, ρ⟩ (fun r => ∀ c : Dev nD,
      r.2.mem ((c.tc : Thread nD τ).loc main_v1_0) = yOut (wIn m c) (sIn m c) (xIn m c)
      ∧ r.2.mem ((c.tc : Thread nD τ).loc main_v1_1) = cdAll (xIn m c)
      ∧ r.2.mem ((c.tc : Thread nD τ).loc main_v1_2) = xsOut (scAll (xIn m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).2.1 main_v1_0 (by decide)).trans (Y_y m c),
      ((h.1 c).2.1 main_v1_1 (by decide)).trans (Y_c m c),
      ((h.1 c).1 1).trans (arr1 m c _ rfl),
      ((h.1 c).2.2 main_arg0 (by decide)).trans (V_main_arg0 m c),
      ((h.1 c).2.1 main_arg1 (by decide)).trans ((Y_w m c).trans (V_main_arg1 m c)),
      ((h.1 c).1 0).trans (((dats m 0 c).arrAt_in 0 rfl _).trans ((A_eq m c 0).trans (V_main_arg2 m c)))⟩) (run_main m ρ)

end Cert.Proof.KernelIdeal

end
-- ==== Proof.RefTerms.lean ====
/- The reference's run: what its host operations and its casting kernel leave in the three results. -/
module

public import proofs.«01_k».proof.Proof.Gen.ReferenceIdeal.Frame
public import Idealize.ShloMosaic.Lib.Claim
public import Idealize.ShloMosaic.Lib.Pointwise

@[expose] public section

set_option maxRecDepth 16384

noncomputable section

namespace Cert.Proof.ReferenceIdeal

open Idealize.ShloMosaic Idealize.ShloMosaic.TcCoe Cert.ReferenceIdeal Cert.ReferenceIdeal.Gen

/-- The activations, in groups. -/
def rX (A : Vec Ideal S96x1x10240 .bf16) : FVec Ideal S96x80x128 .f32 :=
  shapeCast S96x80x128 (extf .f32 (show FVec Ideal S96x1x10240 .bf16 from A) bitsLt_bf16_f32) shapeCasts_S96x1x10240_S96x80x128

/-- The largest magnitude of each group. -/
def rAmax (A : Vec Ideal S96x1x10240 .bf16) : FVec Ideal S96x80 .f32 :=
  Host.reduce FloatOps.maximumf (Host.absf (rX A)) (constant S_ FTy.f32 0xFF800000#32) reducesTo_S96x80x128_S96x80_d2 h_S_

/-- The exponent of each group's scale. -/
def rE (a : FVec Ideal S96x80 .f32) : FVec Ideal S96x80 .f32 :=
  select (cmpf CmpFPredicate.oeq a (broadcastInDim S96x80 ![] bcast_S_S96x80 (constant S_ FTy.f32 0#32)))
    (broadcastInDim S96x80 ![] bcast_S_S96x80 (constant S_ FTy.f32 0#32))
    (addf (Host.floor (Host.divf (Host.log (mulf a (broadcastInDim S96x80 ![] bcast_S_S96x80 (constant S_ FTy.f32 991054117#32))))
        (Host.log (broadcastInDim S96x80 ![] bcast_S_S96x80 (constant S_ FTy.f32 1073741824#32)))))
      (broadcastInDim S96x80 ![] bcast_S_S96x80 (constant S_ FTy.f32 1065353216#32)))

/-- The scales. -/
def rS (e : FVec Ideal S96x80 .f32) : FVec Ideal S96x80 .f32 :=
  Host.powf (broadcastInDim S96x80 ![] bcast_S_S96x80 (constant S_ FTy.f32 1073741824#32)) e

/-- The scaled and clipped activations. -/
def rQ (X : FVec Ideal S96x80x128 .f32) (e : FVec Ideal S96x80 .f32) : FVec Ideal S96x10240 .f32 :=
  shapeCast S96x10240 (minimumf (broadcastInDim S96x80x128 ![] bcast_S_S96x80x128 (constant S_ FTy.f32 0x43E00000#32))
    (maximumf (broadcastInDim S96x80x128 ![] bcast_S_S96x80x128 (constant S_ FTy.f32 0xC3E00000#32))
      (mulf X (broadcastInDim S96x80x128 ![0, 1, 2] bcast_S96x80x1_S96x80x128_0_1_2
        (broadcastInDim S96x80x1 ![0, 1] bcast_S96x80_S96x80x1_0_1
          (Host.powf (broadcastInDim S96x80 ![] bcast_S_S96x80 (constant S_ FTy.f32 1073741824#32)) (Host.negf e)))))))
    shapeCasts_S96x80x128_S96x10240

/-- The product, group by group, scaled and added up. -/
def rY (D : FVec Ideal S96x10240 .f32) (W : FVec Ideal S9088x10240 .f32) (s : FVec Ideal S96x80 .f32) (w2 : FVec Ideal S71x80 .f32) : FVec Ideal S96x9088 .bf16 :=
  truncf FTy.bf16 (shapeCast S96x9088 (Host.reduceAdd
    (mulf (mulf (shapeCast S80x96x71x128 (Host.dotGeneral dot_S96x80x128_S9088x80x128_S80x96x9088_2_2_0_0_1_1 none
          (shapeCast S96x80x128 D shapeCasts_S96x10240_S96x80x128) (shapeCast S9088x80x128 W shapeCasts_S9088x10240_S9088x80x128))
          shapeCasts_S80x96x9088_S80x96x71x128)
        (broadcastInDim S80x96x71x128 ![0, 1, 2, 3] bcast_S80x96x1x1_S80x96x71x128_0_1_2_3
          (broadcastInDim S80x96x1x1 ![0, 1] bcast_S80x96_S80x96x1x1_0_1 (transpose S80x96 [1, 0] s transposes_S96x80_S80x96_1_0))))
      (broadcastInDim S80x96x71x128 ![0, 1, 2, 3] bcast_S80x1x71x1_S80x96x71x128_0_1_2_3
        (broadcastInDim S80x1x71x1 ![0, 2] bcast_S80x71_S80x1x71x1_0_2 (transpose S80x71 [1, 0] w2 transposes_S71x80_S80x71_1_0))))
    (constant S_ FTy.f32 0#32) reducesTo_S80x96x71x128_S96x71x128_d0 h_S_) shapeCasts_S96x71x128_S96x9088) bitsLt_bf16_f32

variable (m : (ℓ : Loc nD τ sig) → Buf (Elt Ideal) ℓ) (ρ : Dev nD → PrngReg)

/-- The launch contents of the first argument. -/
abbrev aIn (c : Dev nD) : Vec Ideal S96x1x10240 .bf16 := m (c, Proc.tc.devRef main_arg0)

set_option maxHeartbeats 1600000 in
theorem entry_q (c : Dev nD) : V m c main_v23 = rQ (rX (aIn m c)) (rE (rAmax (aIn m c))) := by
  show StableHlo.after (List.flatten [hostOps0, hostOps0_1, hostOps0_2, hostOps0_3, hostOps0_4]) (fun b => m (c, b)) (Proc.tc.devRef main_v23) = _
  simp only [List.flatten_cons, List.flatten_nil, List.append_nil, List.cons_append, List.nil_append]
  entry_read
  simp only [StableHlo.TRef.ofBuf_toBuf]
  unfold rQ rE
  refine congrArg (fun z => shapeCast S96x10240 z _) ((eq_of_heq (cast_heq _ _)).trans (congrArg₂ minimumf (congrArg _ (eq_of_heq (cast_heq _ _)))
    (congrArg₂ maximumf (congrArg _ (eq_of_heq (cast_heq _ _))) ((eq_of_heq (cast_heq _ _)).trans (congrArg (mulf _) (congrArg _ (congrArg _
      (congrArg (Host.powf _) (congrArg Host.negf ((eq_of_heq (cast_heq _ _)).trans (congr (congr (congrArg select ?_) ?_) ?_)))))))))))
  · exact eq_of_heq (cast_heq _ _)
  · exact congrArg _ (eq_of_heq (cast_heq _ _))
  · exact eq_of_heq (cast_heq _ _)

set_option maxHeartbeats 1600000 in
theorem entry_s (c : Dev nD) : V m c main_v16 = rS (rE (rAmax (aIn m c))) := by
  show StableHlo.after (List.flatten [hostOps0, hostOps0_1, hostOps0_2, hostOps0_3, hostOps0_4]) (fun b => m (c, b)) (Proc.tc.devRef main_v16) = _
  simp only [List.flatten_cons, List.flatten_nil, List.append_nil, List.cons_append, List.nil_append]
  entry_read
  simp only [StableHlo.TRef.ofBuf_toBuf]
  unfold rS rE
  refine congrArg (Host.powf _) ((eq_of_heq (cast_heq _ _)).trans (congr (congr (congrArg select ?_) ?_) ?_))
  · exact eq_of_heq (cast_heq _ _)
  · exact congrArg _ (eq_of_heq (cast_heq _ _))
  · exact eq_of_heq (cast_heq _ _)

set_option maxHeartbeats 1600000 in
theorem tail_s (c : Dev nD) : Pipeline.afterTail₀ cfgs (dats m) 0 (V0 m) [hostOps1] c main_v16 = V m c main_v16 := by
  unfold Pipeline.afterTail₀
  simp only [List.flatten_cons, List.flatten_nil, List.append_nil]
  entry_read
  exact Pipeline.withArrays_of_ne _ c (V0 m c) _ main_v16 (by exact (by decide : ∀ w, Pipeline.arrRef spec0 w ≠ main_v16))

set_option maxHeartbeats 1600000 in
theorem tail_y (c : Dev nD) : Pipeline.afterTail₀ cfgs (dats m) 0 (V0 m) [hostOps1] c main_v39
    = rY ((dats m 0 c).arrAt 3 (cfgs 0).N) ((dats m 0 c).arrAt 4 (cfgs 0).N) (V m c main_v16) (m (c, Proc.tc.devRef main_arg2)) := by
  have h3 : Pipeline.withArrays (cfgs 0).spec c (V0 m c) (fun w => (dats m 0 c).arrAt w (cfgs 0).N) (Proc.tc.devRef main_v24_1) = (dats m 0 c).arrAt 3 (cfgs 0).N :=
    Pipeline.withArrays_arr spec0 (by decide) c (V0 m c) (fun w => (dats m 0 c).arrAt w (cfgs 0).N) 3
  have h4 : Pipeline.withArrays (cfgs 0).spec c (V0 m c) (fun w => (dats m 0 c).arrAt w (cfgs 0).N) (Proc.tc.devRef main_v24_2) = (dats m 0 c).arrAt 4 (cfgs 0).N :=
    Pipeline.withArrays_arr spec0 (by decide) c (V0 m c) (fun w => (dats m 0 c).arrAt w (cfgs 0).N) 4
  have hs : Pipeline.withArrays (cfgs 0).spec c (V0 m c) (fun w => (dats m 0 c).arrAt w (cfgs 0).N) (Proc.tc.devRef main_v16) = V m c main_v16 :=
    Pipeline.withArrays_of_ne _ c (V0 m c) _ main_v16 (by exact (by decide : ∀ w, Pipeline.arrRef spec0 w ≠ main_v16))
  have h2 : Pipeline.withArrays (cfgs 0).spec c (V0 m c) (fun w => (dats m 0 c).arrAt w (cfgs 0).N) (Proc.tc.devRef main_arg2) = m (c, Proc.tc.devRef main_arg2) :=
    (Pipeline.withArrays_of_ne _ c (V0 m c) _ main_arg2 (by exact (by decide : ∀ w, Pipeline.arrRef spec0 w ≠ main_arg2))).trans (V_main_arg2 m c)
  unfold Pipeline.afterTail₀
  simp only [List.flatten_cons, List.flatten_nil, List.append_nil]
  entry_read
  rw [h3, h4, hs, h2]
  rfl

end Cert.Proof.ReferenceIdeal

end
-- ==== Proof.RefArrays.lean ====
/- The arrays the reference's casting kernel leaves: the cast is the identity on the extended reals. -/
module

public import proofs.«01_k».proof.Proof.RefTerms
public import Idealize.ShloMosaic.Lib.Pipeline.ValueKit

@[expose] public section

set_option maxRecDepth 16384

noncomputable section

namespace Cert.Proof.ReferenceIdeal

open Idealize.ShloMosaic Idealize.ShloMosaic.TcCoe Cert.ReferenceIdeal Cert.ReferenceIdeal.Gen

variable (m : (ℓ : Loc nD τ sig) → Buf (Elt Ideal) ℓ) (ρ : Dev nD → PrngReg)

theorem read0 (x : FVec Ideal S96x10240 .f32) : ((cfg0.win 0).blk t0_0).view.read (Elt Ideal) x = x := by
  funext j
  show x (((cfg0.win 0).blk t0_0).view.emb j) = x j
  refine congrArg x (funext fun a => Fin.ext ?_)
  fin_cases a
  · show _ = (j 0).val
    blk_simp
    refine (congrArg (· * _ + _) (show win0_0.index t0_0 0 = 0 by decide +kernel)).trans ?_
    show 0 * _ + _ = _
    rw [Nat.zero_mul, Nat.zero_add]
    rfl
  · show _ = (j 1).val
    blk_simp
    refine (congrArg (· * _ + _) (show win0_0.index t0_0 1 = 0 by decide +kernel)).trans ?_
    show 0 * _ + _ = _
    rw [Nat.zero_mul, Nat.zero_add]
    rfl

theorem read1 (x : Vec Ideal S9088x10240 .fp8e4m3) : ((cfg0.win 1).blk t0_0).view.read (Elt Ideal) x = x := by
  funext j
  show x (((cfg0.win 1).blk t0_0).view.emb j) = x j
  refine congrArg x (funext fun a => Fin.ext ?_)
  fin_cases a
  · show _ = (j 0).val
    blk_simp
    refine (congrArg (· * _ + _) (show win0_1.index t0_0 0 = 0 by decide +kernel)).trans ?_
    show 0 * _ + _ = _
    rw [Nat.zero_mul, Nat.zero_add]
    rfl
  · show _ = (j 1).val
    blk_simp
    refine (congrArg (· * _ + _) (show win0_1.index t0_0 1 = 0 by decide +kernel)).trans ?_
    show 0 * _ + _ = _
    rw [Nat.zero_mul, Nat.zero_add]
    rfl

theorem arr2 (c : Dev nD) (x : FVec Ideal S96x10240 .f32) (hx : iblk m c 0 t0_0 = x) : (dats m 0 c).arrAt 2 (cfgs 0).N = k0_pay1 (F := Ideal) x := by
  refine (dats m 0 c).arrAt_eq_of_after_last 2 t0_0 (by decide +kernel) _ fun j => ?_
  blk_simp
  rw [after0_2, hx]
  generalize iblk m c 1 t0_0 = z
  frame_out

theorem arr3 (c : Dev nD) (x : FVec Ideal S96x10240 .f32) (hx : iblk m c 0 t0_0 = x) : (dats m 0 c).arrAt 3 (cfgs 0).N = k0_pay2 (F := Ideal) x := by
  refine (dats m 0 c).arrAt_eq_of_after_last 3 t0_0 (by decide +kernel) _ fun j => ?_
  blk_simp
  rw [after0_3, hx]
  generalize iblk m c 1 t0_0 = z
  frame_out

theorem arr4 (c : Dev nD) (x : Vec Ideal S9088x10240 .fp8e4m3) (hx : iblk m c 1 t0_0 = x) : (dats m 0 c).arrAt 4 (cfgs 0).N = k0_pay3 (F := Ideal) x := by
  refine (dats m 0 c).arrAt_eq_of_after_last 4 t0_0 (by decide +kernel) _ fun j => ?_
  blk_simp
  rw [after0_4, hx]
  generalize iblk m c 0 t0_0 = z
  frame_out

theorem iblk0 (c : Dev nD) : iblk m c 0 t0_0 = V m c main_v23 := read0 (V m c main_v23)

theorem iblk1 (c : Dev nD) : iblk m c 1 t0_0 = V m c main_arg1 := read1 (V m c main_arg1)

end Cert.Proof.ReferenceIdeal

end
-- ==== Proof.RefRun.lean ====
/- The reference's run with the values of its three results. -/
module

public import proofs.«01_k».proof.Proof.RefArrays

@[expose] public section

set_option maxRecDepth 16384

noncomputable section

namespace Cert.Proof.ReferenceIdeal

open Idealize.ShloMosaic Idealize.ShloMosaic.TcCoe Cert.ReferenceIdeal Cert.ReferenceIdeal.Gen

variable (m : (ℓ : Loc nD τ sig) → Buf (Elt Ideal) ℓ) (ρ : Dev nD → PrngReg)

/-- The scaled and clipped activations of a run. -/
abbrev qIn (c : Dev nD) : FVec Ideal S96x10240 .f32 := rQ (rX (aIn m c)) (rE (rAmax (aIn m c)))

theorem iblk_q (c : Dev nD) : iblk m c 0 t0_0 = qIn m c := (iblk0 m c).trans (entry_q m c)

theorem iblk_w (c : Dev nD) : iblk m c 1 t0_0 = m (c, Proc.tc.devRef main_arg1) := (iblk1 m c).trans (V_main_arg1 m c)

theorem v39_eq (c : Dev nD) : Pipeline.afterTail₀ cfgs (dats m) 0 (V0 m) [hostOps1] c main_v39
    = rY (k0_pay2 (F := Ideal) (qIn m c)) (k0_pay3 (F := Ideal) (m (c, Proc.tc.devRef main_arg1))) (rS (rE (rAmax (aIn m c)))) (m (c, Proc.tc.devRef main_arg2)) := by
  rw [tail_y, arr3 m c _ (iblk_q m c), arr4 m c _ (iblk_w m c), entry_s]

theorem run_values : θ_run (defs (F := Ideal)) (onTc (τ := τ) (main (F := Ideal))) ⟨m, fun _ => 0, ρ⟩ (fun r => ∀ c : Dev nD,
      r.2.mem ((c.tc : Thread nD τ).loc main_v39)
        = rY (k0_pay2 (F := Ideal) (qIn m c)) (k0_pay3 (F := Ideal) (m (c, Proc.tc.devRef main_arg1))) (rS (rE (rAmax (aIn m c)))) (m (c, Proc.tc.devRef main_arg2))
      ∧ r.2.mem ((c.tc : Thread nD τ).loc main_v24_0) = k0_pay1 (F := Ideal) (qIn m c)
      ∧ r.2.mem ((c.tc : Thread nD τ).loc main_v16) = rS (rE (rAmax (aIn m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_v39 (by decide)).trans (v39_eq m c),
      ((h c).1 2).trans (arr2 m c _ (iblk_q m c)),
      ((h c).2 main_v16 (by decide)).trans ((tail_s m c).trans (entry_s m c)),
      ((h c).2 main_arg0 (by decide)).trans (W_main_arg0 m (dats m) c),
      ((h c).1 1).trans (((dats m 0 c).arrAt_in 1 rfl _).trans ((A_eq m c 1).trans (V_main_arg1 m c))),
      ((h c).2 main_arg2 (by decide)).trans (W_main_arg2 m (dats m) c)⟩) (run_main m ρ)

end Cert.Proof.ReferenceIdeal

end
-- ==== Proof.Steps.lean ====
/- One step of a block, the fold of the steps and the output tile, element by element. -/
module

public import proofs.«01_k».proof.Proof.IdealBlock
public import Idealize.ShloMosaic.Lib.Pointwise

@[expose] public section

set_option maxRecDepth 16384

noncomputable section

namespace Cert.Proof.KernelIdeal

open Idealize.ShloMosaic Idealize.ShloMosaic.TcCoe Cert.KernelIdeal Cert.KernelIdeal.Gen Cert.Proof

theorem tileDot_at (a b : Vec Ideal S1x128x128 .fp8e4m3) (r : Vec Ideal S1x256x256 .fp8e4m3) (i : Fin 128) (l : Fin 256) :
    tileDot (F := Ideal) a b r (ix2 i l)
      = (∑ k : Fin 128, (show EReal from a (ix3 0 i k)) * (show EReal from r (ix3 0 ⟨k.val, by omega⟩ l)))
        + ∑ k : Fin 128, (show EReal from b (ix3 0 i k)) * (show EReal from r (ix3 0 ⟨128 + k.val, by omega⟩ l)) := by
  pointwise [tileDot]

theorem acc0_at (A : FVec Ideal S128x128 .f32) (pa pb : FVec Ideal S128x256 .f32) (s0 s1 : Vec Ideal S1x1x1x128 .f32) (i l : Fin 128) :
    acc0Step (F := Ideal) A pa pb s0 s1 (ix2 i l)
      = A (ix2 i l) + (pa (ix2 i ⟨l.val, by omega⟩) * (show EReal from s0 (ix4 0 0 0 l)) + pb (ix2 i ⟨l.val, by omega⟩) * (show EReal from s1 (ix4 0 0 0 l))) := by
  pointwise [acc0Step, rowScale]

theorem acc1_at (A : FVec Ideal S128x128 .f32) (pa pb : FVec Ideal S128x256 .f32) (s2 : Vec Ideal S1x1x1x128 .f32) (i l : Fin 128) :
    acc1Step (F := Ideal) A pa pb s2 (ix2 i l)
      = A (ix2 i l) + (pa (ix2 i ⟨128 + l.val, by omega⟩) + pb (ix2 i ⟨128 + l.val, by omega⟩)) * (show EReal from s2 (ix4 0 0 0 l)) := by
  pointwise [acc1Step, rowScale]

theorem outTile_at (A : FVec Ideal S128x128 .f32 × FVec Ideal S128x128 .f32) (t : Fin 96) (i : Fin 128) :
    outTile (F := Ideal) A (ix2 t i) = if h : t.val < 64 then A.1 (ix2 i ⟨t.val, by omega⟩) + A.2 (ix2 i ⟨t.val, by omega⟩) + A.2 (ix2 i ⟨64 + t.val, by omega⟩)
      else A.1 (ix2 i ⟨t.val, by omega⟩) + A.1 (ix2 i ⟨32 + t.val, by omega⟩) := by
  pointwise [outTile]
  have h := t.isLt
  split_ifs
  all_goals first
    | rfl
    | exact congrArg₂ _ (congrArg _ (congrArg _ (Fin.ext (by simp only []; omega)))) (congrArg _ (congrArg _ (Fin.ext (by simp only []; omega))))

/-- A fold whose every step adds to an element ends with the sum there. -/
theorem fold_sum {σ : Type} (f : σ → Fin 20 → σ) (p : σ → EReal) (c : Fin 20 → EReal) (h : ∀ A q, p (f A q) = p A + c q) (A : σ) :
    p (steps.foldl f A) = p A + ∑ q, c q := by
  have gen : ∀ (l : List (Fin 20)) (A : σ), p (l.foldl f A) = p A + (l.map c).sum := by
    intro l
    induction l with
    | nil => intro A; simp
    | cons q l ih => intro A; rw [List.foldl_cons, ih, h, List.map_cons, List.sum_cons, add_assoc]
  rw [gen, Fin.sum_univ_def]
  rfl

theorem accZero_at (i l : Fin 128) : (accZero (F := Ideal)).1 (ix2 i l) = 0 ∧ (accZero (F := Ideal)).2 (ix2 i l) = 0 := by
  constructor <;> pointwise [accZero]

end Cert.Proof.KernelIdeal

end
-- ==== Proof.Exponent.lean ====
/- The exponent of a group of activations: counted over a table of powers of two, or the floor of a logarithm. -/
module

public import Idealize.ShloMosaic.Lib.Pointwise
public import Mathlib.Analysis.SpecialFunctions.Log.Basic

@[expose] public section

set_option maxRecDepth 16384

noncomputable section

namespace Cert.Proof

open Idealize.ShloMosaic

/-- A word with exponent field `n` and nothing else. -/
theorem field_word : ∀ n : Fin 256, ((IntOp.shli ArithUnit.vector (BitVec.ofNat 32 n.val) 23#32).extractLsb' 31 1 == 1#1) = false
    ∧ ((IntOp.shli ArithUnit.vector (BitVec.ofNat 32 n.val) 23#32).extractLsb' 23 8).toNat = n.val
    ∧ ((IntOp.shli ArithUnit.vector (BitVec.ofNat 32 n.val) 23#32).extractLsb' 0 23).toNat = 0 := by decide +kernel

/-- It denotes a power of two. -/
theorem pow2_word (n : ℕ) (h1 : 1 ≤ n) (h2 : n ≤ 254) :
    Ideal.ofBits .f32 (IntOp.shli ArithUnit.vector (BitVec.ofNat 32 n) 23#32) = (((2 : ℝ) ^ ((n : ℤ) - 127) : ℝ) : EReal) := by
  obtain ⟨a, b, c⟩ := field_word ⟨n, by omega⟩
  dsimp only at a b c
  show Ideal.ieee 8 23 _ = _
  unfold Ideal.ieee
  simp only [Nat.reduceAdd] at *
  rw [b, c, a, if_neg (by omega), if_neg (by omega)]
  refine congrArg _ ?_
  rw [show ((n : ℤ) - 127) = ((n : ℤ) - (2 ^ (8 - 1) - 1) - (23 : ℕ)) + 23 by norm_num, zpow_add₀ (by norm_num)]
  rw [mul_comm]
  refine congrArg₂ _ rfl ?_
  norm_num

/-- The table's entry `k`. -/
theorem table_word (k : ℕ) (h : k < 254) :
    Ideal.ofBits .f32 (IntOp.shli ArithUnit.vector (IntOp.addi (BitVec.ofNat 32 k) 1#32) 23#32) = (((2 : ℝ) ^ ((k : ℤ) - 126) : ℝ) : EReal) := by
  have e : IntOp.addi (BitVec.ofNat 32 k) 1#32 = BitVec.ofNat 32 (k + 1) := by
    show BitVec.ofNat 32 k + 1#32 = _
    rw [BitVec.ofNat_add]
  rw [e, pow2_word (k + 1) (by omega) (by omega)]
  refine congrArg _ (congrArg _ ?_)
  push_cast
  ring

theorem bits_f32 (b : BitVec 32) : Ideal.ofBits .f32 b = Ideal.ieee 8 23 b := rfl

theorem table_top : Ideal.ofBits .f32 (IntOp.shli ArithUnit.vector (IntOp.addi (BitVec.ofNat 32 254) 1#32) 23#32) = ⊤ := by
  obtain ⟨a, b, c⟩ := field_word ⟨255, by omega⟩
  dsimp only at a b c
  rw [show IntOp.addi (BitVec.ofNat 32 254) 1#32 = BitVec.ofNat 32 255 from rfl]
  rw [bits_f32]
  unfold Ideal.ieee
  simp only [Nat.reduceAdd] at *
  rw [b, c, a]
  norm_num

/-- How many of the first 255 powers of two from 2⁻¹²⁶ up `v` reaches, less 126; 0 for zero. -/
def expWord (v : EReal) : BitVec 32 :=
  if v = 0 then 0#32
  else IntOp.subi (Finset.fold IntOp.addi (0#32) (fun x : Fin 256 => BitVec.setWidth 32 (IntOp.andi
      (BitVec.ofBool (decide (Ideal.ofBits FTy.f32 (IntOp.shli ArithUnit.vector (IntOp.addi (BitVec.ofNat 32 ↑x) 1#32) 23#32) ≤ v)))
      (IntOp.cmpi CmpIPredicate.slt (BitVec.ofNat 32 ↑x) 255#32))) Finset.univ) 126#32

/-- Counting the numbers below `n`. -/
theorem count_below : ∀ n : Fin 256, Finset.fold IntOp.addi (0#32) (fun x : Fin 256 => BitVec.setWidth 32 (IntOp.andi
      (BitVec.ofBool (decide (x.val < n.val))) (IntOp.cmpi CmpIPredicate.slt (BitVec.ofNat 32 ↑x) 255#32))) Finset.univ = BitVec.ofNat 32 n.val := by
  decide +kernel

/-- The floor of the base-two logarithm. -/
def flog (v : ℝ) : ℤ := ⌊Real.log v / Real.log 2⌋

theorem zpow_le_iff {v : ℝ} (hp : 0 < v) (k : ℤ) : (2 : ℝ) ^ k ≤ v ↔ k ≤ flog v := by
  unfold flog
  rw [Int.le_floor, le_div_iff₀ (Real.log_pos (by norm_num)), ← Real.log_zpow, Real.log_le_log_iff (by positivity) hp]

theorem expWord_eq (v : ℝ) (h0 : (2 : ℝ) ^ (-127 : ℤ) ≤ v) (h1 : v < (2 : ℝ) ^ (120 : ℤ)) :
    expWord (v : EReal) = BitVec.ofInt 32 (flog v + 1) ∧ -127 ≤ flog v ∧ flog v < 120 := by
  have hp : 0 < v := lt_of_lt_of_le (by positivity) h0
  have hge : -127 ≤ flog v := (zpow_le_iff hp _).mp h0
  have hlt : flog v < 120 := by
    by_contra h
    exact absurd ((zpow_le_iff hp 120).mpr (by omega)) (not_le.mpr h1)
  refine ⟨?_, hge, hlt⟩
  obtain ⟨n, hn⟩ : ∃ n : ℕ, flog v + 127 = n := ⟨(flog v + 127).toNat, by omega⟩
  have hn1 : n < 256 := by omega
  unfold expWord
  rw [if_neg (by exact_mod_cast hp.ne')]
  have key : ∀ x : Fin 256, (Ideal.ofBits FTy.f32 (IntOp.shli ArithUnit.vector (IntOp.addi (BitVec.ofNat 32 ↑x) 1#32) 23#32) ≤ (v : EReal)
      ∧ x.val < 255) ↔ x.val < n := by
    intro x
    rcases Nat.lt_or_ge x.val 254 with h | h
    · rw [table_word _ h, EReal.coe_le_coe_iff]
      rw [zpow_le_iff hp]; omega
    · have hx : x.val = 254 ∨ x.val = 255 := by omega
      rcases hx with hx | hx
      · rw [hx, table_top]
        constructor
        · rintro ⟨h, _⟩; exact absurd (top_le_iff.mp h) (EReal.coe_ne_top v)
        · intro h; omega
      · rw [hx]; omega
  have hf : ∀ x : Fin 256, BitVec.setWidth 32 (IntOp.andi
      (BitVec.ofBool (decide (Ideal.ofBits FTy.f32 (IntOp.shli ArithUnit.vector (IntOp.addi (BitVec.ofNat 32 ↑x) 1#32) 23#32) ≤ (v : EReal))))
      (IntOp.cmpi CmpIPredicate.slt (BitVec.ofNat 32 ↑x) 255#32))
      = BitVec.setWidth 32 (IntOp.andi (BitVec.ofBool (decide (x.val < n))) (IntOp.cmpi CmpIPredicate.slt (BitVec.ofNat 32 ↑x) 255#32)) := by
    intro x
    rcases Nat.lt_or_ge x.val 255 with h | h
    · have : (Ideal.ofBits FTy.f32 (IntOp.shli ArithUnit.vector (IntOp.addi (BitVec.ofNat 32 ↑x) 1#32) 23#32) ≤ (v : EReal)) ↔ x.val < n :=
        ⟨fun h' => (key x).mp ⟨h', h⟩, fun h' => ((key x).mpr h').1⟩
      rw [decide_eq_decide.mpr this]
    · have hx : x.val = 255 := by omega
      rw [hx]
      have hz : IntOp.cmpi CmpIPredicate.slt (BitVec.ofNat 32 255) 255#32 = 0#1 := by decide
      rw [hz]
      have : ∀ b : BitVec 1, IntOp.andi b 0#1 = 0#1 := by decide
      rw [this, this]
  simp only [hf]
  rw [count_below ⟨n, hn1⟩]
  show BitVec.ofNat 32 n - 126#32 = _
  have : flog v + 1 = (n : ℤ) - 126 := by omega
  rw [this]
  rw [show (126#32 : BitVec 32) = BitVec.ofInt 32 126 from rfl, show BitVec.ofNat 32 n = BitVec.ofInt 32 n from rfl, BitVec.sub_eq_add_neg,
    ← BitVec.ofInt_neg, ← BitVec.ofInt_add, sub_eq_add_neg]

/-- A power of two by its exponent's word. -/
theorem scale_word (e : ℤ) (h : -126 ≤ e) (h' : e ≤ 127) :
    Ideal.ofBits .f32 (IntOp.shli ArithUnit.vector (IntOp.addi (BitVec.ofInt 32 e) 127#32) 23#32) = (((2 : ℝ) ^ e : ℝ) : EReal) := by
  obtain ⟨n, hn⟩ : ∃ n : ℕ, e + 127 = n := ⟨(e + 127).toNat, by omega⟩
  have : IntOp.addi (BitVec.ofInt 32 e) 127#32 = BitVec.ofNat 32 n := by
    show BitVec.ofInt 32 e + 127#32 = _
    rw [show (127#32 : BitVec 32) = BitVec.ofInt 32 127 from rfl, ← BitVec.ofInt_add, hn]
    rfl
  rw [this, pow2_word n (by omega) (by omega)]
  refine congrArg _ (congrArg _ ?_)
  omega

theorem inv_word (e : ℤ) (h : -127 ≤ e) (h' : e ≤ 126) :
    Ideal.ofBits .f32 (IntOp.shli ArithUnit.vector (IntOp.addi (IntOp.subi 0#32 (BitVec.ofInt 32 e)) 127#32) 23#32) = (((2 : ℝ) ^ (-e) : ℝ) : EReal) := by
  have : IntOp.subi 0#32 (BitVec.ofInt 32 e) = BitVec.ofInt 32 (-e) := by
    show 0#32 - BitVec.ofInt 32 e = _
    rw [BitVec.ofInt_neg, BitVec.zero_sub]
  rw [this, scale_word (-e) (by omega) (by omega)]

end Cert.Proof

end
-- ==== Proof.Codes.lean ====
/- The quantised tile of a group, its scales and the eight tiles of right-hand sides made of it, element by element. -/
module

public import proofs.«01_k».proof.Proof.Exponent
public import proofs.«01_k».proof.Proof.IdealBetween

@[expose] public section

set_option maxRecDepth 16384

noncomputable section

namespace Cert.Proof.KernelIdeal

open Idealize.ShloMosaic Idealize.ShloMosaic.TcCoe Cert.KernelIdeal Cert.KernelIdeal.Gen Cert.Proof

/-- The largest magnitude of 128 values. -/
def amaxOf (f : Fin 128 → EReal) : EReal :=
  Finset.fold max (Ideal.ofBits FTy.bf16 65408#16) (fun x => FloatOps.absf (F := Ideal) (φ := .bf16) (f x)) Finset.univ

/-- The constant 1/448 as rounded. -/
abbrev c448 : EReal := Ideal.ofBits FTy.f32 991054117#32

/-- The exponent's word of token `t` of a tile. -/
def tileWord (v : Vec Ideal S128x128 .bf16) (t : Fin 128) : BitVec 32 := expWord (amaxOf (fun k => v (ix2 t k)) * c448)

/-- The code of token `t`, element `k` of a tile. -/
def tileCode (v : Vec Ideal S128x128 .bf16) (k t : Fin 128) : EReal :=
  min (Ideal.ofBits FTy.f32 1138753536#32) (max (Ideal.ofBits FTy.f32 3286237184#32)
    ((show EReal from v (ix2 t k)) * Ideal.ofBits FTy.f32 (IntOp.shli ArithUnit.vector (IntOp.addi (IntOp.subi (0#32) (tileWord v t)) 127#32) 23#32)))

theorem pay3_at (v : Vec Ideal S128x128 .bf16) (t : Fin 128) : k0_pay3 (F := Ideal) v (ix2 0 t) = tileWord v t := by
  pointwise [k0_pay3, k0_pay2, tileWord, expWord, amaxOf]

theorem pay5_at (v : Vec Ideal S128x128 .bf16) (k t : Fin 128) :
    k0_pay5 (F := Ideal) (k0_pay2 v) (k0_pay3 v) (ix2 k t) = tileCode v k t := by
  pointwise [k0_pay5, tileCode, pay3_at, k0_pay2]

theorem scRow_at (v : Vec Ideal S128x128 .bf16) (t : Fin 128) : scRow (F := Ideal) v (ix2 0 t)
    = Ideal.ofBits FTy.f32 (IntOp.shli ArithUnit.vector (IntOp.addi (tileWord v t) 127#32) 23#32) := by
  unfold scRow
  pointwise [k0_pay4, pay3_at]

theorem codeTile_at (v : Vec Ideal S128x128 .bf16) (t : Fin 96) (k : Fin 128) :
    codeTile (F := Ideal) v (ix2 t k) = tileCode v k ⟨t.val, by omega⟩ := by
  unfold codeTile
  pointwise [k0_pay6, pay5_at]

theorem pay23_eq (v : Vec Ideal S128x128 .bf16) : k0_pay23 (k0_pay19 v) (k0_pay22 v) 23#32 = k0_pay5 (k0_pay2 v) (k0_pay3 (F := Ideal) v) := rfl
theorem pay14_eq (v : Vec Ideal S128x128 .bf16) : k0_pay14 (k0_pay13 (k0_pay9 v) (k0_pay10 v)) = k0_pay5 (k0_pay2 v) (k0_pay3 (F := Ideal) v) := rfl
theorem pay548_eq (v : Vec Ideal S128x128 .bf16) : k0_pay548 (k0_pay29 v) (k0_pay30 v) = k0_pay5 (k0_pay2 v) (k0_pay3 (F := Ideal) v) := rfl

theorem slt_iff : ∀ a b : Fin 128, IntOp.cmpi CmpIPredicate.slt (BitVec.ofNat 32 a.val) (BitVec.ofNat 32 b.val) = BitVec.ofBool (decide (a.val < b.val)) := by
  decide +kernel
theorem sge_iff : ∀ a b : Fin 128, IntOp.cmpi CmpIPredicate.sge (BitVec.ofNat 32 a.val) (BitVec.ofNat 32 b.val) = BitVec.ofBool (decide (b.val ≤ a.val)) := by
  decide +kernel

theorem select_bool {α : Type} (p : Prop) [Decidable p] (x y : α) : Scalar.select (BitVec.ofBool (decide p)) x y = if p then x else y := by
  by_cases h : p <;> simp [h, Scalar.select]

theorem select_slt {α : Type} (a b : Fin 128) (x y : α) :
    Scalar.select (IntOp.cmpi CmpIPredicate.slt (BitVec.ofNat 32 a.val) (BitVec.ofNat 32 b.val)) x y = if a.val < b.val then x else y := by
  rw [slt_iff, select_bool]

theorem select_sge {α : Type} (a b : Fin 128) (x y : α) :
    Scalar.select (IntOp.cmpi CmpIPredicate.sge (BitVec.ofNat 32 a.val) (BitVec.ofNat 32 b.val)) x y = if b.val ≤ a.val then x else y := by
  rw [sge_iff, select_bool]

theorem fp8_zero : Ideal.ofBits FTy.fp8e4m3 0#8 = 0 := by simp [Ideal.ofBits, Ideal.e4m3fn]

theorem zero_word : (((0#32 : BitVec 32).toInt : ℝ) : EReal) = 0 := by simp

variable (v : Vec Ideal S128x128 .bf16) (k l : Fin 128)

theorem quad00 : quadTile (F := Ideal) lane (k0_pay540 (F := Ideal)) 0 0 v (ix3 0 k l) = tileCode v k l := by
  show k0_pay7 (F := Ideal) _ _ _ = _
  pointwise [k0_pay7, pay5_at]

theorem quad01 : quadTile (F := Ideal) lane (k0_pay540 (F := Ideal)) 0 1 v (ix3 0 k l) = 0 := by
  unfold quadTile
  pointwise [k0_pay8, k0_pay540, fp8_zero]

theorem quad10 : quadTile (F := Ideal) lane (k0_pay540 (F := Ideal)) 1 0 v (ix3 0 k l)
    = if h : 96 ≤ l.val then tileCode v k ⟨l.val - 32, by omega⟩ else 0 := by
  show k0_pay17 (F := Ideal) _ _ _ = _
  pointwise [k0_pay17, k0_pay16, pay14_eq, pay5_at]
  refine (select_sge l ⟨96, by omega⟩ _ _).trans ?_
  rw [zero_word]
  by_cases h : 96 ≤ l.val
  · rw [if_pos h, dif_pos h]
    refine congrArg (tileCode v k) (Fin.ext ?_)
    show (l.val + 128 - 32) % 128 = l.val - 32
    omega
  · rw [if_neg h, dif_neg h]

theorem quad11 : quadTile (F := Ideal) lane (k0_pay540 (F := Ideal)) 1 1 v (ix3 0 k l)
    = if l.val < 64 then tileCode v k l else 0 := by
  show k0_pay18 (F := Ideal) _ _ _ = _
  pointwise [k0_pay18, k0_pay16, pay14_eq, pay5_at]
  refine (select_slt l ⟨64, by omega⟩ _ _).trans ?_
  rw [zero_word]

theorem quad20 : quadTile (F := Ideal) lane (k0_pay540 (F := Ideal)) 2 0 v (ix3 0 k l)
    = if h : 96 ≤ l.val then tileCode v k ⟨l.val - 32, by omega⟩ else 0 := by
  show k0_pay27 (F := Ideal) _ _ _ _ _ = _
  pointwise [k0_pay27, k0_pay25, pay23_eq, pay5_at]
  refine (select_sge l ⟨96, by omega⟩ _ _).trans ?_
  rw [zero_word]
  by_cases h : 96 ≤ l.val
  · rw [if_pos h, dif_pos h]
    refine congrArg (tileCode v k) (Fin.ext ?_)
    show (l.val + 128 - 32) % 128 = l.val - 32
    omega
  · rw [if_neg h, dif_neg h]

theorem quad21 : quadTile (F := Ideal) lane (k0_pay540 (F := Ideal)) 2 1 v (ix3 0 k l)
    = if h : 64 ≤ l.val then tileCode v k ⟨l.val - 64, by omega⟩ else 0 := by
  unfold quadTile
  pointwise [k0_pay28, k0_pay26, k0_pay25, pay23_eq, pay5_at]
  refine (select_sge l ⟨64, by omega⟩ _ _).trans ?_
  rw [zero_word]
  by_cases h : 64 ≤ l.val
  · rw [if_pos h, dif_pos h]
    refine congrArg (tileCode v k) (Fin.ext ?_)
    show (l.val + 128 - 64) % 128 = l.val - 64
    omega
  · rw [if_neg h, dif_neg h]

theorem quad30 : quadTile (F := Ideal) lane (k0_pay540 (F := Ideal)) 3 0 v (ix3 0 k l) = tileCode v k l := by
  show k0_pay550 (F := Ideal) _ _ _ = _
  pointwise [k0_pay550, pay548_eq, pay5_at]

theorem quad31 : quadTile (F := Ideal) lane (k0_pay540 (F := Ideal)) 3 1 v (ix3 0 k l) = 0 := by
  unfold quadTile
  pointwise [k0_pay551, k0_pay540, fp8_zero]

end Cert.Proof.KernelIdeal

end
-- ==== Proof.Groups.lean ====
/- The tables the blocks read, element by element: the four quadrants of a step's right operand, the weights of a tile and
   the scale rows, each in terms of the codes and the scales of the eighty groups. -/
module

public import proofs.«01_k».proof.Proof.Steps
public import proofs.«01_k».proof.Proof.Codes

@[expose] public section

set_option maxRecDepth 16384

noncomputable section

namespace Cert.Proof.KernelIdeal

open Idealize.ShloMosaic Idealize.ShloMosaic.TcCoe Cert.KernelIdeal Cert.KernelIdeal.Gen Cert.Proof

/-- An element of the two right operands lies in one quadrant: group `q + 20 (J + r)`, half `s` of the lanes. -/
theorem rFull_at (XV : Vec Ideal S128x10240 .bf16) (v : IVec S128x128 32) (z : FVec Ideal S128x128 .fp8e4m3) (J : ℕ) (hJ : J ≤ 2)
    (q : Fin 20) (r s : Fin 2) (k l : Fin 128) (y : S20x256x256.Idx) (h0 : (y 0).val = q.val) (h1 : (y 1).val = 128 * r.val + k.val)
    (h2 : (y 2).val = 128 * s.val + l.val) :
    rFull XV v z J hJ y = quadTile v z ⟨J + r.val, by omega⟩ s (xtile XV (q.val + 20 * (J + r.val)) (by omega)) (ix3 0 k l) := by
  have gen : ∀ (a b g k' l' : ℕ) (ha : a < 4) (hb : b < 2) (hg : g < 80) (hk : k' < 128) (hl : l' < 128),
      a = J + r.val → b = s.val → g = q.val + 20 * (J + r.val) → k' = k.val → l' = l.val →
      quadTile v z ⟨a, ha⟩ ⟨b, hb⟩ (xtile XV g hg) (Fin.cons ⟨0, by decide⟩ (Fin.cons ⟨k', hk⟩ (Fin.cons ⟨l', hl⟩ finZeroElim)))
        = quadTile v z ⟨J + r.val, by omega⟩ s (xtile XV (q.val + 20 * (J + r.val)) (by omega)) (ix3 0 k l) := by
    intro a b g k' l' ha hb hg hk hl e1 e2 e3 e4 e5
    subst e1 e2 e3 e4 e5
    refine congrArg _ (funext fun i => ?_)
    fin_cases i <;> rfl
  unfold rFull
  exact gen _ _ _ _ _ _ _ _ _ _ (by omega) (by omega) (by omega) (by omega) (by omega)

theorem rhs_at (XV : Vec Ideal S128x10240 .bf16) (v : IVec S128x128 32) (z : FVec Ideal S128x128 .fp8e4m3) (J : ℕ) (hJ : J ≤ 2)
    (q : Fin 20) (r s : Fin 2) (k l : Fin 128) (k' l' : Fin 256) (hk : k'.val = 128 * r.val + k.val) (hl : l'.val = 128 * s.val + l.val) :
    rhsTile (rFull XV v z J hJ) q (ix3 0 k' l')
      = quadTile v z ⟨J + r.val, by omega⟩ s (xtile XV (q.val + 20 * (J + r.val)) (by omega)) (ix3 0 k l) := by
  refine rFull_at XV v z J hJ q r s k l _ ?_ ?_ ?_
  · show q.val + 0 = q.val; rfl
  · show 0 + 1 * k'.val = _; omega
  · show 0 + 1 * l'.val = _; omega

theorem wTile_at (Wt : Vec Ideal S9088x10240 .fp8e4m3) (b : ℕ) (h : b < 71) (q : Fin 20) (j : Fin 4) (i k : Fin 128) :
    wTile (wL Wt b h) q j (ix3 0 i k) = Wt (ix2 ⟨128 * b + i.val, by omega⟩ ⟨128 * (q.val + 20 * j.val) + k.val, by omega⟩) := by
  pointwise [wTile, wL, wBlk]
  refine congrArg Wt (congrArg (ix2 _) (Fin.ext ?_))
  simp only []
  omega

/-- The scale rows of a block: a product of a weight scale and a row of the activations' table. -/
theorem row0_at (wr : Vec Ideal S1x128 .f32) (XS : Vec Ideal S3x24x128 .f32) (q : Fin 20) (l : Fin 128) :
    (show EReal from scaleRow (k0_pay35 lane24 wr (xsPlane XS 0)) q (ix4 0 0 0 l))
      = (show EReal from XS (ix3 0 ⟨q.val, by omega⟩ l)) * (if l.val < 96 then wr (ix2 0 ⟨q.val, by omega⟩) else wr (ix2 0 ⟨32 + q.val, by omega⟩)) := by
  pointwise [scaleRow, k0_pay35, k0_pay32, k0_pay33, xsPlane]
  exact congrArg _ (select_slt l ⟨96, by omega⟩ _ _)

theorem row1_at (wr : Vec Ideal S1x128 .f32) (XS : Vec Ideal S3x24x128 .f32) (q : Fin 20) (l : Fin 128) :
    (show EReal from scaleRow (k0_pay36 lane24 wr (xsPlane XS 1)) q (ix4 0 0 0 l))
      = (show EReal from XS (ix3 1 ⟨q.val, by omega⟩ l)) * (if l.val < 96 then wr (ix2 0 ⟨96 + q.val, by omega⟩) else wr (ix2 0 ⟨64 + q.val, by omega⟩)) := by
  pointwise [scaleRow, k0_pay36, k0_pay32, k0_pay34, xsPlane]
  exact congrArg _ (select_slt l ⟨96, by omega⟩ _ _)

theorem row2_at (wr : Vec Ideal S1x128 .f32) (XS : Vec Ideal S3x24x128 .f32) (q : Fin 20) (l : Fin 128) :
    (show EReal from scaleRow (k0_pay37 lane24 (k0_pay33 wr) (k0_pay34 wr) (xsPlane XS 2)) q (ix4 0 0 0 l))
      = (show EReal from XS (ix3 2 ⟨q.val, by omega⟩ l)) * (if l.val < 64 then wr (ix2 0 ⟨32 + q.val, by omega⟩) else wr (ix2 0 ⟨64 + q.val, by omega⟩)) := by
  pointwise [scaleRow, k0_pay37, k0_pay32, k0_pay33, k0_pay34, xsPlane]
  exact congrArg _ (select_slt l ⟨64, by omega⟩ _ _)

theorem xs0_at (T : Vec Ideal S128x128 .f32) (q : Fin 24) (l : Fin 128) :
    xsTab T (ix3 0 q l) = if h : l.val < 96 then T (ix2 ⟨q.val, by omega⟩ l) else T (ix2 ⟨32 + q.val, by omega⟩ ⟨l.val - 32, by omega⟩) := by
  show k0_pay557 (F := Ideal) (rows0 T) (rows1 T) (ix3 0 q l) = _
  pointwise [k0_pay557, rows0, rows1]
  refine (select_slt l ⟨96, by omega⟩ _ _).trans ?_
  by_cases h : l.val < 96
  · rw [if_pos h, dif_pos h]
  · rw [if_neg h, dif_neg h]
    refine congrArg T (congrArg (ix2 _) (Fin.ext ?_))
    show (l.val + 128 - 32) % 128 = l.val - 32
    omega

theorem xs1_at (T : Vec Ideal S128x128 .f32) (q : Fin 24) (l : Fin 128) :
    xsTab T (ix3 1 q l) = if h : l.val < 96 then T (ix2 ⟨96 + q.val, by omega⟩ l) else T (ix2 ⟨64 + q.val, by omega⟩ ⟨l.val - 32, by omega⟩) := by
  show k0_pay558 (F := Ideal) (rows2 T) (rows3 T) (ix3 0 q l) = _
  pointwise [k0_pay558, rows2, rows3]
  refine (select_slt l ⟨96, by omega⟩ _ _).trans ?_
  by_cases h : l.val < 96
  · rw [if_pos h, dif_pos h]
  · rw [if_neg h, dif_neg h]
    refine congrArg T (congrArg (ix2 _) (Fin.ext ?_))
    show (l.val + 128 - 32) % 128 = l.val - 32
    omega

theorem xs2_at (T : Vec Ideal S128x128 .f32) (q : Fin 24) (l : Fin 128) :
    xsTab T (ix3 2 q l) = if h : l.val < 64 then T (ix2 ⟨32 + q.val, by omega⟩ l) else T (ix2 ⟨64 + q.val, by omega⟩ ⟨l.val - 64, by omega⟩) := by
  show k0_pay559 (F := Ideal) (rows1 T) (rows2 T) (ix3 0 q l) = _
  pointwise [k0_pay559, rows1, rows2]
  refine (select_slt l ⟨64, by omega⟩ _ _).trans ?_
  by_cases h : l.val < 64
  · rw [if_pos h, dif_pos h]
  · rw [if_neg h, dif_neg h]
    refine congrArg T (congrArg (ix2 _) (Fin.ext ?_))
    show (l.val + 128 - 64) % 128 = l.val - 64
    omega

/-- The weight scales' table holds group `q + 20 j` of a block in lane `32 j + q`. -/
theorem put_at (X : Vec Ideal S72x128 .f32) (o : ℕ) (inb : ∀ a, (![0, o] : Fin 2 → ℕ) a + S71x20.size a ≤ S72x128.size a) (v : FVec Ideal S71x20 .f32) (b : Fin 72) (l : Fin 128) :
    put X ![0, o] S71x20.size inb v (ix2 b l)
      = if h : b.val < 71 ∧ o ≤ l.val ∧ l.val < o + 20 then v (ix2 ⟨b.val, h.1⟩ ⟨l.val - o, by omega⟩) else X (ix2 b l) := by
  unfold put
  split
  · rename_i hw
    have h0 := hw 0
    have h1 := hw 1
    have h : b.val < 71 ∧ o ≤ l.val ∧ l.val < o + 20 := ⟨by have : b.val < 0 + 71 := h0.2; omega, h1.1, h1.2⟩
    rw [dif_pos h]
    refine congrArg v (funext fun a => Fin.ext ?_)
    fin_cases a <;> rfl
  · rename_i hw
    rw [dif_neg]
    intro h
    apply hw
    intro a
    fin_cases a
    · exact ⟨Nat.zero_le _, by show b.val < 0 + 71; omega⟩
    · exact ⟨h.2.1, h.2.2⟩

theorem wsp_at (W2 : Vec Ideal S71x80 .f32) (b : Fin 71) (j : Fin 4) (q : Fin 20) (l : Fin 128) (hl : l.val = 32 * j.val + q.val) (b' : Fin 72)
    (hb : b'.val = b.val) : wspFull W2 (ix2 b' l) = W2 (ix2 b ⟨q.val + 20 * j.val, by omega⟩) := by
  unfold wspFull
  rw [put_at, put_at, put_at, put_at]
  have hj : j.val = 0 ∨ j.val = 1 ∨ j.val = 2 ∨ j.val = 3 := by omega
  have hb1 := b.isLt
  rcases hj with hj | hj | hj | hj
  · rw [dif_neg (by omega), dif_neg (by omega), dif_neg (by omega), dif_pos (by omega)]
    pointwise [k0_pay544]
    exact congrArg W2 (congrArg₂ ix2 (Fin.ext hb) (Fin.ext (by simp only []; omega)))
  · rw [dif_neg (by omega), dif_neg (by omega), dif_pos (by omega)]
    pointwise [k0_pay545]
    exact congrArg W2 (congrArg₂ ix2 (Fin.ext hb) (Fin.ext (by simp only []; omega)))
  · rw [dif_neg (by omega), dif_pos (by omega)]
    pointwise [k0_pay546]
    exact congrArg W2 (congrArg₂ ix2 (Fin.ext hb) (Fin.ext (by simp only []; omega)))
  · rw [dif_pos (by omega)]
    pointwise [k0_pay547]
    exact congrArg W2 (congrArg₂ ix2 (Fin.ext hb) (Fin.ext (by simp only []; omega)))

/-- The scale a group of a token carries. -/
def gscale (X : Vec Ideal S96x10240 .bf16) (g : ℕ) (hg : g < 80) (t : Fin 128) : EReal :=
  Ideal.ofBits FTy.f32 (IntOp.shli ArithUnit.vector (IntOp.addi (tileWord (xtile (xvFull X) g hg) t) 127#32) 23#32)

/-- The code of an element of a group. -/
def gcode (X : Vec Ideal S96x10240 .bf16) (g : ℕ) (hg : g < 80) (k t : Fin 128) : EReal := tileCode (xtile (xvFull X) g hg) k t

theorem scAll_at (X : Vec Ideal S96x10240 .bf16) (j : Fin 4) (q : Fin 20) (t r : Fin 128) (hr : r.val = 32 * j.val + q.val) :
    scAll X (ix2 r t) = gscale X (q.val + 20 * j.val) (by omega) t := by
  have gen : ∀ (g : ℕ) (hg : g < 80), g = q.val + 20 * j.val →
      scRow (xtile (xvFull X) g hg) (Fin.cons ⟨0, by decide⟩ (Fin.cons t finZeroElim)) = gscale X (q.val + 20 * j.val) (by omega) t := by
    intro g hg e
    subst e
    exact scRow_at _ t
  have hq : r.val % 32 < 20 := by omega
  unfold scAll scFull
  refine (dif_pos hq).trans (gen _ _ ?_)
  show r.val % 32 + 20 * (r.val / 32) = _
  omega

theorem cdAll_at (X : Vec Ideal S96x10240 .bf16) (t : Fin 96) (g : Fin 80) (k : Fin 128) (y : Fin 10240) (hy : y.val = 128 * g.val + k.val) :
    cdAll X (ix2 t y) = gcode X g.val g.isLt k ⟨t.val, by omega⟩ := by
  have gen : ∀ (g' k' : ℕ) (hg : g' < 80) (hk : k' < 128), g' = g.val → k' = k.val →
      codeTile (xtile (xvFull X) g' hg) (Fin.cons t (Fin.cons ⟨k', hk⟩ finZeroElim)) = gcode X g.val g.isLt k ⟨t.val, by omega⟩ := by
    intro g' k' hg hk e1 e2
    subst e1 e2
    exact codeTile_at _ t k
  unfold cdAll cdFull
  refine gen _ _ _ _ ?_ ?_
  · show y.val / 128 = _; omega
  · show y.val % 128 = _; omega

theorem xsOut_at (T : Vec Ideal S128x128 .f32) (t : Fin 96) (j : Fin 4) (q : Fin 20) (g : Fin 80) (hg : g.val = q.val + 20 * j.val) :
    xsOut T (ix2 t g) = T (ix2 ⟨32 * j.val + q.val, by omega⟩ ⟨t.val, by omega⟩) := by
  have e1 : g.val / 20 = j.val := by omega
  have e2 : g.val % 20 = q.val := by omega
  have gen : ∀ (a c : ℕ) (hc : c < 20), a = j.val → c = q.val →
      (if a = 0 then k0_pay553 T else if a = 1 then k0_pay554 T else if a = 2 then k0_pay555 T else k0_pay556 T)
        (Fin.cons t (Fin.cons ⟨c, hc⟩ finZeroElim)) = T (ix2 ⟨32 * j.val + q.val, by omega⟩ ⟨t.val, by omega⟩) := by
    intro a c hc ea ec
    subst ea ec
    have hi : ∀ (f : S96x20.Idx → EReal), f (Fin.cons t (Fin.cons ⟨q.val, hc⟩ finZeroElim)) = f (ix2 t q) := by
      intro f
      refine congrArg f (funext fun i => ?_)
      fin_cases i <;> rfl
    fin_cases j
    · refine (congrFun (if_pos rfl) _).trans ?_
      refine (hi (k0_pay553 (F := Ideal) T)).trans ?_
      pointwise [k0_pay553, k0_pay552]
    · refine (congrFun ((if_neg (by decide)).trans (if_pos rfl)) _).trans ?_
      refine (hi (k0_pay554 (F := Ideal) T)).trans ?_
      pointwise [k0_pay554, k0_pay552]
    · refine (congrFun ((if_neg (by decide)).trans ((if_neg (by decide)).trans (if_pos rfl))) _).trans ?_
      refine (hi (k0_pay555 (F := Ideal) T)).trans ?_
      pointwise [k0_pay555, k0_pay552]
    · refine (congrFun ((if_neg (by decide)).trans ((if_neg (by decide)).trans (if_neg (by decide)))) _).trans ?_
      refine (hi (k0_pay556 (F := Ideal) T)).trans ?_
      pointwise [k0_pay556, k0_pay552]
  exact gen _ _ _ e1 e2

end Cert.Proof.KernelIdeal

end
-- ==== Proof.Sums.lean ====
/- The product the kernel computes: every element of the first result is the sum, over the eighty groups, of the group's
   dot product with the codes times its two scales. -/
module

public import proofs.«01_k».proof.Proof.Groups
public import proofs.«01_k».proof.Proof.IdealBody

@[expose] public section

set_option maxRecDepth 16384

noncomputable section

namespace Cert.Proof.KernelIdeal

open Idealize.ShloMosaic Idealize.ShloMosaic.TcCoe Cert.KernelIdeal Cert.KernelIdeal.Gen Cert.Proof

/-- The tokens past the ninety-sixth are zero. -/
theorem xtile_at (X : Vec Ideal S96x10240 .bf16) (g : ℕ) (hg : g < 80) (t k : Fin 128) :
    (show EReal from xtile (xvFull X) g hg (ix2 t k)) = if h : t.val < 96 then X (ix2 ⟨t.val, h⟩ ⟨128 * g + k.val, by omega⟩) else 0 := by
  pointwise [xtile]
  unfold xvFull
  by_cases h : t.val < 96
  · rw [dif_pos h]
    refine (dif_pos h).trans (congrArg X (funext fun a => ?_))
    fin_cases a <;> rfl
  · rw [dif_neg h]
    refine (dif_neg h).trans ?_
    show k0_pay541 (F := Ideal) _ = _
    unfold k0_pay541
    show Ideal.ofBits FTy.bf16 0#16 = 0
    simp [Ideal.ofBits, Ideal.ieee]

theorem clip_zero (s : EReal) : min (Ideal.ofBits FTy.f32 1138753536#32) (max (Ideal.ofBits FTy.f32 3286237184#32) (0 * s)) = 0 := by
  rw [zero_mul, show Ideal.ofBits FTy.f32 1138753536#32 = ((448 : ℝ) : EReal) by simp [Ideal.ofBits, Ideal.ieee]; rw [← EReal.coe_mul]; norm_num,
    show Ideal.ofBits FTy.f32 3286237184#32 = ((-448 : ℝ) : EReal) by simp [Ideal.ofBits, Ideal.ieee]; rw [← EReal.coe_mul]; norm_num]
  rw [max_eq_right, min_eq_right]
  · exact_mod_cast (by norm_num : (0 : ℝ) ≤ 448)
  · exact_mod_cast (by norm_num : (-448 : ℝ) ≤ 0)

theorem gcode_pad (X : Vec Ideal S96x10240 .bf16) (g : ℕ) (hg : g < 80) (k t : Fin 128) (h : ¬t.val < 96) : gcode X g hg k t = 0 := by
  unfold gcode tileCode
  rw [xtile_at, dif_neg h, clip_zero]

section
variable (Wt : Vec Ideal S9088x10240 .fp8e4m3) (W2 : Vec Ideal S71x80 .f32) (X : Vec Ideal S96x10240 .bf16) (b : Fin 71) (i : Fin 128)

/-- Group `q + 20 j`. -/
def grp (q : Fin 20) (j : Fin 4) : Fin 80 := ⟨q.val + 20 * j.val, by omega⟩

/-- The dot product of a weight row's group with a token's codes. -/
def gdot (g : Fin 80) (t : Fin 128) : EReal :=
  ∑ k : Fin 128, (show EReal from Wt (ix2 ⟨128 * b.val + i.val, by omega⟩ ⟨128 * g.val + k.val, by omega⟩)) * gcode X g.val g.isLt k t

/-- What a group gives to an element of the first result. -/
def gterm (g : Fin 80) (t : Fin 128) : EReal := gdot Wt X b i g t * (gscale X g.val g.isLt t * (show EReal from W2 (ix2 b g)))

theorem dot_half (a c : Vec Ideal S1x128x128 .fp8e4m3) (r : Vec Ideal S1x256x256 .fp8e4m3) (l : Fin 256) (A B W0 W1 : Fin 128 → EReal)
    (hA : ∀ k : Fin 128, (show EReal from r (ix3 0 ⟨k.val, by omega⟩ l)) = A k) (hB : ∀ k : Fin 128, (show EReal from r (ix3 0 ⟨128 + k.val, by omega⟩ l)) = B k)
    (h0 : ∀ k, (show EReal from a (ix3 0 i k)) = W0 k) (h1 : ∀ k, (show EReal from c (ix3 0 i k)) = W1 k) :
    tileDot (F := Ideal) a c r (ix2 i l) = (∑ k, W0 k * A k) + ∑ k, W1 k * B k :=
  (tileDot_at a c r i l).trans (congrArg₂ (· + ·) (Finset.sum_congr rfl fun k _ => congrArg₂ (· * ·) (h0 k) (hA k))
    (Finset.sum_congr rfl fun k _ => congrArg₂ (· * ·) (h1 k) (hB k)))

theorem pa_lo (q : Fin 20) (l : Fin 128) :
    tileDot (F := Ideal) (wTile (wL Wt b.val b.isLt) q 0) (wTile (wL Wt b.val b.isLt) q 1) (rhsTile (raAll X) q) (ix2 i ⟨l.val, by omega⟩)
      = if h : l.val < 96 then gdot Wt X b i (grp q 0) l else gdot Wt X b i (grp q 1) ⟨l.val - 32, by omega⟩ := by
  refine (dot_half i _ _ _ _ (fun k => gcode X (grp q 0).val (grp q 0).isLt k l)
    (fun k => if h : 96 ≤ l.val then gcode X (grp q 1).val (grp q 1).isLt k ⟨l.val - 32, by omega⟩ else 0) _ _
    (fun k => (rhs_at _ _ _ 0 (by decide) q 0 0 k l _ _ (by simp) (by simp)).trans (quad00 _ k l))
    (fun k => (rhs_at _ _ _ 0 (by decide) q 1 0 k l _ _ (by simp) (by simp)).trans (quad10 _ k l))
    (wTile_at Wt _ _ q 0 i) (wTile_at Wt _ _ q 1 i)).trans ?_
  by_cases h : l.val < 96
  · rw [dif_pos h]
    simp only [show ¬96 ≤ l.val by omega, dite_false, mul_zero, Finset.sum_const_zero, add_zero]
    rfl
  · rw [dif_neg h]
    simp only [gcode_pad X _ _ _ l h, show 96 ≤ l.val by omega, dite_true, mul_zero, Finset.sum_const_zero, zero_add]
    rfl

theorem pb_lo (q : Fin 20) (l : Fin 128) :
    tileDot (F := Ideal) (wTile (wL Wt b.val b.isLt) q 2) (wTile (wL Wt b.val b.isLt) q 3) (rhsTile (rbAll X) q) (ix2 i ⟨l.val, by omega⟩)
      = if h : l.val < 96 then gdot Wt X b i (grp q 3) l else gdot Wt X b i (grp q 2) ⟨l.val - 32, by omega⟩ := by
  refine (dot_half i _ _ _ _ (fun k => if h : 96 ≤ l.val then gcode X (grp q 2).val (grp q 2).isLt k ⟨l.val - 32, by omega⟩ else 0)
    (fun k => gcode X (grp q 3).val (grp q 3).isLt k l) _ _
    (fun k => (rhs_at _ _ _ 2 (by decide) q 0 0 k l _ _ (by simp) (by simp)).trans (quad20 _ k l))
    (fun k => (rhs_at _ _ _ 2 (by decide) q 1 0 k l _ _ (by simp) (by simp)).trans (quad30 _ k l))
    (wTile_at Wt _ _ q 2 i) (wTile_at Wt _ _ q 3 i)).trans ?_
  by_cases h : l.val < 96
  · rw [dif_pos h]
    simp only [show ¬96 ≤ l.val by omega, dite_false, mul_zero, Finset.sum_const_zero, zero_add]
    rfl
  · rw [dif_neg h]
    simp only [gcode_pad X _ _ _ l h, show 96 ≤ l.val by omega, dite_true, mul_zero, Finset.sum_const_zero, add_zero]
    rfl

theorem pa_hi (q : Fin 20) (l : Fin 128) :
    tileDot (F := Ideal) (wTile (wL Wt b.val b.isLt) q 0) (wTile (wL Wt b.val b.isLt) q 1) (rhsTile (raAll X) q) (ix2 i ⟨128 + l.val, by omega⟩)
      = if l.val < 64 then gdot Wt X b i (grp q 1) l else 0 := by
  refine (dot_half i _ _ _ _ (fun k => 0)
    (fun k => if l.val < 64 then gcode X (grp q 1).val (grp q 1).isLt k l else 0) _ _
    (fun k => (rhs_at _ _ _ 0 (by decide) q 0 1 k l _ _ (by simp) (by simp)).trans (quad01 _ k l))
    (fun k => (rhs_at _ _ _ 0 (by decide) q 1 1 k l _ _ (by simp) (by simp)).trans (quad11 _ k l))
    (wTile_at Wt _ _ q 0 i) (wTile_at Wt _ _ q 1 i)).trans ?_
  by_cases h : l.val < 64
  · simp only [h, if_true, mul_zero, Finset.sum_const_zero, zero_add]
    rfl
  · simp only [h, if_false, mul_zero, Finset.sum_const_zero, zero_add]

theorem pb_hi (q : Fin 20) (l : Fin 128) :
    tileDot (F := Ideal) (wTile (wL Wt b.val b.isLt) q 2) (wTile (wL Wt b.val b.isLt) q 3) (rhsTile (rbAll X) q) (ix2 i ⟨128 + l.val, by omega⟩)
      = if l.val < 64 then 0 else gdot Wt X b i (grp q 2) ⟨l.val - 64, by omega⟩ := by
  refine (dot_half i _ _ _ _ (fun k => if h : 64 ≤ l.val then gcode X (grp q 2).val (grp q 2).isLt k ⟨l.val - 64, by omega⟩ else 0)
    (fun k => 0) _ _
    (fun k => (rhs_at _ _ _ 2 (by decide) q 0 1 k l _ _ (by simp) (by simp)).trans (quad21 _ k l))
    (fun k => (rhs_at _ _ _ 2 (by decide) q 1 1 k l _ _ (by simp) (by simp)).trans (quad31 _ k l))
    (wTile_at Wt _ _ q 2 i) (wTile_at Wt _ _ q 3 i)).trans ?_
  by_cases h : l.val < 64
  · simp only [h, if_true, show ¬64 ≤ l.val by omega, dite_false, mul_zero, Finset.sum_const_zero, add_zero]
  · simp only [h, if_false, show 64 ≤ l.val by omega, dite_true, mul_zero, Finset.sum_const_zero, add_zero]
    rfl

/-- The row of the weight scales a block reads. -/
abbrev wrow : Vec Ideal S1x128 .f32 := View.ld (wspFull W2) (Rect.unit (s := S72x128) ![b.val, 0] S1x128.size (row_inb b.isLt))

theorem wrow_at (j : Fin 4) (q : Fin 20) (l : Fin 128) (hl : l.val = 32 * j.val + q.val) :
    (show EReal from wrow W2 b (ix2 0 l)) = W2 (ix2 b (grp q j)) := by
  refine Eq.trans ?_ (wsp_at W2 b j q l hl ⟨b.val, by omega⟩ rfl)
  pointwise [wrow]

theorem srow0 (q : Fin 20) (l : Fin 128) :
    (show EReal from scaleRow (k0_pay35 lane24 (wrow W2 b) (xsPlane (xsTab (scAll X)) 0)) q (ix4 0 0 0 l))
      = if h : l.val < 96 then gscale X (grp q 0).val (grp q 0).isLt l * (show EReal from W2 (ix2 b (grp q 0)))
        else gscale X (grp q 1).val (grp q 1).isLt ⟨l.val - 32, by omega⟩ * (show EReal from W2 (ix2 b (grp q 1))) := by
  rw [row0_at, xs0_at]
  by_cases h : l.val < 96
  · rw [if_pos h, dif_pos h, dif_pos h]
    exact congrArg₂ (· * ·) (scAll_at X 0 q l _ (by simp)) (wrow_at W2 b 0 q _ (by simp))
  · rw [if_neg h, dif_neg h, dif_neg h]
    exact congrArg₂ (· * ·) (scAll_at X 1 q _ _ (by simp)) (wrow_at W2 b 1 q _ (by simp))

theorem srow1 (q : Fin 20) (l : Fin 128) :
    (show EReal from scaleRow (k0_pay36 lane24 (wrow W2 b) (xsPlane (xsTab (scAll X)) 1)) q (ix4 0 0 0 l))
      = if h : l.val < 96 then gscale X (grp q 3).val (grp q 3).isLt l * (show EReal from W2 (ix2 b (grp q 3)))
        else gscale X (grp q 2).val (grp q 2).isLt ⟨l.val - 32, by omega⟩ * (show EReal from W2 (ix2 b (grp q 2))) := by
  rw [row1_at, xs1_at]
  by_cases h : l.val < 96
  · rw [if_pos h, dif_pos h, dif_pos h]
    exact congrArg₂ (· * ·) (scAll_at X 3 q l _ (by simp)) (wrow_at W2 b 3 q _ (by simp))
  · rw [if_neg h, dif_neg h, dif_neg h]
    exact congrArg₂ (· * ·) (scAll_at X 2 q _ _ (by simp)) (wrow_at W2 b 2 q _ (by simp))

theorem srow2 (q : Fin 20) (l : Fin 128) :
    (show EReal from scaleRow (k0_pay37 lane24 (k0_pay33 (wrow W2 b)) (k0_pay34 (wrow W2 b)) (xsPlane (xsTab (scAll X)) 2)) q (ix4 0 0 0 l))
      = if h : l.val < 64 then gscale X (grp q 1).val (grp q 1).isLt l * (show EReal from W2 (ix2 b (grp q 1)))
        else gscale X (grp q 2).val (grp q 2).isLt ⟨l.val - 64, by omega⟩ * (show EReal from W2 (ix2 b (grp q 2))) := by
  rw [row2_at, xs2_at]
  by_cases h : l.val < 64
  · rw [if_pos h, dif_pos h, dif_pos h]
    exact congrArg₂ (· * ·) (scAll_at X 1 q l _ (by simp)) (wrow_at W2 b 1 q _ (by simp))
  · rw [if_neg h, dif_neg h, dif_neg h]
    exact congrArg₂ (· * ·) (scAll_at X 2 q _ _ (by simp)) (wrow_at W2 b 2 q _ (by simp))

/-- The two accumulators after the twenty steps of a block. -/
abbrev accs : FVec Ideal S128x128 .f32 × FVec Ideal S128x128 .f32 :=
  steps.foldl (qVal (wL Wt b.val b.isLt) (raAll X) (rbAll X) (k0_pay35 lane24 (wrow W2 b) (xsPlane (xsTab (scAll X)) 0))
    (k0_pay36 lane24 (wrow W2 b) (xsPlane (xsTab (scAll X)) 1))
    (k0_pay37 lane24 (k0_pay33 (wrow W2 b)) (k0_pay34 (wrow W2 b)) (xsPlane (xsTab (scAll X)) 2))) accZero

theorem accs0_lo (l : Fin 128) (h : l.val < 96) :
    (accs Wt W2 X b).1 (ix2 i l) = ∑ q, (gterm Wt W2 X b i (grp q 0) l + gterm Wt W2 X b i (grp q 3) l) := by
  refine (fold_sum _ (fun A => (show EReal from (show FVec Ideal S128x128 .f32 × FVec Ideal S128x128 .f32 from A).1 (ix2 i l))) (fun q => gterm Wt W2 X b i (grp q 0) l + gterm Wt W2 X b i (grp q 3) l) (fun A q => ?_) accZero).trans ?_
  · show acc0Step (F := Ideal) _ _ _ _ _ (ix2 i l) = _
    rw [acc0_at, pa_lo, pb_lo, srow0, srow1, dif_pos h, dif_pos h, dif_pos h, dif_pos h]
    rfl
  · rw [(accZero_at i l).1, zero_add]

theorem accs0_hi (l : Fin 128) (h : ¬l.val < 96) :
    (accs Wt W2 X b).1 (ix2 i l) = ∑ q, (gterm Wt W2 X b i (grp q 1) ⟨l.val - 32, by omega⟩ + gterm Wt W2 X b i (grp q 2) ⟨l.val - 32, by omega⟩) := by
  refine (fold_sum _ (fun A => (show EReal from (show FVec Ideal S128x128 .f32 × FVec Ideal S128x128 .f32 from A).1 (ix2 i l)))
    (fun q => gterm Wt W2 X b i (grp q 1) ⟨l.val - 32, by omega⟩ + gterm Wt W2 X b i (grp q 2) ⟨l.val - 32, by omega⟩) (fun A q => ?_) accZero).trans ?_
  · show acc0Step (F := Ideal) _ _ _ _ _ (ix2 i l) = _
    rw [acc0_at, pa_lo, pb_lo, srow0, srow1, dif_neg h, dif_neg h, dif_neg h, dif_neg h]
    rfl
  · rw [(accZero_at i l).1, zero_add]

theorem accs1_lo (l : Fin 128) (h : l.val < 64) : (accs Wt W2 X b).2 (ix2 i l) = ∑ q, gterm Wt W2 X b i (grp q 1) l := by
  refine (fold_sum _ (fun A => (show EReal from (show FVec Ideal S128x128 .f32 × FVec Ideal S128x128 .f32 from A).2 (ix2 i l))) (fun q => gterm Wt W2 X b i (grp q 1) l) (fun A q => ?_) accZero).trans ?_
  · show acc1Step (F := Ideal) _ _ _ _ (ix2 i l) = _
    rw [acc1_at, pa_hi, pb_hi, srow2, if_pos h, if_pos h, dif_pos h, add_zero]
    rfl
  · rw [(accZero_at i l).2, zero_add]

theorem accs1_hi (l : Fin 128) (h : ¬l.val < 64) : (accs Wt W2 X b).2 (ix2 i l) = ∑ q, gterm Wt W2 X b i (grp q 2) ⟨l.val - 64, by omega⟩ := by
  refine (fold_sum _ (fun A => (show EReal from (show FVec Ideal S128x128 .f32 × FVec Ideal S128x128 .f32 from A).2 (ix2 i l))) (fun q => gterm Wt W2 X b i (grp q 2) ⟨l.val - 64, by omega⟩) (fun A q => ?_) accZero).trans ?_
  · show acc1Step (F := Ideal) _ _ _ _ (ix2 i l) = _
    rw [acc1_at, pa_hi, pb_hi, srow2, if_neg h, if_neg h, dif_neg h, zero_add]
    rfl
  · rw [(accZero_at i l).2, zero_add]

/-- The eighty groups are the twenty steps' four. -/
theorem sum_groups (f : Fin 80 → EReal) :
    ∑ g, f g = (∑ q, f (grp q 0)) + (∑ q, f (grp q 1)) + (∑ q, f (grp q 2)) + ∑ q, f (grp q 3) := by
  have e : ∑ g, f g = ∑ p : Fin 4 × Fin 20, f (grp p.2 p.1) := by
    refine ((finProdFinEquiv (m := 4) (n := 20)).sum_comp f).symm.trans (Finset.sum_congr rfl fun p _ => congrArg f (Fin.ext ?_))
    rfl
  rw [e, Fintype.sum_prod_type, Fin.sum_univ_four]

theorem y_at (t : Fin 96) (c : Fin 9088) (hc : c.val = 128 * b.val + i.val) :
    yOut Wt W2 X (ix2 t c) = ∑ g, gterm Wt W2 X b i g ⟨t.val, by omega⟩ := by
  have gen : ∀ (b' i' : ℕ) (hb : b' < 71) (hi : i' < 128), b' = b.val → i' = i.val →
      yTile Wt lane24 (raAll X) (rbAll X) (xsTab (scAll X)) (wspFull W2) b' hb (Fin.cons t (Fin.cons ⟨i', hi⟩ finZeroElim))
        = outTile (F := Ideal) (accs Wt W2 X b) (ix2 t i) := by
    intro b' i' hb hi e1 e2
    subst e1 e2
    unfold yTile blockVal
    refine congrArg (outTile (F := Ideal) (accs Wt W2 X b)) (funext fun a => ?_)
    fin_cases a <;> rfl
  unfold yOut yFull
  refine (gen _ _ _ _ ?_ ?_).trans ?_
  · show c.val / 128 = _; omega
  · show c.val % 128 = _; omega
  rw [outTile_at, sum_groups]
  by_cases h : t.val < 64
  · rw [dif_pos h, accs0_lo _ _ _ _ _ _ (by show t.val < 96; omega), accs1_lo _ _ _ _ _ _ (by show t.val < 64; omega),
      accs1_hi _ _ _ _ _ _ (by show ¬64 + t.val < 64; omega), Finset.sum_add_distrib]
    have e : (⟨64 + t.val - 64, by omega⟩ : Fin 128) = ⟨t.val, by omega⟩ := Fin.ext (by simp only []; omega)
    simp only [e]
    ac_rfl
  · rw [dif_neg h, accs0_lo _ _ _ _ _ _ (by show t.val < 96; omega), accs0_hi _ _ _ _ _ _ (by show ¬32 + t.val < 96; omega),
      Finset.sum_add_distrib, Finset.sum_add_distrib]
    have e : (⟨32 + t.val - 32, by omega⟩ : Fin 128) = ⟨t.val, by omega⟩ := Fin.ext (by simp only []; omega)
    simp only [e]
    ac_rfl

end

end Cert.Proof.KernelIdeal

end
-- ==== Proof.Scale.lean ====
/- The exponent of a group's scale, as the reference states it (the floor of a quotient of logarithms, plus one) and as the
   kernel finds it (a count of powers of two): one integer, for every magnitude the claim is about. -/
module

public import proofs.«01_k».proof.Proof.Exponent

@[expose] public section

noncomputable section

namespace Cert.Proof

open Idealize.ShloMosaic

/-- The factor 1/448, as a 32-bit constant reads. -/
abbrev third : EReal := Ideal.ofBits FTy.f32 991054117#32

/-- The magnitudes the claim is about: zero, or between 448 · 2⁻¹²⁷ and the largest finite number. -/
def Good (a : EReal) : Prop := a = 0 ∨ (Ideal.ofBits FTy.f32 73400320#32 ≤ a ∧ a ≤ Ideal.ofBits FTy.f32 2139095039#32)

/-- The exponent as the reference states it. -/
def refExp (a : EReal) : EReal :=
  if a = 0 then 0
  else Ideal.liftRound Int.floor (Ideal.div (Ideal.log (a * third)) (Ideal.log (Ideal.ofBits FTy.f32 1073741824#32))) + Ideal.ofBits FTy.f32 1065353216#32

theorem two_eq : Ideal.ofBits FTy.f32 1073741824#32 = ((2 : ℝ) : EReal) := by
  simp [Ideal.ofBits, Ideal.ieee]; try (rw [← EReal.coe_mul]; norm_num)
theorem one_eq : Ideal.ofBits FTy.f32 1065353216#32 = ((1 : ℝ) : EReal) := by
  simp [Ideal.ofBits, Ideal.ieee]; try (rw [← EReal.coe_mul]; norm_num)
theorem third_eq : third = (((9586981 : ℝ) / 2 ^ 32 : ℝ) : EReal) := by
  simp [third, Ideal.ofBits, Ideal.ieee]; rw [← EReal.coe_mul]; norm_num
theorem least_eq : Ideal.ofBits FTy.f32 73400320#32 = (((448 : ℝ) / 2 ^ 127 : ℝ) : EReal) := by
  simp [Ideal.ofBits, Ideal.ieee]; try (rw [← EReal.coe_mul]; norm_num)
theorem largest_eq : Ideal.ofBits FTy.f32 2139095039#32 = (((16777215 : ℝ) * 2 ^ 104 : ℝ) : EReal) := by
  simp [Ideal.ofBits, Ideal.ieee]; try (rw [← EReal.coe_mul]; norm_num)

theorem good_exp (a : EReal) (h : Good a) :
    ∃ e : ℤ, -126 ≤ e ∧ e ≤ 126 ∧ expWord (a * third) = BitVec.ofInt 32 e ∧ refExp a = ((e : ℝ) : EReal) := by
  rcases h with h | ⟨hl, hu⟩
  · subst h
    refine ⟨0, by omega, by omega, ?_, ?_⟩
    · rw [zero_mul, expWord, if_pos rfl]; rfl
    · rw [refExp, if_pos rfl]; simp
  · rw [least_eq] at hl
    rw [largest_eq] at hu
    induction a with
    | bot => exact absurd hl (by simp)
    | top => exact absurd hu (not_le.mpr (EReal.coe_lt_top _))
    | coe r =>
      have hl' : (448 : ℝ) / 2 ^ 127 ≤ r := EReal.coe_le_coe_iff.mp hl
      have hu' : r ≤ (16777215 : ℝ) * 2 ^ 104 := EReal.coe_le_coe_iff.mp hu
      have hr : 0 < r := lt_of_lt_of_le (by positivity) hl'
      have e1 : ((r : ℝ) : EReal) * third = ((r * ((9586981 : ℝ) / 2 ^ 32) : ℝ) : EReal) := by rw [third_eq, ← EReal.coe_mul]
      have h0 : (2 : ℝ) ^ (-127 : ℤ) ≤ r * ((9586981 : ℝ) / 2 ^ 32) := by
        refine le_trans ?_ (mul_le_mul_of_nonneg_right hl' (by norm_num))
        norm_num
      have h1 : r * ((9586981 : ℝ) / 2 ^ 32) < (2 : ℝ) ^ (120 : ℤ) := by
        refine lt_of_le_of_lt (mul_le_mul_of_nonneg_right hu' (by norm_num)) ?_
        norm_num
      obtain ⟨ew, g0, g1⟩ := expWord_eq _ h0 h1
      have hv : 0 < r * ((9586981 : ℝ) / 2 ^ 32) := by positivity
      refine ⟨flog (r * ((9586981 : ℝ) / 2 ^ 32)) + 1, by omega, by omega, by rw [e1, ew], ?_⟩
      have hne : ((r : ℝ) : EReal) ≠ 0 := by exact_mod_cast hr.ne'
      rw [refExp, if_neg hne, e1, two_eq, one_eq, Ideal.log_coe, Ideal.log_coe, if_neg (not_le.mpr hv), if_neg (by norm_num)]
      have hlog : Ideal.div ((Real.log (r * ((9586981 : ℝ) / 2 ^ 32)) : ℝ) : EReal) ((Real.log 2 : ℝ) : EReal)
          = ((Real.log (r * ((9586981 : ℝ) / 2 ^ 32)) / Real.log 2 : ℝ) : EReal) := by
        have : ((Real.log 2 : ℝ) : EReal) ≠ 0 := by exact_mod_cast (Real.log_pos (by norm_num : (1 : ℝ) < 2)).ne'
        rw [Ideal.div, if_neg this, ← EReal.coe_inv, ← EReal.coe_mul, ← div_eq_mul_inv]
      rw [hlog]
      show ((⌊Real.log (r * ((9586981 : ℝ) / 2 ^ 32)) / Real.log 2⌋ : ℝ) : EReal) + ((1 : ℝ) : EReal) = _
      rw [← EReal.coe_add]
      refine congrArg _ ?_
      unfold flog
      push_cast
      rfl

/-- A power of two with an integer exponent. -/
theorem pow_two (e : ℤ) : Ideal.pow (Ideal.ofBits FTy.f32 1073741824#32) ((e : ℝ) : EReal) = (((2 : ℝ) ^ e : ℝ) : EReal) := by
  rw [two_eq, Ideal.pow_coe_coe]
  refine congrArg _ ?_
  exact Real.rpow_intCast 2 e

theorem neg_int (e : ℤ) : -((e : ℝ) : EReal) = (((-e : ℤ) : ℝ) : EReal) := by
  rw [← EReal.coe_neg]
  refine congrArg _ ?_
  push_cast
  rfl

/-- The kernel's scale is the reference's. -/
theorem scale_eq (a : EReal) (h : Good a) :
    Ideal.ofBits FTy.f32 (IntOp.shli ArithUnit.vector (IntOp.addi (expWord (a * third)) 127#32) 23#32)
      = Ideal.pow (Ideal.ofBits FTy.f32 1073741824#32) (refExp a) := by
  obtain ⟨e, h0, h1, hw, hr⟩ := good_exp a h
  rw [hw, hr, pow_two]
  exact scale_word e h0 (by omega)

/-- The kernel's inverse scale is the reference's. -/
theorem inv_eq (a : EReal) (h : Good a) :
    Ideal.ofBits FTy.f32 (IntOp.shli ArithUnit.vector (IntOp.addi (IntOp.subi (0#32) (expWord (a * third))) 127#32) 23#32)
      = Ideal.pow (Ideal.ofBits FTy.f32 1073741824#32) (-(refExp a)) := by
  obtain ⟨e, h0, h1, hw, hr⟩ := good_exp a h
  rw [hw, hr, neg_int, pow_two]
  exact inv_word e (by omega) h1

end Cert.Proof

end
-- ==== Proof.RefPoint.lean ====
/- The reference's terms, element by element. -/
module

public import proofs.«01_k».proof.Proof.RefTerms
public import proofs.«01_k».proof.Proof.Scale

@[expose] public section

set_option maxRecDepth 16384

noncomputable section

namespace Cert.Proof.ReferenceIdeal

open Idealize.ShloMosaic Idealize.ShloMosaic.TcCoe Cert.ReferenceIdeal Cert.ReferenceIdeal.Gen Cert.Proof

theorem rX_at (A : Vec Ideal S96x1x10240 .bf16) (t : Fin 96) (g : Fin 80) (k : Fin 128) :
    rX A (ix3 t g k) = (show EReal from A (ix3 t 0 ⟨g.val * 128 + k.val, by omega⟩)) := by
  pointwise [rX]

theorem rAmax_at (A : Vec Ideal S96x1x10240 .bf16) (t : Fin 96) (g : Fin 80) :
    rAmax A (ix2 t g) = Finset.fold max (Ideal.ofBits FTy.f32 4286578688#32)
      (fun k : Fin 128 => FloatOps.absf (F := Ideal) (φ := .f32) (A (ix3 t 0 ⟨g.val * 128 + k.val, by omega⟩))) Finset.univ := by
  pointwise [rAmax, rX]

theorem rE_at (a : FVec Ideal S96x80 .f32) (t : Fin 96) (g : Fin 80) : rE a (ix2 t g) = refExp (a (ix2 t g)) := by
  pointwise [rE]
  unfold refExp
  rw [one_eq, EReal.coe_one]

theorem rS_at (e : FVec Ideal S96x80 .f32) (t : Fin 96) (g : Fin 80) :
    rS e (ix2 t g) = Ideal.pow (Ideal.ofBits FTy.f32 1073741824#32) (e (ix2 t g)) := by
  pointwise [rS]

theorem rQ_at (X : FVec Ideal S96x80x128 .f32) (e : FVec Ideal S96x80 .f32) (t : Fin 96) (g : Fin 80) (k : Fin 128) :
    rQ X e (ix2 t ⟨g.val * 128 + k.val, by omega⟩) = min (Ideal.ofBits FTy.f32 1138753536#32) (max (Ideal.ofBits FTy.f32 3286237184#32)
      (X (ix3 t g k) * Ideal.pow (Ideal.ofBits FTy.f32 1073741824#32) (-(show EReal from e (ix2 t g))))) := by
  pointwise [rQ]

theorem rY_at (D : FVec Ideal S96x10240 .f32) (W : FVec Ideal S9088x10240 .f32) (s : FVec Ideal S96x80 .f32) (w2 : FVec Ideal S71x80 .f32)
    (t : Fin 96) (b : Fin 71) (i : Fin 128) :
    rY D W s w2 (ix2 t ⟨b.val * 128 + i.val, by omega⟩) = ∑ g : Fin 80, (∑ k : Fin 128, D (ix2 t ⟨g.val * 128 + k.val, by omega⟩) * W (ix2 ⟨b.val * 128 + i.val, by omega⟩ ⟨g.val * 128 + k.val, by omega⟩))
      * s (ix2 t g) * w2 (ix2 b g) := by
  pointwise [rY]

end Cert.Proof.ReferenceIdeal

end
-- ==== Proof.Match.lean ====
/- The three results of the kernel are the three results of the reference, when every group is zero or normal: the kernel's
   exponent word, taken from the bits of its scaled maximum, is the exponent the reference states. -/
module

public import proofs.«01_k».proof.Proof.Sums
public import proofs.«01_k».proof.Proof.Scale
public import proofs.«01_k».proof.Proof.RefPoint

@[expose] public section

set_option maxRecDepth 16384

noncomputable section

namespace Cert.Proof.Match

open Idealize.ShloMosaic Idealize.ShloMosaic.TcCoe Cert.Proof Cert.Proof.KernelIdeal Cert.Proof.ReferenceIdeal

variable (A : Vec Ideal Cert.ReferenceIdeal.S96x1x10240 .bf16) (X : Vec Ideal Cert.KernelIdeal.S96x10240 .bf16)
  (Wt : Vec Ideal Cert.KernelIdeal.S9088x10240 .fp8e4m3) (W2 : Vec Ideal Cert.KernelIdeal.S71x80 .f32)

theorem bot_eq : Ideal.ofBits FTy.bf16 65408#16 = Ideal.ofBits FTy.f32 4286578688#32 := by
  simp [Ideal.ofBits, Ideal.ieee]

/-- The kernel's activations are the reference's. -/
def Same : Prop := ∀ (t : Fin 96) (y : Fin 10240), (show EReal from X (ix2 t y)) = A (ix3 t 0 y)

/-- Every group is zero or normal. -/
def Normal : Prop := ∀ (t : Fin 96) (g : Fin 80), Good (rAmax A (ix2 t g))

variable {A X}

theorem elt_eq (hX : Same A X) (t : Fin 96) (g : Fin 80) (k : Fin 128) :
    (show EReal from xtile (xvFull X) g.val g.isLt (ix2 ⟨t.val, by omega⟩ k)) = A (ix3 t 0 ⟨g.val * 128 + k.val, by omega⟩) := by
  rw [xtile_at, dif_pos t.isLt]
  refine (hX t _).trans (congrArg (fun y => A (ix3 t 0 y)) (Fin.ext ?_))
  simp only []
  omega

theorem amax_eq (hX : Same A X) (t : Fin 96) (g : Fin 80) :
    amaxOf (fun k => xtile (xvFull X) g.val g.isLt (ix2 ⟨t.val, by omega⟩ k)) = rAmax A (ix2 t g) := by
  rw [rAmax_at]
  unfold amaxOf
  rw [bot_eq]
  exact congrArg (fun f : Fin 128 → EReal => Finset.fold max (Ideal.ofBits FTy.f32 4286578688#32) f Finset.univ)
    (funext fun k => congrArg (fun e : EReal => FloatOps.absf (F := Ideal) (φ := .f32) e) (elt_eq hX t g k))

theorem scale_at (hX : Same A X) (hA : Normal A) (t : Fin 96) (g : Fin 80) :
    gscale X g.val g.isLt ⟨t.val, by omega⟩ = rS (rE (rAmax A)) (ix2 t g) := by
  rw [rS_at, rE_at, ← scale_eq _ (hA t g), ← amax_eq hX t g]
  rfl

theorem code_at (hX : Same A X) (hA : Normal A) (t : Fin 96) (g : Fin 80) (k : Fin 128) :
    gcode X g.val g.isLt k ⟨t.val, by omega⟩ = rQ (rX A) (rE (rAmax A)) (ix2 t ⟨g.val * 128 + k.val, by omega⟩) := by
  rw [rQ_at, rE_at, ← inv_eq _ (hA t g), ← amax_eq hX t g, rX_at, ← elt_eq hX t g k]
  rfl

theorem idx2 {a b : ℕ} (i : (⟨2, ![a, b]⟩ : Shape).Idx) : i = ix2 (⟨(i 0).val, (i 0).isLt⟩ : Fin a) (⟨(i 1).val, (i 1).isLt⟩ : Fin b) := by
  funext d
  fin_cases d <;> rfl

/-- The second result: the codes. -/
theorem codes_eq (hX : Same A X) (hA : Normal A) :
    cdAll X = Cert.ReferenceIdeal.Gen.k0_pay1 (F := Ideal) (rQ (rX A) (rE (rAmax A))) := by
  refine funext fun i => ?_
  have h : ∀ (t : Fin 96) (y : Fin 10240), (show EReal from cdAll X (ix2 t y))
      = Cert.ReferenceIdeal.Gen.k0_pay1 (F := Ideal) (rQ (rX A) (rE (rAmax A))) (ix2 t y) := by
    intro t y
    have hy := y.isLt
    refine (cdAll_at X t ⟨y.val / 128, by omega⟩ ⟨y.val % 128, by omega⟩ y (by simp only []; omega)).trans
      ((code_at hX hA t ⟨y.val / 128, by omega⟩ ⟨y.val % 128, by omega⟩).trans ?_)
    refine (congrArg (fun z => rQ (rX A) (rE (rAmax A)) (ix2 t z)) (show _ = y from Fin.ext (by simp only []; omega))).trans ?_
    generalize rQ (rX A) (rE (rAmax A)) = q
    pointwise [Cert.ReferenceIdeal.Gen.k0_pay1]
  rw [idx2 (a := 96) (b := 10240) i]
  exact h _ _

/-- The third result: the scales. -/
theorem scales_eq (hX : Same A X) (hA : Normal A) : xsOut (scAll X) = rS (rE (rAmax A)) := by
  refine funext fun i => ?_
  have h : ∀ (t : Fin 96) (g : Fin 80), (show EReal from xsOut (scAll X) (ix2 t g)) = rS (rE (rAmax A)) (ix2 t g) := by
    intro t g
    have hg := g.isLt
    refine (xsOut_at (scAll X) t ⟨g.val / 20, by omega⟩ ⟨g.val % 20, by omega⟩ g (by simp only []; omega)).trans
      ((scAll_at X ⟨g.val / 20, by omega⟩ ⟨g.val % 20, by omega⟩ ⟨t.val, by omega⟩ _ rfl).trans ?_)
    rw [← scale_at hX hA t g]
    have e : g.val % 20 + 20 * (g.val / 20) = g.val := by omega
    simp only [e]
  rw [idx2 (a := 96) (b := 80) i]
  exact h _ _

/-- The first result: the product. -/
theorem product_eq (hX : Same A X) (hA : Normal A) :
    yOut Wt W2 X = rY (Cert.ReferenceIdeal.Gen.k0_pay2 (F := Ideal) (rQ (rX A) (rE (rAmax A)))) (Cert.ReferenceIdeal.Gen.k0_pay3 (F := Ideal) Wt)
      (rS (rE (rAmax A))) W2 := by
  refine funext fun i => ?_
  have h : ∀ (t : Fin 96) (c : Fin 9088), (show EReal from yOut Wt W2 X (ix2 t c))
      = rY (Cert.ReferenceIdeal.Gen.k0_pay2 (F := Ideal) (rQ (rX A) (rE (rAmax A)))) (Cert.ReferenceIdeal.Gen.k0_pay3 (F := Ideal) Wt)
          (rS (rE (rAmax A))) W2 (ix2 t c) := by
    intro t c
    have hc := c.isLt
    have e : c = ⟨(⟨c.val / 128, by omega⟩ : Fin 71).val * 128 + (⟨c.val % 128, by omega⟩ : Fin 128).val, by simp only []; omega⟩ :=
      Fin.ext (by simp only []; omega)
    refine (y_at Wt W2 X ⟨c.val / 128, by omega⟩ ⟨c.val % 128, by omega⟩ t c (by simp only []; omega)).trans ?_
    refine Eq.trans ?_ (congrArg (fun z => rY (Cert.ReferenceIdeal.Gen.k0_pay2 (F := Ideal) (rQ (rX A) (rE (rAmax A)))) (Cert.ReferenceIdeal.Gen.k0_pay3 (F := Ideal) Wt)
          (rS (rE (rAmax A))) W2 (ix2 t z)) e).symm
    refine Eq.trans (Finset.sum_congr rfl fun g _ => ?_) (rY_at _ _ _ _ t ⟨c.val / 128, by omega⟩ ⟨c.val % 128, by omega⟩).symm
    unfold gterm gdot
    rw [scale_at hX hA t g, ← mul_assoc]
    refine congrArg₂ (· * ·) (congrArg₂ (· * ·) (Finset.sum_congr rfl fun k _ => ?_) rfl) rfl
    rw [code_at hX hA t g k, mul_comm]
    generalize rQ (rX A) (rE (rAmax A)) = q
    refine congrArg₂ (· * ·) ?_ ?_
    · pointwise [Cert.ReferenceIdeal.Gen.k0_pay2, Cert.ReferenceIdeal.Gen.k0_pay1]
    · pointwise [Cert.ReferenceIdeal.Gen.k0_pay3]
      refine congrArg₂ (fun a b => (show EReal from Wt (ix2 a b))) (Fin.ext ?_) (Fin.ext ?_) <;> (simp only []; omega)
  rw [idx2 (a := 96) (b := 9088) i]
  exact h _ _

end Cert.Proof.Match

end
-- ==== Proof.Normal.lean ====
/- The precondition, read: every group's largest magnitude is zero, or lies between 448 times two to the minus 127 and the largest number. -/
module

public import proofs.«01_k».proof.Pre_normal_groups
public import proofs.«01_k».proof.Proof.Match

@[expose] public section

set_option maxRecDepth 16384

noncomputable section

namespace Cert.Proof.Match

open Idealize.ShloMosaic Idealize.ShloMosaic.TcCoe Cert.Proof Cert.Proof.ReferenceIdeal

instance preFacts : Cert.Pre_normal_groups.Facts where
  bitsLt_bf16_f32 := by decide
  shapeCasts_S96x1x10240_S96x80x128 := by decide
  reducesTo_S96x80x128_S96x80_d2 := by decide
  h_S_ := by decide
  bcast_S_S96x80 := by decide

theorem bit_true {p : Prop} [Decidable p] (h : BitVec.ofBool (decide p) = 1#1) : p := by
  by_contra hp
  rw [decide_eq_false hp] at h
  exact absurd h (by decide)

theorem good_of_bits (a : EReal)
    (h : IntOp.ori (BitVec.ofBool (decide (a = Ideal.ofBits FTy.f32 0#32)))
      (IntOp.andi (BitVec.ofBool (decide (Ideal.ofBits FTy.f32 73400320#32 ≤ a))) (BitVec.ofBool (decide (a ≤ Ideal.ofBits FTy.f32 2139095039#32)))) = 1#1) : Good a := by
  have hz : Ideal.ofBits FTy.f32 0#32 = 0 := by simp [Ideal.ofBits, Ideal.ieee]
  by_cases h0 : a = Ideal.ofBits FTy.f32 0#32
  · exact Or.inl (h0.trans hz)
  · by_cases h1 : Ideal.ofBits FTy.f32 73400320#32 ≤ a
    · by_cases h2 : a ≤ Ideal.ofBits FTy.f32 2139095039#32
      · exact Or.inr ⟨h1, h2⟩
      · rw [decide_eq_false h0, decide_eq_true h1, decide_eq_false h2] at h
        exact absurd h (by decide)
    · rw [decide_eq_false h0, decide_eq_false h1] at h
      cases hd : decide (a ≤ Ideal.ofBits FTy.f32 2139095039#32) <;> rw [hd] at h <;> exact absurd h (by decide)

theorem fn_at (A : Vec Ideal Cert.ReferenceIdeal.S96x1x10240 .bf16) (Wt : Vec Ideal Cert.KernelIdeal.S9088x10240 .fp8e4m3)
    (W2 : Vec Ideal Cert.KernelIdeal.S71x80 .f32) (t : Fin 96) (g : Fin 80) :
    Cert.Pre_normal_groups.fn (F := Ideal) A Wt W2 (ix2 t g)
      = IntOp.ori (BitVec.ofBool (decide (rAmax A (ix2 t g) = Ideal.ofBits FTy.f32 0#32)))
      (IntOp.andi (BitVec.ofBool (decide (Ideal.ofBits FTy.f32 73400320#32 ≤ rAmax A (ix2 t g)))) (BitVec.ofBool (decide (rAmax A (ix2 t g) ≤ Ideal.ofBits FTy.f32 2139095039#32)))) := by
  have e : Cert.Pre_normal_groups.fn (F := Ideal) A Wt W2
      = ori (cmpf .oeq (rAmax A) (broadcastInDim Cert.Pre_normal_groups.S96x80 ![] Cert.Pre_normal_groups.Facts.bcast_S_S96x80 (constant Cert.Pre_normal_groups.S_ .f32 0x00000000#32)))
        (andi (cmpf .oge (rAmax A) (broadcastInDim Cert.Pre_normal_groups.S96x80 ![] Cert.Pre_normal_groups.Facts.bcast_S_S96x80 (constant Cert.Pre_normal_groups.S_ .f32 0x04600000#32)))
          (cmpf .ole (rAmax A) (broadcastInDim Cert.Pre_normal_groups.S96x80 ![] Cert.Pre_normal_groups.Facts.bcast_S_S96x80 (constant Cert.Pre_normal_groups.S_ .f32 0x7F7FFFFF#32)))) := rfl
  rw [e]
  generalize rAmax A = a
  rfl

theorem normal_of_pre (A : Vec Ideal Cert.ReferenceIdeal.S96x1x10240 .bf16) (Wt : Vec Ideal Cert.KernelIdeal.S9088x10240 .fp8e4m3)
    (W2 : Vec Ideal Cert.KernelIdeal.S71x80 .f32) (h : Cert.Pre_normal_groups.fn (F := Ideal) A Wt W2 = fun _ => 1#1) : Normal A :=
  fun t g => good_of_bits _ ((fn_at A Wt W2 t g).symm.trans (congrFun h (ix2 t g)))

end Cert.Proof.Match

end
-- ==== Proof.Algebraic.lean ====
/- The kernel and the reference give the same three results. -/
module

public import proofs.«01_k».proof.Defs
public import proofs.«01_k».proof.Proof.KernelRun
public import proofs.«01_k».proof.Proof.RefRun
public import proofs.«01_k».proof.Proof.Normal

@[expose] public section

set_option maxRecDepth 16384

noncomputable section

namespace Cert.Proof

open Idealize.ShloMosaic Idealize.ShloMosaic.TcCoe Idealize.SL.Sem Cert.Proof.Match

section
variable {A A' : Vec Ideal Cert.ReferenceIdeal.S96x1x10240 .bf16} {X : Vec Ideal Cert.KernelIdeal.S96x10240 .bf16}
  {Wt Wt' : Vec Ideal Cert.KernelIdeal.S9088x10240 .fp8e4m3} {W2 W2' : Vec Ideal Cert.KernelIdeal.S71x80 .f32}

theorem product_of (hX : Same A X) (hA : Normal A) (e0 : A' = A) (e1 : Wt' = Wt) (e2 : W2' = W2) :
    ReferenceIdeal.rY (Cert.ReferenceIdeal.Gen.k0_pay2 (F := Ideal) (ReferenceIdeal.rQ (ReferenceIdeal.rX A') (ReferenceIdeal.rE (ReferenceIdeal.rAmax A'))))
      (Cert.ReferenceIdeal.Gen.k0_pay3 (F := Ideal) Wt') (ReferenceIdeal.rS (ReferenceIdeal.rE (ReferenceIdeal.rAmax A'))) W2' = KernelIdeal.yOut Wt W2 X := by
  subst e0 e1 e2
  exact (product_eq _ _ hX hA).symm

theorem codes_of (hX : Same A X) (hA : Normal A) (e0 : A' = A) :
    Cert.ReferenceIdeal.Gen.k0_pay1 (F := Ideal) (ReferenceIdeal.rQ (ReferenceIdeal.rX A') (ReferenceIdeal.rE (ReferenceIdeal.rAmax A'))) = KernelIdeal.cdAll X := by
  subst e0
  exact (codes_eq hX hA).symm

theorem scales_of (hX : Same A X) (hA : Normal A) (e0 : A' = A) :
    ReferenceIdeal.rS (ReferenceIdeal.rE (ReferenceIdeal.rAmax A')) = KernelIdeal.xsOut (KernelIdeal.scAll X) := by
  subst e0
  exact (scales_eq hX hA).symm

end

theorem algebraic : Cert.algebraic_KernelIdeal_ReferenceIdeal_pre_normal_groups := by
  intro m g m' g' hpre hagree
  have hn : ∀ c : Dev Cert.KernelIdeal.nD, Normal (m ((c.tc : Thread Cert.KernelIdeal.nD Cert.KernelIdeal.τ).loc Cert.KernelIdeal.main_arg0)) := fun c =>
    normal_of_pre _ _ _ (hpre c)
  have hx : ∀ c : Dev Cert.KernelIdeal.nD, Same (m ((c.tc : Thread Cert.KernelIdeal.nD Cert.KernelIdeal.τ).loc Cert.KernelIdeal.main_arg0)) (KernelIdeal.xIn m c) := fun c =>
    fun t y => KernelIdeal.xIn_at m c t y
  refine ⟨_, _, _, KernelIdeal.run_values m g, ?_⟩
  refine (θ_run _ _ _).mono (fun r h c => ?_) (ReferenceIdeal.run_values m' g')
  obtain ⟨h1, h2, h3, ha⟩ := h c
  have e0 : ReferenceIdeal.aIn m' c = m ((c.tc : Thread Cert.KernelIdeal.nD Cert.KernelIdeal.τ).loc Cert.KernelIdeal.main_arg0) := (hagree c).1
  exact ⟨h1.trans (product_of (hx c) (hn c) e0 ((hagree c).2.1.trans (KernelIdeal.wIn_eq m c).symm) ((hagree c).2.2.trans (KernelIdeal.sIn_eq m c).symm)),
    h2.trans (codes_of (hx c) (hn c) e0), h3.trans (scales_of (hx c) (hn c) e0), ha⟩

end Cert.Proof

end
-- ==== Proof.lean ====
/-
  The certificate's theorem: each program runs to its end from every memory, leaves its arguments as they
  were and every semaphore at zero, and the kernel's three results are the reference's. The kernel's run is
  proved in the modules under Proof/ (Launch.lean and IdealLaunch.lean have the last step), the equality of
  the results in Algebraic.lean.
-/
module

public import proofs.«01_k».proof.Defs
public import proofs.«01_k».proof.Proof.Launch
public import proofs.«01_k».proof.Proof.IdealLaunch
public import proofs.«01_k».proof.Proof.Algebraic
public import proofs.«01_k».proof.Proof.Gen.ReferenceIdeal.Frame

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Proof.Match.preFacts,
    fun m g _ => Cert.Proof.Kernel.quiescent (F := Bits) m g,
    fun m g _ => Cert.Proof.KernelIdeal.quiescent (F := Ideal) m g,
    fun m g _ => Cert.Proof.KernelIdeal.quiescent (F := Ideal) m g,
    fun m g _ => Cert.ReferenceIdeal.Gen.frame (F := Ideal) m g,
    fun m g _ => Cert.ReferenceIdeal.Gen.frame (F := Ideal) m g,
    trivial, Cert.Proof.algebraic⟩

end Cert.Proof

end
